-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_finite_ffn_da [hPre_finite_ffn_da : Cert.Pre_finite_ffn_da.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_finite_ffn_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).1 = (fun _ => 1#1)
    ∧ (Cert.Pre_finite_ffn_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.1 = (fun _ => 1#1)
    ∧ (Cert.Pre_finite_ffn_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2 = (fun _ => 1#1)

def Pre_FfnDaRefIdeal (m : (ℓ : Loc Cert.FfnDaRefIdeal.nD Cert.FfnDaRefIdeal.τ Cert.FfnDaRefIdeal.sig) → Buf (Elt Ideal) ℓ) : Prop :=
  True

def Pre_FfnDaRefIdeal_finite_ffn_da [hPre_finite_ffn_da : Cert.Pre_finite_ffn_da.Facts] (m : (ℓ : Loc Cert.FfnDaRefIdeal.nD Cert.FfnDaRefIdeal.τ Cert.FfnDaRefIdeal.sig) → Buf (Elt Ideal) ℓ) : Prop :=
  ∀ c : Dev Cert.FfnDaRefIdeal.nD,
    (Cert.Pre_finite_ffn_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).1 = (fun _ => 1#1)
    ∧ (Cert.Pre_finite_ffn_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.1 = (fun _ => 1#1)
    ∧ (Cert.Pre_finite_ffn_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2 = (fun _ => 1#1)

def Pre_MixDact (m : (ℓ : Loc Cert.MixDact.nD Cert.MixDact.τ Cert.MixDact.sig) → Buf (Elt Bits) ℓ) : Prop :=
  True

def Pre_MixDactIdeal (m : (ℓ : Loc Cert.MixDactIdeal.nD Cert.MixDactIdeal.τ Cert.MixDactIdeal.sig) → Buf (Elt Ideal) ℓ) : Prop :=
  True

def Pre_MixDactRefIdeal (m : (ℓ : Loc Cert.MixDactRefIdeal.nD Cert.MixDactRefIdeal.τ Cert.MixDactRefIdeal.sig) → Buf (Elt Ideal) ℓ) : Prop :=
  True

def Pre_AttnDact (m : (ℓ : Loc Cert.AttnDact.nD Cert.AttnDact.τ Cert.AttnDact.sig) → Buf (Elt Bits) ℓ) : Prop :=
  True

def Pre_AttnDactIdeal (m : (ℓ : Loc Cert.AttnDactIdeal.nD Cert.AttnDactIdeal.τ Cert.AttnDactIdeal.sig) → Buf (Elt Ideal) ℓ) : Prop :=
  True

def Pre_AttnDactRefIdeal (m : (ℓ : Loc Cert.AttnDactRefIdeal.nD Cert.AttnDactRefIdeal.τ Cert.AttnDactRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhIdeal_finite_ffn_dh [hPre_finite_ffn_dh : Cert.Pre_finite_ffn_dh.Facts] (m : (ℓ : Loc Cert.FfnDhIdeal.nD Cert.FfnDhIdeal.τ Cert.FfnDhIdeal.sig) → Buf (Elt Ideal) ℓ) : Prop :=
  ∀ c : Dev Cert.FfnDhIdeal.nD,
    (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).1 = (fun _ => 1#1)
    ∧ (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.1 = (fun _ => 1#1)
    ∧ (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.1 = (fun _ => 1#1)
    ∧ (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.1 = (fun _ => 1#1)
    ∧ (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.2.1 = (fun _ => 1#1)
    ∧ (Cert.Pre_finite_ffn_dh.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2)) (m ((c.tc : Thread Cert.FfnDhIdeal.nD Cert.FfnDhIdeal.τ).loc Cert.FfnDhIdeal.main_arg3)) (m ((c.tc : Thread Cert.FfnDhIdeal.nD Cert.FfnDhIdeal.τ).loc Cert.FfnDhIdeal.main_arg4)) (m ((c.tc : Thread Cert.FfnDhIdeal.nD Cert.FfnDhIdeal.τ).loc Cert.FfnDhIdeal.main_arg5)) (m ((c.tc : Thread Cert.FfnDhIdeal.nD Cert.FfnDhIdeal.τ).loc Cert.FfnDhIdeal.main_arg6))).2.2.2.2.2 = (fun _ => 1#1)

def Pre_FfnDhRefIdeal (m : (ℓ : Loc Cert.FfnDhRefIdeal.nD Cert.FfnDhRefIdeal.τ Cert.FfnDhRefIdeal.sig) → Buf (Elt Ideal) ℓ) : Prop :=
  True

def Pre_FfnDhRefIdeal_finite_ffn_dh [hPre_finite_ffn_dh : Cert.Pre_finite_ffn_dh.Facts] (m : (ℓ : Loc Cert.FfnDhRefIdeal.nD Cert.FfnDhRefIdeal.τ Cert.FfnDhRefIdeal.sig) → Buf (Elt Ideal) ℓ) : Prop :=
  ∀ c : Dev Cert.FfnDhRefIdeal.nD,
    (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).1 = (fun _ => 1#1)
    ∧ (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.1 = (fun _ => 1#1)
    ∧ (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.1 = (fun _ => 1#1)
    ∧ (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.1 = (fun _ => 1#1)
    ∧ (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.2.1 = (fun _ => 1#1)
    ∧ (Cert.Pre_finite_ffn_dh.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2)) (m ((c.tc : Thread Cert.FfnDhRefIdeal.nD Cert.FfnDhRefIdeal.τ).loc Cert.FfnDhRefIdeal.main_arg3)) (m ((c.tc : Thread Cert.FfnDhRefIdeal.nD Cert.FfnDhRefIdeal.τ).loc Cert.FfnDhRefIdeal.main_arg4)) (m ((c.tc : Thread Cert.FfnDhRefIdeal.nD Cert.FfnDhRefIdeal.τ).loc Cert.FfnDhRefIdeal.main_arg5)) (m ((c.tc : Thread Cert.FfnDhRefIdeal.nD Cert.FfnDhRefIdeal.τ).loc Cert.FfnDhRefIdeal.main_arg6))).2.2.2.2.2 = (fun _ => 1#1)

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhIdeal_finite_mix_dh [hPre_finite_mix_dh : Cert.Pre_finite_mix_dh.Facts] (m : (ℓ : Loc Cert.MixDhIdeal.nD Cert.MixDhIdeal.τ Cert.MixDhIdeal.sig) → Buf (Elt Ideal) ℓ) : Prop :=
  ∀ c : Dev Cert.MixDhIdeal.nD,
    (Cert.Pre_finite_mix_dh.fn (F := Ideal) (m ((c.tc : Thread Cert.MixDhIdeal.nD Cert.MixDhIdeal.τ).loc Cert.MixDhIdeal.main_arg0)) (m ((c.tc : Thread Cert.MixDhIdeal.nD Cert.MixDhIdeal.τ).loc Cert.MixDhIdeal.main_arg1)) (m ((c.tc : Thread Cert.MixDhIdeal.nD Cert.MixDhIdeal.τ).loc Cert.MixDhIdeal.main_arg2)) (m ((c.tc : Thread Cert.MixDhIdeal.nD Cert.MixDhIdeal.τ).loc Cert.MixDhIdeal.main_arg3)) (m ((c.tc : Thread Cert.MixDhIdeal.nD Cert.MixDhIdeal.τ).loc Cert.MixDhIdeal.main_arg4))).1 = (fun _ => 1#1)
    ∧ (Cert.Pre_finite_mix_dh.fn (F := Ideal) (m ((c.tc : Thread Cert.MixDhIdeal.nD Cert.MixDhIdeal.τ).loc Cert.MixDhIdeal.main_arg0)) (m ((c.tc : Thread Cert.MixDhIdeal.nD Cert.MixDhIdeal.τ).loc Cert.MixDhIdeal.main_arg1)) (m ((c.tc : Thread Cert.MixDhIdeal.nD Cert.MixDhIdeal.τ).loc Cert.MixDhIdeal.main_arg2)) (m ((c.tc : Thread Cert.MixDhIdeal.nD Cert.MixDhIdeal.τ).loc Cert.MixDhIdeal.main_arg3)) (m ((c.tc : Thread Cert.MixDhIdeal.nD Cert.MixDhIdeal.τ).loc Cert.MixDhIdeal.main_arg4))).2.1 = (fun _ => 1#1)
    ∧ (Cert.Pre_finite_mix_dh.fn (F := Ideal) (m ((c.tc : Thread Cert.MixDhIdeal.nD Cert.MixDhIdeal.τ).loc Cert.MixDhIdeal.main_arg0)) (m ((c.tc : Thread Cert.MixDhIdeal.nD Cert.MixDhIdeal.τ).loc Cert.MixDhIdeal.main_arg1)) (m ((c.tc : Thread Cert.MixDhIdeal.nD Cert.MixDhIdeal.τ).loc Cert.MixDhIdeal.main_arg2)) (m ((c.tc : Thread Cert.MixDhIdeal.nD Cert.MixDhIdeal.τ).loc Cert.MixDhIdeal.main_arg3)) (m ((c.tc : Thread Cert.MixDhIdeal.nD Cert.MixDhIdeal.τ).loc Cert.MixDhIdeal.main_arg4))).2.2.1 = (fun _ => 1#1)
    ∧ (Cert.Pre_finite_mix_dh.fn (F := Ideal) (m ((c.tc : Thread Cert.MixDhIdeal.nD Cert.MixDhIdeal.τ).loc Cert.MixDhIdeal.main_arg0)) (m ((c.tc : Thread Cert.MixDhIdeal.nD Cert.MixDhIdeal.τ).loc Cert.MixDhIdeal.main_arg1)) (m ((c.tc : Thread Cert.MixDhIdeal.nD Cert.MixDhIdeal.τ).loc Cert.MixDhIdeal.main_arg2)) (m ((c.tc : Thread Cert.MixDhIdeal.nD Cert.MixDhIdeal.τ).loc Cert.MixDhIdeal.main_arg3)) (m ((c.tc : Thread Cert.MixDhIdeal.nD Cert.MixDhIdeal.τ).loc Cert.MixDhIdeal.main_arg4))).2.2.2 = (fun _ => 1#1)

def Pre_MixDhRefIdeal (m : (ℓ : Loc Cert.MixDhRefIdeal.nD Cert.MixDhRefIdeal.τ Cert.MixDhRefIdeal.sig) → Buf (Elt Ideal) ℓ) : Prop :=
  True

def Pre_MixDhRefIdeal_finite_mix_dh [hPre_finite_mix_dh : Cert.Pre_finite_mix_dh.Facts] (m : (ℓ : Loc Cert.MixDhRefIdeal.nD Cert.MixDhRefIdeal.τ Cert.MixDhRefIdeal.sig) → Buf (Elt Ideal) ℓ) : Prop :=
  ∀ c : Dev Cert.MixDhRefIdeal.nD,
    (Cert.Pre_finite_mix_dh.fn (F := Ideal) (m ((c.tc : Thread Cert.MixDhRefIdeal.nD Cert.MixDhRefIdeal.τ).loc Cert.MixDhRefIdeal.main_arg0)) (m ((c.tc : Thread Cert.MixDhRefIdeal.nD Cert.MixDhRefIdeal.τ).loc Cert.MixDhRefIdeal.main_arg1)) (m ((c.tc : Thread Cert.MixDhRefIdeal.nD Cert.MixDhRefIdeal.τ).loc Cert.MixDhRefIdeal.main_arg2)) (m ((c.tc : Thread Cert.MixDhRefIdeal.nD Cert.MixDhRefIdeal.τ).loc Cert.MixDhRefIdeal.main_arg3)) (m ((c.tc : Thread Cert.MixDhRefIdeal.nD Cert.MixDhRefIdeal.τ).loc Cert.MixDhRefIdeal.main_arg4))).1 = (fun _ => 1#1)
    ∧ (Cert.Pre_finite_mix_dh.fn (F := Ideal) (m ((c.tc : Thread Cert.MixDhRefIdeal.nD Cert.MixDhRefIdeal.τ).loc Cert.MixDhRefIdeal.main_arg0)) (m ((c.tc : Thread Cert.MixDhRefIdeal.nD Cert.MixDhRefIdeal.τ).loc Cert.MixDhRefIdeal.main_arg1)) (m ((c.tc : Thread Cert.MixDhRefIdeal.nD Cert.MixDhRefIdeal.τ).loc Cert.MixDhRefIdeal.main_arg2)) (m ((c.tc : Thread Cert.MixDhRefIdeal.nD Cert.MixDhRefIdeal.τ).loc Cert.MixDhRefIdeal.main_arg3)) (m ((c.tc : Thread Cert.MixDhRefIdeal.nD Cert.MixDhRefIdeal.τ).loc Cert.MixDhRefIdeal.main_arg4))).2.1 = (fun _ => 1#1)
    ∧ (Cert.Pre_finite_mix_dh.fn (F := Ideal) (m ((c.tc : Thread Cert.MixDhRefIdeal.nD Cert.MixDhRefIdeal.τ).loc Cert.MixDhRefIdeal.main_arg0)) (m ((c.tc : Thread Cert.MixDhRefIdeal.nD Cert.MixDhRefIdeal.τ).loc Cert.MixDhRefIdeal.main_arg1)) (m ((c.tc : Thread Cert.MixDhRefIdeal.nD Cert.MixDhRefIdeal.τ).loc Cert.MixDhRefIdeal.main_arg2)) (m ((c.tc : Thread Cert.MixDhRefIdeal.nD Cert.MixDhRefIdeal.τ).loc Cert.MixDhRefIdeal.main_arg3)) (m ((c.tc : Thread Cert.MixDhRefIdeal.nD Cert.MixDhRefIdeal.τ).loc Cert.MixDhRefIdeal.main_arg4))).2.2.1 = (fun _ => 1#1)
    ∧ (Cert.Pre_finite_mix_dh.fn (F := Ideal) (m ((c.tc : Thread Cert.MixDhRefIdeal.nD Cert.MixDhRefIdeal.τ).loc Cert.MixDhRefIdeal.main_arg0)) (m ((c.tc : Thread Cert.MixDhRefIdeal.nD Cert.MixDhRefIdeal.τ).loc Cert.MixDhRefIdeal.main_arg1)) (m ((c.tc : Thread Cert.MixDhRefIdeal.nD Cert.MixDhRefIdeal.τ).loc Cert.MixDhRefIdeal.main_arg2)) (m ((c.tc : Thread Cert.MixDhRefIdeal.nD Cert.MixDhRefIdeal.τ).loc Cert.MixDhRefIdeal.main_arg3)) (m ((c.tc : Thread Cert.MixDhRefIdeal.nD Cert.MixDhRefIdeal.τ).loc Cert.MixDhRefIdeal.main_arg4))).2.2.2 = (fun _ => 1#1)

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2)
      ∧ r.2.mem ((c.tc : Thread Cert.FfnDa.nD Cert.FfnDa.τ).loc Cert.FfnDa.main_arg3) = m ((c.tc : Thread Cert.FfnDa.nD Cert.FfnDa.τ).loc Cert.FfnDa.main_arg3))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaIdeal_pre_finite_ffn_da [hFfnDaIdeal : Cert.FfnDaIdeal.Facts] [hPre_finite_ffn_da : Cert.Pre_finite_ffn_da.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_finite_ffn_da m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDaRefIdeal_pre_finite_ffn_da [hFfnDaRefIdeal : Cert.FfnDaRefIdeal.Facts] [hPre_finite_ffn_da : Cert.Pre_finite_ffn_da.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal_finite_ffn_da m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_MixDact [hMixDact : Cert.MixDact.Facts] : Prop :=
  ∀ (m : (ℓ : Loc Cert.MixDact.nD Cert.MixDact.τ Cert.MixDact.sig) → Buf (Elt Bits) ℓ) (g : Dev Cert.MixDact.nD → PrngReg), Pre_MixDact m →
    θ_run (Cert.MixDact.defs (F := Bits)) (onTc (τ := Cert.MixDact.τ) (Cert.MixDact.main (F := Bits))) ⟨m, fun _ => 0, g⟩ (fun r => (∀ c : Dev Cert.MixDact.nD,
      r.2.mem ((c.tc : Thread Cert.MixDact.nD Cert.MixDact.τ).loc Cert.MixDact.main_arg0) = m ((c.tc : Thread Cert.MixDact.nD Cert.MixDact.τ).loc Cert.MixDact.main_arg0)
      ∧ r.2.mem ((c.tc : Thread Cert.MixDact.nD Cert.MixDact.τ).loc Cert.MixDact.main_arg1) = m ((c.tc : Thread Cert.MixDact.nD Cert.MixDact.τ).loc Cert.MixDact.main_arg1))
      ∧ r.2.sem = fun _ => 0)

def quiescent_MixDactIdeal [hMixDactIdeal : Cert.MixDactIdeal.Facts] : Prop :=
  ∀ (m : (ℓ : Loc Cert.MixDactIdeal.nD Cert.MixDactIdeal.τ Cert.MixDactIdeal.sig) → Buf (Elt Ideal) ℓ) (g : Dev Cert.MixDactIdeal.nD → PrngReg), Pre_MixDactIdeal m →
    θ_run (Cert.MixDactIdeal.defs (F := Ideal)) (onTc (τ := Cert.MixDactIdeal.τ) (Cert.MixDactIdeal.main (F := Ideal))) ⟨m, fun _ => 0, g⟩ (fun r => (∀ c : Dev Cert.MixDactIdeal.nD,
      r.2.mem ((c.tc : Thread Cert.MixDactIdeal.nD Cert.MixDactIdeal.τ).loc Cert.MixDactIdeal.main_arg0) = m ((c.tc : Thread Cert.MixDactIdeal.nD Cert.MixDactIdeal.τ).loc Cert.MixDactIdeal.main_arg0)
      ∧ r.2.mem ((c.tc : Thread Cert.MixDactIdeal.nD Cert.MixDactIdeal.τ).loc Cert.MixDactIdeal.main_arg1) = m ((c.tc : Thread Cert.MixDactIdeal.nD Cert.MixDactIdeal.τ).loc Cert.MixDactIdeal.main_arg1))
      ∧ r.2.sem = fun _ => 0)

def quiescent_MixDactRefIdeal [hMixDactRefIdeal : Cert.MixDactRefIdeal.Facts] : Prop :=
  ∀ (m : (ℓ : Loc Cert.MixDactRefIdeal.nD Cert.MixDactRefIdeal.τ Cert.MixDactRefIdeal.sig) → Buf (Elt Ideal) ℓ) (g : Dev Cert.MixDactRefIdeal.nD → PrngReg), Pre_MixDactRefIdeal m →
    θ_run (Cert.MixDactRefIdeal.defs (F := Ideal)) (onTc (τ := Cert.MixDactRefIdeal.τ) (Cert.MixDactRefIdeal.main (F := Ideal))) ⟨m, fun _ => 0, g⟩ (fun r => (∀ c : Dev Cert.MixDactRefIdeal.nD,
      r.2.mem ((c.tc : Thread Cert.MixDactRefIdeal.nD Cert.MixDactRefIdeal.τ).loc Cert.MixDactRefIdeal.main_arg0) = m ((c.tc : Thread Cert.MixDactRefIdeal.nD Cert.MixDactRefIdeal.τ).loc Cert.MixDactRefIdeal.main_arg0)
      ∧ r.2.mem ((c.tc : Thread Cert.MixDactRefIdeal.nD Cert.MixDactRefIdeal.τ).loc Cert.MixDactRefIdeal.main_arg1) = m ((c.tc : Thread Cert.MixDactRefIdeal.nD Cert.MixDactRefIdeal.τ).loc Cert.MixDactRefIdeal.main_arg1))
      ∧ r.2.sem = fun _ => 0)

def quiescent_AttnDact [hAttnDact : Cert.AttnDact.Facts] : Prop :=
  ∀ (m : (ℓ : Loc Cert.AttnDact.nD Cert.AttnDact.τ Cert.AttnDact.sig) → Buf (Elt Bits) ℓ) (g : Dev Cert.AttnDact.nD → PrngReg), Pre_AttnDact m →
    θ_run (Cert.AttnDact.defs (F := Bits)) (onTc (τ := Cert.AttnDact.τ) (Cert.AttnDact.main (F := Bits))) ⟨m, fun _ => 0, g⟩ (fun r => (∀ c : Dev Cert.AttnDact.nD,
      r.2.mem ((c.tc : Thread Cert.AttnDact.nD Cert.AttnDact.τ).loc Cert.AttnDact.main_arg0) = m ((c.tc : Thread Cert.AttnDact.nD Cert.AttnDact.τ).loc Cert.AttnDact.main_arg0)
      ∧ r.2.mem ((c.tc : Thread Cert.AttnDact.nD Cert.AttnDact.τ).loc Cert.AttnDact.main_arg1) = m ((c.tc : Thread Cert.AttnDact.nD Cert.AttnDact.τ).loc Cert.AttnDact.main_arg1))
      ∧ r.2.sem = fun _ => 0)

def quiescent_AttnDactIdeal [hAttnDactIdeal : Cert.AttnDactIdeal.Facts] : Prop :=
  ∀ (m : (ℓ : Loc Cert.AttnDactIdeal.nD Cert.AttnDactIdeal.τ Cert.AttnDactIdeal.sig) → Buf (Elt Ideal) ℓ) (g : Dev Cert.AttnDactIdeal.nD → PrngReg), Pre_AttnDactIdeal m →
    θ_run (Cert.AttnDactIdeal.defs (F := Ideal)) (onTc (τ := Cert.AttnDactIdeal.τ) (Cert.AttnDactIdeal.main (F := Ideal))) ⟨m, fun _ => 0, g⟩ (fun r => (∀ c : Dev Cert.AttnDactIdeal.nD,
      r.2.mem ((c.tc : Thread Cert.AttnDactIdeal.nD Cert.AttnDactIdeal.τ).loc Cert.AttnDactIdeal.main_arg0) = m ((c.tc : Thread Cert.AttnDactIdeal.nD Cert.AttnDactIdeal.τ).loc Cert.AttnDactIdeal.main_arg0)
      ∧ r.2.mem ((c.tc : Thread Cert.AttnDactIdeal.nD Cert.AttnDactIdeal.τ).loc Cert.AttnDactIdeal.main_arg1) = m ((c.tc : Thread Cert.AttnDactIdeal.nD Cert.AttnDactIdeal.τ).loc Cert.AttnDactIdeal.main_arg1))
      ∧ r.2.sem = fun _ => 0)

def quiescent_AttnDactRefIdeal [hAttnDactRefIdeal : Cert.AttnDactRefIdeal.Facts] : Prop :=
  ∀ (m : (ℓ : Loc Cert.AttnDactRefIdeal.nD Cert.AttnDactRefIdeal.τ Cert.AttnDactRefIdeal.sig) → Buf (Elt Ideal) ℓ) (g : Dev Cert.AttnDactRefIdeal.nD → PrngReg), Pre_AttnDactRefIdeal m →
    θ_run (Cert.AttnDactRefIdeal.defs (F := Ideal)) (onTc (τ := Cert.AttnDactRefIdeal.τ) (Cert.AttnDactRefIdeal.main (F := Ideal))) ⟨m, fun _ => 0, g⟩ (fun r => (∀ c : Dev Cert.AttnDactRefIdeal.nD,
      r.2.mem ((c.tc : Thread Cert.AttnDactRefIdeal.nD Cert.AttnDactRefIdeal.τ).loc Cert.AttnDactRefIdeal.main_arg0) = m ((c.tc : Thread Cert.AttnDactRefIdeal.nD Cert.AttnDactRefIdeal.τ).loc Cert.AttnDactRefIdeal.main_arg0)
      ∧ r.2.mem ((c.tc : Thread Cert.AttnDactRefIdeal.nD Cert.AttnDactRefIdeal.τ).loc Cert.AttnDactRefIdeal.main_arg1) = m ((c.tc : Thread Cert.AttnDactRefIdeal.nD Cert.AttnDactRefIdeal.τ).loc Cert.AttnDactRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5)
      ∧ r.2.mem ((c.tc : Thread Cert.FfnDh.nD Cert.FfnDh.τ).loc Cert.FfnDh.main_arg6) = m ((c.tc : Thread Cert.FfnDh.nD Cert.FfnDh.τ).loc Cert.FfnDh.main_arg6))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhIdeal_pre_finite_ffn_dh [hFfnDhIdeal : Cert.FfnDhIdeal.Facts] [hPre_finite_ffn_dh : Cert.Pre_finite_ffn_dh.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal_finite_ffn_dh m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_FfnDhRefIdeal_pre_finite_ffn_dh [hFfnDhRefIdeal : Cert.FfnDhRefIdeal.Facts] [hPre_finite_ffn_dh : Cert.Pre_finite_ffn_dh.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal_finite_ffn_dh m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1)
      ∧ r.2.mem ((c.tc : Thread Cert.MixDh.nD Cert.MixDh.τ).loc Cert.MixDh.main_arg2) = m ((c.tc : Thread Cert.MixDh.nD Cert.MixDh.τ).loc Cert.MixDh.main_arg2)
      ∧ r.2.mem ((c.tc : Thread Cert.MixDh.nD Cert.MixDh.τ).loc Cert.MixDh.main_arg3) = m ((c.tc : Thread Cert.MixDh.nD Cert.MixDh.τ).loc Cert.MixDh.main_arg3)
      ∧ r.2.mem ((c.tc : Thread Cert.MixDh.nD Cert.MixDh.τ).loc Cert.MixDh.main_arg4) = m ((c.tc : Thread Cert.MixDh.nD Cert.MixDh.τ).loc Cert.MixDh.main_arg4))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
      ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
      ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ r.2.sem = fun _ => 0)

def quiescent_MixDhIdeal_pre_finite_mix_dh [hMixDhIdeal : Cert.MixDhIdeal.Facts] [hPre_finite_mix_dh : Cert.Pre_finite_mix_dh.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal_finite_mix_dh m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
      ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
      ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2)
      ∧ r.2.mem ((c.tc : Thread Cert.MixDhRefIdeal.nD Cert.MixDhRefIdeal.τ).loc Cert.MixDhRefIdeal.main_arg3) = m ((c.tc : Thread Cert.MixDhRefIdeal.nD Cert.MixDhRefIdeal.τ).loc Cert.MixDhRefIdeal.main_arg3)
      ∧ r.2.mem ((c.tc : Thread Cert.MixDhRefIdeal.nD Cert.MixDhRefIdeal.τ).loc Cert.MixDhRefIdeal.main_arg4) = m ((c.tc : Thread Cert.MixDhRefIdeal.nD Cert.MixDhRefIdeal.τ).loc Cert.MixDhRefIdeal.main_arg4))
      ∧ r.2.sem = fun _ => 0)

def quiescent_MixDhRefIdeal_pre_finite_mix_dh [hMixDhRefIdeal : Cert.MixDhRefIdeal.Facts] [hPre_finite_mix_dh : Cert.Pre_finite_mix_dh.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal_finite_mix_dh m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2)
      ∧ r.2.mem ((c.tc : Thread Cert.MixDhRefIdeal.nD Cert.MixDhRefIdeal.τ).loc Cert.MixDhRefIdeal.main_arg3) = m ((c.tc : Thread Cert.MixDhRefIdeal.nD Cert.MixDhRefIdeal.τ).loc Cert.MixDhRefIdeal.main_arg3)
      ∧ r.2.mem ((c.tc : Thread Cert.MixDhRefIdeal.nD Cert.MixDhRefIdeal.τ).loc Cert.MixDhRefIdeal.main_arg4) = m ((c.tc : Thread Cert.MixDhRefIdeal.nD Cert.MixDhRefIdeal.τ).loc Cert.MixDhRefIdeal.main_arg4))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1)
      ∧ r.2.mem ((c.tc : Thread Cert.FfnDw.nD Cert.FfnDw.τ).loc Cert.FfnDw.main_arg2) = m ((c.tc : Thread Cert.FfnDw.nD Cert.FfnDw.τ).loc Cert.FfnDw.main_arg2)
      ∧ r.2.mem ((c.tc : Thread Cert.FfnDw.nD Cert.FfnDw.τ).loc Cert.FfnDw.main_arg3) = m ((c.tc : Thread Cert.FfnDw.nD Cert.FfnDw.τ).loc Cert.FfnDw.main_arg3)
      ∧ r.2.mem ((c.tc : Thread Cert.FfnDw.nD Cert.FfnDw.τ).loc Cert.FfnDw.main_arg4) = m ((c.tc : Thread Cert.FfnDw.nD Cert.FfnDw.τ).loc Cert.FfnDw.main_arg4))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
      ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
      ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3)
      ∧ r.2.mem ((c.tc : Thread Cert.FfnDwIdeal.nD Cert.FfnDwIdeal.τ).loc Cert.FfnDwIdeal.main_arg4) = m ((c.tc : Thread Cert.FfnDwIdeal.nD Cert.FfnDwIdeal.τ).loc Cert.FfnDwIdeal.main_arg4))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1)
      ∧ r.2.mem ((c.tc : Thread Cert.FfnDwRefIdeal.nD Cert.FfnDwRefIdeal.τ).loc Cert.FfnDwRefIdeal.main_arg2) = m ((c.tc : Thread Cert.FfnDwRefIdeal.nD Cert.FfnDwRefIdeal.τ).loc Cert.FfnDwRefIdeal.main_arg2)
      ∧ r.2.mem ((c.tc : Thread Cert.FfnDwRefIdeal.nD Cert.FfnDwRefIdeal.τ).loc Cert.FfnDwRefIdeal.main_arg3) = m ((c.tc : Thread Cert.FfnDwRefIdeal.nD Cert.FfnDwRefIdeal.τ).loc Cert.FfnDwRefIdeal.main_arg3)
      ∧ r.2.mem ((c.tc : Thread Cert.FfnDwRefIdeal.nD Cert.FfnDwRefIdeal.τ).loc Cert.FfnDwRefIdeal.main_arg4) = m ((c.tc : Thread Cert.FfnDwRefIdeal.nD Cert.FfnDwRefIdeal.τ).loc Cert.FfnDwRefIdeal.main_arg4))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2)
      ∧ r.2.mem ((c.tc : Thread Cert.MixDw.nD Cert.MixDw.τ).loc Cert.MixDw.main_arg3) = m ((c.tc : Thread Cert.MixDw.nD Cert.MixDw.τ).loc Cert.MixDw.main_arg3))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2)
      ∧ r.2.mem ((c.tc : Thread Cert.MixDwIdeal.nD Cert.MixDwIdeal.τ).loc Cert.MixDwIdeal.main_arg3) = m ((c.tc : Thread Cert.MixDwIdeal.nD Cert.MixDwIdeal.τ).loc Cert.MixDwIdeal.main_arg3))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2)
      ∧ r.2.mem ((c.tc : Thread Cert.MixDwRefIdeal.nD Cert.MixDwRefIdeal.τ).loc Cert.MixDwRefIdeal.main_arg3) = m ((c.tc : Thread Cert.MixDwRefIdeal.nD Cert.MixDwRefIdeal.τ).loc Cert.MixDwRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnDa_FfnDaIdeal : Prop :=
  True

def algebraic_FfnDaIdeal_FfnDaRefIdeal_pre_finite_ffn_da [hFfnDaIdeal : Cert.FfnDaIdeal.Facts] [hFfnDaRefIdeal : Cert.FfnDaRefIdeal.Facts] [hPre_finite_ffn_da : Cert.Pre_finite_ffn_da.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal_finite_ffn_da m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)
      ∧ m' ((c.tc : Thread Cert.FfnDaRefIdeal.nD Cert.FfnDaRefIdeal.τ).loc Cert.FfnDaRefIdeal.main_arg2) = m ((c.tc : Thread Cert.FfnDaIdeal.nD Cert.FfnDaIdeal.τ).loc Cert.FfnDaIdeal.main_arg2)
      ∧ m' ((c.tc : Thread Cert.FfnDaRefIdeal.nD Cert.FfnDaRefIdeal.τ).loc Cert.FfnDaRefIdeal.main_arg3) = m ((c.tc : Thread Cert.FfnDaIdeal.nD Cert.FfnDaIdeal.τ).loc Cert.FfnDaIdeal.main_arg3)) →
    ∃ (v0 : (c : Dev Cert.FfnDaIdeal.nD) → Buf (Elt Ideal) ((c.tc : Thread Cert.FfnDaIdeal.nD Cert.FfnDaIdeal.τ).loc Cert.FfnDaIdeal.main_v0_0)) (v1 : (c : Dev Cert.FfnDaIdeal.nD) → Buf (Elt Ideal) ((c.tc : Thread Cert.FfnDaIdeal.nD Cert.FfnDaIdeal.τ).loc Cert.FfnDaIdeal.main_v0_1)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v0_0) = v0 c
          ∧ r.2.mem ((c.tc : Thread Cert.FfnDaIdeal.nD Cert.FfnDaIdeal.τ).loc Cert.FfnDaIdeal.main_v0_1) = v1 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
          ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v11) = v0 c
          ∧ r.2.mem ((c.tc : Thread Cert.FfnDaRefIdeal.nD Cert.FfnDaRefIdeal.τ).loc Cert.FfnDaRefIdeal.main_v12) = v1 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1)
          ∧ r.2.mem ((c.tc : Thread Cert.FfnDaRefIdeal.nD Cert.FfnDaRefIdeal.τ).loc Cert.FfnDaRefIdeal.main_arg2) = m' ((c.tc : Thread Cert.FfnDaRefIdeal.nD Cert.FfnDaRefIdeal.τ).loc Cert.FfnDaRefIdeal.main_arg2)
          ∧ r.2.mem ((c.tc : Thread Cert.FfnDaRefIdeal.nD Cert.FfnDaRefIdeal.τ).loc Cert.FfnDaRefIdeal.main_arg3) = m' ((c.tc : Thread Cert.FfnDaRefIdeal.nD Cert.FfnDaRefIdeal.τ).loc Cert.FfnDaRefIdeal.main_arg3))

def preserves_MixDact_MixDactIdeal : Prop :=
  True

def algebraic_MixDactIdeal_MixDactRefIdeal [hMixDactIdeal : Cert.MixDactIdeal.Facts] [hMixDactRefIdeal : Cert.MixDactRefIdeal.Facts] : Prop :=
  ∀ (m : (ℓ : Loc Cert.MixDactIdeal.nD Cert.MixDactIdeal.τ Cert.MixDactIdeal.sig) → Buf (Elt Ideal) ℓ) (g : Dev Cert.MixDactIdeal.nD → PrngReg)
    (m' : (ℓ : Loc Cert.MixDactRefIdeal.nD Cert.MixDactRefIdeal.τ Cert.MixDactRefIdeal.sig) → Buf (Elt Ideal) ℓ) (g' : Dev Cert.MixDactRefIdeal.nD → PrngReg), Pre_MixDactIdeal m →
    (∀ c : Dev Cert.MixDactIdeal.nD,
      m' ((c.tc : Thread Cert.MixDactRefIdeal.nD Cert.MixDactRefIdeal.τ).loc Cert.MixDactRefIdeal.main_arg0) = m ((c.tc : Thread Cert.MixDactIdeal.nD Cert.MixDactIdeal.τ).loc Cert.MixDactIdeal.main_arg0)
      ∧ m' ((c.tc : Thread Cert.MixDactRefIdeal.nD Cert.MixDactRefIdeal.τ).loc Cert.MixDactRefIdeal.main_arg1) = m ((c.tc : Thread Cert.MixDactIdeal.nD Cert.MixDactIdeal.τ).loc Cert.MixDactIdeal.main_arg1)) →
    ∃ (v0 : (c : Dev Cert.MixDactIdeal.nD) → Buf (Elt Ideal) ((c.tc : Thread Cert.MixDactIdeal.nD Cert.MixDactIdeal.τ).loc Cert.MixDactIdeal.main_v0)),
      θ_run (Cert.MixDactIdeal.defs (F := Ideal)) (onTc (τ := Cert.MixDactIdeal.τ) (Cert.MixDactIdeal.main (F := Ideal))) ⟨m, fun _ => 0, g⟩ (fun r => ∀ c : Dev Cert.MixDactIdeal.nD,
          r.2.mem ((c.tc : Thread Cert.MixDactIdeal.nD Cert.MixDactIdeal.τ).loc Cert.MixDactIdeal.main_v0) = v0 c
          ∧ r.2.mem ((c.tc : Thread Cert.MixDactIdeal.nD Cert.MixDactIdeal.τ).loc Cert.MixDactIdeal.main_arg0) = m ((c.tc : Thread Cert.MixDactIdeal.nD Cert.MixDactIdeal.τ).loc Cert.MixDactIdeal.main_arg0)
          ∧ r.2.mem ((c.tc : Thread Cert.MixDactIdeal.nD Cert.MixDactIdeal.τ).loc Cert.MixDactIdeal.main_arg1) = m ((c.tc : Thread Cert.MixDactIdeal.nD Cert.MixDactIdeal.τ).loc Cert.MixDactIdeal.main_arg1))
      ∧ θ_run (Cert.MixDactRefIdeal.defs (F := Ideal)) (onTc (τ := Cert.MixDactRefIdeal.τ) (Cert.MixDactRefIdeal.main (F := Ideal))) ⟨m', fun _ => 0, g'⟩ (fun r => ∀ c : Dev Cert.MixDactRefIdeal.nD,
          r.2.mem ((c.tc : Thread Cert.MixDactRefIdeal.nD Cert.MixDactRefIdeal.τ).loc Cert.MixDactRefIdeal.main_v4) = v0 c
          ∧ r.2.mem ((c.tc : Thread Cert.MixDactRefIdeal.nD Cert.MixDactRefIdeal.τ).loc Cert.MixDactRefIdeal.main_arg0) = m' ((c.tc : Thread Cert.MixDactRefIdeal.nD Cert.MixDactRefIdeal.τ).loc Cert.MixDactRefIdeal.main_arg0)
          ∧ r.2.mem ((c.tc : Thread Cert.MixDactRefIdeal.nD Cert.MixDactRefIdeal.τ).loc Cert.MixDactRefIdeal.main_arg1) = m' ((c.tc : Thread Cert.MixDactRefIdeal.nD Cert.MixDactRefIdeal.τ).loc Cert.MixDactRefIdeal.main_arg1))

def preserves_AttnDact_AttnDactIdeal : Prop :=
  True

def algebraic_AttnDactIdeal_AttnDactRefIdeal [hAttnDactIdeal : Cert.AttnDactIdeal.Facts] [hAttnDactRefIdeal : Cert.AttnDactRefIdeal.Facts] : Prop :=
  ∀ (m : (ℓ : Loc Cert.AttnDactIdeal.nD Cert.AttnDactIdeal.τ Cert.AttnDactIdeal.sig) → Buf (Elt Ideal) ℓ) (g : Dev Cert.AttnDactIdeal.nD → PrngReg)
    (m' : (ℓ : Loc Cert.AttnDactRefIdeal.nD Cert.AttnDactRefIdeal.τ Cert.AttnDactRefIdeal.sig) → Buf (Elt Ideal) ℓ) (g' : Dev Cert.AttnDactRefIdeal.nD → PrngReg), Pre_AttnDactIdeal m →
    (∀ c : Dev Cert.AttnDactIdeal.nD,
      m' ((c.tc : Thread Cert.AttnDactRefIdeal.nD Cert.AttnDactRefIdeal.τ).loc Cert.AttnDactRefIdeal.main_arg0) = m ((c.tc : Thread Cert.AttnDactIdeal.nD Cert.AttnDactIdeal.τ).loc Cert.AttnDactIdeal.main_arg0)
      ∧ m' ((c.tc : Thread Cert.AttnDactRefIdeal.nD Cert.AttnDactRefIdeal.τ).loc Cert.AttnDactRefIdeal.main_arg1) = m ((c.tc : Thread Cert.AttnDactIdeal.nD Cert.AttnDactIdeal.τ).loc Cert.AttnDactIdeal.main_arg1)) →
    ∃ (v0 : (c : Dev Cert.AttnDactIdeal.nD) → Buf (Elt Ideal) ((c.tc : Thread Cert.AttnDactIdeal.nD Cert.AttnDactIdeal.τ).loc Cert.AttnDactIdeal.main_v0)),
      θ_run (Cert.AttnDactIdeal.defs (F := Ideal)) (onTc (τ := Cert.AttnDactIdeal.τ) (Cert.AttnDactIdeal.main (F := Ideal))) ⟨m, fun _ => 0, g⟩ (fun r => ∀ c : Dev Cert.AttnDactIdeal.nD,
          r.2.mem ((c.tc : Thread Cert.AttnDactIdeal.nD Cert.AttnDactIdeal.τ).loc Cert.AttnDactIdeal.main_v0) = v0 c
          ∧ r.2.mem ((c.tc : Thread Cert.AttnDactIdeal.nD Cert.AttnDactIdeal.τ).loc Cert.AttnDactIdeal.main_arg0) = m ((c.tc : Thread Cert.AttnDactIdeal.nD Cert.AttnDactIdeal.τ).loc Cert.AttnDactIdeal.main_arg0)
          ∧ r.2.mem ((c.tc : Thread Cert.AttnDactIdeal.nD Cert.AttnDactIdeal.τ).loc Cert.AttnDactIdeal.main_arg1) = m ((c.tc : Thread Cert.AttnDactIdeal.nD Cert.AttnDactIdeal.τ).loc Cert.AttnDactIdeal.main_arg1))
      ∧ θ_run (Cert.AttnDactRefIdeal.defs (F := Ideal)) (onTc (τ := Cert.AttnDactRefIdeal.τ) (Cert.AttnDactRefIdeal.main (F := Ideal))) ⟨m', fun _ => 0, g'⟩ (fun r => ∀ c : Dev Cert.AttnDactRefIdeal.nD,
          r.2.mem ((c.tc : Thread Cert.AttnDactRefIdeal.nD Cert.AttnDactRefIdeal.τ).loc Cert.AttnDactRefIdeal.main_v5) = v0 c
          ∧ r.2.mem ((c.tc : Thread Cert.AttnDactRefIdeal.nD Cert.AttnDactRefIdeal.τ).loc Cert.AttnDactRefIdeal.main_arg0) = m' ((c.tc : Thread Cert.AttnDactRefIdeal.nD Cert.AttnDactRefIdeal.τ).loc Cert.AttnDactRefIdeal.main_arg0)
          ∧ r.2.mem ((c.tc : Thread Cert.AttnDactRefIdeal.nD Cert.AttnDactRefIdeal.τ).loc Cert.AttnDactRefIdeal.main_arg1) = m' ((c.tc : Thread Cert.AttnDactRefIdeal.nD Cert.AttnDactRefIdeal.τ).loc Cert.AttnDactRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDh_FfnDhIdeal : Prop :=
  True

def algebraic_FfnDhIdeal_FfnDhRefIdeal_pre_finite_ffn_dh [hFfnDhIdeal : Cert.FfnDhIdeal.Facts] [hFfnDhRefIdeal : Cert.FfnDhRefIdeal.Facts] [hPre_finite_ffn_dh : Cert.Pre_finite_ffn_dh.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal_finite_ffn_dh m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)
      ∧ m' ((c.tc : Thread Cert.FfnDhRefIdeal.nD Cert.FfnDhRefIdeal.τ).loc Cert.FfnDhRefIdeal.main_arg6) = m ((c.tc : Thread Cert.FfnDhIdeal.nD Cert.FfnDhIdeal.τ).loc Cert.FfnDhIdeal.main_arg6)) →
    ∃ (v0 : (c : Dev Cert.FfnDhIdeal.nD) → Buf (Elt Ideal) ((c.tc : Thread Cert.FfnDhIdeal.nD Cert.FfnDhIdeal.τ).loc Cert.FfnDhIdeal.main_v1_0)) (v1 : (c : Dev Cert.FfnDhIdeal.nD) → Buf (Elt Ideal) ((c.tc : Thread Cert.FfnDhIdeal.nD Cert.FfnDhIdeal.τ).loc Cert.FfnDhIdeal.main_v1_1)) (v2 : (c : Dev Cert.FfnDhIdeal.nD) → Buf (Elt Ideal) ((c.tc : Thread Cert.FfnDhIdeal.nD Cert.FfnDhIdeal.τ).loc Cert.FfnDhIdeal.main_v1_2)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v1_0) = v0 c
          ∧ r.2.mem ((c.tc : Thread Cert.FfnDhIdeal.nD Cert.FfnDhIdeal.τ).loc Cert.FfnDhIdeal.main_v1_1) = v1 c
          ∧ r.2.mem ((c.tc : Thread Cert.FfnDhIdeal.nD Cert.FfnDhIdeal.τ).loc Cert.FfnDhIdeal.main_v1_2) = v2 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
          ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v49) = v0 c
          ∧ r.2.mem ((c.tc : Thread Cert.FfnDhRefIdeal.nD Cert.FfnDhRefIdeal.τ).loc Cert.FfnDhRefIdeal.main_v50) = v1 c
          ∧ r.2.mem ((c.tc : Thread Cert.FfnDhRefIdeal.nD Cert.FfnDhRefIdeal.τ).loc Cert.FfnDhRefIdeal.main_v52) = v2 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5)
          ∧ r.2.mem ((c.tc : Thread Cert.FfnDhRefIdeal.nD Cert.FfnDhRefIdeal.τ).loc Cert.FfnDhRefIdeal.main_arg6) = m' ((c.tc : Thread Cert.FfnDhRefIdeal.nD Cert.FfnDhRefIdeal.τ).loc Cert.FfnDhRefIdeal.main_arg6))

def preserves_MixDh_MixDhIdeal : Prop :=
  True

def algebraic_MixDhIdeal_MixDhRefIdeal_pre_finite_mix_dh [hMixDhIdeal : Cert.MixDhIdeal.Facts] [hMixDhRefIdeal : Cert.MixDhRefIdeal.Facts] [hPre_finite_mix_dh : Cert.Pre_finite_mix_dh.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal_finite_mix_dh m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)
      ∧ m' ((c.tc : Thread Cert.MixDhRefIdeal.nD Cert.MixDhRefIdeal.τ).loc Cert.MixDhRefIdeal.main_arg2) = m ((c.tc : Thread Cert.MixDhIdeal.nD Cert.MixDhIdeal.τ).loc Cert.MixDhIdeal.main_arg2)
      ∧ m' ((c.tc : Thread Cert.MixDhRefIdeal.nD Cert.MixDhRefIdeal.τ).loc Cert.MixDhRefIdeal.main_arg3) = m ((c.tc : Thread Cert.MixDhIdeal.nD Cert.MixDhIdeal.τ).loc Cert.MixDhIdeal.main_arg3)
      ∧ m' ((c.tc : Thread Cert.MixDhRefIdeal.nD Cert.MixDhRefIdeal.τ).loc Cert.MixDhRefIdeal.main_arg4) = m ((c.tc : Thread Cert.MixDhIdeal.nD Cert.MixDhIdeal.τ).loc Cert.MixDhIdeal.main_arg4)) →
    ∃ (v0 : (c : Dev Cert.MixDhIdeal.nD) → Buf (Elt Ideal) ((c.tc : Thread Cert.MixDhIdeal.nD Cert.MixDhIdeal.τ).loc Cert.MixDhIdeal.main_v1_0)) (v1 : (c : Dev Cert.MixDhIdeal.nD) → Buf (Elt Ideal) ((c.tc : Thread Cert.MixDhIdeal.nD Cert.MixDhIdeal.τ).loc Cert.MixDhIdeal.main_v1_1)) (v2 : (c : Dev Cert.MixDhIdeal.nD) → Buf (Elt Ideal) ((c.tc : Thread Cert.MixDhIdeal.nD Cert.MixDhIdeal.τ).loc Cert.MixDhIdeal.main_v1_2)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v1_0) = v0 c
          ∧ r.2.mem ((c.tc : Thread Cert.MixDhIdeal.nD Cert.MixDhIdeal.τ).loc Cert.MixDhIdeal.main_v1_1) = v1 c
          ∧ r.2.mem ((c.tc : Thread Cert.MixDhIdeal.nD Cert.MixDhIdeal.τ).loc Cert.MixDhIdeal.main_v1_2) = v2 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
          ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
          ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
          ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v52) = v0 c
          ∧ r.2.mem ((c.tc : Thread Cert.MixDhRefIdeal.nD Cert.MixDhRefIdeal.τ).loc Cert.MixDhRefIdeal.main_v53) = v1 c
          ∧ r.2.mem ((c.tc : Thread Cert.MixDhRefIdeal.nD Cert.MixDhRefIdeal.τ).loc Cert.MixDhRefIdeal.main_v55) = v2 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1)
          ∧ r.2.mem ((c.tc : Thread Cert.MixDhRefIdeal.nD Cert.MixDhRefIdeal.τ).loc Cert.MixDhRefIdeal.main_arg2) = m' ((c.tc : Thread Cert.MixDhRefIdeal.nD Cert.MixDhRefIdeal.τ).loc Cert.MixDhRefIdeal.main_arg2)
          ∧ r.2.mem ((c.tc : Thread Cert.MixDhRefIdeal.nD Cert.MixDhRefIdeal.τ).loc Cert.MixDhRefIdeal.main_arg3) = m' ((c.tc : Thread Cert.MixDhRefIdeal.nD Cert.MixDhRefIdeal.τ).loc Cert.MixDhRefIdeal.main_arg3)
          ∧ r.2.mem ((c.tc : Thread Cert.MixDhRefIdeal.nD Cert.MixDhRefIdeal.τ).loc Cert.MixDhRefIdeal.main_arg4) = m' ((c.tc : Thread Cert.MixDhRefIdeal.nD Cert.MixDhRefIdeal.τ).loc Cert.MixDhRefIdeal.main_arg4))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)
      ∧ m' ((c.tc : Thread Cert.FfnDwRefIdeal.nD Cert.FfnDwRefIdeal.τ).loc Cert.FfnDwRefIdeal.main_arg2) = m ((c.tc : Thread Cert.FfnDwIdeal.nD Cert.FfnDwIdeal.τ).loc Cert.FfnDwIdeal.main_arg2)
      ∧ m' ((c.tc : Thread Cert.FfnDwRefIdeal.nD Cert.FfnDwRefIdeal.τ).loc Cert.FfnDwRefIdeal.main_arg3) = m ((c.tc : Thread Cert.FfnDwIdeal.nD Cert.FfnDwIdeal.τ).loc Cert.FfnDwIdeal.main_arg3)
      ∧ m' ((c.tc : Thread Cert.FfnDwRefIdeal.nD Cert.FfnDwRefIdeal.τ).loc Cert.FfnDwRefIdeal.main_arg4) = m ((c.tc : Thread Cert.FfnDwIdeal.nD Cert.FfnDwIdeal.τ).loc Cert.FfnDwIdeal.main_arg4)) →
    ∃ (v0 : (c : Dev Cert.FfnDwIdeal.nD) → Buf (Elt Ideal) ((c.tc : Thread Cert.FfnDwIdeal.nD Cert.FfnDwIdeal.τ).loc Cert.FfnDwIdeal.main_v0_0)) (v1 : (c : Dev Cert.FfnDwIdeal.nD) → Buf (Elt Ideal) ((c.tc : Thread Cert.FfnDwIdeal.nD Cert.FfnDwIdeal.τ).loc Cert.FfnDwIdeal.main_v0_1)) (v2 : (c : Dev Cert.FfnDwIdeal.nD) → Buf (Elt Ideal) ((c.tc : Thread Cert.FfnDwIdeal.nD Cert.FfnDwIdeal.τ).loc Cert.FfnDwIdeal.main_v0_2)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0_0) = v0 c
          ∧ r.2.mem ((c.tc : Thread Cert.FfnDwIdeal.nD Cert.FfnDwIdeal.τ).loc Cert.FfnDwIdeal.main_v0_1) = v1 c
          ∧ r.2.mem ((c.tc : Thread Cert.FfnDwIdeal.nD Cert.FfnDwIdeal.τ).loc Cert.FfnDwIdeal.main_v0_2) = v2 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1)
          ∧ r.2.mem ((c.tc : Thread Cert.FfnDwIdeal.nD Cert.FfnDwIdeal.τ).loc Cert.FfnDwIdeal.main_arg2) = m ((c.tc : Thread Cert.FfnDwIdeal.nD Cert.FfnDwIdeal.τ).loc Cert.FfnDwIdeal.main_arg2)
          ∧ r.2.mem ((c.tc : Thread Cert.FfnDwIdeal.nD Cert.FfnDwIdeal.τ).loc Cert.FfnDwIdeal.main_arg3) = m ((c.tc : Thread Cert.FfnDwIdeal.nD Cert.FfnDwIdeal.τ).loc Cert.FfnDwIdeal.main_arg3)
          ∧ r.2.mem ((c.tc : Thread Cert.FfnDwIdeal.nD Cert.FfnDwIdeal.τ).loc Cert.FfnDwIdeal.main_arg4) = m ((c.tc : Thread Cert.FfnDwIdeal.nD Cert.FfnDwIdeal.τ).loc Cert.FfnDwIdeal.main_arg4))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v20) = v0 c
          ∧ r.2.mem ((c.tc : Thread Cert.FfnDwRefIdeal.nD Cert.FfnDwRefIdeal.τ).loc Cert.FfnDwRefIdeal.main_v21) = v1 c
          ∧ r.2.mem ((c.tc : Thread Cert.FfnDwRefIdeal.nD Cert.FfnDwRefIdeal.τ).loc Cert.FfnDwRefIdeal.main_v22) = v2 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1)
          ∧ r.2.mem ((c.tc : Thread Cert.FfnDwRefIdeal.nD Cert.FfnDwRefIdeal.τ).loc Cert.FfnDwRefIdeal.main_arg2) = m' ((c.tc : Thread Cert.FfnDwRefIdeal.nD Cert.FfnDwRefIdeal.τ).loc Cert.FfnDwRefIdeal.main_arg2)
          ∧ r.2.mem ((c.tc : Thread Cert.FfnDwRefIdeal.nD Cert.FfnDwRefIdeal.τ).loc Cert.FfnDwRefIdeal.main_arg3) = m' ((c.tc : Thread Cert.FfnDwRefIdeal.nD Cert.FfnDwRefIdeal.τ).loc Cert.FfnDwRefIdeal.main_arg3)
          ∧ r.2.mem ((c.tc : Thread Cert.FfnDwRefIdeal.nD Cert.FfnDwRefIdeal.τ).loc Cert.FfnDwRefIdeal.main_arg4) = m' ((c.tc : Thread Cert.FfnDwRefIdeal.nD Cert.FfnDwRefIdeal.τ).loc Cert.FfnDwRefIdeal.main_arg4))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)
      ∧ m' ((c.tc : Thread Cert.MixDwRefIdeal.nD Cert.MixDwRefIdeal.τ).loc Cert.MixDwRefIdeal.main_arg3) = m ((c.tc : Thread Cert.MixDwIdeal.nD Cert.MixDwIdeal.τ).loc Cert.MixDwIdeal.main_arg3)) →
    ∃ (v0 : (c : Dev Cert.MixDwIdeal.nD) → Buf (Elt Ideal) ((c.tc : Thread Cert.MixDwIdeal.nD Cert.MixDwIdeal.τ).loc Cert.MixDwIdeal.main_v0_0)) (v1 : (c : Dev Cert.MixDwIdeal.nD) → Buf (Elt Ideal) ((c.tc : Thread Cert.MixDwIdeal.nD Cert.MixDwIdeal.τ).loc Cert.MixDwIdeal.main_v0_1)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0_0) = v0 c
          ∧ r.2.mem ((c.tc : Thread Cert.MixDwIdeal.nD Cert.MixDwIdeal.τ).loc Cert.MixDwIdeal.main_v0_1) = v1 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2)
          ∧ r.2.mem ((c.tc : Thread Cert.MixDwIdeal.nD Cert.MixDwIdeal.τ).loc Cert.MixDwIdeal.main_arg3) = m ((c.tc : Thread Cert.MixDwIdeal.nD Cert.MixDwIdeal.τ).loc Cert.MixDwIdeal.main_arg3))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v22) = v0 c
          ∧ r.2.mem ((c.tc : Thread Cert.MixDwRefIdeal.nD Cert.MixDwRefIdeal.τ).loc Cert.MixDwRefIdeal.main_v23) = v1 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2)
          ∧ r.2.mem ((c.tc : Thread Cert.MixDwRefIdeal.nD Cert.MixDwRefIdeal.τ).loc Cert.MixDwRefIdeal.main_arg3) = m' ((c.tc : Thread Cert.MixDwRefIdeal.nD Cert.MixDwRefIdeal.τ).loc Cert.MixDwRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v1_0)) (v1 : (c : Dev Cert.MixInIdeal.nD) → Buf (Elt Ideal) ((c.tc : Thread Cert.MixInIdeal.nD Cert.MixInIdeal.τ).loc Cert.MixInIdeal.main_v1_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v1_0) = v0 c
          ∧ r.2.mem ((c.tc : Thread Cert.MixInIdeal.nD Cert.MixInIdeal.τ).loc Cert.MixInIdeal.main_v1_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v24) = v0 c
          ∧ r.2.mem ((c.tc : Thread Cert.MixInRefIdeal.nD Cert.MixInRefIdeal.τ).loc Cert.MixInRefIdeal.main_v25) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1_0)) (v1 : (c : Dev Cert.FfnUpIdeal.nD) → Buf (Elt Ideal) ((c.tc : Thread Cert.FfnUpIdeal.nD Cert.FfnUpIdeal.τ).loc Cert.FfnUpIdeal.main_v1_1)) (v2 : (c : Dev Cert.FfnUpIdeal.nD) → Buf (Elt Ideal) ((c.tc : Thread Cert.FfnUpIdeal.nD Cert.FfnUpIdeal.τ).loc Cert.FfnUpIdeal.main_v1_2)) (v3 : (c : Dev Cert.FfnUpIdeal.nD) → Buf (Elt Ideal) ((c.tc : Thread Cert.FfnUpIdeal.nD Cert.FfnUpIdeal.τ).loc Cert.FfnUpIdeal.main_v1_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = v0 c
          ∧ r.2.mem ((c.tc : Thread Cert.FfnUpIdeal.nD Cert.FfnUpIdeal.τ).loc Cert.FfnUpIdeal.main_v1_1) = v1 c
          ∧ r.2.mem ((c.tc : Thread Cert.FfnUpIdeal.nD Cert.FfnUpIdeal.τ).loc Cert.FfnUpIdeal.main_v1_2) = v2 c
          ∧ r.2.mem ((c.tc : Thread Cert.FfnUpIdeal.nD Cert.FfnUpIdeal.τ).loc Cert.FfnUpIdeal.main_v1_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v21) = v0 c
          ∧ r.2.mem ((c.tc : Thread Cert.FfnUpRefIdeal.nD Cert.FfnUpRefIdeal.τ).loc Cert.FfnUpRefIdeal.main_v22) = v1 c
          ∧ r.2.mem ((c.tc : Thread Cert.FfnUpRefIdeal.nD Cert.FfnUpRefIdeal.τ).loc Cert.FfnUpRefIdeal.main_v25) = v2 c
          ∧ r.2.mem ((c.tc : Thread Cert.FfnUpRefIdeal.nD Cert.FfnUpRefIdeal.τ).loc Cert.FfnUpRefIdeal.main_v26) = v3 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def Claim : Prop :=
  ∃ (hKernel : Cert.Kernel.Facts) (hKernelIdeal : Cert.KernelIdeal.Facts) (hReferenceIdeal : Cert.ReferenceIdeal.Facts) (hFfnDa : Cert.FfnDa.Facts) (hFfnDaIdeal : Cert.FfnDaIdeal.Facts) (hFfnDaRefIdeal : Cert.FfnDaRefIdeal.Facts) (hMixDact : Cert.MixDact.Facts) (hMixDactIdeal : Cert.MixDactIdeal.Facts) (hMixDactRefIdeal : Cert.MixDactRefIdeal.Facts) (hAttnDact : Cert.AttnDact.Facts) (hAttnDactIdeal : Cert.AttnDactIdeal.Facts) (hAttnDactRefIdeal : Cert.AttnDactRefIdeal.Facts) (hMixOut : Cert.MixOut.Facts) (hMixOutIdeal : Cert.MixOutIdeal.Facts) (hMixOutRefIdeal : Cert.MixOutRefIdeal.Facts) (hFfnDown : Cert.FfnDown.Facts) (hFfnDownIdeal : Cert.FfnDownIdeal.Facts) (hFfnDownRefIdeal : Cert.FfnDownRefIdeal.Facts) (hFfnDh : Cert.FfnDh.Facts) (hFfnDhIdeal : Cert.FfnDhIdeal.Facts) (hFfnDhRefIdeal : Cert.FfnDhRefIdeal.Facts) (hMixDh : Cert.MixDh.Facts) (hMixDhIdeal : Cert.MixDhIdeal.Facts) (hMixDhRefIdeal : Cert.MixDhRefIdeal.Facts) (hFfnDw : Cert.FfnDw.Facts) (hFfnDwIdeal : Cert.FfnDwIdeal.Facts) (hFfnDwRefIdeal : Cert.FfnDwRefIdeal.Facts) (hMixDw : Cert.MixDw.Facts) (hMixDwIdeal : Cert.MixDwIdeal.Facts) (hMixDwRefIdeal : Cert.MixDwRefIdeal.Facts) (hMixIn : Cert.MixIn.Facts) (hMixInIdeal : Cert.MixInIdeal.Facts) (hMixInRefIdeal : Cert.MixInRefIdeal.Facts) (hFfnUp : Cert.FfnUp.Facts) (hFfnUpIdeal : Cert.FfnUpIdeal.Facts) (hFfnUpRefIdeal : Cert.FfnUpRefIdeal.Facts) (hPre_finite_ffn_da : Cert.Pre_finite_ffn_da.Facts) (hPre_finite_ffn_dh : Cert.Pre_finite_ffn_dh.Facts) (hPre_finite_mix_dh : Cert.Pre_finite_mix_dh.Facts),
    quiescent_Kernel (hKernel := hKernel)
    ∧ quiescent_KernelIdeal (hKernelIdeal := hKernelIdeal)
    ∧ quiescent_ReferenceIdeal (hReferenceIdeal := hReferenceIdeal)
    ∧ quiescent_FfnDa (hFfnDa := hFfnDa)
    ∧ quiescent_FfnDaIdeal (hFfnDaIdeal := hFfnDaIdeal)
    ∧ quiescent_FfnDaIdeal_pre_finite_ffn_da (hFfnDaIdeal := hFfnDaIdeal) (hPre_finite_ffn_da := hPre_finite_ffn_da)
    ∧ quiescent_FfnDaRefIdeal (hFfnDaRefIdeal := hFfnDaRefIdeal)
    ∧ quiescent_FfnDaRefIdeal_pre_finite_ffn_da (hFfnDaRefIdeal := hFfnDaRefIdeal) (hPre_finite_ffn_da := hPre_finite_ffn_da)
    ∧ quiescent_MixDact (hMixDact := hMixDact)
    ∧ quiescent_MixDactIdeal (hMixDactIdeal := hMixDactIdeal)
    ∧ quiescent_MixDactRefIdeal (hMixDactRefIdeal := hMixDactRefIdeal)
    ∧ quiescent_AttnDact (hAttnDact := hAttnDact)
    ∧ quiescent_AttnDactIdeal (hAttnDactIdeal := hAttnDactIdeal)
    ∧ quiescent_AttnDactRefIdeal (hAttnDactRefIdeal := hAttnDactRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDh (hFfnDh := hFfnDh)
    ∧ quiescent_FfnDhIdeal (hFfnDhIdeal := hFfnDhIdeal)
    ∧ quiescent_FfnDhIdeal_pre_finite_ffn_dh (hFfnDhIdeal := hFfnDhIdeal) (hPre_finite_ffn_dh := hPre_finite_ffn_dh)
    ∧ quiescent_FfnDhRefIdeal (hFfnDhRefIdeal := hFfnDhRefIdeal)
    ∧ quiescent_FfnDhRefIdeal_pre_finite_ffn_dh (hFfnDhRefIdeal := hFfnDhRefIdeal) (hPre_finite_ffn_dh := hPre_finite_ffn_dh)
    ∧ quiescent_MixDh (hMixDh := hMixDh)
    ∧ quiescent_MixDhIdeal (hMixDhIdeal := hMixDhIdeal)
    ∧ quiescent_MixDhIdeal_pre_finite_mix_dh (hMixDhIdeal := hMixDhIdeal) (hPre_finite_mix_dh := hPre_finite_mix_dh)
    ∧ quiescent_MixDhRefIdeal (hMixDhRefIdeal := hMixDhRefIdeal)
    ∧ quiescent_MixDhRefIdeal_pre_finite_mix_dh (hMixDhRefIdeal := hMixDhRefIdeal) (hPre_finite_mix_dh := hPre_finite_mix_dh)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ preserves_Kernel_KernelIdeal
    ∧ algebraic_KernelIdeal_ReferenceIdeal (hKernelIdeal := hKernelIdeal) (hReferenceIdeal := hReferenceIdeal)
    ∧ preserves_FfnDa_FfnDaIdeal
    ∧ algebraic_FfnDaIdeal_FfnDaRefIdeal_pre_finite_ffn_da (hFfnDaIdeal := hFfnDaIdeal) (hFfnDaRefIdeal := hFfnDaRefIdeal) (hPre_finite_ffn_da := hPre_finite_ffn_da)
    ∧ preserves_MixDact_MixDactIdeal
    ∧ algebraic_MixDactIdeal_MixDactRefIdeal (hMixDactIdeal := hMixDactIdeal) (hMixDactRefIdeal := hMixDactRefIdeal)
    ∧ preserves_AttnDact_AttnDactIdeal
    ∧ algebraic_AttnDactIdeal_AttnDactRefIdeal (hAttnDactIdeal := hAttnDactIdeal) (hAttnDactRefIdeal := hAttnDactRefIdeal)
    ∧ preserves_MixOut_MixOutIdeal
    ∧ algebraic_MixOutIdeal_MixOutRefIdeal (hMixOutIdeal := hMixOutIdeal) (hMixOutRefIdeal := hMixOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDh_FfnDhIdeal
    ∧ algebraic_FfnDhIdeal_FfnDhRefIdeal_pre_finite_ffn_dh (hFfnDhIdeal := hFfnDhIdeal) (hFfnDhRefIdeal := hFfnDhRefIdeal) (hPre_finite_ffn_dh := hPre_finite_ffn_dh)
    ∧ preserves_MixDh_MixDhIdeal
    ∧ algebraic_MixDhIdeal_MixDhRefIdeal_pre_finite_mix_dh (hMixDhIdeal := hMixDhIdeal) (hMixDhRefIdeal := hMixDhRefIdeal) (hPre_finite_mix_dh := hPre_finite_mix_dh)
    ∧ preserves_FfnDw_FfnDwIdeal
    ∧ algebraic_FfnDwIdeal_FfnDwRefIdeal (hFfnDwIdeal := hFfnDwIdeal) (hFfnDwRefIdeal := hFfnDwRefIdeal)
    ∧ preserves_MixDw_MixDwIdeal
    ∧ algebraic_MixDwIdeal_MixDwRefIdeal (hMixDwIdeal := hMixDwIdeal) (hMixDwRefIdeal := hMixDwRefIdeal)
    ∧ preserves_MixIn_MixInIdeal
    ∧ algebraic_MixInIdeal_MixInRefIdeal (hMixInIdeal := hMixInIdeal) (hMixInRefIdeal := hMixInRefIdeal)
    ∧ preserves_FfnUp_FfnUpIdeal
    ∧ algebraic_FfnUpIdeal_FfnUpRefIdeal (hFfnUpIdeal := hFfnUpIdeal) (hFfnUpRefIdeal := hFfnUpRefIdeal)
-- ==== Pre_finite_ffn_da.lean ====
abbrev S2048x1024 : Shape := ⟨2, ![2048, 1024]⟩
abbrev S3072x1024 : Shape := ⟨2, ![3072, 1024]⟩
abbrev S2048x3072 : Shape := ⟨2, ![2048, 3072]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S3072x1024 : S_.BroadcastsInDim S3072x1024 (![] : Fin 0 → Fin S3072x1024.rank)
  bcast_S_S2048x3072 : S_.BroadcastsInDim S2048x3072 (![] : Fin 0 → Fin S2048x3072.rank)

variable [Facts]

def fn {F : FTy → Type} [FloatOps F] (main_arg0 : FVec F S2048x1024 .bf16) (main_arg1 : FVec F S3072x1024 .bf16) (main_arg2 : FVec F S2048x3072 .bf16) (main_arg3 : FVec F S2048x3072 .bf16) : IVec S2048x1024 1 × IVec S3072x1024 1 × IVec S2048x3072 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : FVec F S2048x3072 .f32 := (extf .f32 · bitsLt_bf16_f32) main_arg3
  let main_v9 : FVec F S2048x3072 .f32 := Host.absf main_v8
  let main_cst_1 : FVec F S_ .f32 := constant S_ .f32 0x7F800000#32
  let main_v10 : FVec F S2048x3072 .f32 := broadcastInDim S2048x3072 ![] bcast_S_S2048x3072 main_cst_1
  let main_v11 : IVec S2048x3072 1 := cmpf .olt main_v9 main_v10
  (main_v3, main_v7, main_v11)
-- ==== Pre_finite_ffn_dh.lean ====
abbrev S2048x3072 : Shape := ⟨2, ![2048, 3072]⟩
abbrev S3072x1024 : Shape := ⟨2, ![3072, 1024]⟩
abbrev S2048x1024 : Shape := ⟨2, ![2048, 1024]⟩
abbrev S4x1024 : Shape := ⟨2, ![4, 1024]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  bcast_S_S3072x1024 : S_.BroadcastsInDim S3072x1024 (![] : Fin 0 → Fin S3072x1024.rank)
  bcast_S_S2048x1024 : S_.BroadcastsInDim S2048x1024 (![] : Fin 0 → Fin S2048x1024.rank)
  bcast_S_S4x1024 : S_.BroadcastsInDim S4x1024 (![] : Fin 0 → Fin S4x1024.rank)

variable [Facts]

def fn_part1 {F : FTy → Type} [FloatOps F] (main_arg5 : FVec F S4x1024 .f32) (main_v3 : IVec S2048x3072 1) (main_v7 : IVec S3072x1024 1) (main_v11 : IVec S2048x3072 1) (main_v15 : IVec S3072x1024 1) (main_v18 : IVec S2048x1024 1) : IVec S2048x3072 1 × IVec S3072x1024 1 × IVec S2048x3072 1 × IVec S3072x1024 1 × IVec S2048x1024 1 × IVec S4x1024 1 :=
  let main_v19 : FVec F S4x1024 .f32 := Host.absf main_arg5
  let main_cst_4 : FVec F S_ .f32 := constant S_ .f32 0x7F800000#32
  let main_v20 : FVec F S4x1024 .f32 := broadcastInDim S4x1024 ![] bcast_S_S4x1024 main_cst_4
  let main_v21 : IVec S4x1024 1 := cmpf .olt main_v19 main_v20
  (main_v3, main_v7, main_v11, main_v15, main_v18, main_v21)

def fn {F : FTy → Type} [FloatOps F] (main_arg0 : FVec F S2048x3072 .bf16) (main_arg1 : FVec F S3072x1024 .bf16) (main_arg2 : FVec F S2048x3072 .bf16) (main_arg3 : FVec F S3072x1024 .bf16) (main_arg4 : FVec F S2048x1024 .f32) (main_arg5 : FVec F S4x1024 .f32) (main_arg6 : FVec F S2048x1024 .f32) : IVec S2048x3072 1 × IVec S3072x1024 1 × IVec S2048x3072 1 × IVec S3072x1024 1 × IVec S2048x1024 1 × IVec S4x1024 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : FVec F S2048x3072 .f32 := (extf .f32 · bitsLt_bf16_f32) main_arg2
  let main_v9 : FVec F S2048x3072 .f32 := Host.absf main_v8
  let main_cst_1 : FVec F S_ .f32 := constant S_ .f32 0x7F800000#32
  let main_v10 : FVec F S2048x3072 .f32 := broadcastInDim S2048x3072 ![] bcast_S_S2048x3072 main_cst_1
  let main_v11 : IVec S2048x3072 1 := cmpf .olt main_v9 main_v10
  let main_v12 : FVec F S3072x1024 .f32 := (extf .f32 · bitsLt_bf16_f32) main_arg3
  let main_v13 : FVec F S3072x1024 .f32 := Host.absf main_v12
  let main_cst_2 : FVec F S_ .f32 := constant S_ .f32 0x7F800000#32
  let main_v14 : FVec F S3072x1024 .f32 := broadcastInDim S3072x1024 ![] bcast_S_S3072x1024 main_cst_2
  let main_v15 : IVec S3072x1024 1 := cmpf .olt main_v13 main_v14
  let main_v16 : FVec F S2048x1024 .f32 := Host.absf main_arg4
  let main_cst_3 : FVec F S_ .f32 := constant S_ .f32 0x7F800000#32
  let main_v17 : FVec F S2048x1024 .f32 := broadcastInDim S2048x1024 ![] bcast_S_S2048x1024 main_cst_3
  let main_v18 : IVec S2048x1024 1 := cmpf .olt main_v16 main_v17
  fn_part1 (F := F) main_arg5 main_v3 main_v7 main_v11 main_v15 main_v18
-- ==== Pre_finite_mix_dh.lean ====
abbrev S3x2048x1024 : Shape := ⟨3, ![3, 2048, 1024]⟩
abbrev S1024x3072 : Shape := ⟨2, ![1024, 3072]⟩
abbrev S2048x1024 : Shape := ⟨2, ![2048, 1024]⟩
abbrev S4x1024 : Shape := ⟨2, ![4, 1024]⟩
abbrev S_ : Shape := ⟨0, ![]⟩

class Facts : Prop where
  bitsLt_bf16_f32 : FTy.bits .bf16 < FTy.bits .f32
  bcast_S_S3x2048x1024 : S_.BroadcastsInDim S3x2048x1024 (![] : Fin 0 → Fin S3x2048x1024.rank)
  bcast_S_S1024x3072 : S_.BroadcastsInDim S1024x3072 (![] : Fin 0 → Fin S1024x3072.rank)
  bcast_S_S2048x1024 : S_.BroadcastsInDim S2048x1024 (![] : Fin 0 → Fin S2048x1024.rank)
  bcast_S_S4x1024 : S_.BroadcastsInDim S4x1024 (![] : Fin 0 → Fin S4x1024.rank)

variable [Facts]

def fn {F : FTy → Type} [FloatOps F] (main_arg0 : FVec F S3x2048x1024 .bf16) (main_arg1 : FVec F S1024x3072 .bf16) (main_arg2 : FVec F S2048x1024 .f32) (main_arg3 : FVec F S4x1024 .f32) (main_arg4 : FVec F S2048x1024 .f32) : IVec S3x2048x1024 1 × IVec S1024x3072 1 × IVec S2048x1024 1 × IVec S4x1024 1 :=
  let main_v0 : FVec F S3x2048x1024 .f32 := (extf .f32 · bitsLt_bf16_f32) main_arg0
  let main_v1 : FVec F S3x2048x1024 .f32 := Host.absf main_v0
  let main_cst : FVec F S_ .f32 := constant S_ .f32 0x7F800000#32
  let main_v2 : FVec F S3x2048x1024 .f32 := broadcastInDim S3x2048x1024 ![] bcast_S_S3x2048x1024 main_cst
  let main_v3 : IVec S3x2048x1024 1 := cmpf .olt main_v1 main_v2
  let main_v4 : FVec F S1024x3072 .f32 := (extf .f32 · bitsLt_bf16_f32) main_arg1
  let main_v5 : FVec F S1024x3072 .f32 := Host.absf main_v4
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S4x1024 .f32 := Host.absf main_arg3
  let main_cst_2 : FVec F S_ .f32 := constant S_ .f32 0x7F800000#32
  let main_v12 : FVec F S4x1024 .f32 := broadcastInDim S4x1024 ![] bcast_S_S4x1024 main_cst_2
  let main_v13 : IVec S4x1024 1 := cmpf .olt main_v11 main_v12
  (main_v3, main_v7, main_v10, main_v13)
-- ==== Kernel.lean ====
abbrev S2048x1024 : Shape := ⟨2, ![2048, 1024]⟩
abbrev S3x2048x1024 : Shape := ⟨3, ![3, 2048, 1024]⟩
abbrev S3x1024 : Shape := ⟨2, ![3, 1024]⟩
abbrev S_ : Shape := ⟨0, ![]⟩
abbrev S8x1024 : Shape := ⟨2, ![8, 1024]⟩
abbrev S256x1024 : Shape := ⟨2, ![256, 1024]⟩
abbrev S16x1024 : Shape := ⟨2, ![16, 1024]⟩
abbrev S3x256x1024 : Shape := ⟨3, ![3, 256, 1024]⟩
abbrev S3x16x1024 : Shape := ⟨3, ![3, 16, 1024]⟩
abbrev S1x256x1024 : Shape := ⟨3, ![1, 256, 1024]⟩
abbrev S1x16x1024 : Shape := ⟨3, ![1, 16, 1024]⟩
abbrev S1024 : Shape := ⟨1, ![1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S3x2048x1024, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S3x256x1024, .bf16⟩
  | .local _ .vmem, ⟨5, _⟩ => ⟨S3x256x1024, .bf16⟩
  | .local _ .vmem, ⟨6, _⟩ => ⟨S3x16x1024, .bf16⟩
  | .local _ .vmem, ⟨7, _⟩ => ⟨S3x16x1024, .bf16⟩
  | .local _ .vmem, ⟨8, _⟩ => ⟨S3x16x1024, .bf16⟩
  | .local _ .vmem, ⟨9, _⟩ => ⟨S3x16x1024, .bf16⟩
  | .local _ .vmem, ⟨10, _⟩ => ⟨S8x1024, .f32⟩
  | .local _ .vmem, ⟨11, _⟩ => ⟨S3x256x1024, .bf16⟩
  | .local _ .vmem, ⟨12, _⟩ => ⟨S3x256x1024, .bf16⟩
  | .local _ .vmem, ⟨13, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1024 : Shape := ⟨2, ![2048, 1024]⟩
abbrev S3x2048x1024 : Shape := ⟨3, ![3, 2048, 1024]⟩
abbrev S3x1024 : Shape := ⟨2, ![3, 1024]⟩
abbrev S1x2048x1024 : Shape := ⟨3, ![1, 2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S3x1024, .f32⟩
  | .hbm, ⟨3, _⟩ => ⟨S3x2048x1024, .f32⟩
  | .hbm, ⟨4, _⟩ => ⟨S1x2048x1024, .f32⟩
  | .hbm, ⟨5, _⟩ => ⟨S2048x1024, .f32⟩
  | .hbm, ⟨6, _⟩ => ⟨S1x2048x1024, .f32⟩
  | .hbm, ⟨7, _⟩ => ⟨S2048x1024, .f32⟩
  | .hbm, ⟨8, _⟩ => ⟨S1x2048x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2048x1024, .f32⟩
  | .hbm, ⟨13, _⟩ => ⟨S2050x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S2050x1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S2050x1024, .f32⟩
  | .hbm, ⟨62, _⟩ => ⟨S2050x1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S2050x1024, .f32⟩
  | .hbm, ⟨77, _⟩ => ⟨S2050x1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S2x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S1x2048x1024, .f32⟩
  | .hbm, ⟨87, _⟩ => ⟨S1x2048x1024, .f32⟩
  | .hbm, ⟨88, _⟩ => ⟨S1x2048x1024, .f32⟩
  | .hbm, ⟨89, _⟩ => ⟨S3x2048x1024, .f32⟩
  | .hbm, ⟨90, _⟩ => ⟨S3x2048x1024, .bf16⟩
  | .hbm, ⟨91, _⟩ => ⟨S_, .i32⟩
  | .hbm, ⟨92, _⟩ => ⟨S_, .f32⟩
  | .hbm, ⟨93, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c : Ref sig .tc := ⟨.hbm, 91, rfl⟩
abbrev main_call0_v0 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== FfnDa.lean ====
abbrev S2048x1024 : Shape := ⟨2, ![2048, 1024]⟩
abbrev S3072x1024 : Shape := ⟨2, ![3072, 1024]⟩
abbrev S2048x3072 : Shape := ⟨2, ![2048, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x3072, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDaRefIdeal.lean ====
abbrev S2048x1024 : Shape := ⟨2, ![2048, 1024]⟩
abbrev S3072x1024 : Shape := ⟨2, ![3072, 1024]⟩
abbrev S2048x3072 : Shape := ⟨2, ![2048, 3072]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x3072, .bf16⟩
  | .hbm, ⟨3, _⟩ => ⟨S2048x3072, .bf16⟩
  | .hbm, ⟨4, _⟩ => ⟨S3072x1024, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x1024, .f32⟩
  | .hbm, ⟨22, _⟩ => ⟨S2048x1024, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .bf16⟩
  | .hbm, ⟨31, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== MixDact.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDactRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDact.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDactRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDown.lean ====
abbrev S2048x3072 : Shape := ⟨2, ![2048, 3072]⟩
abbrev S3072x1024 : Shape := ⟨2, ![3072, 1024]⟩
abbrev S2048x1024 : Shape := ⟨2, ![2048, 1024]⟩
abbrev S1024x512 : Shape := ⟨2, ![1024, 512]⟩
abbrev S512x512 : Shape := ⟨2, ![512, 512]⟩

abbrev nBuf : Space → Nat
  | .hbm => 4
  | .vmem => 28
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat]

def cc0_transform_11 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnDownRefIdeal.lean ====
abbrev S2048x3072 : Shape := ⟨2, ![2048, 3072]⟩
abbrev S3072x1024 : Shape := ⟨2, ![3072, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x3072, .f32⟩
  | .hbm, ⟨4, _⟩ => ⟨S3072x1024, .f32⟩
  | .hbm, ⟨5, _⟩ => ⟨S2048x1024, .f32⟩
  | .hbm, ⟨6, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDh.lean ====
abbrev S2048x3072 : Shape := ⟨2, ![2048, 3072]⟩
abbrev S3072x1024 : Shape := ⟨2, ![3072, 1024]⟩
abbrev S2048x1024 : Shape := ⟨2, ![2048, 1024]⟩
abbrev S4x1024 : Shape := ⟨2, ![4, 1024]⟩
abbrev S4x1x1024 : Shape := ⟨3, ![4, 1, 1024]⟩
abbrev S8x1024 : Shape := ⟨2, ![8, 1024]⟩
abbrev S512x3072 : Shape := ⟨2, ![512, 3072]⟩
abbrev S512x1024 : Shape := ⟨2, ![512, 1024]⟩
abbrev S1x1x1024 : Shape := ⟨3, ![1, 1, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x3072, .bf16⟩
  | .hbm, ⟨3, _⟩ => ⟨S3072x1024, .bf16⟩
  | .hbm, ⟨4, _⟩ => ⟨S2048x1024, .f32⟩
  | .hbm, ⟨5, _⟩ => ⟨S4x1024, .f32⟩
  | .hbm, ⟨6, _⟩ => ⟨S2048x1024, .f32⟩
  | .hbm, ⟨7, _⟩ => ⟨S4x1x1024, .f32⟩
  | .hbm, ⟨8, _⟩ => ⟨S2048x1024, .f32⟩
  | .hbm, ⟨9, _⟩ => ⟨S2048x1024, .bf16⟩
  | .hbm, ⟨10, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S3072x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnDhRefIdeal.lean ====
abbrev S2048x3072 : Shape := ⟨2, ![2048, 3072]⟩
abbrev S3072x1024 : Shape := ⟨2, ![3072, 1024]⟩
abbrev S2048x1024 : Shape := ⟨2, ![2048, 1024]⟩
abbrev S4x1024 : Shape := ⟨2, ![4, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S8x1024 : Shape := ⟨2, ![8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x3072, .bf16⟩
  | .hbm, ⟨3, _⟩ => ⟨S3072x1024, .bf16⟩
  | .hbm, ⟨4, _⟩ => ⟨S2048x1024, .f32⟩
  | .hbm, ⟨5, _⟩ => ⟨S4x1024, .f32⟩
  | .hbm, ⟨6, _⟩ => ⟨S2048x1024, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S1024x3072, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .bf16⟩
  | .hbm, ⟨67, _⟩ => ⟨S1x1024, .f32⟩
  | .hbm, ⟨68, _⟩ => ⟨S_, .i32⟩
  | .hbm, ⟨69, _⟩ => ⟨S_, .f32⟩
  | .hbm, ⟨70, _⟩ => ⟨S8x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_call0_v0 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== MixDh.lean ====
abbrev S3x2048x1024 : Shape := ⟨3, ![3, 2048, 1024]⟩
abbrev S1024x3072 : Shape := ⟨2, ![1024, 3072]⟩
abbrev S2048x1024 : Shape := ⟨2, ![2048, 1024]⟩
abbrev S4x1024 : Shape := ⟨2, ![4, 1024]⟩
abbrev S4x1x1024 : Shape := ⟨3, ![4, 1, 1024]⟩
abbrev S8x1024 : Shape := ⟨2, ![8, 1024]⟩
abbrev S3x512x1024 : Shape := ⟨3, ![3, 512, 1024]⟩
abbrev S512x1024 : Shape := ⟨2, ![512, 1024]⟩
abbrev S1x1x1024 : Shape := ⟨3, ![1, 1, 1024]⟩
abbrev S1x256x1024 : Shape := ⟨3, ![1, 256, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S3x2048x1024, .bf16⟩
  | .hbm, ⟨1, _⟩ => ⟨S1024x3072, .bf16⟩
  | .hbm, ⟨2, _⟩ => ⟨S2048x1024, .f32⟩
  | .hbm, ⟨3, _⟩ => ⟨S4x1024, .f32⟩
  | .hbm, ⟨4, _⟩ => ⟨S2048x1024, .f32⟩
  | .hbm, ⟨5, _⟩ => ⟨S4x1x1024, .f32⟩
  | .hbm, ⟨6, _⟩ => ⟨S2048x1024, .f32⟩
  | .hbm, ⟨7, _⟩ => ⟨S2048x1024, .bf16⟩
  | .hbm, ⟨8, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixDhRefIdeal.lean ====
abbrev S3x2048x1024 : Shape := ⟨3, ![3, 2048, 1024]⟩
abbrev S1024x3072 : Shape := ⟨2, ![1024, 3072]⟩
abbrev S2048x1024 : Shape := ⟨2, ![2048, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S1x2048x1024 : Shape := ⟨3, ![1, 2048, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S1024x3072, .bf16⟩
  | .hbm, ⟨2, _⟩ => ⟨S2048x1024, .f32⟩
  | .hbm, ⟨3, _⟩ => ⟨S4x1024, .f32⟩
  | .hbm, ⟨4, _⟩ => ⟨S2048x1024, .f32⟩
  | .hbm, ⟨5, _⟩ => ⟨S1024x3072, .f32⟩
  | .hbm, ⟨6, _⟩ => ⟨S3x2048x1024, .f32⟩
  | .hbm, ⟨7, _⟩ => ⟨S1x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x3072, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1x2048x1024, .f32⟩
  | .hbm, ⟨34, _⟩ => ⟨S2048x1024, .f32⟩
  | .hbm, ⟨35, _⟩ => ⟨S1x2048x1024, .f32⟩
  | .hbm, ⟨36, _⟩ => ⟨S2048x1024, .f32⟩
  | .hbm, ⟨37, _⟩ => ⟨S1x2048x1024, .f32⟩
  | .hbm, ⟨38, _⟩ => ⟨S2048x1024, .f32⟩
  | .hbm, ⟨39, _⟩ => ⟨S2048x3072, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .bf16⟩
  | .hbm, ⟨68, _⟩ => ⟨S1x1024, .f32⟩
  | .hbm, ⟨69, _⟩ => ⟨S_, .i32⟩
  | .hbm, ⟨70, _⟩ => ⟨S_, .f32⟩
  | .hbm, ⟨71, _⟩ => ⟨S8x1024, .f32⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c : Ref sig .tc := ⟨.hbm, 69, rfl⟩
abbrev main_call0_v0 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== FfnDw.lean ====
abbrev S2048x3072 : Shape := ⟨2, ![2048, 3072]⟩
abbrev S2048x1024 : Shape := ⟨2, ![2048, 1024]⟩
abbrev S18x7 : Shape := ⟨2, ![18, 7]⟩
abbrev S3072x1024 : Shape := ⟨2, ![3072, 1024]⟩
abbrev S2048x512 : Shape := ⟨2, ![2048, 512]⟩
abbrev S1x1 : Shape := ⟨2, ![1, 1]⟩
abbrev S512x1024 : Shape := ⟨2, ![512, 1024]⟩

abbrev nBuf : Space → Nat
  | .hbm => 8
  | .vmem => 18
  | .smem => 1
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x1024, .bf16⟩
  | .hbm, ⟨3, _⟩ => ⟨S2048x3072, .bf16⟩
  | .hbm, ⟨4, _⟩ => ⟨S2048x1024, .bf16⟩
  | .hbm, ⟨5, _⟩ => ⟨S3072x1024, .bf16⟩
  | .hbm, ⟨6, _⟩ => ⟨S3072x1024, .bf16⟩
  | .hbm, ⟨7, _⟩ => ⟨S3072x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .smem, ⟨0, _⟩ => ⟨S18x7, .i32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![18], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c1 : Index := 1#32
  ![v0.toNat, 1]
def k0_off2 (i : grid0.Coords) : Fin 2 → Nat :=
  let arg0 : BitVec 32 := BitVec.ofNat 32 (i 0).val
  let v0 : Index := Scalar.indexCast arg0
  let c2 : Index := 2#32
  ![v0.toNat, 2]
def k0_off3 (i : grid0.Coords) : Fin 2 → Nat :=
  let arg0 : BitVec 32 := BitVec.ofNat 32 (i 0).val
  let v0 : Index := Scalar.indexCast arg0
  let c3 : Index := 3#32
  ![v0.toNat, 3]
def k0_off4 (i : grid0.Coords) : Fin 2 → Nat :=
  let arg0 : BitVec 32 := BitVec.ofNat 32 (i 0).val
  let v0 : Index := Scalar.indexCast arg0
  let c4 : Index := 4#32
  ![v0.toNat, 4]
def k0_off5 (i : grid0.Coords) : Fin 2 → Nat :=
  let arg0 : BitVec 32 := BitVec.ofNat 32 (i 0).val
  let v0 : Index := Scalar.indexCast arg0
  let c5 : Index := 5#32
  ![v0.toNat, 5]
def k0_off6 (i : grid0.Coords) : Fin 2 → Nat :=
  let arg0 : BitVec 32 := BitVec.ofNat 32 (i 0).val
  let v0 : Index := Scalar.indexCast arg0
  let c6 : Index := 6#32
  ![v0.toNat, 6]
def k0_off7 (i : grid0.Coords) : Fin 2 → Nat :=
  let arg0 : BitVec 32 := BitVec.ofNat 32 (i 0).val
  let v0 : Index := Scalar.indexCast arg0
  let c0 : Index := 0#32
  ![v0.toNat, 0]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c2_i32 : BitVec 32 := 2#32
  let v8 : BitVec 1 := Scalar.cmpi .eq v1 c2_i32
  let v9 : BitVec 32 := Scalar.extui v8
  let c0_i32_2 : BitVec 32 := 0#32
  let v10 : BitVec 1 := Scalar.cmpi .ne v9 c0_i32_2
  v10

def cc0_transform_0 (k0_off1_inb : ∀ i : grid0.Coords, ∀ a, (k0_off1 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c1 : Index := 1#32
  let v1 : BitVec 32 := pf.at 0 (Rect.unit (s := S18x7) ![v0.toNat, 1] S1x1.size (k0_off1_inb i)) numel1_S1x1
  let c0_i32 : BitVec 32 := 0#32
  let c0_i32_0 : BitVec 32 := 0#32
  ![c0_i32.toNat, v1.toNat]

def cc0_transform_1 (k0_off2_inb : ∀ i : grid0.Coords, ∀ a, (k0_off2 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c2 : Index := 2#32
  let v1 : BitVec 32 := pf.at 0 (Rect.unit (s := S18x7) ![v0.toNat, 2] S1x1.size (k0_off2_inb i)) numel1_S1x1
  let c0_i32 : BitVec 32 := 0#32
  let c0_i32_0 : BitVec 32 := 0#32
  ![c0_i32.toNat, v1.toNat]

def cc0_transform_2 (k0_off3_inb : ∀ i : grid0.Coords, ∀ a, (k0_off3 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c3 : Index := 3#32
  let v1 : BitVec 32 := pf.at 0 (Rect.unit (s := S18x7) ![v0.toNat, 3] S1x1.size (k0_off3_inb i)) numel1_S1x1
  let c0_i32 : BitVec 32 := 0#32
  let c0_i32_0 : BitVec 32 := 0#32
  ![c0_i32.toNat, v1.toNat]

def cc0_transform_3 (k0_off4_inb : ∀ i : grid0.Coords, ∀ a, (k0_off4 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c4 : Index := 4#32
  let v1 : BitVec 32 := pf.at 0 (Rect.unit (s := S18x7) ![v0.toNat, 4] S1x1.size (k0_off4_inb i)) numel1_S1x1
  let c0_i32 : BitVec 32 := 0#32
  let c0_i32_0 : BitVec 32 := 0#32
  ![c0_i32.toNat, v1.toNat]

def cc0_transform_4 (k0_off5_inb : ∀ i : grid0.Coords, ∀ a, (k0_off5 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c5 : Index := 5#32
  let v1 : BitVec 32 := pf.at 0 (Rect.unit (s := S18x7) ![v0.toNat, 5] S1x1.size (k0_off5_inb i)) numel1_S1x1
  let c0_i32 : BitVec 32 := 0#32
  let c0_i32_0 : BitVec 32 := 0#32
  ![c0_i32.toNat, v1.toNat]

def cc0_transform_5 (k0_off6_inb : ∀ i : grid0.Coords, ∀ a, (k0_off6 i) a + S1x1.size a ≤ S18x7.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c6 : Index := 6#32
  let v1 : BitVec 32 := pf.at 0 (Rect.unit (s := S18x7) ![v0.toNat, 6] S1x1.size (k0_off6_inb i)) numel1_S1x1
  let c0_i32 : BitVec 32 := 0#32
  let c0_i32_0 : BitVec 32 := 0#32
  ![c0_i32.toNat, v1.toNat]

def cc0_transform_6 (k0_off1_inb : ∀ i : grid0.Coords, ∀ a, (k0_off1 i) a + S1x1.size a ≤ S18x7.size a) (numel1_S1x1 : S1x1.numel = 1) (k0_off2_inb : ∀ i : grid0.Coords, ∀ a, (k0_off2 i) a + S1x1.size a ≤ S18x7.size a) (pf : pre0.Contents (Elt F)) (i : grid0.Coords) : Fin 2 → Nat :=
  let arg0 : BitVec 32 := BitVec.ofNat 32 (i 0).val
  let v0 : Index := Scalar.indexCast arg0
  let c1 : Index := 1#32
  let v1 : BitVec 32 := pf.at 0 (Rect.unit (s := S18x7) ![v0.toNat, 1] S1x1.size (k0_off1_inb i)) numel1_S1x1
  let v2 : Index := Scalar.indexCast arg0
  let c2 : Index := 2#32
  let v3 : BitVec 32 := pf.at 0 (Rect.unit (s := S18x7) ![v2.toNat, 2] S1x1.size (k0_off2_inb i)) numel1_S1x1
  let c0_i32 : BitVec 32 := 0#32
  ![v1.toNat, v3.toNat]

def cc0_transform_7 (k0_off3_inb : ∀ i : grid0.Coords, ∀ a, (k0_off3 i) a + S1x1.size a ≤ S18x7.size a) (numel1_S1x1 : S1x1.numel = 1) (k0_off4_inb : ∀ i : grid0.Coords, ∀ a, (k0_off4 i) a + S1x1.size a ≤ S18x7.size a) (pf : pre0.Contents (Elt F)) (i : grid0.Coords) : Fin 2 → Nat :=
  let arg0 : BitVec 32 := BitVec.ofNat 32 (i 0).val
  let v0 : Index := Scalar.indexCast arg0
  let c3 : Index := 3#32
  let v1 : BitVec 32 := pf.at 0 (Rect.unit (s := S18x7) ![v0.toNat, 3] S1x1.size (k0_off3_inb i)) numel1_S1x1
  let v2 : Index := Scalar.indexCast arg0
  let c4 : Index := 4#32
  let v3 : BitVec 32 := pf.at 0 (Rect.unit (s := S18x7) ![v2.toNat, 4] S1x1.size (k0_off4_inb i)) numel1_S1x1
  let c0_i32 : BitVec 32 := 0#32
  ![v1.toNat, v3.toNat]

def cc0_transform_8 (k0_off5_inb : ∀ i : grid0.Coords, ∀ a, (k0_off5 i) a + S1x1.size a ≤ S18x7.size a) (numel1_S1x1 : S1x1.numel = 1) (k0_off6_inb : ∀ i : grid0.Coords, ∀ a, (k0_off6 i) a + S1x1.size a ≤ S18x7.size a) (pf : pre0.Contents (Elt F)) (i : grid0.Coords) : Fin 2 → Nat :=
  let arg0 : BitVec 32 := BitVec.ofNat 32 (i 0).val
  let v0 : Index := Scalar.indexCast arg0
  let c5 : Index := 5#32
  let v1 : BitVec 32 := pf.at 0 (Rect.unit (s := S18x7) ![v0.toNat, 5] S1x1.size (k0_off5_inb i)) numel1_S1x1
  let v2 : Index := Scalar.indexCast arg0
  let c6 : Index := 6#32
  let v3 : BitVec 32 := pf.at 0 (Rect.unit (s := S18x7) ![v2.toNat, 6] S1x1.size (k0_off6_inb i)) numel1_S1x1
  let c0_i32 : BitVec 32 := 0#32
  ![v1.toNat, v3.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDwRefIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 30
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x1024, .bf16⟩
  | .hbm, ⟨3, _⟩ => ⟨S2048x3072, .bf16⟩
  | .hbm, ⟨4, _⟩ => ⟨S2048x1024, .bf16⟩
  | .hbm, ⟨5, _⟩ => ⟨S2048x3072, .f32⟩
  | .hbm, ⟨6, _⟩ => ⟨S2048x3072, .f32⟩
  | .hbm, ⟨7, _⟩ => ⟨S2048x1024, .f32⟩
  | .hbm, ⟨8, _⟩ => ⟨S2048x3072, .f32⟩
  | .hbm, ⟨9, _⟩ => ⟨S2048x1024, .f32⟩
  | .hbm, ⟨10, _⟩ => ⟨S_, .f32⟩
  | .hbm, ⟨11, _⟩ => ⟨S3072x1024, .f32⟩
  | .hbm, ⟨12, _⟩ => ⟨S_, .f32⟩
  | .hbm, ⟨13, _⟩ => ⟨S3072x1024, .f32⟩
  | .hbm, ⟨14, _⟩ => ⟨S1024x3072, .f32⟩
  | .hbm, ⟨15, _⟩ => ⟨S2048x3072, .f32⟩
  | .hbm, ⟨16, _⟩ => ⟨S1024x3072, .f32⟩
  | .hbm, ⟨17, _⟩ => ⟨S2048x3072, .f32⟩
  | .hbm, ⟨18, _⟩ => ⟨S2048x1024, .f32⟩
  | .hbm, ⟨19, _⟩ => ⟨S1024x3072, .f32⟩
  | .hbm, ⟨20, _⟩ => ⟨S3072x1024, .f32⟩
  | .hbm, ⟨21, _⟩ => ⟨S3072x1024, .f32⟩
  | .hbm, ⟨22, _⟩ => ⟨S1024x3072, .f32⟩
  | .hbm, ⟨23, _⟩ => ⟨S3072x1024, .f32⟩
  | .hbm, ⟨24, _⟩ => ⟨S3072x1024, .f32⟩
  | .hbm, ⟨25, _⟩ => ⟨S1024x3072, .f32⟩
  | .hbm, ⟨26, _⟩ => ⟨S3072x1024, .f32⟩
  | .hbm, ⟨27, _⟩ => ⟨S3072x1024, .bf16⟩
  | .hbm, ⟨28, _⟩ => ⟨S3072x1024, .bf16⟩
  | .hbm, ⟨29, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MixDw.lean ====
abbrev S2048x1024 : Shape := ⟨2, ![2048, 1024]⟩
abbrev S3x2048x1024 : Shape := ⟨3, ![3, 2048, 1024]⟩
abbrev S4x5 : Shape := ⟨2, ![4, 5]⟩
abbrev S1024x3072 : Shape := ⟨2, ![1024, 3072]⟩
abbrev S1024x1024 : Shape := ⟨2, ![1024, 1024]⟩
abbrev S1x1 : Shape := ⟨2, ![1, 1]⟩
abbrev S1x2048x1024 : Shape := ⟨3, ![1, 2048, 1024]⟩

abbrev nBuf : Space → Nat
  | .hbm => 6
  | .vmem => 12
  | .smem => 1
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S2048x1024, .bf16⟩
  | .hbm, ⟨3, _⟩ => ⟨S2048x1024, .bf16⟩
  | .hbm, ⟨4, _⟩ => ⟨S1024x3072, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .smem, ⟨0, _⟩ => ⟨S4x5, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c1 : Index := 1#32
  ![v0.toNat, 1]
def k0_off2 (i : grid0.Coords) : Fin 2 → Nat :=
  let arg0 : BitVec 32 := BitVec.ofNat 32 (i 0).val
  let v0 : Index := Scalar.indexCast arg0
  let c2 : Index := 2#32
  ![v0.toNat, 2]
def k0_off3 (i : grid0.Coords) : Fin 2 → Nat :=
  let arg0 : BitVec 32 := BitVec.ofNat 32 (i 0).val
  let v0 : Index := Scalar.indexCast arg0
  let c3 : Index := 3#32
  ![v0.toNat, 3]
def k0_off4 (i : grid0.Coords) : Fin 2 → Nat :=
  let arg0 : BitVec 32 := BitVec.ofNat 32 (i 0).val
  let v0 : Index := Scalar.indexCast arg0
  let c4 : Index := 4#32
  ![v0.toNat, 4]
def k0_off5 (i : grid0.Coords) : Fin 2 → Nat :=
  let arg0 : BitVec 32 := BitVec.ofNat 32 (i 0).val
  let v0 : Index := Scalar.indexCast arg0
  let c0 : Index := 0#32
  ![v0.toNat, 0]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1x1.size a ≤ S4x5.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c1 : Index := 1#32
  let v1 : BitVec 32 := pf.at 0 (Rect.unit (s := S4x5) ![v0.toNat, 1] S1x1.size (k0_off1_inb i)) numel1_S1x1
  let c0_i32 : BitVec 32 := 0#32
  let c0_i32_0 : BitVec 32 := 0#32
  ![c0_i32.toNat, v1.toNat]

def cc0_transform_1 (k0_off2_inb : ∀ i : grid0.Coords, ∀ a, (k0_off2 i) a + S1x1.size a ≤ S4x5.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S4x5) ![v0.toNat, 2] S1x1.size (k0_off2_inb i)) numel1_S1x1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : Index := Scalar.indexCast arg0
  let c2_5 : Index := 2#32
  let v20 : BitVec 32 := pf.at 0 (Rect.unit (s := S4x5) ![v19.toNat, 2] S1x1.size (k0_off2_inb i)) numel1_S1x1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, c0_i32_12.toNat, v30.toNat]

def cc0_transform_2 (k0_off3_inb : ∀ i : grid0.Coords, ∀ a, (k0_off3 i) a + S1x1.size a ≤ S4x5.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c3 : Index := 3#32
  let v1 : BitVec 32 := pf.at 0 (Rect.unit (s := S4x5) ![v0.toNat, 3] S1x1.size (k0_off3_inb i)) numel1_S1x1
  let c0_i32 : BitVec 32 := 0#32
  let c0_i32_0 : BitVec 32 := 0#32
  ![c0_i32.toNat, v1.toNat]

def cc0_transform_3 (k0_off4_inb : ∀ i : grid0.Coords, ∀ a, (k0_off4 i) a + S1x1.size a ≤ S4x5.size a) (numel1_S1x1 : S1x1.numel = 1) (pf : pre0.Contents (Elt F)) (i : grid0.Coords) : Fin 2 → Nat :=
  let arg0 : BitVec 32 := BitVec.ofNat 32 (i 0).val
  let v0 : Index := Scalar.indexCast arg0
  let c4 : Index := 4#32
  let v1 : BitVec 32 := pf.at 0 (Rect.unit (s := S4x5) ![v0.toNat, 4] S1x1.size (k0_off4_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S4x5.size a) (numel1_S1x1 : S1x1.numel = 1) (k0_off2_inb : ∀ i : grid0.Coords, ∀ a, (k0_off2 i) a + S1x1.size a ≤ S4x5.size a) (pf : pre0.Contents (Elt F)) (i : grid0.Coords) : Fin 2 → Nat :=
  let arg0 : BitVec 32 := BitVec.ofNat 32 (i 0).val
  let v0 : Index := Scalar.indexCast arg0
  let c1 : Index := 1#32
  let v1 : BitVec 32 := pf.at 0 (Rect.unit (s := S4x5) ![v0.toNat, 1] S1x1.size (k0_off1_inb i)) numel1_S1x1
  let v2 : Index := Scalar.indexCast arg0
  let c2 : Index := 2#32
  let v3 : BitVec 32 := pf.at 0 (Rect.unit (s := S4x5) ![v2.toNat, 2] S1x1.size (k0_off2_inb i)) numel1_S1x1
  let c0_i32 : BitVec 32 := 0#32
  ![v1.toNat, v3.toNat]

def cc0_transform_5 (k0_off3_inb : ∀ i : grid0.Coords, ∀ a, (k0_off3 i) a + S1x1.size a ≤ S4x5.size a) (numel1_S1x1 : S1x1.numel = 1) (k0_off4_inb : ∀ i : grid0.Coords, ∀ a, (k0_off4 i) a + S1x1.size a ≤ S4x5.size a) (pf : pre0.Contents (Elt F)) (i : grid0.Coords) : Fin 2 → Nat :=
  let arg0 : BitVec 32 := BitVec.ofNat 32 (i 0).val
  let v0 : Index := Scalar.indexCast arg0
  let c3 : Index := 3#32
  let v1 : BitVec 32 := pf.at 0 (Rect.unit (s := S4x5) ![v0.toNat, 3] S1x1.size (k0_off3_inb i)) numel1_S1x1
  let v2 : Index := Scalar.indexCast arg0
  let c4 : Index := 4#32
  let v3 : BitVec 32 := pf.at 0 (Rect.unit (s := S4x5) ![v2.toNat, 4] S1x1.size (k0_off4_inb i)) numel1_S1x1
  let c0_i32 : BitVec 32 := 0#32
  ![v1.toNat, v3.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixDwRefIdeal.lean ====
abbrev S2048x1024 : Shape := ⟨2, ![2048, 1024]⟩
abbrev S3x2048x1024 : Shape := ⟨3, ![3, 2048, 1024]⟩
abbrev S_ : Shape := ⟨0, ![]⟩
abbrev S1024x3072 : Shape := ⟨2, ![1024, 3072]⟩
abbrev S1024x1024 : Shape := ⟨2, ![1024, 1024]⟩
abbrev S2048x3072 : Shape := ⟨2, ![2048, 3072]⟩
abbrev S1x2048x1024 : Shape := ⟨3, ![1, 2048, 1024]⟩
abbrev S3072x1024 : Shape := ⟨2, ![3072, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S3x2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S1024x3072, .f32⟩
  | .hbm, ⟨10, _⟩ => ⟨S_, .f32⟩
  | .hbm, ⟨11, _⟩ => ⟨S1024x1024, .f32⟩
  | .hbm, ⟨12, _⟩ => ⟨S2048x3072, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S1x2048x1024, .f32⟩
  | .hbm, ⟨18, _⟩ => ⟨S2048x1024, .f32⟩
  | .hbm, ⟨19, _⟩ => ⟨S1x2048x1024, .f32⟩
  | .hbm, ⟨20, _⟩ => ⟨S2048x1024, .f32⟩
  | .hbm, ⟨21, _⟩ => ⟨S1x2048x1024, .f32⟩
  | .hbm, ⟨22, _⟩ => ⟨S2048x1024, .f32⟩
  | .hbm, ⟨23, _⟩ => ⟨S1024x1024, .f32⟩
  | .hbm, ⟨24, _⟩ => ⟨S1024x1024, .f32⟩
  | .hbm, ⟨25, _⟩ => ⟨S2048x3072, .f32⟩
  | .hbm, ⟨26, _⟩ => ⟨S3072x1024, .f32⟩
  | .hbm, ⟨27, _⟩ => ⟨S1024x3072, .f32⟩
  | .hbm, ⟨28, _⟩ => ⟨S1024x3072, .bf16⟩
  | .hbm, ⟨29, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MixIn.lean ====
abbrev S2048x1024 : Shape := ⟨2, ![2048, 1024]⟩
abbrev S4x1024 : Shape := ⟨2, ![4, 1024]⟩
abbrev S1024x3072 : Shape := ⟨2, ![1024, 3072]⟩
abbrev S4x1x1024 : Shape := ⟨3, ![4, 1, 1024]⟩
abbrev S3x2048x1024 : Shape := ⟨3, ![3, 2048, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x3072, .bf16⟩
  | .hbm, ⟨3, _⟩ => ⟨S4x1x1024, .f32⟩
  | .hbm, ⟨4, _⟩ => ⟨S3x2048x1024, .bf16⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixInRefIdeal.lean ====
abbrev S2048x1024 : Shape := ⟨2, ![2048, 1024]⟩
abbrev S4x1024 : Shape := ⟨2, ![4, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S1x2048x1024 : Shape := ⟨3, ![1, 2048, 1024]⟩
abbrev S3x2048x1024 : Shape := ⟨3, ![3, 2048, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x3072, .bf16⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1024x3072, .f32⟩
  | .hbm, ⟨22, _⟩ => ⟨S2048x3072, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S3x2048x1024, .f32⟩
  | .hbm, ⟨30, _⟩ => ⟨S3x2048x1024, .bf16⟩
  | .hbm, ⟨31, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== FfnUp.lean ====
abbrev S2048x1024 : Shape := ⟨2, ![2048, 1024]⟩
abbrev S4x1024 : Shape := ⟨2, ![4, 1024]⟩
abbrev S3072x1024 : Shape := ⟨2, ![3072, 1024]⟩
abbrev S4x1x1024 : Shape := ⟨3, ![4, 1, 1024]⟩
abbrev S2048x3072 : Shape := ⟨2, ![2048, 3072]⟩
abbrev S1024x1024 : Shape := ⟨2, ![1024, 1024]⟩
abbrev S1x1x1024 : Shape := ⟨3, ![1, 1, 1024]⟩
abbrev S768x1024 : Shape := ⟨2, ![768, 1024]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S3072x1024, .bf16⟩
  | .hbm, ⟨3, _⟩ => ⟨S3072x1024, .bf16⟩
  | .hbm, ⟨4, _⟩ => ⟨S4x1x1024, .f32⟩
  | .hbm, ⟨5, _⟩ => ⟨S2048x3072, .bf16⟩
  | .hbm, ⟨6, _⟩ => ⟨S2048x3072, .bf16⟩
  | .hbm, ⟨7, _⟩ => ⟨S2048x3072, .bf16⟩
  | .hbm, ⟨8, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnUpRefIdeal.lean ====
abbrev S2048x1024 : Shape := ⟨2, ![2048, 1024]⟩
abbrev S4x1024 : Shape := ⟨2, ![4, 1024]⟩
abbrev S3072x1024 : Shape := ⟨2, ![3072, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x3072 : Shape := ⟨2, ![1024, 3072]⟩
abbrev S2048x3072 : Shape := ⟨2, ![2048, 3072]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S3072x1024, .bf16⟩
  | .hbm, ⟨3, _⟩ => ⟨S3072x1024, .bf16⟩
  | .hbm, ⟨4, _⟩ => ⟨S1x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S3072x1024, .f32⟩
  | .hbm, ⟨23, _⟩ => ⟨S1024x3072, .f32⟩
  | .hbm, ⟨24, _⟩ => ⟨S2048x3072, .f32⟩
  | .hbm, ⟨25, _⟩ => ⟨S3072x1024, .f32⟩
  | .hbm, ⟨26, _⟩ => ⟨S1024x3072, .f32⟩
  | .hbm, ⟨27, _⟩ => ⟨S2048x3072, .f32⟩
  | .hbm, ⟨28, _⟩ => ⟨S2048x3072, .bf16⟩
  | .hbm, ⟨29, _⟩ => ⟨S2048x3072, .bf16⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .bf16⟩
  | .hbm, ⟨41, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Conv.Rows.lean ====
/- One block of the kernel, value by value: its 256 rows shifted by one or two positions, the rows that enter from the
   neighbouring blocks taken from the 16 rows staged of each. Every lemma reads one value that the body computes at one
   row and one channel, at the ideal values. -/
module

public import proofs.«01_k».proof.Proof.Gen.KernelIdeal.Value
public import Idealize.ShloMosaic.PureOps.Ideal.Laws
public import Idealize.ShloMosaic.Lib.Pointwise

@[expose] public section

set_option maxRecDepth 16384

noncomputable section

namespace Cert.Conv

open Cert.KernelIdeal Cert.KernelIdeal.Gen Idealize.ShloMosaic Idealize.ShloMosaic.TcCoe Idealize.SL.Sem

/-- Choosing by the equality of two small numbers held in words. -/
theorem select_ofNat {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h; simp [Scalar.select, IntOp.cmpi]
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb' : (BitVec.ofNat 32 a == BitVec.ofNat 32 b) = false := beq_eq_false_iff_ne.mpr hne
    unfold Scalar.select IntOp.cmpi
    rw [hb']
    rfl

/-- A sum over the staged rows of the one row kept is that row's value. -/
theorem sum_kept (f : Fin 16 → EReal) (k : ℕ) (hk : k < 16) :
    (∑ x : Fin 16, Scalar.select (IntOp.cmpi CmpIPredicate.eq (BitVec.ofNat 32 x.val) (BitVec.ofNat 32 k)) (f x) 0) = f ⟨k, hk⟩ := by
  rw [Finset.sum_eq_single (⟨k, hk⟩ : Fin 16)]
  · rw [select_ofNat _ _ (by omega) (by omega), if_pos rfl]
  · intro b _ hb
    rw [select_ofNat _ _ (by omega) (by omega), if_neg (fun e => hb (Fin.ext e))]
  · intro h; exact absurd (Finset.mem_univ _) h

/-- The products `c * u` one position earlier: row 0 takes the last row staged of the block before. -/
theorem pay12_apply (v13 : FVec Ideal S256x1024 .f32) (v24 : FVec Ideal S16x1024 .f32) (r : Fin 256) (j : Fin 1024) :
    k0_pay12 v13 v24 (ix2 r j) = if r.val = 0 then v24 (ix2 ⟨15, by omega⟩ j)
      else v13 (ix2 ⟨(r.val + 255) % 256, by omega⟩ j) := by
  generalize hR : (if r.val = 0 then v24 (ix2 ⟨15, by omega⟩ j) else v13 (ix2 ⟨(r.val + 255) % 256, by omega⟩ j)) = R
  unfold k0_pay12
  pointwise
  rw [sum_kept (fun x => v24 (ix2 x j)) 15 (by omega), select_ofNat r.val 0 (by omega) (by omega), ← hR]
  rfl

/-- The products `c * u` two positions earlier: rows 0 and 1 take the last two rows staged of the block before. -/
theorem pay13_apply (v13 : FVec Ideal S256x1024 .f32) (v24 : FVec Ideal S16x1024 .f32) (r : Fin 256) (j : Fin 1024) :
    k0_pay13 v13 v24 (ix2 r j) = if r.val = 1 then v24 (ix2 ⟨15, by omega⟩ j) else if r.val = 0 then v24 (ix2 ⟨14, by omega⟩ j)
      else v13 (ix2 ⟨(r.val + 254) % 256, by omega⟩ j) := by
  generalize hR : (if r.val = 1 then v24 (ix2 ⟨15, by omega⟩ j) else if r.val = 0 then v24 (ix2 ⟨14, by omega⟩ j)
    else v13 (ix2 ⟨(r.val + 254) % 256, by omega⟩ j)) = R
  unfold k0_pay13
  pointwise
  rw [sum_kept (fun x => v24 (ix2 x j)) 15 (by omega), sum_kept (fun x => v24 (ix2 x j)) 14 (by omega),
    select_ofNat r.val 1 (by omega) (by omega), select_ofNat r.val 0 (by omega) (by omega), ← hR]
  rfl

/-- The staged rows of `c * u` of the block before, zero at the first block. -/
theorem pay9_apply (i : grid0.Coords) (v14 v17 : Vec Ideal S1x16x1024 .bf16) (h : Fin 16) (j : Fin 1024) :
    k0_pay9 i v14 v17 (ix2 h j) = if (i 0).val = 0 then (0 : EReal) else v14 (ix3 0 h j) * v17 (ix3 0 h j) := by
  have hi : (i 0).val < 8 := (i 0).isLt
  unfold k0_pay9
  pointwise
  generalize (i 0).val = n at hi ⊢
  interval_cases n <;> rfl

/-- The staged rows of the block after, zero at the last block. -/
theorem pay11_apply (n : ℕ) (hn : n < 8) (v : FVec Ideal S16x1024 .f32) (h : Fin 16) (j : Fin 1024) :
    k0_pay11 (BitVec.ofNat 32 n) v 7#32 (ix2 h j) = if n = 7 then (0 : EReal) else v (ix2 h j) := by
  unfold k0_pay11
  pointwise
  interval_cases n <;> rfl

/-- The staged rows of `dm * b` of the block after. -/
theorem pay10_apply (v25 : Vec Ideal S16x1024 .f32) (v26 : Vec Ideal S1x16x1024 .bf16) (h : Fin 16) (j : Fin 1024) :
    k0_pay10 v25 v26 (ix2 h j) = (v25 (ix2 h j) * v26 (ix3 0 h j) : EReal) := by
  unfold k0_pay10
  pointwise

theorem pay5_apply (v : Vec Ideal S1x256x1024 .bf16) (r : Fin 256) (j : Fin 1024) :
    k0_pay5 v (ix2 r j) = v (ix3 0 r j) := by
  unfold k0_pay5
  pointwise

theorem pay6_apply (v : Vec Ideal S1x256x1024 .bf16) (r : Fin 256) (j : Fin 1024) :
    k0_pay6 v (ix2 r j) = v (ix3 0 r j) := by
  unfold k0_pay6
  pointwise

theorem pay7_apply (v : Vec Ideal S1x256x1024 .bf16) (r : Fin 256) (j : Fin 1024) :
    k0_pay7 v (ix2 r j) = v (ix3 0 r j) := by
  unfold k0_pay7
  pointwise

/-- The products `c * u` of the block. -/
theorem pay8_apply (v w : Vec Ideal S1x256x1024 .bf16) (r : Fin 256) (j : Fin 1024) :
    k0_pay8 v w (ix2 r j) = (v (ix3 0 r j) * w (ix3 0 r j) : EReal) := by
  unfold k0_pay8 k0_pay6 k0_pay7
  pointwise

/-- `dm * b` of the block. -/
theorem pay14_apply (v3 : Vec Ideal S256x1024 .f32) (v6 : FVec Ideal S256x1024 .f32) (r : Fin 256) (j : Fin 1024) :
    k0_pay14 v3 v6 (ix2 r j) = (v3 (ix2 r j) * v6 (ix2 r j) : EReal) := by
  unfold k0_pay14
  pointwise

/-- The gradient of the gate `b`. -/
theorem pay15_apply (v3 v13 v47 v72 : FVec Ideal S256x1024 .f32) (a b c : Vec Ideal S1x1024 .f32) (r : Fin 256) (j : Fin 1024) :
    k0_pay15 v3 v13 v47 v72 a b c (ix3 0 r j) = (v3 (ix2 r j) *
      (a (ix2 0 j) * v13 (ix2 r j) + b (ix2 0 j) * v47 (ix2 r j) + c (ix2 0 j) * v72 (ix2 r j)) : EReal) := by
  unfold k0_pay15
  pointwise

/-- The first two of the three terms of the gradient of `c * u`: the last row takes the first row staged of the block
    after. -/
theorem pay16_apply (v3 : Vec Ideal S256x1024 .f32) (v6 : FVec Ideal S256x1024 .f32) (v33 : FVec Ideal S16x1024 .f32)
    (a b : Vec Ideal S1x1024 .f32) (r : Fin 256) (j : Fin 1024) :
    k0_pay16 v3 v6 v33 (iota .tc S256x1024 32 [0] iota_S256x1024_d0_w32) a b (ix2 r j) =
      (a (ix2 0 j) * k0_pay14 v3 v6 (ix2 r j) + b (ix2 0 j) * (if r.val = 255 then v33 (ix2 ⟨0, by omega⟩ j)
        else k0_pay14 v3 v6 (ix2 ⟨(r.val + 1) % 256, by omega⟩ j)) : EReal) := by
  unfold k0_pay16
  generalize k0_pay14 v3 v6 = y
  generalize hR : (if r.val = 255 then v33 (ix2 ⟨0, by omega⟩ j) else y (ix2 ⟨(r.val + 1) % 256, by omega⟩ j)) = R
  pointwise
  rw [sum_kept (fun x => v33 (ix2 x j)) 0 (by omega), select_ofNat r.val 255 (by omega) (by omega), ← hR]
  rfl

/-- The gradient of `c * u`: the last two rows of its third term take the first two rows staged of the block after. -/
theorem pay17_apply (v33 : FVec Ideal S16x1024 .f32) (v87 v114 : FVec Ideal S256x1024 .f32) (a : Vec Ideal S1x1024 .f32)
    (r : Fin 256) (j : Fin 1024) :
    k0_pay17 v33 (iota .tc S256x1024 32 [0] iota_S256x1024_d0_w32) v87 v114 a (ix2 r j) =
      (v114 (ix2 r j) + a (ix2 0 j) * (if r.val = 255 then v33 (ix2 ⟨1, by omega⟩ j) else if r.val = 254 then v33 (ix2 ⟨0, by omega⟩ j)
        else v87 (ix2 ⟨(r.val + 2) % 256, by omega⟩ j)) : EReal) := by
  generalize hR : (if r.val = 255 then v33 (ix2 ⟨1, by omega⟩ j) else if r.val = 254 then v33 (ix2 ⟨0, by omega⟩ j)
        else v87 (ix2 ⟨(r.val + 2) % 256, by omega⟩ j)) = R
  unfold k0_pay17
  pointwise
  rw [sum_kept (fun x => v33 (ix2 x j)) 0 (by omega), sum_kept (fun x => v33 (ix2 x j)) 1 (by omega),
    select_ofNat r.val 255 (by omega) (by omega), select_ofNat r.val 254 (by omega) (by omega), ← hR]
  rfl

theorem pay18_apply (v12 : FVec Ideal S256x1024 .f32) (v33 : FVec Ideal S16x1024 .f32) (w : IVec S256x1024 32)
    (v87 v114 : FVec Ideal S256x1024 .f32) (a : Vec Ideal S1x1024 .f32) (r : Fin 256) (j : Fin 1024) :
    k0_pay18 v12 v33 w v87 v114 a (ix3 0 r j) = (k0_pay17 v33 w v87 v114 a (ix2 r j) * v12 (ix2 r j) : EReal) := by
  unfold k0_pay18
  generalize k0_pay17 v33 w v87 v114 a = y
  pointwise

theorem pay19_apply (v9 : FVec Ideal S256x1024 .f32) (v33 : FVec Ideal S16x1024 .f32) (w : IVec S256x1024 32)
    (v87 v114 : FVec Ideal S256x1024 .f32) (a : Vec Ideal S1x1024 .f32) (r : Fin 256) (j : Fin 1024) :
    k0_pay19 v9 v33 w v87 v114 a (ix3 0 r j) = (k0_pay17 v33 w v87 v114 a (ix2 r j) * v9 (ix2 r j) : EReal) := by
  unfold k0_pay19
  generalize k0_pay17 v33 w v87 v114 a = y
  pointwise

theorem pay1_apply (v72 v87 : FVec Ideal S256x1024 .f32) (a : Vec Ideal S1x1024 .f32) (j : Fin 1024) :
    k0_pay1 v72 v87 a (ix2 0 j) = (a (ix2 0 j) + ∑ r : Fin 256, v87 (ix2 r j) * v72 (ix2 r j) : EReal) := by
  unfold k0_pay1
  pointwise

theorem pay2_apply (v47 v87 : FVec Ideal S256x1024 .f32) (a : Vec Ideal S1x1024 .f32) (j : Fin 1024) :
    k0_pay2 v47 v87 a (ix2 0 j) = (a (ix2 0 j) + ∑ r : Fin 256, v87 (ix2 r j) * v47 (ix2 r j) : EReal) := by
  unfold k0_pay2
  pointwise

theorem pay3_apply (v13 v87 : FVec Ideal S256x1024 .f32) (a : Vec Ideal S1x1024 .f32) (j : Fin 1024) :
    k0_pay3 v13 v87 a (ix2 0 j) = (a (ix2 0 j) + ∑ r : Fin 256, v87 (ix2 r j) * v13 (ix2 r j) : EReal) := by
  unfold k0_pay3
  pointwise

theorem pay4_apply (x : S8x1024.Idx) : (k0_pay4 (F := Ideal)) x = (0 : EReal) := by
  unfold k0_pay4
  pointwise

end Cert.Conv

end
-- ==== Proof.Conv.Spec.lean ====
module

public import proofs.«01_k».proof.Proof.Conv.Rows

/-! The gradients of the gated short convolution, written once as functions of the row number of the sequence, and
    the same rows as one grid point computes them from its own block of 256 rows and the two halos. -/

@[expose] public section

set_option maxRecDepth 16384

noncomputable section

namespace Cert.Conv

open Cert.KernelIdeal Cert.KernelIdeal.Gen Idealize.ShloMosaic Idealize.ShloMosaic.TcCoe Idealize.SL.Sem

/-- The rows of a sequence: a value at every row number and column. -/
abbrev Rows := ℕ → Fin 1024 → EReal

/-- The array's row `n`, zero past its last row. -/
def row2 (x : Vec Ideal S2048x1024 .f32) : Rows := fun n j => if h : n < 2048 then x (ix2 ⟨n, h⟩ j) else 0

/-- Row `n` of the stacked array's part `k`, zero past its last row. -/
def row3 (x : Vec Ideal S3x2048x1024 .bf16) (k : Fin 3) : Rows :=
  fun n j => if h : n < 2048 then x (ix3 k ⟨n, h⟩ j) else 0

/-- `f`, `k` rows later: zero before row `k`. -/
def back (k : ℕ) (f : Rows) : Rows := fun n j => if n < k then 0 else f (n - k) j

/-- The product of two arrays, row by row. -/
def prod (f g : Rows) : Rows := fun n j => f n j * g n j

/-- The convolution of `p` with the three taps `w`: row `n` sees rows `n`, `n - 1` and `n - 2`. -/
def conv (w : Fin 3 → Fin 1024 → EReal) (p : Rows) : Rows :=
  fun n j => w 2 j * p n j + w 1 j * back 1 p n j + w 0 j * back 2 p n j

/-- The convolution's transpose: row `n` sees rows `n`, `n + 1` and `n + 2`. -/
def convT (w : Fin 3 → Fin 1024 → EReal) (p : Rows) : Rows :=
  fun n j => w 2 j * p n j + w 1 j * p (n + 1) j + w 0 j * p (n + 2) j

/-- The gradients of the three parts of `z`: `dm · conv (c · u)`, `convT (dm · b) · u` and `convT (dm · b) · c`. -/
def dz (w : Fin 3 → Fin 1024 → EReal) (dm b c u : Rows) (k : Fin 3) : Rows :=
  match k with
  | 0 => fun n j => dm n j * conv w (prod c u) n j
  | 1 => fun n j => convT w (prod dm b) n j * u n j
  | 2 => fun n j => convT w (prod dm b) n j * c n j

/-- The gradient of tap `k`, of the rows before row `N`: the sum of `dm · b` times the row that the tap saw. -/
def dk (N : ℕ) (dm b c u : Rows) (k : ℕ) (j : Fin 1024) : EReal :=
  ∑ n ∈ Finset.range N, prod dm b n j * back (2 - k) (prod c u) n j

section Block

variable {t : ℕ} {w : Fin 3 → Fin 1024 → EReal} {dm b c u : Rows}
variable {v3 v6 v9 v12 v13 : FVec Ideal S256x1024 .f32} {v24 v33 : FVec Ideal S16x1024 .f32} {k0 k1 k2 : Vec Ideal S1x1024 .f32}

/-- `v` holds the 256 rows of `f` that point `t` works on. -/
def Holds (t : ℕ) (f : Rows) (v : FVec Ideal S256x1024 .f32) : Prop := ∀ r j, v (ix2 r j) = f (256 * t + r.val) j

/-- `v` holds the 16 rows of `f` before point `t`'s block, zeros before the first. -/
def HoldsPrev (t : ℕ) (f : Rows) (v : FVec Ideal S16x1024 .f32) : Prop :=
  ∀ h j, v (ix2 h j) = if t = 0 then 0 else f (256 * t - 16 + h.val) j

/-- `v` holds the 16 rows of `f` after point `t`'s block. -/
def HoldsNext (t : ℕ) (f : Rows) (v : FVec Ideal S16x1024 .f32) : Prop :=
  ∀ h j, v (ix2 h j) = f (256 * t + 256 + h.val) j

theorem back1_holds {f : Rows} (h : Holds t f v13) (h' : HoldsPrev t f v24) : Holds t (back 1 f) (k0_pay12 v13 v24) := by
  intro r j
  rw [pay12_apply]
  unfold back
  split
  · rename_i hr
    rw [h']
    dsimp only
    by_cases ht : t = 0
    · rw [if_pos ht, if_pos (by omega)]
    · rw [if_neg ht, if_neg (by omega)]; congr 1; omega
  · rename_i hr
    rw [h, if_neg (by omega)]
    dsimp only
    congr 1; omega

theorem back2_holds {f : Rows} (h : Holds t f v13) (h' : HoldsPrev t f v24) : Holds t (back 2 f) (k0_pay13 v13 v24) := by
  intro r j
  rw [pay13_apply]
  unfold back
  split
  · rename_i hr
    rw [h']
    dsimp only
    by_cases ht : t = 0
    · rw [if_pos ht, if_pos (by omega)]
    · rw [if_neg ht, if_neg (by omega)]; congr 1; omega
  · split
    · rename_i hr
      rw [h']
      dsimp only
      by_cases ht : t = 0
      · rw [if_pos ht, if_pos (by omega)]
      · rw [if_neg ht, if_neg (by omega)]; congr 1; omega
    · rename_i hr
      rw [h, if_neg (by omega)]
      dsimp only
      congr 1; omega

theorem prod_holds {f g : Rows} (h : Holds t f v3) (h' : Holds t g v6) : Holds t (prod f g) (k0_pay14 v3 v6) := by
  intro r j
  rw [pay14_apply, h, h']
  rfl

/-- Part 0 of the block's gradient. -/
theorem block_dz0 (h3 : Holds t dm v3) (h13 : Holds t (prod c u) v13) (h24 : HoldsPrev t (prod c u) v24)
    (hk2 : ∀ j, k2 (ix2 0 j) = w 2 j) (hk1 : ∀ j, k1 (ix2 0 j) = w 1 j) (hk0 : ∀ j, k0 (ix2 0 j) = w 0 j) (r : Fin 256) (j : Fin 1024) :
    k0_pay15 v3 v13 (k0_pay12 v13 v24) (k0_pay13 v13 v24) k2 k1 k0 (ix3 0 r j) = dz w dm b c u 0 (256 * t + r.val) j := by
  rw [pay15_apply, h3, h13, back1_holds h13 h24, back2_holds h13 h24, hk2, hk1, hk0]
  rfl

/-- The transposed convolution of the block's rows. -/
theorem block_convT (h3 : Holds t dm v3) (h6 : Holds t b v6) (h33 : HoldsNext t (prod dm b) v33)
    (hk2 : ∀ j, k2 (ix2 0 j) = w 2 j) (hk1 : ∀ j, k1 (ix2 0 j) = w 1 j) (hk0 : ∀ j, k0 (ix2 0 j) = w 0 j) (r : Fin 256) (j : Fin 1024) :
    k0_pay17 v33 (iota .tc S256x1024 32 [0] iota_S256x1024_d0_w32) (k0_pay14 v3 v6)
      (k0_pay16 v3 v6 v33 (iota .tc S256x1024 32 [0] iota_S256x1024_d0_w32) k2 k1) k0 (ix2 r j) =
      convT w (prod dm b) (256 * t + r.val) j := by
  have hd := prod_holds h3 h6
  have e1 : (if r.val = 255 then v33 (ix2 ⟨0, by omega⟩ j) else k0_pay14 v3 v6 (ix2 ⟨(r.val + 1) % 256, by omega⟩ j))
      = prod dm b (256 * t + r.val + 1) j := by
    split
    · rw [h33]; congr 1; dsimp only; omega
    · rw [hd]; congr 1; dsimp only; omega
  have e2 : (if r.val = 255 then v33 (ix2 ⟨1, by omega⟩ j) else if r.val = 254 then v33 (ix2 ⟨0, by omega⟩ j)
        else k0_pay14 v3 v6 (ix2 ⟨(r.val + 2) % 256, by omega⟩ j)) = prod dm b (256 * t + r.val + 2) j := by
    split
    · rw [h33]; congr 1; dsimp only; omega
    · split
      · rw [h33]; congr 1; dsimp only; omega
      · rw [hd]; congr 1; dsimp only; omega
  rw [pay17_apply, pay16_apply, e1, e2, hd, hk2, hk1, hk0]
  rfl

/-- Part 1 of the block's gradient. -/
theorem block_dz1 (h3 : Holds t dm v3) (h6 : Holds t b v6) (h12 : Holds t u v12) (h33 : HoldsNext t (prod dm b) v33)
    (hk2 : ∀ j, k2 (ix2 0 j) = w 2 j) (hk1 : ∀ j, k1 (ix2 0 j) = w 1 j) (hk0 : ∀ j, k0 (ix2 0 j) = w 0 j) (r : Fin 256) (j : Fin 1024) :
    k0_pay18 v12 v33 (iota .tc S256x1024 32 [0] iota_S256x1024_d0_w32) (k0_pay14 v3 v6)
      (k0_pay16 v3 v6 v33 (iota .tc S256x1024 32 [0] iota_S256x1024_d0_w32) k2 k1) k0 (ix3 0 r j) =
      dz w dm b c u 1 (256 * t + r.val) j := by
  rw [pay18_apply, block_convT h3 h6 h33 hk2 hk1 hk0, h12]
  rfl

/-- Part 2 of the block's gradient. -/
theorem block_dz2 (h3 : Holds t dm v3) (h6 : Holds t b v6) (h9 : Holds t c v9) (h33 : HoldsNext t (prod dm b) v33)
    (hk2 : ∀ j, k2 (ix2 0 j) = w 2 j) (hk1 : ∀ j, k1 (ix2 0 j) = w 1 j) (hk0 : ∀ j, k0 (ix2 0 j) = w 0 j) (r : Fin 256) (j : Fin 1024) :
    k0_pay19 v9 v33 (iota .tc S256x1024 32 [0] iota_S256x1024_d0_w32) (k0_pay14 v3 v6)
      (k0_pay16 v3 v6 v33 (iota .tc S256x1024 32 [0] iota_S256x1024_d0_w32) k2 k1) k0 (ix3 0 r j) =
      dz w dm b c u 2 (256 * t + r.val) j := by
  rw [pay19_apply, block_convT h3 h6 h33 hk2 hk1 hk0, h9]
  rfl

/-- The sum of point `t`'s 256 rows continues the sum of the rows before them. -/
theorem dk_step (t : ℕ) (dm b c u : Rows) (k : ℕ) (j : Fin 1024) (f g : Fin 256 → EReal)
    (hf : ∀ r, f r = prod dm b (256 * t + r.val) j) (hg : ∀ r, g r = back (2 - k) (prod c u) (256 * t + r.val) j) :
    dk (256 * t) dm b c u k j + ∑ r : Fin 256, f r * g r = dk (256 * (t + 1)) dm b c u k j := by
  unfold dk
  rw [show 256 * (t + 1) = 256 * t + 256 by ring, Finset.sum_range_add, Finset.sum_range (n := 256)]
  exact congrArg _ (Finset.sum_congr rfl fun r _ => by rw [hf, hg])

/-- Row 0 of the block's tap gradient, added to the rows before. -/
theorem block_dk0 (h3 : Holds t dm v3) (h6 : Holds t b v6) (h13 : Holds t (prod c u) v13) (h24 : HoldsPrev t (prod c u) v24)
    (a : Vec Ideal S1x1024 .f32) (j : Fin 1024) (ha : a (ix2 0 j) = dk (256 * t) dm b c u 0 j) :
    k0_pay1 (k0_pay13 v13 v24) (k0_pay14 v3 v6) a (ix2 0 j) = dk (256 * (t + 1)) dm b c u 0 j := by
  rw [pay1_apply, ha]
  exact dk_step t dm b c u 0 j _ _ (fun r => prod_holds h3 h6 r j) (fun r => back2_holds h13 h24 r j)

/-- Row 1. -/
theorem block_dk1 (h3 : Holds t dm v3) (h6 : Holds t b v6) (h13 : Holds t (prod c u) v13) (h24 : HoldsPrev t (prod c u) v24)
    (a : Vec Ideal S1x1024 .f32) (j : Fin 1024) (ha : a (ix2 0 j) = dk (256 * t) dm b c u 1 j) :
    k0_pay2 (k0_pay12 v13 v24) (k0_pay14 v3 v6) a (ix2 0 j) = dk (256 * (t + 1)) dm b c u 1 j := by
  rw [pay2_apply, ha]
  exact dk_step t dm b c u 1 j _ _ (fun r => prod_holds h3 h6 r j) (fun r => back1_holds h13 h24 r j)

/-- Row 2. -/
theorem block_dk2 (h3 : Holds t dm v3) (h6 : Holds t b v6) (h13 : Holds t (prod c u) v13)
    (a : Vec Ideal S1x1024 .f32) (j : Fin 1024) (ha : a (ix2 0 j) = dk (256 * t) dm b c u 2 j) :
    k0_pay3 v13 (k0_pay14 v3 v6) a (ix2 0 j) = dk (256 * (t + 1)) dm b c u 2 j := by
  rw [pay3_apply, ha]
  refine dk_step t dm b c u 2 j _ _ (fun r => prod_holds h3 h6 r j) (fun r => ?_)
  rw [h13]; unfold back; rw [if_neg (by omega)]; rfl

end Block

end Cert.Conv

end
-- ==== Proof.Conv.Block.lean ====
module

public import proofs.«01_k».proof.Proof.Conv.Spec
public import Idealize.ShloMosaic.Lib.WritesUnit

/-! What one grid point of the convolution's backward pass leaves in its two output blocks, from blocks that hold
    the rows of the arguments: the three parts of the gradient at the point's rows, and the tap gradients' running sums. -/

@[expose] public section

set_option maxRecDepth 16384

noncomputable section

namespace Cert.Conv

open Cert.KernelIdeal Cert.KernelIdeal.Gen Idealize.ShloMosaic Idealize.ShloMosaic.TcCoe Idealize.SL.Sem

/-- A load of a rectangle of a whole buffer reads the contents at the rectangle's offset plus the index. -/
theorem load_at {s : Shape} {e : EltTy} {M : Memref sig .tc .vmem s e} (h : M.IsWhole) {x : Vec Ideal s e}
    {off size : Fin s.rank → ℕ} (inb : ∀ a, off a + size a ≤ s.size a) (y : (Rect.unit off size inb).shape.Idx) (z : s.Idx)
    (hz : ∀ a, (z a).val = off a + (y a).val) :
    M.view.readAt (Elt Ideal) (Rect.unit off size inb).toLoadRect (h.unread x) y = x z := by
  rw [View.readAt_eq_ld, h.read_unread]
  refine congrArg x (funext fun a => Fin.ext ?_)
  show off a + 1 * (y a).val = (z a).val
  rw [hz a, Nat.one_mul]

/-- The same of a load of what a list of stores left. -/
theorem cov_at {s : Shape} {e : EltTy} (M : View sig .tc .vmem s e) (L : List (View.Piece (Elt Ideal) s e))
    {off size : Fin s.rank → ℕ} (inb : ∀ a, off a + size a ≤ s.size a) (y : (Rect.unit off size inb).shape.Idx) (z : s.Idx)
    (hz : ∀ a, (z a).val = off a + (y a).val) :
    M.readCov L (Rect.unit off size inb).toLoadRect y = M.read (Elt Ideal) (M.writes (Elt Ideal) M.junk L) z := by
  refine congrArg (M.read (Elt Ideal) (M.writes (Elt Ideal) M.junk L)) (funext fun a => Fin.ext ?_)
  show off a + 1 * (y a).val = (z a).val
  rw [hz a, Nat.one_mul]

/-- The blocks hold the rows of the arguments that grid point `t` works on. -/
structure Reads (t : ℕ) (w : Fin 3 → Fin 1024 → EReal) (dm b c u : Rows) (x0 : Vec Ideal S256x1024 .f32) (x1 : Vec Ideal S16x1024 .f32)
    (x2 : Vec Ideal S3x256x1024 .bf16) (x3 x4 : Vec Ideal S3x16x1024 .bf16) (x5 : Vec Ideal S8x1024 .f32) : Prop where
  lt : t < 8
  h_dm : ∀ r j, x0 (ix2 r j) = dm (256 * t + r.val) j
  h_dmn : t ≠ 7 → ∀ h j, x1 (ix2 h j) = dm (256 * t + 256 + h.val) j
  h_b : ∀ r j, x2 (ix3 0 r j) = b (256 * t + r.val) j
  h_c : ∀ r j, x2 (ix3 1 r j) = c (256 * t + r.val) j
  h_u : ∀ r j, x2 (ix3 2 r j) = u (256 * t + r.val) j
  h_cp : t ≠ 0 → ∀ h j, x3 (ix3 1 h j) = c (256 * t - 16 + h.val) j
  h_up : t ≠ 0 → ∀ h j, x3 (ix3 2 h j) = u (256 * t - 16 + h.val) j
  h_bn : t ≠ 7 → ∀ h j, x4 (ix3 0 h j) = b (256 * t + 256 + h.val) j
  h_past : ∀ n j, 2048 ≤ n → dm n j = 0
  h_w2 : ∀ j, x5 (ix2 2 j) = w 2 j
  h_w1 : ∀ j, x5 (ix2 1 j) = w 1 j
  h_w0 : ∀ j, x5 (ix2 0 j) = w 0 j

section

variable {t : ℕ} {w : Fin 3 → Fin 1024 → EReal} {dm b c u : Rows} {x0 : Vec Ideal S256x1024 .f32} {x1 : Vec Ideal S16x1024 .f32}
  {x2 : Vec Ideal S3x256x1024 .bf16} {x3 x4 : Vec Ideal S3x16x1024 .bf16} {x5 : Vec Ideal S8x1024 .f32}
variable (H : Reads t w dm b c u x0 x1 x2 x3 x4 x5)

include H

theorem holds_dm {arg1 : Memref sig .tc .vmem S256x1024 .f32} (harg1 : arg1.IsWhole) (inb) :
    Holds t dm (arg1.view.readAt (Elt Ideal) (Rect.unit (s := S256x1024) ![0, 0] S256x1024.size inb).toLoadRect (harg1.unread x0)) := fun r j =>
  (load_at harg1 inb (ix2 r j) (ix2 r j) (Fin.forall_fin_two.mpr ⟨(Nat.zero_add _).symm, (Nat.zero_add _).symm⟩)).trans (H.h_dm r j)

theorem holds_b {arg3 : Memref sig .tc .vmem S3x256x1024 .bf16} (harg3 : arg3.IsWhole) (inb) :
    Holds t b (k0_pay5 (arg3.view.readAt (Elt Ideal) (Rect.unit (s := S3x256x1024) ![0, 0, 0] S1x256x1024.size inb).toLoadRect (harg3.unread x2))) := fun r j =>
  (pay5_apply _ r j).trans ((load_at harg3 inb (ix3 0 r j) (ix3 0 r j)
    (Fin.forall_fin_succ.mpr ⟨rfl, Fin.forall_fin_two.mpr ⟨(Nat.zero_add _).symm, (Nat.zero_add _).symm⟩⟩)).trans (H.h_b r j))

theorem holds_c {arg3 : Memref sig .tc .vmem S3x256x1024 .bf16} (harg3 : arg3.IsWhole) (inb) :
    Holds t c (k0_pay6 (arg3.view.readAt (Elt Ideal) (Rect.unit (s := S3x256x1024) ![1, 0, 0] S1x256x1024.size inb).toLoadRect (harg3.unread x2))) := fun r j =>
  (pay6_apply _ r j).trans ((load_at harg3 inb (ix3 0 r j) (ix3 1 r j)
    (Fin.forall_fin_succ.mpr ⟨rfl, Fin.forall_fin_two.mpr ⟨(Nat.zero_add _).symm, (Nat.zero_add _).symm⟩⟩)).trans (H.h_c r j))

theorem holds_u {arg3 : Memref sig .tc .vmem S3x256x1024 .bf16} (harg3 : arg3.IsWhole) (inb) :
    Holds t u (k0_pay7 (arg3.view.readAt (Elt Ideal) (Rect.unit (s := S3x256x1024) ![2, 0, 0] S1x256x1024.size inb).toLoadRect (harg3.unread x2))) := fun r j =>
  (pay7_apply _ r j).trans ((load_at harg3 inb (ix3 0 r j) (ix3 2 r j)
    (Fin.forall_fin_succ.mpr ⟨rfl, Fin.forall_fin_two.mpr ⟨(Nat.zero_add _).symm, (Nat.zero_add _).symm⟩⟩)).trans (H.h_u r j))

theorem holds_cu {arg3 : Memref sig .tc .vmem S3x256x1024 .bf16} (harg3 : arg3.IsWhole) (inb inb') :
    Holds t (prod c u) (k0_pay8 (arg3.view.readAt (Elt Ideal) (Rect.unit (s := S3x256x1024) ![1, 0, 0] S1x256x1024.size inb).toLoadRect (harg3.unread x2))
      (arg3.view.readAt (Elt Ideal) (Rect.unit (s := S3x256x1024) ![2, 0, 0] S1x256x1024.size inb').toLoadRect (harg3.unread x2))) := fun r j => by
  rw [pay8_apply, load_at harg3 inb (ix3 0 r j) (ix3 1 r j) (Fin.forall_fin_succ.mpr ⟨rfl, Fin.forall_fin_two.mpr ⟨(Nat.zero_add _).symm, (Nat.zero_add _).symm⟩⟩),
    load_at harg3 inb' (ix3 0 r j) (ix3 2 r j) (Fin.forall_fin_succ.mpr ⟨rfl, Fin.forall_fin_two.mpr ⟨(Nat.zero_add _).symm, (Nat.zero_add _).symm⟩⟩), H.h_c, H.h_u]
  rfl

theorem holdsPrev_cu {i : grid0.Coords} (hi : (i 0).val = t) {arg4 : Memref sig .tc .vmem S3x16x1024 .bf16} (harg4 : arg4.IsWhole) (inb inb') :
    HoldsPrev t (prod c u) (k0_pay9 i (arg4.view.readAt (Elt Ideal) (Rect.unit (s := S3x16x1024) ![1, 0, 0] S1x16x1024.size inb).toLoadRect (harg4.unread x3))
      (arg4.view.readAt (Elt Ideal) (Rect.unit (s := S3x16x1024) ![2, 0, 0] S1x16x1024.size inb').toLoadRect (harg4.unread x3))) := fun h j => by
  rw [pay9_apply, hi]
  split
  · rfl
  · rename_i ht
    rw [load_at harg4 inb (ix3 0 h j) (ix3 1 h j) (Fin.forall_fin_succ.mpr ⟨rfl, Fin.forall_fin_two.mpr ⟨(Nat.zero_add _).symm, (Nat.zero_add _).symm⟩⟩),
      load_at harg4 inb' (ix3 0 h j) (ix3 2 h j) (Fin.forall_fin_succ.mpr ⟨rfl, Fin.forall_fin_two.mpr ⟨(Nat.zero_add _).symm, (Nat.zero_add _).symm⟩⟩), H.h_cp ht, H.h_up ht]
    rfl

theorem holdsNext_dy {i : grid0.Coords} (hi : (i 0).val = t) {arg2 : Memref sig .tc .vmem S16x1024 .f32} (harg2 : arg2.IsWhole) {arg5 : Memref sig .tc .vmem S3x16x1024 .bf16} (harg5 : arg5.IsWhole) (inb inb') :
    HoldsNext t (prod dm b) (k0_pay11 (BitVec.ofNat 32 (i 0).val) (k0_pay10
      (arg2.view.readAt (Elt Ideal) (Rect.unit (s := S16x1024) ![0, 0] S16x1024.size inb).toLoadRect (harg2.unread x1))
      (arg5.view.readAt (Elt Ideal) (Rect.unit (s := S3x16x1024) ![0, 0, 0] S1x16x1024.size inb').toLoadRect (harg5.unread x4))) 7#32) := fun h j => by
  rw [pay11_apply _ (hi ▸ H.lt), hi]
  split
  · rename_i ht
    unfold prod
    rw [H.h_past _ _ (by omega), zero_mul]
  · rename_i ht
    rw [pay10_apply, load_at harg2 inb (ix2 h j) (ix2 h j) (Fin.forall_fin_two.mpr ⟨(Nat.zero_add _).symm, (Nat.zero_add _).symm⟩),
      load_at harg5 inb' (ix3 0 h j) (ix3 0 h j) (Fin.forall_fin_succ.mpr ⟨rfl, Fin.forall_fin_two.mpr ⟨(Nat.zero_add _).symm, (Nat.zero_add _).symm⟩⟩), H.h_dmn ht, H.h_bn ht]
    rfl

theorem tap {arg6 : Memref sig .tc .vmem S8x1024 .f32} (harg6 : arg6.IsWhole) (off) (k : Fin 8) (k' : Fin 3) (hk : k.val = k'.val) (hoff : off = ![k.val, 0]) (inb) (j : Fin 1024) :
    arg6.view.readAt (Elt Ideal) (Rect.unit (s := S8x1024) off ![1, 1024] inb).toLoadRect (harg6.unread x5) (ix2 0 j) = w k' j := by
  subst hoff
  rw [load_at harg6 inb (ix2 0 j) (ix2 k j) (Fin.forall_fin_two.mpr ⟨rfl, (Nat.zero_add _).symm⟩)]
  have hw : ∀ (k : Fin 8) (k' : Fin 3), k.val = k'.val → x5 (ix2 k j) = w k' j := by
    intro k k' hk
    obtain ⟨a, ha⟩ := k
    dsimp only at hk
    subst hk
    match k' with
    | 0 => exact H.h_w0 j
    | 1 => exact H.h_w1 j
    | 2 => exact H.h_w2 j
  exact hw k k' hk

/-- Case A: the block of the gradient of `z`. -/
theorem outA_dz (cc : Dev nD) (i : grid0.Coords) (hi : (i 0).val = t) (arg1 : Memref sig .tc .vmem S256x1024 .f32) (harg1 : arg1.IsWhole) (arg2 : Memref sig .tc .vmem S16x1024 .f32) (harg2 : arg2.IsWhole) (arg3 : Memref sig .tc .vmem S3x256x1024 .bf16) (harg3 : arg3.IsWhole) (arg4 : Memref sig .tc .vmem S3x16x1024 .bf16) (harg4 : arg4.IsWhole) (arg5 : Memref sig .tc .vmem S3x16x1024 .bf16) (harg5 : arg5.IsWhole) (arg6 : Memref sig .tc .vmem S8x1024 .f32) (harg6 : arg6.IsWhole) (arg7 : Memref sig .tc .vmem S3x256x1024 .bf16) (harg7 : arg7.IsWhole) (arg8 : Memref sig .tc .vmem S8x1024 .f32) (harg8 : arg8.IsWhole) (hc0 : cond0_0 i)
    (k : Fin 3) (r : Fin 256) (j : Fin 1024) :
    out0_A_6 cc i arg1 harg1 arg2 harg2 arg3 harg3 arg4 harg4 arg5 harg5 arg6 harg6 arg7 harg7 arg8 harg8 hc0 x0 x1 x2 x3 x4 x5  (ix3 k r j) = dz w dm b c u k (256 * t + r.val) j := by
  unfold out0_A_6 kernelRun0_A
  dsimp only
  fin_cases k
  · refine (View.read_writes_cons_unit_of_not_mem _ _ _ _ _ (ix3 0 r j) rfl 0 (Or.inl (show 0 < 2 by decide))).trans ((View.read_writes_cons_unit_of_not_mem _ _ _ _ _ (ix3 0 r j) rfl 0 (Or.inl (show 0 < 1 by decide))).trans ((View.read_writes_cons_unit_of_mem _ _ _ _ _ (ix3 0 r j) (ix3 0 r j) rfl (Fin.forall_fin_succ.mpr ⟨rfl, Fin.forall_fin_two.mpr ⟨(Nat.zero_add _).symm, (Nat.zero_add _).symm⟩⟩)).trans ?_))
    sl_unfold_words
    exact block_dz0 (holds_dm H harg1 _) (holds_cu H harg3 _ _) (holdsPrev_cu H hi harg4 _ _) (fun j => tap H harg6 _ 2 2 rfl rfl _ j) (fun j => tap H harg6 _ 1 1 rfl rfl _ j) (fun j => tap H harg6 _ 0 0 rfl rfl _ j) r j
  · refine (View.read_writes_cons_unit_of_not_mem _ _ _ _ _ (ix3 1 r j) rfl 0 (Or.inl (show 1 < 2 by decide))).trans ((View.read_writes_cons_unit_of_mem _ _ _ _ _ (ix3 1 r j) (ix3 0 r j) rfl (Fin.forall_fin_succ.mpr ⟨rfl, Fin.forall_fin_two.mpr ⟨(Nat.zero_add _).symm, (Nat.zero_add _).symm⟩⟩)).trans ?_)
    sl_unfold_words
    exact block_dz1 (holds_dm H harg1 _) (holds_b H harg3 _) (holds_u H harg3 _) (holdsNext_dy H hi harg2 harg5 _ _) (fun j => tap H harg6 _ 2 2 rfl rfl _ j) (fun j => tap H harg6 _ 1 1 rfl rfl _ j) (fun j => tap H harg6 _ 0 0 rfl rfl _ j) r j
  · refine (View.read_writes_cons_unit_of_mem _ _ _ _ _ (ix3 2 r j) (ix3 0 r j) rfl (Fin.forall_fin_succ.mpr ⟨rfl, Fin.forall_fin_two.mpr ⟨(Nat.zero_add _).symm, (Nat.zero_add _).symm⟩⟩)).trans ?_
    sl_unfold_words
    exact block_dz2 (holds_dm H harg1 _) (holds_b H harg3 _) (holds_c H harg3 _) (holdsNext_dy H hi harg2 harg5 _ _) (fun j => tap H harg6 _ 2 2 rfl rfl _ j) (fun j => tap H harg6 _ 1 1 rfl rfl _ j) (fun j => tap H harg6 _ 0 0 rfl rfl _ j) r j

/-- Case B: the block of the gradient of `z`. -/
theorem outB_dz (cc : Dev nD) (i : grid0.Coords) (hi : (i 0).val = t) (arg1 : Memref sig .tc .vmem S256x1024 .f32) (harg1 : arg1.IsWhole) (arg2 : Memref sig .tc .vmem S16x1024 .f32) (harg2 : arg2.IsWhole) (arg3 : Memref sig .tc .vmem S3x256x1024 .bf16) (harg3 : arg3.IsWhole) (arg4 : Memref sig .tc .vmem S3x16x1024 .bf16) (harg4 : arg4.IsWhole) (arg5 : Memref sig .tc .vmem S3x16x1024 .bf16) (harg5 : arg5.IsWhole) (arg6 : Memref sig .tc .vmem S8x1024 .f32) (harg6 : arg6.IsWhole) (arg7 : Memref sig .tc .vmem S3x256x1024 .bf16) (harg7 : arg7.IsWhole) (arg8 : Memref sig .tc .vmem S8x1024 .f32) (harg8 : arg8.IsWhole) (hc0 : ¬cond0_0 i) (xo7 : Vec Ideal S8x1024 .f32)
    (k : Fin 3) (r : Fin 256) (j : Fin 1024) :
    out0_B_6 cc i arg1 harg1 arg2 harg2 arg3 harg3 arg4 harg4 arg5 harg5 arg6 harg6 arg7 harg7 arg8 harg8 hc0 x0 x1 x2 x3 x4 x5 xo7 (ix3 k r j) = dz w dm b c u k (256 * t + r.val) j := by
  unfold out0_B_6 kernelRun0_B
  dsimp only
  fin_cases k
  · refine (View.read_writes_cons_unit_of_not_mem _ _ _ _ _ (ix3 0 r j) rfl 0 (Or.inl (show 0 < 2 by decide))).trans ((View.read_writes_cons_unit_of_not_mem _ _ _ _ _ (ix3 0 r j) rfl 0 (Or.inl (show 0 < 1 by decide))).trans ((View.read_writes_cons_unit_of_mem _ _ _ _ _ (ix3 0 r j) (ix3 0 r j) rfl (Fin.forall_fin_succ.mpr ⟨rfl, Fin.forall_fin_two.mpr ⟨(Nat.zero_add _).symm, (Nat.zero_add _).symm⟩⟩)).trans ?_))
    sl_unfold_words
    exact block_dz0 (holds_dm H harg1 _) (holds_cu H harg3 _ _) (holdsPrev_cu H hi harg4 _ _) (fun j => tap H harg6 _ 2 2 rfl rfl _ j) (fun j => tap H harg6 _ 1 1 rfl rfl _ j) (fun j => tap H harg6 _ 0 0 rfl rfl _ j) r j
  · refine (View.read_writes_cons_unit_of_not_mem _ _ _ _ _ (ix3 1 r j) rfl 0 (Or.inl (show 1 < 2 by decide))).trans ((View.read_writes_cons_unit_of_mem _ _ _ _ _ (ix3 1 r j) (ix3 0 r j) rfl (Fin.forall_fin_succ.mpr ⟨rfl, Fin.forall_fin_two.mpr ⟨(Nat.zero_add _).symm, (Nat.zero_add _).symm⟩⟩)).trans ?_)
    sl_unfold_words
    exact block_dz1 (holds_dm H harg1 _) (holds_b H harg3 _) (holds_u H harg3 _) (holdsNext_dy H hi harg2 harg5 _ _) (fun j => tap H harg6 _ 2 2 rfl rfl _ j) (fun j => tap H harg6 _ 1 1 rfl rfl _ j) (fun j => tap H harg6 _ 0 0 rfl rfl _ j) r j
  · refine (View.read_writes_cons_unit_of_mem _ _ _ _ _ (ix3 2 r j) (ix3 0 r j) rfl (Fin.forall_fin_succ.mpr ⟨rfl, Fin.forall_fin_two.mpr ⟨(Nat.zero_add _).symm, (Nat.zero_add _).symm⟩⟩)).trans ?_
    sl_unfold_words
    exact block_dz2 (holds_dm H harg1 _) (holds_b H harg3 _) (holds_c H harg3 _) (holdsNext_dy H hi harg2 harg5 _ _) (fun j => tap H harg6 _ 2 2 rfl rfl _ j) (fun j => tap H harg6 _ 1 1 rfl rfl _ j) (fun j => tap H harg6 _ 0 0 rfl rfl _ j) r j

omit H in
/-- A row of the tap gradients' block, read back after the zeros and the stores of other rows. -/
theorem zero_row (V : View sig .tc .vmem S8x1024 .f32) (z : Vec Ideal S8x1024 .f32) (hz : ∀ y, z y = 0) (inbz inb0 inb1 inb2) (j : Fin 1024)
    (p0 p1 : Vec Ideal S1x1024 .f32) :
    V.readCov [(⟨Rect.unit (s := S8x1024) ![0, 0] S8x1024.size inbz, z⟩ : View.Piece (Elt Ideal) S8x1024 .f32)]
      (Rect.unit (s := S8x1024) ![0, 0] ![1, 1024] inb0).toLoadRect (ix2 0 j) = (0 : EReal) ∧
    V.readCov [(⟨Rect.unit (s := S8x1024) ![0, 0] ![1, 1024] inb0, p0⟩ : View.Piece (Elt Ideal) S8x1024 .f32),
      ⟨Rect.unit (s := S8x1024) ![0, 0] S8x1024.size inbz, z⟩] (Rect.unit (s := S8x1024) ![1, 0] ![1, 1024] inb1).toLoadRect (ix2 0 j) = (0 : EReal) ∧
    V.readCov [(⟨Rect.unit (s := S8x1024) ![1, 0] ![1, 1024] inb1, p1⟩ : View.Piece (Elt Ideal) S8x1024 .f32),
      ⟨Rect.unit (s := S8x1024) ![0, 0] ![1, 1024] inb0, p0⟩,
      ⟨Rect.unit (s := S8x1024) ![0, 0] S8x1024.size inbz, z⟩] (Rect.unit (s := S8x1024) ![2, 0] ![1, 1024] inb2).toLoadRect (ix2 0 j) = (0 : EReal) := by
  refine ⟨(cov_at V _ inb0 (ix2 0 j) (ix2 0 j) (Fin.forall_fin_two.mpr ⟨rfl, (Nat.zero_add _).symm⟩)).trans ?_, (cov_at V _ inb1 (ix2 0 j) (ix2 1 j) (Fin.forall_fin_two.mpr ⟨rfl, (Nat.zero_add _).symm⟩)).trans ?_,
    (cov_at V _ inb2 (ix2 0 j) (ix2 2 j) (Fin.forall_fin_two.mpr ⟨rfl, (Nat.zero_add _).symm⟩)).trans ?_⟩
  · exact (View.read_writes_cons_unit_of_mem _ _ _ _ _ (ix2 0 j) (ix2 0 j) rfl (Fin.forall_fin_two.mpr ⟨(Nat.zero_add _).symm, (Nat.zero_add _).symm⟩)).trans (hz _)
  · exact (View.read_writes_cons_unit_of_not_mem _ _ _ _ _ (ix2 1 j) rfl 0 (Or.inr (show 0 + 1 ≤ 1 by decide))).trans ((View.read_writes_cons_unit_of_mem _ _ _ _ _ (ix2 1 j) (ix2 1 j) rfl (Fin.forall_fin_two.mpr ⟨(Nat.zero_add _).symm, (Nat.zero_add _).symm⟩)).trans (hz _))
  · exact (View.read_writes_cons_unit_of_not_mem _ _ _ _ _ (ix2 2 j) rfl 0 (Or.inr (show 1 + 1 ≤ 2 by decide))).trans ((View.read_writes_cons_unit_of_not_mem _ _ _ _ _ (ix2 2 j) rfl 0 (Or.inr (show 0 + 1 ≤ 2 by decide))).trans ((View.read_writes_cons_unit_of_mem _ _ _ _ _ (ix2 2 j) (ix2 2 j) rfl (Fin.forall_fin_two.mpr ⟨(Nat.zero_add _).symm, (Nat.zero_add _).symm⟩)).trans (hz _)))

omit H in
/-- The rows of the block after the zeros and the stores of its first three rows. -/
theorem three_rows (V : View sig .tc .vmem S8x1024 .f32) (z : Vec Ideal S8x1024 .f32) (hz : ∀ y, z y = 0) (inbz inb0 inb1 inb2) (k : Fin 8) (j : Fin 1024)
    (p0 p1 p2 : Vec Ideal S1x1024 .f32) :
    V.read (Elt Ideal) (V.writes (Elt Ideal) V.junk [(⟨Rect.unit (s := S8x1024) ![2, 0] ![1, 1024] inb2, p2⟩ : View.Piece (Elt Ideal) S8x1024 .f32),
      ⟨Rect.unit (s := S8x1024) ![1, 0] ![1, 1024] inb1, p1⟩, ⟨Rect.unit (s := S8x1024) ![0, 0] ![1, 1024] inb0, p0⟩,
      ⟨Rect.unit (s := S8x1024) ![0, 0] S8x1024.size inbz, z⟩]) (ix2 k j) =
    if k.val = 0 then p0 (ix2 0 j) else if k.val = 1 then p1 (ix2 0 j) else if k.val = 2 then p2 (ix2 0 j) else (0 : EReal) := by
  by_cases hk : k.val < 3
  · obtain ⟨k, hk8⟩ := k
    dsimp only at hk ⊢
    interval_cases k
    · exact (View.read_writes_cons_unit_of_not_mem _ _ _ _ _ (ix2 0 j) rfl 0 (Or.inl (show 0 < 2 by decide))).trans ((View.read_writes_cons_unit_of_not_mem _ _ _ _ _ (ix2 0 j) rfl 0 (Or.inl (show 0 < 1 by decide))).trans (View.read_writes_cons_unit_of_mem _ _ _ _ _ (ix2 0 j) (ix2 0 j) rfl (Fin.forall_fin_two.mpr ⟨rfl, (Nat.zero_add _).symm⟩)))
    · exact (View.read_writes_cons_unit_of_not_mem _ _ _ _ _ (ix2 1 j) rfl 0 (Or.inl (show 1 < 2 by decide))).trans (View.read_writes_cons_unit_of_mem _ _ _ _ _ (ix2 1 j) (ix2 0 j) rfl (Fin.forall_fin_two.mpr ⟨rfl, (Nat.zero_add _).symm⟩))
    · exact View.read_writes_cons_unit_of_mem _ _ _ _ _ (ix2 2 j) (ix2 0 j) rfl (Fin.forall_fin_two.mpr ⟨rfl, (Nat.zero_add _).symm⟩)
  · rw [if_neg (by omega), if_neg (by omega), if_neg (by omega)]
    refine (View.read_writes_cons_unit_of_not_mem _ _ _ _ _ (ix2 k j) rfl 0 (Or.inr (show 2 + 1 ≤ k.val by omega))).trans
      ((View.read_writes_cons_unit_of_not_mem _ _ _ _ _ (ix2 k j) rfl 0 (Or.inr (show 1 + 1 ≤ k.val by omega))).trans
        ((View.read_writes_cons_unit_of_not_mem _ _ _ _ _ (ix2 k j) rfl 0 (Or.inr (show 0 + 1 ≤ k.val by omega))).trans
          ((View.read_writes_cons_unit_of_mem _ _ _ _ _ (ix2 k j) (ix2 k j) rfl (Fin.forall_fin_two.mpr ⟨(Nat.zero_add _).symm, (Nat.zero_add _).symm⟩)).trans (hz _))))

/-- Case A, the first point: the tap gradients' block holds the sums of the first 256 rows, and zeros in the rows of padding. -/
theorem outA_dk (h0 : t = 0) (cc : Dev nD) (i : grid0.Coords) (hi : (i 0).val = t) (arg1 : Memref sig .tc .vmem S256x1024 .f32) (harg1 : arg1.IsWhole) (arg2 : Memref sig .tc .vmem S16x1024 .f32) (harg2 : arg2.IsWhole) (arg3 : Memref sig .tc .vmem S3x256x1024 .bf16) (harg3 : arg3.IsWhole) (arg4 : Memref sig .tc .vmem S3x16x1024 .bf16) (harg4 : arg4.IsWhole) (arg5 : Memref sig .tc .vmem S3x16x1024 .bf16) (harg5 : arg5.IsWhole) (arg6 : Memref sig .tc .vmem S8x1024 .f32) (harg6 : arg6.IsWhole) (arg7 : Memref sig .tc .vmem S3x256x1024 .bf16) (harg7 : arg7.IsWhole) (arg8 : Memref sig .tc .vmem S8x1024 .f32) (harg8 : arg8.IsWhole) (hc0 : cond0_0 i) (k : Fin 8) (j : Fin 1024) :
    out0_A_7 cc i arg1 harg1 arg2 harg2 arg3 harg3 arg4 harg4 arg5 harg5 arg6 harg6 arg7 harg7 arg8 harg8 hc0 x0 x1 x2 x3 x4 x5 (ix2 k j) = if k.val < 3 then dk (256 * (t + 1)) dm b c u k.val j else 0 := by
  have hz : ∀ k, (0 : EReal) = dk (256 * t) dm b c u k j := fun k => by rw [h0]; rfl
  unfold out0_A_7 kernelRun0_A
  dsimp only
  sl_unfold_words
  refine (three_rows VO0_7 _ pay4_apply _ _ _ _ k j _ _ _).trans ?_
  by_cases hk : k.val < 3
  · rw [if_pos hk]
    obtain ⟨k, hk8⟩ := k
    dsimp only at hk ⊢
    interval_cases k
    · exact block_dk0 (holds_dm H harg1 _) (holds_b H harg3 _) (holds_cu H harg3 _ _) (holdsPrev_cu H hi harg4 _ _) _ j ((zero_row _ _ pay4_apply _ _ inb_S8x1024_S1x1024_1_0 inb_S8x1024_S1x1024_2_0 j (fun _ => 0) (fun _ => 0)).1.trans (hz 0))
    · exact block_dk1 (holds_dm H harg1 _) (holds_b H harg3 _) (holds_cu H harg3 _ _) (holdsPrev_cu H hi harg4 _ _) _ j ((zero_row _ _ pay4_apply _ _ _ inb_S8x1024_S1x1024_2_0 j _ (fun _ => 0)).2.1.trans (hz 1))
    · exact block_dk2 (holds_dm H harg1 _) (holds_b H harg3 _) (holds_cu H harg3 _ _) _ j ((zero_row _ _ pay4_apply _ _ _ _ j _ _).2.2.trans (hz 2))
  · rw [if_neg hk, if_neg (by omega), if_neg (by omega), if_neg (by omega)]

/-- Case B, a later point: each row of the block grows by the sum of the point's rows; the rows of padding stay. -/
theorem outB_dk (cc : Dev nD) (i : grid0.Coords) (hi : (i 0).val = t) (arg1 : Memref sig .tc .vmem S256x1024 .f32) (harg1 : arg1.IsWhole) (arg2 : Memref sig .tc .vmem S16x1024 .f32) (harg2 : arg2.IsWhole) (arg3 : Memref sig .tc .vmem S3x256x1024 .bf16) (harg3 : arg3.IsWhole) (arg4 : Memref sig .tc .vmem S3x16x1024 .bf16) (harg4 : arg4.IsWhole) (arg5 : Memref sig .tc .vmem S3x16x1024 .bf16) (harg5 : arg5.IsWhole) (arg6 : Memref sig .tc .vmem S8x1024 .f32) (harg6 : arg6.IsWhole) (arg7 : Memref sig .tc .vmem S3x256x1024 .bf16) (harg7 : arg7.IsWhole) (arg8 : Memref sig .tc .vmem S8x1024 .f32) (harg8 : arg8.IsWhole) (hc0 : ¬cond0_0 i) (xo7 : Vec Ideal S8x1024 .f32)
    (hxo : ∀ (k : Fin 8) (j : Fin 1024), xo7 (ix2 k j) = if k.val < 3 then dk (256 * t) dm b c u k.val j else 0) (k : Fin 8) (j : Fin 1024) :
    out0_B_7 cc i arg1 harg1 arg2 harg2 arg3 harg3 arg4 harg4 arg5 harg5 arg6 harg6 arg7 harg7 arg8 harg8 hc0 x0 x1 x2 x3 x4 x5 xo7 (ix2 k j) = if k.val < 3 then dk (256 * (t + 1)) dm b c u k.val j else 0 := by
  unfold out0_B_7 kernelRun0_B
  dsimp only
  sl_unfold_words
  by_cases hk : k.val < 3
  · rw [if_pos hk]
    obtain ⟨k, hk8⟩ := k
    dsimp only at hk ⊢
    interval_cases k
    · refine (View.read_writes_cons_unit_of_not_mem _ _ _ _ _ (ix2 0 j) rfl 0 (Or.inl (show 0 < 2 by decide))).trans ((View.read_writes_cons_unit_of_not_mem _ _ _ _ _ (ix2 0 j) rfl 0 (Or.inl (show 0 < 1 by decide))).trans ((View.read_writes_cons_unit_of_mem _ _ _ _ _ (ix2 0 j) (ix2 0 j) rfl (Fin.forall_fin_two.mpr ⟨rfl, (Nat.zero_add _).symm⟩)).trans (block_dk0 (holds_dm H harg1 _) (holds_b H harg3 _) (holds_cu H harg3 _ _) (holdsPrev_cu H hi harg4 _ _) _ j ?_)))
      exact (load_at harg8 _ (ix2 0 j) (ix2 0 j) (Fin.forall_fin_two.mpr ⟨rfl, (Nat.zero_add _).symm⟩)).trans ((hxo 0 j).trans (if_pos (by decide)))
    · refine (View.read_writes_cons_unit_of_not_mem _ _ _ _ _ (ix2 1 j) rfl 0 (Or.inl (show 1 < 2 by decide))).trans ((View.read_writes_cons_unit_of_mem _ _ _ _ _ (ix2 1 j) (ix2 0 j) rfl (Fin.forall_fin_two.mpr ⟨rfl, (Nat.zero_add _).symm⟩)).trans (block_dk1 (holds_dm H harg1 _) (holds_b H harg3 _) (holds_cu H harg3 _ _) (holdsPrev_cu H hi harg4 _ _) _ j ?_))
      exact (load_at harg8 _ (ix2 0 j) (ix2 1 j) (Fin.forall_fin_two.mpr ⟨rfl, (Nat.zero_add _).symm⟩)).trans ((hxo 1 j).trans (if_pos (by decide)))
    · refine (View.read_writes_cons_unit_of_mem _ _ _ _ _ (ix2 2 j) (ix2 0 j) rfl (Fin.forall_fin_two.mpr ⟨rfl, (Nat.zero_add _).symm⟩)).trans (block_dk2 (holds_dm H harg1 _) (holds_b H harg3 _) (holds_cu H harg3 _ _) _ j ?_)
      exact (load_at harg8 _ (ix2 0 j) (ix2 2 j) (Fin.forall_fin_two.mpr ⟨rfl, (Nat.zero_add _).symm⟩)).trans ((hxo 2 j).trans (if_pos (by decide)))
  · rw [if_neg hk]
    refine (View.read_writes_cons_unit_of_not_mem _ _ _ _ _ (ix2 k j) rfl 0 (Or.inr (show 2 + 1 ≤ k.val by omega))).trans
      ((View.read_writes_cons_unit_of_not_mem _ _ _ _ _ (ix2 k j) rfl 0 (Or.inr (show 1 + 1 ≤ k.val by omega))).trans
        ((View.read_writes_cons_unit_of_not_mem _ _ _ _ _ (ix2 k j) rfl 0 (Or.inr (show 0 + 1 ≤ k.val by omega))).trans ?_))
    rw [View.writes_nil, harg8.read_unread, hxo, if_neg hk]

end

end Cert.Conv

end
-- ==== Proof.Conv.Array.lean ====
module

public import proofs.«01_k».proof.Proof.Conv.Block
public import Idealize.ShloMosaic.Lib.Pipeline.ValueKit
public import Idealize.ShloMosaic.Lib.KernelVsHost

/-! The kernel's two result arrays after the run: every row of the gradient of `z`, and the tap gradients summed over
    all eight grid points. -/

@[expose] public section

set_option maxRecDepth 16384

noncomputable section

namespace Cert.Conv

open Cert.KernelIdeal Cert.KernelIdeal.Gen Idealize.ShloMosaic Idealize.ShloMosaic.TcCoe Idealize.SL.Sem

variable (m : (ℓ : Loc nD τ sig) → Buf (Elt Ideal) ℓ)

/-- The block that each window takes at a grid point. -/
theorem idx0 : ∀ t : Fin cfg0.N, win0_0.index t = ![t.val, 0] := (by decide +kernel : ∀ t : Fin grid0.N, win0_0.index t = ![t.val, 0])
theorem idx1 : ∀ t : Fin cfg0.N, win0_1.index t = ![min (16 * (t.val + 1)) 127, 0] :=
  (by decide +kernel : ∀ t : Fin grid0.N, win0_1.index t = ![min (16 * (t.val + 1)) 127, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, 16 * t.val - 1, 0] :=
  (by decide +kernel : ∀ t : Fin grid0.N, win0_3.index t = ![0, 16 * t.val - 1, 0])
theorem idx4 : ∀ t : Fin cfg0.N, win0_4.index t = ![0, min (16 * (t.val + 1)) 127, 0] :=
  (by decide +kernel : ∀ t : Fin grid0.N, win0_4.index t = ![0, min (16 * (t.val + 1)) 127, 0])
theorem idx5 : ∀ t : Fin cfg0.N, win0_5.index t = ![0, 0] := (by decide +kernel : ∀ t : Fin grid0.N, win0_5.index t = ![0, 0])
theorem idx6 : ∀ t : Fin cfg0.N, win0_6.index t = ![0, t.val, 0] := (by decide +kernel : ∀ t : Fin grid0.N, win0_6.index t = ![0, t.val, 0])
theorem idx7 : ∀ t : Fin cfg0.N, win0_7.index t = ![0, 0] := (by decide +kernel : ∀ t : Fin grid0.N, win0_7.index t = ![0, 0])
theorem coord : ∀ t : Fin cfg0.N, (grid0.coords t 0).val = t.val := (by decide +kernel : ∀ t : Fin grid0.N, (grid0.coords t 0).val = t.val)

/-- The arguments' parts as functions of the row number, on device `c`. -/
abbrev argDm (c : Dev nD) : Rows := row2 (m ((c : Thread nD τ).loc main_arg0))
abbrev argZ (c : Dev nD) (k : Fin 3) : Rows := row3 (m ((c : Thread nD τ).loc main_arg1)) k
abbrev argW (c : Dev nD) : Fin 3 → Fin 1024 → EReal := fun k j => m ((c : Thread nD τ).loc main_arg2) (ix2 k j)

/-- The taps as the kernel is given them: the three rows of the argument over five rows of zeros. -/
theorem taps_apply (c : Dev nD) (k : Fin 8) (k' : Fin 3) (hk : k.val = k'.val) (j : Fin 1024) :
    V m c main_v0 (ix2 k j) = argW m c k' j := by
  have e : V m c main_v0 = pad S8x1024 ![0, 0] ![5, 0] ![0, 0] (m ((c : Thread nD τ).loc main_arg2)) (sitofp (F := Ideal) .f32 (constantI S_ 32 0#32))
      pads_S3x1024_S8x1024_050_000 h_S_ := by
    unfold V
    simp only [hostOps0, hostOps0_1, List.flatten_cons, List.flatten_nil, List.append_nil, List.cons_append, List.nil_append, StableHlo.TRef.binary, StableHlo.TRef.unary, StableHlo.TRef.toBuf, StableHlo.TRef.ofBuf, cast_eq]
    after_results_simp
  rw [e]
  exact Idealize.ShloMosaic.pad_apply_of_inside _ _ _ _ _ _ _ (ix2 k j) (ix2 k' j) (Fin.forall_fin_two.mpr ⟨by show k.val = 0 + k'.val * 1; omega, by show j.val = 0 + j.val * 1; omega⟩)

/-- Each input block at point `t` holds the rows that the point works on. -/
theorem reads (c : Dev nD) (t : Fin cfg0.N) : Reads t.val (argW m c) (argDm m c) (argZ m c 0) (argZ m c 1) (argZ m c 2)
    (iblk m c 0 t) (iblk m c 1 t) (iblk m c 2 t) (iblk m c 3 t) (iblk m c 4 t) (iblk m c 5 t) := by
  have ht : t.val < 8 := by have := t.isLt; exact lt_of_lt_of_eq this N_0
  have z2 : ∀ (n : ℕ) (hn : n < 2048) (k : Fin 3) j, argZ m c k n j = m ((c : Thread nD τ).loc main_arg1) (ix3 k ⟨n, hn⟩ j) :=
    fun n hn k j => dif_pos hn
  have d2 : ∀ (n : ℕ) (hn : n < 2048) j, argDm m c n j = m ((c : Thread nD τ).loc main_arg0) (ix2 ⟨n, hn⟩ j) := fun n hn j => dif_pos hn
  refine ⟨ht, fun r j => ?_, fun h7 h j => ?_, fun r j => ?_, fun r j => ?_, fun r j => ?_, fun h0 h j => ?_, fun h0 h j => ?_, fun h7 h j => ?_,
    fun n j hn => dif_neg (by omega), fun j => ?_, fun j => ?_, fun j => ?_⟩
  · rw [d2 _ (by omega), ← V_main_arg0 m c]
    blk_ext [iblk, idx0 t]
  · rw [d2 _ (by omega), ← V_main_arg0 m c]
    blk_ext [iblk, idx1 t]
  · rw [z2 _ (by omega), ← V_main_arg1 m c]
    blk_ext [iblk, idx2 t]
  · rw [z2 _ (by omega), ← V_main_arg1 m c]
    blk_ext [iblk, idx2 t]
  · rw [z2 _ (by omega), ← V_main_arg1 m c]
    blk_ext [iblk, idx2 t]
  · rw [z2 _ (by omega), ← V_main_arg1 m c]
    blk_ext [iblk, idx3 t]
  · rw [z2 _ (by omega), ← V_main_arg1 m c]
    blk_ext [iblk, idx3 t]
  · rw [z2 _ (by omega), ← V_main_arg1 m c]
    blk_ext [iblk, idx4 t]
  · rw [← taps_apply m c 2 2 rfl]
    blk_ext [iblk, idx5 t]
  · rw [← taps_apply m c 1 1 rfl]
    blk_ext [iblk, idx5 t]
  · rw [← taps_apply m c 0 0 rfl]
    blk_ext [iblk, idx5 t]

/-- The first output block after a point. -/
theorem outs_dz (c : Dev nD) (t : Fin cfg0.N) (k : Fin 3) (r : Fin 256) (j : Fin 1024) : (outsAt0 m c t.val t.isLt).1 (ix3 k r j) =
    dz (argW m c) (argDm m c) (argZ m c 0) (argZ m c 1) (argZ m c 2) k (256 * t.val + r.val) j := by
  have R := reads m c t
  by_cases h0 : t.val % 8 = 0
  · rw [outsAt0_A m c t h0]
    dsimp only
    generalize iblk m c 0 t = x0 at R ⊢
    generalize iblk m c 1 t = x1 at R ⊢
    generalize iblk m c 2 t = x2 at R ⊢
    generalize iblk m c 3 t = x3 at R ⊢
    generalize iblk m c 4 t = x4 at R ⊢
    generalize iblk m c 5 t = x5 at R ⊢
    exact outA_dz R c (grid0.coords t) (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) k r j
  · rw [outsAt0_B m c t h0]
    dsimp only
    generalize iblk m c 0 t = x0 at R ⊢
    generalize iblk m c 1 t = x1 at R ⊢
    generalize iblk m c 2 t = x2 at R ⊢
    generalize iblk m c 3 t = x3 at R ⊢
    generalize iblk m c 4 t = x4 at R ⊢
    generalize iblk m c 5 t = x5 at R ⊢
    exact outB_dz R c (grid0.coords t) (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) _ k r j

/-- The second output block after the first point. -/
theorem outs_dk_A (c : Dev nD) (t : Fin cfg0.N) (h0 : t.val = 0) (k : Fin 8) (j : Fin 1024) : (outsAt0 m c t.val t.isLt).2 (ix2 k j) =
    if k.val < 3 then dk (256 * (t.val + 1)) (argDm m c) (argZ m c 0) (argZ m c 1) (argZ m c 2) k.val j else (0 : EReal) := by
  have R := reads m c t
  rw [outsAt0_A m c t (by omega)]
  dsimp only
  generalize iblk m c 0 t = x0 at R ⊢
  generalize iblk m c 1 t = x1 at R ⊢
  generalize iblk m c 2 t = x2 at R ⊢
  generalize iblk m c 3 t = x3 at R ⊢
  generalize iblk m c 4 t = x4 at R ⊢
  generalize iblk m c 5 t = x5 at R ⊢
  exact outA_dk R h0 c (grid0.coords t) (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ k j

/-- The second output block after a later point, from the block after the point before. -/
theorem outs_dk_B (c : Dev nD) (t : Fin cfg0.N) (h0 : ¬t.val % 8 = 0)
    (hp : ∀ (k : Fin 8) (j : Fin 1024), (outsAt0 m c (t.val - 1) (Nat.lt_of_le_of_lt (Nat.sub_le _ _) t.isLt)).2 (ix2 k j) =
      if k.val < 3 then dk (256 * t.val) (argDm m c) (argZ m c 0) (argZ m c 1) (argZ m c 2) k.val j else (0 : EReal))
    (k : Fin 8) (j : Fin 1024) : (outsAt0 m c t.val t.isLt).2 (ix2 k j) =
    if k.val < 3 then dk (256 * (t.val + 1)) (argDm m c) (argZ m c 0) (argZ m c 1) (argZ m c 2) k.val j else (0 : EReal) := by
  have R := reads m c t
  rw [outsAt0_B m c t h0]
  dsimp only
  generalize iblk m c 0 t = x0 at R ⊢
  generalize iblk m c 1 t = x1 at R ⊢
  generalize iblk m c 2 t = x2 at R ⊢
  generalize iblk m c 3 t = x3 at R ⊢
  generalize iblk m c 4 t = x4 at R ⊢
  generalize iblk m c 5 t = x5 at R ⊢
  exact outB_dk R c (grid0.coords t) (coord t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ hp k j

/-- The second output block after every point: the sums of the rows so far. -/
theorem outs_dk (c : Dev nD) : ∀ (n : ℕ) (h : n < cfg0.N) (k : Fin 8) (j : Fin 1024), (outsAt0 m c n h).2 (ix2 k j) =
    if k.val < 3 then dk (256 * (n + 1)) (argDm m c) (argZ m c 0) (argZ m c 1) (argZ m c 2) k.val j else (0 : EReal)
  | 0, h, k, j => outs_dk_A m c ⟨0, h⟩ rfl k j
  | n + 1, h, k, j => by
    have hN : cfg0.N = 8 := N_0
    exact outs_dk_B m c ⟨n + 1, h⟩ (by dsimp only; omega) (fun k j => outs_dk c n (Nat.lt_of_succ_lt h) k j) k j

/-- The first result array. -/
theorem arr_dz (c : Dev nD) : (dats m 0 c).arrAt 6 cfg0.N =
    fun i : S3x2048x1024.Idx => dz (argW m c) (argDm m c) (argZ m c 0) (argZ m c 1) (argZ m c 2) (i 0) (i 1).val (i 2) := by
  refine (dats m 0 c).arrAt_eq_of_covers 6 _ (by decide +kernel) fun t hf y => ?_
  rw [after0_6]
  have e := outs_dz m c t (y 0) (y 1) (y 2)
  have hy : (ix3 (y 0) (y 1) (y 2) : S3x256x1024.Idx) = y := by
    funext a
    match a with
    | ⟨0, _⟩ => rfl
    | ⟨1, _⟩ => rfl
    | ⟨2, _⟩ => rfl
  rw [hy] at e
  refine e.trans ?_
  have h0 : ((win0_6.blk t).view.emb y) 0 = y 0 := by refine Fin.ext ?_; blk_simp [idx6 t]
  have h2 : ((win0_6.blk t).view.emb y) 2 = y 2 := by refine Fin.ext ?_; blk_simp [idx6 t]
  blk_simp [idx6 t]
  rw [h0, h2, Nat.mul_comm]

/-- The second result array. -/
theorem arr_dk (c : Dev nD) : (dats m 0 c).arrAt 7 cfg0.N =
    fun i : S8x1024.Idx => if (i 0).val < 3 then dk 2048 (argDm m c) (argZ m c 0) (argZ m c 1) (argZ m c 2) (i 0).val (i 1) else (0 : EReal) := by
  refine (dats m 0 c).arrAt_eq_of_covers 7 _ (by decide +kernel) fun t hf y => ?_
  rw [after0_7]
  have e := outs_dk m c t.val t.isLt (y 0) (y 1)
  have hy : (ix2 (y 0) (y 1) : S8x1024.Idx) = y := by
    funext a
    match a with
    | ⟨0, _⟩ => rfl
    | ⟨1, _⟩ => rfl
  rw [hy] at e
  refine e.trans ?_
  have ht : t.val = 7 := by
    have h8 : t.val < 8 := lt_of_lt_of_eq t.isLt N_0
    have := (flush0_7 t).mp hf
    omega
  have h1 : ((win0_7.blk t).view.emb y) 1 = y 1 := by refine Fin.ext ?_; blk_simp [idx7 t]
  blk_simp [idx7 t]
  rw [h1, ht]

end Cert.Conv

end
-- ==== Proof.Conv.RefValue.lean ====
module

public import proofs.«01_k».proof.Proof.Gen.ReferenceIdeal.Read
public import proofs.«01_k».proof.Proof.Conv.Spec

/-! The reference, stage by stage: each stage of its computation at a row and a channel, and its two results as the
    gradients of `Spec.lean`. -/

@[expose] public section

set_option maxRecDepth 16384

noncomputable section

namespace Cert.Conv.Ref

open Cert.ReferenceIdeal Cert.ReferenceIdeal.Read Idealize.ShloMosaic Idealize.ShloMosaic.TcCoe Idealize.SL.Sem

variable (x0 : (⟨S2048x1024, .f32⟩ : BufTy).Contents (Elt Ideal)) (x1 : (⟨S3x2048x1024, .bf16⟩ : BufTy).Contents (Elt Ideal))
  (x2 : (⟨S3x1024, .f32⟩ : BufTy).Contents (Elt Ideal))

/-- The parts of the arguments as functions of the row number. -/
abbrev dm : Rows := row2 x0
abbrev b : Rows := row3 x1 0
abbrev c : Rows := row3 x1 1
abbrev u : Rows := row3 x1 2

theorem b_apply (n : Fin 2048) (j : Fin 1024) : val_main_v2 (F := Ideal) x1 (ix2 n j) = b x1 n.val j := by
  unfold val_main_v2 val_main_v1 val_main_v0 b row3
  rw [dif_pos n.isLt]
  pointwise

theorem c_apply (n : Fin 2048) (j : Fin 1024) : val_main_v4 (F := Ideal) x1 (ix2 n j) = c x1 n.val j := by
  unfold val_main_v4 val_main_v3 val_main_v0 c row3
  rw [dif_pos n.isLt]
  pointwise

theorem u_apply (n : Fin 2048) (j : Fin 1024) : val_main_v6 (F := Ideal) x1 (ix2 n j) = u x1 n.val j := by
  unfold val_main_v6 val_main_v5 val_main_v0 u row3
  rw [dif_pos n.isLt]
  pointwise

/-- The rows of `c · u` with two rows of zeros before them. -/
theorem p_apply (n : Fin 2050) (j : Fin 1024) : val_main_v9 (F := Ideal) x1 (ix2 n j) = back 2 (prod (c x1) (u x1)) n.val j := by
  have hR : back 2 (prod (c x1) (u x1)) n.val j =
      if h : n.val < 2 then (0 : EReal) else val_main_v4 (F := Ideal) x1 (ix2 ⟨n.val - 2, by omega⟩ j) * val_main_v6 (F := Ideal) x1 (ix2 ⟨n.val - 2, by omega⟩ j) := by
    unfold back prod
    by_cases h : n.val < 2
    · rw [if_pos h, dif_pos h]
    · rw [if_neg h, dif_neg h, c_apply, u_apply]
  rw [hR]
  generalize hS : (if h : n.val < 2 then (0 : EReal) else val_main_v4 (F := Ideal) x1 (ix2 ⟨n.val - 2, by omega⟩ j) * val_main_v6 (F := Ideal) x1 (ix2 ⟨n.val - 2, by omega⟩ j)) = S
  unfold val_main_v9 val_main_v8 val_main_v7 val_main_cst
  pointwise
  rw [← hS]

theorem p0_apply (n : Fin 2048) (j : Fin 1024) :
    val_main_v13 (F := Ideal) x1 (ix2 n j) = back 2 (prod (c x1) (u x1)) n.val j := by
  have h := p_apply x1 ⟨n.val + 0, by omega⟩ j
  have e : back 2 (prod (c x1) (u x1)) (n.val + 0) j = back 2 (prod (c x1) (u x1)) n.val j := by
    unfold back
    by_cases hn : n.val < 2
    · rw [if_pos hn, if_pos (by omega)]
    · rw [if_neg hn, if_neg (by omega)]; congr 1
  rw [← e, ← h]
  unfold val_main_v13
  generalize val_main_v9 (F := Ideal) x1 = y
  pointwise

theorem p1_apply (n : Fin 2048) (j : Fin 1024) :
    val_main_v19 (F := Ideal) x1 (ix2 n j) = back 1 (prod (c x1) (u x1)) n.val j := by
  have h := p_apply x1 ⟨1 + n.val, by omega⟩ j
  have e : back 2 (prod (c x1) (u x1)) (1 + n.val) j = back 1 (prod (c x1) (u x1)) n.val j := by
    unfold back
    by_cases hn : n.val < 1
    · rw [if_pos hn, if_pos (by omega)]
    · rw [if_neg hn, if_neg (by omega)]; congr 1; omega
  rw [← e, ← h]
  unfold val_main_v19
  generalize val_main_v9 (F := Ideal) x1 = y
  pointwise

theorem p2_apply (n : Fin 2048) (j : Fin 1024) :
    val_main_v26 (F := Ideal) x1 (ix2 n j) = back 0 (prod (c x1) (u x1)) n.val j := by
  have h := p_apply x1 ⟨2 + n.val, by omega⟩ j
  have e : back 2 (prod (c x1) (u x1)) (2 + n.val) j = back 0 (prod (c x1) (u x1)) n.val j := by
    unfold back
    by_cases hn : n.val < 0
    · rw [if_pos hn, if_pos (by omega)]
    · rw [if_neg hn, if_neg (by omega)]; congr 1; omega
  rw [← e, ← h]
  unfold val_main_v26
  generalize val_main_v9 (F := Ideal) x1 = y
  pointwise

theorem v15_apply (n : Fin 2048) (j : Fin 1024) : val_main_v15 (F := Ideal) x2 (ix2 n j) = x2 (ix2 0 j) := by
  unfold val_main_v15 val_main_v14 val_main_v12 val_main_v11
  pointwise

theorem v21_apply (n : Fin 2048) (j : Fin 1024) : val_main_v21 (F := Ideal) x2 (ix2 n j) = x2 (ix2 1 j) := by
  unfold val_main_v21 val_main_v20 val_main_v18 val_main_v17
  pointwise

theorem v28_apply (n : Fin 2048) (j : Fin 1024) : val_main_v28 (F := Ideal) x2 (ix2 n j) = x2 (ix2 2 j) := by
  unfold val_main_v28 val_main_v27 val_main_v25 val_main_v24
  pointwise

theorem v54_apply (n : Fin 2048) (j : Fin 1024) : val_main_v54 (F := Ideal) x2 (ix2 n j) = x2 (ix2 0 j) := by
  unfold val_main_v54 val_main_v14 val_main_v12 val_main_v11
  pointwise

theorem v43_apply (n : Fin 2048) (j : Fin 1024) : val_main_v43 (F := Ideal) x2 (ix2 n j) = x2 (ix2 1 j) := by
  unfold val_main_v43 val_main_v20 val_main_v18 val_main_v17
  pointwise

theorem v34_apply (n : Fin 2048) (j : Fin 1024) : val_main_v34 (F := Ideal) x2 (ix2 n j) = x2 (ix2 2 j) := by
  unfold val_main_v34 val_main_v27 val_main_v25 val_main_v24
  pointwise

/-- The taps, by their row. -/
abbrev w : Fin 3 → Fin 1024 → EReal := fun k j => x2 (ix2 k j)

/-- The gradient that enters the convolution: the cotangent times the gate. -/
theorem dy_apply (n : Fin 2048) (j : Fin 1024) : val_main_v32 (F := Ideal) x0 x1 (ix2 n j) = prod (dm x0) (b x1) n.val j := by
  have e : prod (dm x0) (b x1) n.val j = val_main_v2 (F := Ideal) x1 (ix2 n j) * x0 (ix2 n j) := by
    rw [b_apply]
    unfold prod dm row2
    rw [dif_pos n.isLt, mul_comm]
  rw [e]
  unfold val_main_v32
  generalize val_main_v2 (F := Ideal) x1 = y
  pointwise

/-- The convolution's value. -/
theorem y_apply (n : Fin 2048) (j : Fin 1024) : val_main_v30 (F := Ideal) x1 x2 (ix2 n j) = conv (w x2) (prod (c x1) (u x1)) n.val j := by
  have e : conv (w x2) (prod (c x1) (u x1)) n.val j = (x2 (ix2 0 j) * val_main_v13 (F := Ideal) x1 (ix2 n j) +
      x2 (ix2 1 j) * val_main_v19 (F := Ideal) x1 (ix2 n j)) + x2 (ix2 2 j) * val_main_v26 (F := Ideal) x1 (ix2 n j) := by
    rw [p0_apply, p1_apply, p2_apply]
    unfold conv
    have h0 : back 0 (prod (c x1) (u x1)) n.val j = prod (c x1) (u x1) n.val j := by unfold back; rw [if_neg (by omega)]; rfl
    show _ = (x2 (ix2 0 j) * back 2 _ n.val j + x2 (ix2 1 j) * back 1 _ n.val j) + x2 (ix2 2 j) * back 0 _ n.val j
    rw [h0]
    abel
  rw [e, ← v15_apply x2 n j, ← v21_apply x2 n j, ← v28_apply x2 n j]
  unfold val_main_v30 val_main_v29 val_main_v23 val_main_v22 val_main_v16
  generalize val_main_v13 (F := Ideal) x1 = a1
  generalize val_main_v19 (F := Ideal) x1 = a2
  generalize val_main_v26 (F := Ideal) x1 = a3
  generalize val_main_v15 (F := Ideal) x2 = b1
  generalize val_main_v21 (F := Ideal) x2 = b2
  generalize val_main_v28 (F := Ideal) x2 = b3
  pointwise

theorem v35_apply (n : Fin 2048) (j : Fin 1024) :
    val_main_v35 (F := Ideal) x0 x1 x2 (ix2 n j) = (x2 (ix2 2 j) * prod (dm x0) (b x1) n.val j : EReal) := by
  rw [← v34_apply x2 n j, ← dy_apply, mul_comm]
  unfold val_main_v35
  generalize val_main_v34 (F := Ideal) x2 = y
  generalize val_main_v32 (F := Ideal) x0 x1 = z
  pointwise
  try rw [mul_comm]

theorem v44_apply (n : Fin 2048) (j : Fin 1024) :
    val_main_v44 (F := Ideal) x0 x1 x2 (ix2 n j) = (x2 (ix2 1 j) * prod (dm x0) (b x1) n.val j : EReal) := by
  rw [← v43_apply x2 n j, ← dy_apply, mul_comm]
  unfold val_main_v44
  generalize val_main_v43 (F := Ideal) x2 = y
  generalize val_main_v32 (F := Ideal) x0 x1 = z
  pointwise
  try rw [mul_comm]

theorem v55_apply (n : Fin 2048) (j : Fin 1024) :
    val_main_v55 (F := Ideal) x0 x1 x2 (ix2 n j) = (x2 (ix2 0 j) * prod (dm x0) (b x1) n.val j : EReal) := by
  rw [← v54_apply x2 n j, ← dy_apply, mul_comm]
  unfold val_main_v55
  generalize val_main_v54 (F := Ideal) x2 = y
  generalize val_main_v32 (F := Ideal) x0 x1 = z
  pointwise
  try rw [mul_comm]

theorem dy_past (n : ℕ) (j : Fin 1024) (h : 2048 ≤ n) : prod (dm x0) (b x1) n j = 0 := by
  unfold prod dm row2
  rw [dif_neg (by omega), zero_mul]

/-- The transposed convolution, as the sum of the three shifted products over the padded rows. -/
theorem dp_apply (n : Fin 2048) (j : Fin 1024) :
    val_main_v66 (F := Ideal) x0 x1 x2 (ix2 n j) = convT (w x2) (prod (dm x0) (b x1)) n.val j := by
  have e : val_main_v66 (F := Ideal) x0 x1 x2 (ix2 n j) = val_main_v61 (F := Ideal) x0 x1 x2 (ix2 ⟨2 + n.val, by omega⟩ j) := by
    unfold val_main_v66
    generalize val_main_v61 (F := Ideal) x0 x1 x2 = y
    pointwise
  rw [e]
  generalize hR : convT (w x2) (prod (dm x0) (b x1)) n.val j = R
  unfold val_main_v61 val_main_v50 val_main_v60 val_main_v49 val_main_v40 val_main_cst_3 val_main_cst_7 val_main_cst_11
  pointwise
  rw [← hR]
  have e1 : (if h : 1 ≤ 2 + n.val ∧ 2 + n.val - 1 < 2048 then val_main_v44 (F := Ideal) x0 x1 x2 (ix2 ⟨2 + n.val - 1, by omega⟩ j) else (0 : EReal)) =
      x2 (ix2 1 j) * prod (dm x0) (b x1) (n.val + 1) j := by
    by_cases h : 2 + n.val - 1 < 2048
    · rw [dif_pos ⟨by omega, h⟩, v44_apply]; dsimp only; rw [show 2 + n.val - 1 = n.val + 1 by omega]
    · rw [dif_neg (by omega), dy_past _ _ _ _ (by omega), mul_zero]
  have e2 : (if h : 2 + n.val < 2048 then val_main_v55 (F := Ideal) x0 x1 x2 (ix2 ⟨2 + n.val, by omega⟩ j) else (0 : EReal)) =
      x2 (ix2 0 j) * prod (dm x0) (b x1) (n.val + 2) j := by
    by_cases h : 2 + n.val < 2048
    · rw [dif_pos h, v55_apply]; dsimp only; rw [Nat.add_comm 2 n.val]
    · rw [dif_neg h, dy_past _ _ _ _ (by omega), mul_zero]
  rw [e1, e2]
  unfold convT
  dsimp only
  rw [v35_apply]

/-- The gradient of tap 2. -/
theorem dk2_apply (j : Fin 1024) : val_main_v41 (F := Ideal) x0 x1 (ix2 0 j) = dk 2048 (dm x0) (b x1) (c x1) (u x1) 2 j := by
  have e : dk 2048 (dm x0) (b x1) (c x1) (u x1) 2 j = ∑ _x : Fin 1, ∑ n : Fin 2048, val_main_v36 (F := Ideal) x0 x1 (ix2 n j) := by
    unfold dk
    rw [Fin.sum_univ_one, Finset.sum_range]
    refine Finset.sum_congr rfl fun n _ => ?_
    rw [← dy_apply, ← p2_apply]
    unfold val_main_v36
    generalize val_main_v26 (F := Ideal) x1 = y
    generalize val_main_v32 (F := Ideal) x0 x1 = z
    pointwise
  rw [e]
  unfold val_main_v41 val_main_v39 val_main_v38 val_main_v37 val_main_cst_1 val_main_cst_2
  generalize val_main_v36 (F := Ideal) x0 x1 = y
  pointwise

/-- The gradient of tap 1. -/
theorem dk1_apply (j : Fin 1024) : val_main_v51 (F := Ideal) x0 x1 (ix2 0 j) = dk 2048 (dm x0) (b x1) (c x1) (u x1) 1 j := by
  have e : dk 2048 (dm x0) (b x1) (c x1) (u x1) 1 j = ∑ _x : Fin 1, ∑ n : Fin 2048, val_main_v45 (F := Ideal) x0 x1 (ix2 n j) := by
    unfold dk
    rw [Fin.sum_univ_one, Finset.sum_range]
    refine Finset.sum_congr rfl fun n _ => ?_
    rw [← dy_apply, ← p1_apply]
    unfold val_main_v45
    generalize val_main_v19 (F := Ideal) x1 = y
    generalize val_main_v32 (F := Ideal) x0 x1 = z
    pointwise
  rw [e]
  unfold val_main_v51 val_main_v48 val_main_v47 val_main_v46 val_main_cst_5 val_main_cst_6
  generalize val_main_v45 (F := Ideal) x0 x1 = y
  pointwise

/-- The gradient of tap 0. -/
theorem dk0_apply (j : Fin 1024) : val_main_v62 (F := Ideal) x0 x1 (ix2 0 j) = dk 2048 (dm x0) (b x1) (c x1) (u x1) 0 j := by
  have e : dk 2048 (dm x0) (b x1) (c x1) (u x1) 0 j = ∑ _x : Fin 1, ∑ n : Fin 2048, val_main_v56 (F := Ideal) x0 x1 (ix2 n j) := by
    unfold dk
    rw [Fin.sum_univ_one, Finset.sum_range]
    refine Finset.sum_congr rfl fun n _ => ?_
    rw [← dy_apply, ← p0_apply]
    unfold val_main_v56
    generalize val_main_v13 (F := Ideal) x1 = y
    generalize val_main_v32 (F := Ideal) x0 x1 = z
    pointwise
  rw [e]
  unfold val_main_v62 val_main_v59 val_main_v58 val_main_v57 val_main_cst_9 val_main_cst_10
  generalize val_main_v56 (F := Ideal) x0 x1 = y
  pointwise

/-- The second result: the gradients of the three taps, and zeros in the rows of padding. -/
theorem out1_apply (k : Fin 8) (j : Fin 1024) : val_main_v74 (F := Ideal) x0 x1 (ix2 k j) =
    if k.val < 3 then dk 2048 (dm x0) (b x1) (c x1) (u x1) k.val j else (0 : EReal) := by
  have h0 := dk0_apply x0 x1 j
  have h1 := dk1_apply x0 x1 j
  have h2 := dk2_apply x0 x1 j
  generalize hR : (if k.val < 3 then dk 2048 (dm x0) (b x1) (c x1) (u x1) k.val j else (0 : EReal)) = R
  unfold val_main_v74 val_main_v64 val_main_v53 val_main_v42 val_main_v52 val_main_v63 val_main_cst_4 val_main_cst_8 val_main_cst_12 val_main_call0_v0 val_main_c
  pointwise
  rw [← hR]
  by_cases hk : k.val < 3
  · rw [dif_pos hk, if_pos hk]
    obtain ⟨k, hk8⟩ := k
    dsimp only at hk ⊢
    interval_cases k
    · rw [dif_neg (by omega), dif_neg (by omega), dif_pos (by omega), zero_add, zero_add]; exact h0
    · rw [dif_neg (by omega), dif_pos (by omega), dif_neg (by omega), zero_add, add_zero]; exact h1
    · rw [dif_pos (by omega), dif_neg (by omega), dif_neg (by omega), add_zero, add_zero]; exact h2
  · rw [dif_neg hk, if_neg hk]
    show (((0#32).toInt : ℝ) : EReal) = 0
    simp

/-- The first result: the gradients of the three parts of `z`. -/
theorem out0_apply (k : Fin 3) (n : Fin 2048) (j : Fin 1024) :
    val_main_v73 (F := Ideal) x0 x1 x2 (ix3 k n j) = dz (w x2) (dm x0) (b x1) (c x1) (u x1) k n.val j := by
  have e0 : val_main_v33 (F := Ideal) x0 x1 x2 (ix2 n j) = dz (w x2) (dm x0) (b x1) (c x1) (u x1) 0 n.val j := by
    have h : val_main_v33 (F := Ideal) x0 x1 x2 (ix2 n j) = (x0 (ix2 n j) * val_main_v30 (F := Ideal) x1 x2 (ix2 n j) : EReal) := by
      unfold val_main_v33
      generalize val_main_v30 (F := Ideal) x1 x2 = y
      pointwise
    rw [h, y_apply]
    unfold dz dm row2
    dsimp only
    rw [dif_pos n.isLt]
  have e1 : val_main_v68 (F := Ideal) x0 x1 x2 (ix2 n j) = dz (w x2) (dm x0) (b x1) (c x1) (u x1) 1 n.val j := by
    have h : val_main_v68 (F := Ideal) x0 x1 x2 (ix2 n j) = (val_main_v66 (F := Ideal) x0 x1 x2 (ix2 n j) * val_main_v6 (F := Ideal) x1 (ix2 n j) : EReal) := by
      unfold val_main_v68
      generalize val_main_v66 (F := Ideal) x0 x1 x2 = y
      generalize val_main_v6 (F := Ideal) x1 = z
      pointwise
    rw [h, dp_apply, u_apply]
    rfl
  have e2 : val_main_v67 (F := Ideal) x0 x1 x2 (ix2 n j) = dz (w x2) (dm x0) (b x1) (c x1) (u x1) 2 n.val j := by
    have h : val_main_v67 (F := Ideal) x0 x1 x2 (ix2 n j) = (val_main_v66 (F := Ideal) x0 x1 x2 (ix2 n j) * val_main_v4 (F := Ideal) x1 (ix2 n j) : EReal) := by
      unfold val_main_v67
      generalize val_main_v66 (F := Ideal) x0 x1 x2 = y
      generalize val_main_v4 (F := Ideal) x1 = z
      pointwise
      try rw [mul_comm]
    rw [h, dp_apply, c_apply]
    rfl
  generalize hR : dz (w x2) (dm x0) (b x1) (c x1) (u x1) k n.val j = R
  unfold val_main_v73 val_main_v72 val_main_v69 val_main_v70 val_main_v71
  pointwise
  rw [← hR, e0, e1, e2]
  match k with
  | 0 => rfl
  | 1 => rfl
  | 2 => rfl

end Cert.Conv.Ref

end
-- ==== Proof.Conv.Equation.lean ====
module

public import proofs.«01_k».proof.Defs
public import proofs.«01_k».proof.Proof.Conv.Array
public import proofs.«01_k».proof.Proof.Conv.RefValue
public import proofs.«01_k».proof.Proof.Gen.KernelIdeal.Value
public import proofs.«01_k».proof.Proof.Gen.ReferenceIdeal.Run

/-! The short convolution's backward pass: the kernel and the plain gradient end with equal results. -/

@[expose] public section

noncomputable section

namespace Cert.Conv

open Idealize.ShloMosaic Idealize.ShloMosaic.TcCoe Idealize.SL.Sem

/-- The gradient of the three product parts, as an array. -/
def gradZ (x0 : Cert.KernelIdeal.S2048x1024.Idx → EReal) (x1 : Cert.KernelIdeal.S3x2048x1024.Idx → EReal) (x2 : Cert.KernelIdeal.S3x1024.Idx → EReal) :
    Cert.KernelIdeal.S3x2048x1024.Idx → EReal :=
  fun i => dz (fun k j => x2 (ix2 k j)) (row2 x0) (row3 x1 0) (row3 x1 1) (row3 x1 2) (i 0) (i 1).val (i 2)

/-- The gradient of the taps, as an array of eight rows of which three are used. -/
def gradK (x0 : Cert.KernelIdeal.S2048x1024.Idx → EReal) (x1 : Cert.KernelIdeal.S3x2048x1024.Idx → EReal) : Cert.KernelIdeal.S8x1024.Idx → EReal :=
  fun i => if (i 0).val < 3 then dk 2048 (row2 x0) (row3 x1 0) (row3 x1 1) (row3 x1 2) (i 0).val (i 1) else (0 : EReal)

/-- The reference's two results. -/
theorem ref_gradZ (x0 x1 x2) : Cert.ReferenceIdeal.Read.val_main_v73 (F := Ideal) x0 x1 x2 = gradZ x0 x1 x2 := by
  funext i
  have e := Ref.out0_apply x0 x1 x2 (i 0) (i 1) (i 2)
  exact (congrArg (Cert.ReferenceIdeal.Read.val_main_v73 (F := Ideal) x0 x1 x2) (eq_ix3 i)).trans e

theorem ref_gradK (x0 x1) : Cert.ReferenceIdeal.Read.val_main_v74 (F := Ideal) x0 x1 = gradK x0 x1 := by
  funext i
  have e := Ref.out1_apply x0 x1 (i 0) (i 1)
  exact (congrArg (Cert.ReferenceIdeal.Read.val_main_v74 (F := Ideal) x0 x1) (eq_ix2 i)).trans e

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => gradZ (m ((c.tc : Thread _ _).loc Cert.KernelIdeal.main_arg0)) (m ((c.tc : Thread _ _).loc Cert.KernelIdeal.main_arg1)) (m ((c.tc : Thread _ _).loc Cert.KernelIdeal.main_arg2)),
    fun c => gradK (m ((c.tc : Thread _ _).loc Cert.KernelIdeal.main_arg0)) (m ((c.tc : Thread _ _).loc Cert.KernelIdeal.main_arg1)), ?_, ?_⟩
  · refine (θ_run _ _ _).mono (fun r h c => ?_) (Cert.KernelIdeal.Value.run_blocks (F := Ideal) m g)
    obtain ⟨h0, h1, h2, h3, h4⟩ := h c
    exact ⟨h0.trans (arr_dz m c), h1.trans (arr_dk m c), h2, h3, h4⟩
  · refine (θ_run _ _ _).mono (fun r h c => ?_) (Cert.ReferenceIdeal.Value.run (F := Ideal) m' g')
    obtain ⟨h0, h1, h2, h3, h4⟩ := h c
    obtain ⟨a0, a1, a2⟩ := hagree c
    refine ⟨h0.trans ?_, h1.trans ?_, h2, h3, h4⟩
    · rw [Cert.ReferenceIdeal.Read.val_main_v73_eq, ref_gradZ, a0, a1, a2]
    · rw [Cert.ReferenceIdeal.Read.val_main_v74_eq, ref_gradK, a0, a1]

end Cert.Conv

end
-- ==== Proof.Finite.lean ====
module

public import Idealize.ShloMosaic.PureOps.Ideal
public import Idealize.ShloMosaic.PureOps.Ideal.Laws

/-! Extended reals that are real numbers: closed under sums, products and differences, and what the test
    "the magnitude is less than infinity" says. -/

@[expose] public section

noncomputable section

namespace Cert

open Idealize.ShloMosaic

/-- The extended real is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type*} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih

/-- A family of real numbers is the coercion of a real family. -/
theorem IsReal.choose_fun {ι : Type*} {f : ι → EReal} (h : ∀ i, IsReal (f i)) : ∃ g : ι → ℝ, f = fun i => (g i : EReal) :=
  ⟨fun i => (h i).choose, funext fun i => (h i).choose_spec⟩

/-- A sum of coerced reals is the coerced sum. -/
theorem coe_sum {ι : Type*} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- A value whose magnitude is below infinity is a real number. -/
theorem IsReal.of_abs_lt {x : EReal} (h : max x (-x) < ⊤) : IsReal x := by
  induction x using EReal.rec with
  | bot => exact absurd h (by simp)
  | coe r => exact ⟨r, rfl⟩
  | top => exact absurd h (by simp)

/-- The word of infinity. -/
theorem ofBits_inf : Ideal.ofBits .f32 0x7F800000#32 = (⊤ : EReal) := by
  simp [Ideal.ofBits, Ideal.ieee]

/-- The test `|x| < ∞`, as a bit that is one, says that `x` is a real number. -/
theorem IsReal.of_test {x : EReal} (h : BitVec.ofBool (decide (FloatOps.absf (F := Ideal) (φ := .f32) x < Ideal.ofBits .f32 0x7F800000#32)) = 1#1) : IsReal x := by
  rw [ofBits_inf] at h
  refine IsReal.of_abs_lt ?_
  by_contra hn
  rw [decide_eq_false (by exact hn)] at h
  exact absurd h (by decide)

end Cert

end
-- ==== Proof.Gate.Swiglu.lean ====
module

public import proofs.«01_k».proof.Proof.Finite

/-! The derivative of the gate `g · σ(g)`, in the two ways in which it is written. -/

@[expose] public section

noncomputable section

namespace Cert.Gate

open Idealize.ShloMosaic

/-- The kernel's factored derivative of `g · σ(g)`, times `d · u`, is the sum that the chain rule writes. The gate may be
    infinite: there `σ` is 0 or 1 and kills the factor that is infinite. -/
theorem silu_grad {t : EReal} (ht : IsReal t) (g : EReal) :
    t * (Ideal.logistic g * (1 + g * (1 - Ideal.logistic g))) =
      t * Ideal.logistic g + g * t * (Ideal.logistic g * (1 - Ideal.logistic g)) := by
  obtain ⟨a, rfl⟩ := ht
  induction g using EReal.rec with
  | bot => rw [Ideal.logistic_bot]; simp
  | coe r =>
    rw [Ideal.logistic_coe]
    generalize (1 + Real.exp (-r))⁻¹ = s
    norm_cast
    ring_nf
  | top =>
    rw [Ideal.logistic_top]
    have h : (1 : EReal) - 1 = 0 := by
      rw [← EReal.coe_one, ← EReal.coe_sub, sub_self, EReal.coe_zero]
    rw [h]
    simp

end Cert.Gate

end
-- ==== Proof.Gate.FfnDa.lean ====
module

public import proofs.«01_k».proof.Defs
public import proofs.«01_k».proof.Proof.Gate.Swiglu
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.Pre_finite_ffn_da
public import Idealize.ShloMosaic.Lib.Pointwise
public import Idealize.ShloMosaic.Lib.Pipeline.ValueKit

/-! The gradient of the feed-forward part's gate: the kernel's tiles of both results are those of the plain gradient. -/

@[expose] public section

set_option maxRecDepth 16384

noncomputable section

namespace Cert.Gate

open Cert.FfnDaIdeal Cert.FfnDaIdeal.Gen Idealize.ShloMosaic Idealize.ShloMosaic.TcCoe Idealize.SL.Sem

/-- The gradient of `(silu g · u) · w` to `silu g · u`: the product of `dx` with the transpose of `w`. -/
def da (dx : S2048x1024.Idx → EReal) (w : S3072x1024.Idx → EReal) (r : Fin 2048) (f : Fin 3072) : EReal :=
  ∑ k : Fin 1024, dx (ix2 r k) * w (ix2 f k)

/-- The gradient to the gate `g`, as an array. -/
def dgate (dx : S2048x1024.Idx → EReal) (w : S3072x1024.Idx → EReal) (g u : S2048x3072.Idx → EReal) : S2048x3072.Idx → EReal := fun i =>
  da dx w (i 0) (i 1) * u i * (Ideal.logistic (g i) * (1 + g i * (1 - Ideal.logistic (g i))))

/-- The gradient to `u`, as an array. -/
def dup (dx : S2048x1024.Idx → EReal) (w : S3072x1024.Idx → EReal) (g : S2048x3072.Idx → EReal) : S2048x3072.Idx → EReal := fun i =>
  da dx w (i 0) (i 1) * (g i * Ideal.logistic (g i))

section

variable (x : Vec Ideal S1024x1024 .bf16) (w : Vec Ideal S768x1024 .bf16) (g u : Vec Ideal S1024x768 .bf16)

/-- One grid point's two results. -/
theorem block_gate (r : Fin 1024) (j : Fin 768) : k0_pay4 (F := Ideal) x w g u (ix2 r j) =
    (∑ k : Fin 1024, x (ix2 r k) * w (ix2 j k)) * u (ix2 r j) *
      (Ideal.logistic (g (ix2 r j)) * (1 + g (ix2 r j) * (1 - Ideal.logistic (g (ix2 r j))))) := by
  unfold k0_pay4 k0_pay3 k0_pay2 k0_pay1
  pointwise

theorem block_up (r : Fin 1024) (j : Fin 768) : k0_pay5 (F := Ideal) x w g (ix2 r j) =
    (∑ k : Fin 1024, x (ix2 r k) * w (ix2 j k)) * (g (ix2 r j) * Ideal.logistic (g (ix2 r j))) := by
  unfold k0_pay5 k0_pay3 k0_pay2 k0_pay1
  pointwise

theorem out_gate : out0_4 (F := Ideal) x w g u = k0_pay4 x w g u := by
  have hz : (![0, 0] : Fin 2 → ℕ) = fun _ => 0 := by decide
  unfold out0_4
  rw [View.canon_unit_zero hz, View.ld_unit_zero hz, View.ld_unit_zero hz, View.ld_unit_zero hz, View.ld_unit_zero hz]

theorem out_up : out0_5 (F := Ideal) x w g u = k0_pay5 x w g := by
  have hz : (![0, 0] : Fin 2 → ℕ) = fun _ => 0 := by decide
  unfold out0_5
  rw [View.canon_unit_zero hz, View.ld_unit_zero hz, View.ld_unit_zero hz, View.ld_unit_zero hz]

end

variable (m : (ℓ : Loc nD τ sig) → Buf (Elt Ideal) ℓ)

/-- The block that each window takes at a grid point: two stretches of rows by four of columns. -/
theorem idx0 : ∀ t : Fin cfg0.N, win0_0.index t = ![t.val / 4, 0] := (by decide +kernel : ∀ t : Fin grid0.N, win0_0.index t = ![t.val / 4, 0])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, t.val % 4] := (by decide +kernel : ∀ t : Fin grid0.N, win0_2.index t = ![t.val / 4, t.val % 4])
theorem idx3 : ∀ t : Fin cfg0.N, win0_3.index t = ![t.val / 4, t.val % 4] := (by decide +kernel : ∀ t : Fin grid0.N, win0_3.index t = ![t.val / 4, t.val % 4])
theorem idx4 : ∀ t : Fin cfg0.N, win0_4.index t = ![t.val / 4, t.val % 4] := (by decide +kernel : ∀ t : Fin grid0.N, win0_4.index t = ![t.val / 4, t.val % 4])
theorem idx5 : ∀ t : Fin cfg0.N, win0_5.index t = ![t.val / 4, t.val % 4] := (by decide +kernel : ∀ t : Fin grid0.N, win0_5.index t = ![t.val / 4, t.val % 4])

/-- The first result array is the gradient to the gate. -/
theorem arr_gate (c : Dev nD) : (dats m 0 c).arrAt 4 cfg0.N =
    dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4, out_gate]
  have e := block_gate (iblk m c 0 t) (iblk m c 1 t) (iblk m c 2 t) (iblk m c 3 t) (y 0) (y 1)
  refine (congrArg (k0_pay4 (F := Ideal) _ _ _ _) (eq_ix2 (n0 := 1024) (n1 := 768) y)).trans (e.trans ?_)
  unfold dgate da
  refine congrArg₂ (· * ·) (congrArg₂ (· * ·) (Finset.sum_congr rfl fun k _ => congrArg₂ (· * ·) ?_ ?_) ?_)
    (congrArg (fun g : EReal => Ideal.logistic g * (1 + g * (1 - Ideal.logistic g))) ?_)
  · rw [← V_main_arg0 m c]
    blk_ext [iblk, idx0 t, idx4 t]
  · rw [← V_main_arg1 m c]
    blk_ext [iblk, idx1 t, idx4 t]
  · rw [← V_main_arg3 m c]
    blk_ext [iblk, idx3 t, idx4 t]
  · rw [← V_main_arg2 m c]
    blk_ext [iblk, idx2 t, idx4 t]

/-- The second result array is the gradient to `u`. -/
theorem arr_up (c : Dev nD) : (dats m 0 c).arrAt 5 cfg0.N =
    dup (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [after0_5, out_up]
  have e := block_up (iblk m c 0 t) (iblk m c 1 t) (iblk m c 2 t) (y 0) (y 1)
  refine (congrArg (k0_pay5 (F := Ideal) _ _ _) (eq_ix2 (n0 := 1024) (n1 := 768) y)).trans (e.trans ?_)
  unfold dup da
  refine congrArg₂ (· * ·) (Finset.sum_congr rfl fun k _ => congrArg₂ (· * ·) ?_ ?_) (congrArg (fun g : EReal => g * Ideal.logistic g) ?_)
  · rw [← V_main_arg0 m c]
    blk_ext [iblk, idx0 t, idx5 t]
  · rw [← V_main_arg1 m c]
    blk_ext [iblk, idx1 t, idx5 t]
  · rw [← V_main_arg2 m c]
    blk_ext [iblk, idx2 t, idx5 t]

section

open Cert.FfnDaRefIdeal.Read

variable (x0 : (⟨Cert.FfnDaRefIdeal.S2048x1024, .bf16⟩ : BufTy).Contents (Elt Ideal)) (x1 : (⟨Cert.FfnDaRefIdeal.S3072x1024, .bf16⟩ : BufTy).Contents (Elt Ideal))
  (x2 x3 : (⟨Cert.FfnDaRefIdeal.S2048x3072, .bf16⟩ : BufTy).Contents (Elt Ideal))

theorem ref_sigmoid (r : Fin 2048) (j : Fin 3072) : val_main_v3_2 (F := Ideal) x2 (ix2 r j) = Ideal.logistic (x2 (ix2 r j)) := by
  unfold val_main_v3_2 val_main_call0_v4 val_main_call0_v3 val_main_call0_v2 val_main_call0_v1 val_main_call0_v0 val_main_call0_cst_0 val_main_call0_cst val_main_v1
  pointwise
  rfl

theorem ref_da (r : Fin 2048) (j : Fin 3072) : val_main_v7 (F := Ideal) x0 x1 (ix2 r j) = da x0 x1 r j := by
  unfold val_main_v7 val_main_v6 val_main_v0 da
  pointwise

/-- The reference's gradient to the gate, where the gradient to `silu g · u` and `u` are real numbers. -/
theorem ref_gate (h0 : ∀ i, IsReal (x0 i)) (h1 : ∀ i, IsReal (x1 i)) (h3 : ∀ i, IsReal (x3 i)) :
    val_main_v11 (F := Ideal) x0 x1 x2 x3 = dgate x0 x1 x2 x3 := by
  funext i
  refine (congrArg (val_main_v11 (F := Ideal) x0 x1 x2 x3) (eq_ix2 i)).trans (Eq.trans ?_ (congrArg (dgate x0 x1 x2 x3) (eq_ix2 i)).symm)
  generalize (i 0 : Fin 2048) = r
  generalize (i 1 : Fin 3072) = j
  have hs := ref_sigmoid x2 r j
  have hd := ref_da x0 x1 r j
  have hreal : IsReal (da x0 x1 r j * x3 (ix2 r j)) := (IsReal.sum _ fun k => (h0 _).mul (h1 _)).mul (h3 _)
  refine Eq.trans ?_ (silu_grad hreal (x2 (ix2 r j))).symm
  rw [← hs, ← hd]
  generalize hy7 : val_main_v7 (F := Ideal) x0 x1 = y7
  generalize hys : val_main_v3_2 (F := Ideal) x2 = ys
  unfold val_main_v11 val_main_v10 val_main_call1_v2 val_main_call1_v1 val_main_call1_v0 val_main_v9 val_main_v2 val_main_v1 val_main_v3_1 val_main_call0_v7 val_main_call0_v6 val_main_call0_cst_1
  rw [hy7, hys]
  pointwise

/-- The reference's gradient to `u`. -/
theorem ref_up : val_main_v12 (F := Ideal) x0 x1 x2 = dup x0 x1 x2 := by
  funext i
  refine (congrArg (val_main_v12 (F := Ideal) x0 x1 x2) (eq_ix2 i)).trans (Eq.trans ?_ (congrArg (dup x0 x1 x2) (eq_ix2 i)).symm)
  generalize (i 0 : Fin 2048) = r
  generalize (i 1 : Fin 3072) = j
  have hs := ref_sigmoid x2 r j
  have hd := ref_da x0 x1 r j
  show _ = da x0 x1 r j * (x2 (ix2 r j) * Ideal.logistic (x2 (ix2 r j)))
  rw [← hs, ← hd]
  generalize hy7 : val_main_v7 (F := Ideal) x0 x1 = y7
  generalize hys : val_main_v3_2 (F := Ideal) x2 = ys
  unfold val_main_v12 val_main_v8 val_main_v3_0 val_main_v1
  rw [hy7, hys]
  pointwise
  exact mul_comm _ _

end

section

variable {x0 : FVec Ideal Cert.Pre_finite_ffn_da.S2048x1024 .bf16} {x1 : FVec Ideal Cert.Pre_finite_ffn_da.S3072x1024 .bf16}
  {x2 x3 : FVec Ideal Cert.Pre_finite_ffn_da.S2048x3072 .bf16}

/-- What the precondition says of each of its three arguments. -/
theorem real0 (h : (Cert.Pre_finite_ffn_da.fn (F := Ideal) x0 x1 x2 x3).1 = fun _ => 1#1) (i) : IsReal (x0 i) := by
  have e := congrFun h i
  rw [eq_ix2 i] at e
  unfold Cert.Pre_finite_ffn_da.fn at e
  pointwise at e
  exact IsReal.of_test e

theorem real1 (h : (Cert.Pre_finite_ffn_da.fn (F := Ideal) x0 x1 x2 x3).2.1 = fun _ => 1#1) (i) : IsReal (x1 i) := by
  have e := congrFun h i
  rw [eq_ix2 i] at e
  unfold Cert.Pre_finite_ffn_da.fn at e
  pointwise at e
  exact IsReal.of_test e

theorem real3 (h : (Cert.Pre_finite_ffn_da.fn (F := Ideal) x0 x1 x2 x3).2.2 = fun _ => 1#1) (i) : IsReal (x3 i) := by
  have e := congrFun h i
  rw [eq_ix2 i] at e
  unfold Cert.Pre_finite_ffn_da.fn at e
  pointwise at e
  exact IsReal.of_test e

end

theorem algebraic : Cert.algebraic_FfnDaIdeal_FfnDaRefIdeal_pre_finite_ffn_da (hFfnDaIdeal := Cert.FfnDaIdeal.Gen.facts)
    (hFfnDaRefIdeal := Cert.FfnDaRefIdeal.Gen.facts) (hPre_finite_ffn_da := Cert.Pre_finite_ffn_da.Gen.facts) := by
  intro m g m' g' hpre hagree
  refine ⟨fun c => dgate (m ((c.tc : Thread _ _).loc main_arg0)) (m ((c.tc : Thread _ _).loc main_arg1)) (m ((c.tc : Thread _ _).loc main_arg2)) (m ((c.tc : Thread _ _).loc main_arg3)),
    fun c => dup (m ((c.tc : Thread _ _).loc main_arg0)) (m ((c.tc : Thread _ _).loc main_arg1)) (m ((c.tc : Thread _ _).loc main_arg2)), ?_, ?_⟩
  · refine (θ_run _ _ _).mono (fun r h c => ?_) (Cert.FfnDaIdeal.Value.run_blocks (F := Ideal) m g)
    obtain ⟨h0, h1, h2, h3, h4, h5⟩ := h c
    exact ⟨h0.trans (arr_gate m c), h1.trans (arr_up m c), h2, h3, h4, h5⟩
  · refine (θ_run _ _ _).mono (fun r h c => ?_) (Cert.FfnDaRefIdeal.Value.run (F := Ideal) m' g')
    obtain ⟨h0, h1, h2, h3, h4, h5⟩ := h c
    obtain ⟨a0, a1, a2, a3⟩ := hagree c
    obtain ⟨p0, p1, p3⟩ := hpre c
    refine ⟨h0.trans ?_, h1.trans ?_, h2, h3, h4, h5⟩
    · rw [Cert.FfnDaRefIdeal.Read.val_main_v11_eq, a0, a1, a2, a3]
      exact ref_gate _ _ _ _ (real0 p0) (real1 p1) (real3 p3)
    · rw [Cert.FfnDaRefIdeal.Read.val_main_v12_eq, ref_up, a0, a1, a2]

end Cert.Gate

end
-- ==== Proof.Product.MixDact.lean ====
module

public import proofs.«01_k».proof.Defs
public import proofs.«01_k».proof.Proof.Gen.MixDactIdeal.Value
public import proofs.«01_k».proof.Proof.Gen.MixDactRefIdeal.Run
public import proofs.«01_k».proof.Proof.Gen.MixDactRefIdeal.Read
public import Idealize.ShloMosaic.Lib.Pointwise
public import Idealize.ShloMosaic.Lib.Pipeline.ValueKit

/-! The gradient of a convolution mixer's last product to its left factor: the kernel's tiled product is the plain one. -/

@[expose] public section

set_option maxRecDepth 16384

noncomputable section

namespace Cert.Product.MixDact

open Cert.MixDactIdeal Cert.MixDactIdeal.Gen Idealize.ShloMosaic Idealize.ShloMosaic.TcCoe Idealize.SL.Sem

/-- The product of `x` with the transpose of `w`: row `i 0` of `x` against row `i 1` of `w`. -/
def product (x : S2048x1024.Idx → EReal) (w : S1024x1024.Idx → EReal) : S2048x1024.Idx → EReal :=
  fun i => ∑ k : Fin 1024, x (ix2 (i 0) k) * w (ix2 (i 1) k)

/-- One grid point's product of its blocks. -/
theorem block (x : Vec Ideal S1024x1024 .bf16) (w : Vec Ideal S1024x1024 .bf16) (r j : Fin 1024) :
    k0_pay1 (F := Ideal) x w (ix2 r j) = ∑ k : Fin 1024, x (ix2 r k) * w (ix2 j k) := by
  unfold k0_pay1
  pointwise!

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- What a point leaves in its output block is the product of its two input blocks. -/
theorem out_eq (x : Vec Ideal S1024x1024 .bf16) (w : Vec Ideal S1024x1024 .bf16) : out0_2 (F := Ideal) x w = k0_pay1 x w := by
  have hz : (![0, 0] : Fin 2 → ℕ) = fun _ => 0 := by decide
  unfold out0_2
  rw [View.canon_unit_zero hz, View.ld_unit_zero hz, View.ld_unit_zero hz]

/-- The result array is the product of the two argument arrays. -/
theorem arr (c : Dev nD) : (dats m 0 c).arrAt 2 cfg0.N =
    product (m ((c : Thread nD τ).loc main_arg0)) (m ((c : Thread nD τ).loc main_arg1)) := by
  refine (dats m 0 c).arrAt_eq_of_covers 2 _ (by decide +kernel) fun t hf y => ?_
  rw [after0_2, out_eq]
  have e := block (iblk m c 0 t) (iblk m c 1 t) (y 0) (y 1)
  refine (congrArg (k0_pay1 (F := Ideal) _ _) (eq_ix2 (n0 := 1024) (n1 := 1024) y)).trans (e.trans ?_)
  unfold product
  refine Finset.sum_congr rfl fun k _ => congrArg₂ (· * ·) ?_ ?_
  · rw [← V_main_arg0 m c]
    blk_ext [iblk, idx0 t, idx2 t]
  · rw [← V_main_arg1 m c]
    blk_ext [iblk, idx1 t, idx2 t]

/-- The reference's result. -/
theorem ref_eq (x0 : (⟨Cert.MixDactRefIdeal.S2048x1024, .bf16⟩ : BufTy).Contents (Elt Ideal)) (x1 : (⟨Cert.MixDactRefIdeal.S1024x1024, .bf16⟩ : BufTy).Contents (Elt Ideal)) :
    Cert.MixDactRefIdeal.Read.val_main_v4 (F := Ideal) x0 x1 = product x0 x1 := by
  funext i
  refine (congrArg (Cert.MixDactRefIdeal.Read.val_main_v4 (F := Ideal) x0 x1) (eq_ix2 i)).trans ?_
  unfold product
  generalize (i 0 : Fin 2048) = r
  generalize (i 1 : Fin 1024) = j
  unfold Cert.MixDactRefIdeal.Read.val_main_v4 Cert.MixDactRefIdeal.Read.val_main_v3 Cert.MixDactRefIdeal.Read.val_main_v0
  pointwise!

theorem algebraic : Cert.algebraic_MixDactIdeal_MixDactRefIdeal (hMixDactIdeal := Cert.MixDactIdeal.Gen.facts) (hMixDactRefIdeal := Cert.MixDactRefIdeal.Gen.facts) := by
  intro m g m' g' _ hagree
  refine ⟨fun c => product (m ((c.tc : Thread _ _).loc main_arg0)) (m ((c.tc : Thread _ _).loc main_arg1)), ?_, ?_⟩
  · refine (θ_run _ _ _).mono (fun r h c => ?_) (Cert.MixDactIdeal.Value.run_blocks (F := Ideal) m g)
    obtain ⟨h0, h1, h2⟩ := h c
    exact ⟨h0.trans (arr m c), h1, h2⟩
  · refine (θ_run _ _ _).mono (fun r h c => ?_) (Cert.MixDactRefIdeal.Value.run (F := Ideal) m' g')
    obtain ⟨h0, h1, h2⟩ := h c
    obtain ⟨a0, a1⟩ := hagree c
    refine ⟨h0.trans ?_, h1, h2⟩
    rw [Cert.MixDactRefIdeal.Read.val_main_v4_eq, ref_eq, a0, a1]

end Cert.Product.MixDact

end
-- ==== Proof.Product.AttnDact.lean ====
module

public import proofs.«01_k».proof.Defs
public import proofs.«01_k».proof.Proof.Gen.AttnDactIdeal.Value
public import proofs.«01_k».proof.Proof.Gen.AttnDactRefIdeal.Run
public import proofs.«01_k».proof.Proof.Gen.AttnDactRefIdeal.Read
public import Idealize.ShloMosaic.Lib.Pointwise
public import Idealize.ShloMosaic.Lib.Pipeline.ValueKit

/-! The gradient of an attention mixer's last product to its left factor, ended in bf16: the kernel's tiled product is the plain one. -/

@[expose] public section

set_option maxRecDepth 16384

noncomputable section

namespace Cert.Product.AttnDact

open Cert.AttnDactIdeal Cert.AttnDactIdeal.Gen Idealize.ShloMosaic Idealize.ShloMosaic.TcCoe Idealize.SL.Sem

/-- The product of `x` with the transpose of `w`: row `i 0` of `x` against row `i 1` of `w`. -/
def product (x : S2048x1024.Idx → EReal) (w : S1024x1024.Idx → EReal) : S2048x1024.Idx → EReal :=
  fun i => ∑ k : Fin 1024, x (ix2 (i 0) k) * w (ix2 (i 1) k)

/-- One grid point's product of its blocks. -/
theorem block (x : Vec Ideal S1024x1024 .bf16) (w : Vec Ideal S1024x1024 .bf16) (r j : Fin 1024) :
    k0_pay1 (F := Ideal) x w (ix2 r j) = ∑ k : Fin 1024, x (ix2 r k) * w (ix2 j k) := by
  unfold k0_pay1
  pointwise!

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- What a point leaves in its output block is the product of its two input blocks. -/
theorem out_eq (x : Vec Ideal S1024x1024 .bf16) (w : Vec Ideal S1024x1024 .bf16) : out0_2 (F := Ideal) x w = k0_pay1 x w := by
  have hz : (![0, 0] : Fin 2 → ℕ) = fun _ => 0 := by decide
  unfold out0_2
  rw [View.canon_unit_zero hz, View.ld_unit_zero hz, View.ld_unit_zero hz]

/-- The result array is the product of the two argument arrays. -/
theorem arr (c : Dev nD) : (dats m 0 c).arrAt 2 cfg0.N =
    product (m ((c : Thread nD τ).loc main_arg0)) (m ((c : Thread nD τ).loc main_arg1)) := by
  refine (dats m 0 c).arrAt_eq_of_covers 2 _ (by decide +kernel) fun t hf y => ?_
  rw [after0_2, out_eq]
  have e := block (iblk m c 0 t) (iblk m c 1 t) (y 0) (y 1)
  refine (congrArg (k0_pay1 (F := Ideal) _ _) (eq_ix2 (n0 := 1024) (n1 := 1024) y)).trans (e.trans ?_)
  unfold product
  refine Finset.sum_congr rfl fun k _ => congrArg₂ (· * ·) ?_ ?_
  · rw [← V_main_arg0 m c]
    blk_ext [iblk, idx0 t, idx2 t]
  · rw [← V_main_arg1 m c]
    blk_ext [iblk, idx1 t, idx2 t]

/-- The reference's result. -/
theorem ref_eq (x0 : (⟨Cert.AttnDactRefIdeal.S2048x1024, .bf16⟩ : BufTy).Contents (Elt Ideal)) (x1 : (⟨Cert.AttnDactRefIdeal.S1024x1024, .bf16⟩ : BufTy).Contents (Elt Ideal)) :
    Cert.AttnDactRefIdeal.Read.val_main_v5 (F := Ideal) x0 x1 = product x0 x1 := by
  funext i
  refine (congrArg (Cert.AttnDactRefIdeal.Read.val_main_v5 (F := Ideal) x0 x1) (eq_ix2 i)).trans ?_
  unfold product
  generalize (i 0 : Fin 2048) = r
  generalize (i 1 : Fin 1024) = j
  unfold Cert.AttnDactRefIdeal.Read.val_main_v5 Cert.AttnDactRefIdeal.Read.val_main_v4 Cert.AttnDactRefIdeal.Read.val_main_v3 Cert.AttnDactRefIdeal.Read.val_main_v0
  pointwise!

theorem algebraic : Cert.algebraic_AttnDactIdeal_AttnDactRefIdeal (hAttnDactIdeal := Cert.AttnDactIdeal.Gen.facts) (hAttnDactRefIdeal := Cert.AttnDactRefIdeal.Gen.facts) := by
  intro m g m' g' _ hagree
  refine ⟨fun c => product (m ((c.tc : Thread _ _).loc main_arg0)) (m ((c.tc : Thread _ _).loc main_arg1)), ?_, ?_⟩
  · refine (θ_run _ _ _).mono (fun r h c => ?_) (Cert.AttnDactIdeal.Value.run_blocks (F := Ideal) m g)
    obtain ⟨h0, h1, h2⟩ := h c
    exact ⟨h0.trans (arr m c), h1, h2⟩
  · refine (θ_run _ _ _).mono (fun r h c => ?_) (Cert.AttnDactRefIdeal.Value.run (F := Ideal) m' g')
    obtain ⟨h0, h1, h2⟩ := h c
    obtain ⟨a0, a1⟩ := hagree c
    refine ⟨h0.trans ?_, h1, h2⟩
    rw [Cert.AttnDactRefIdeal.Read.val_main_v5_eq, ref_eq, a0, a1]

end Cert.Product.AttnDact

end
-- ==== Proof.Product.MixOut.lean ====
module

public import proofs.«01_k».proof.Defs
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pointwise
public import Idealize.ShloMosaic.Lib.Pipeline.ValueKit

/-! A mixer's last product, added to the residual stream: the kernel's sum over stretches of columns is the plain product. -/

@[expose] public section

set_option maxRecDepth 16384

noncomputable section

namespace Cert.Product.MixOut

open Cert.MixOutIdeal Cert.MixOutIdeal.Gen Idealize.ShloMosaic Idealize.ShloMosaic.TcCoe Idealize.SL.Sem

/-- The residual stream `x` plus the product of `a` and `w`. -/
def added (a : S2048x1024.Idx → EReal) (w : S1024x1024.Idx → EReal) (x : S2048x1024.Idx → EReal) : S2048x1024.Idx → EReal :=
  fun i => x i + ∑ k : Fin 1024, a (ix2 (i 0) k) * w (ix2 k (i 1))

/-- One grid point's sum over its two stretches of 512 columns. -/
theorem block (a0 : Vec Ideal S1024x512 .bf16) (a1 : Vec Ideal S1024x512 .bf16) (w0 : Vec Ideal S512x1024 .bf16) (w1 : Vec Ideal S512x1024 .bf16) (x : Vec Ideal S1024x1024 .f32) (r : Fin 1024) (j : Fin 1024) :
    k0_pay1 (F := Ideal) x a0 w0 a1 w1 (ix2 r j) = x (ix2 r j) + ((∑ k : Fin 512, a0 (ix2 r k) * w0 (ix2 k j)) + (∑ k : Fin 512, a1 (ix2 r k) * w1 (ix2 k j))) := by
  unfold k0_pay1
  pointwise!

variable (m : (ℓ : Loc nD τ sig) → Buf (Elt Ideal) ℓ)

/-- The block that each window takes at a grid point. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 1] := (by decide +kernel : ∀ t : Fin grid0.N, win0_1.index t = ![t.val, 1])
theorem idx2 : ∀ t : Fin cfg0.N, win0_2.index t = ![0, 0] := (by decide +kernel : ∀ t : Fin grid0.N, win0_2.index t = ![0, 0])
theorem idx3 : ∀ t : Fin cfg0.N, win0_3.index t = ![1, 0] := (by decide +kernel : ∀ t : Fin grid0.N, win0_3.index t = ![1, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

/-- What a point leaves in its output block is the payload of its input blocks. -/
theorem out_eq (a0 : Vec Ideal S1024x512 .bf16) (a1 : Vec Ideal S1024x512 .bf16) (w0 : Vec Ideal S512x1024 .bf16) (w1 : Vec Ideal S512x1024 .bf16) (x : Vec Ideal S1024x1024 .f32) : out0_5 (F := Ideal) a0 a1 w0 w1 x = k0_pay1 x a0 w0 a1 w1 := by
  have hz : (![0, 0] : Fin 2 → ℕ) = fun _ => 0 := by decide
  unfold out0_5
  rw [View.canon_unit_zero hz, View.ld_unit_zero hz, View.ld_unit_zero hz, View.ld_unit_zero hz, View.ld_unit_zero hz, View.ld_unit_zero hz]

/-- A sum over the 1024 columns is the sum over its two stretches. -/
theorem stretches (f : Fin 1024 → EReal) : ∑ k, f k = (∑ k : Fin 512, f ⟨0 * 512 + k.val, by omega⟩) + (∑ k : Fin 512, f ⟨1 * 512 + k.val, by omega⟩) := by
  rw [← Fin.sum_mul_add_fin 2 512 f]
  simp only [Fin.sum_univ_two]
  rfl

/-- The result array is the residual stream plus the product of the two argument arrays. -/
theorem arr (c : Dev nD) : (dats m 0 c).arrAt 5 cfg0.N =
    added (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [after0_5, out_eq]
  have e := block (iblk m c 0 t) (iblk m c 1 t) (iblk m c 2 t) (iblk m c 3 t) (iblk m c 4 t) (y 0) (y 1)
  refine (congrArg (k0_pay1 (F := Ideal) _ _ _ _ _) (eq_ix2 (n0 := 1024) (n1 := 1024) y)).trans (e.trans ?_)
  unfold added
  rw [stretches]
  refine congrArg₂ (· + ·) ?_ (congrArg₂ (· + ·) ?_ ?_)
  · rw [← V_main_arg2 m c]
    blk_ext [iblk, idx4 t, idx5 t]
  · refine Finset.sum_congr rfl fun k _ => congrArg₂ (· * ·) ?_ ?_
    · rw [← V_main_arg0 m c]
      blk_ext [iblk, idx0 t, idx5 t]
    · rw [← V_main_arg1 m c]
      blk_ext [iblk, idx2 t, idx5 t]
  · refine Finset.sum_congr rfl fun k _ => congrArg₂ (· * ·) ?_ ?_
    · rw [← V_main_arg0 m c]
      blk_ext [iblk, idx1 t, idx5 t]
    · rw [← V_main_arg1 m c]
      blk_ext [iblk, idx3 t, idx5 t]

/-- The reference's result. -/
theorem ref_eq (x0 : (⟨Cert.MixOutRefIdeal.S2048x1024, .bf16⟩ : BufTy).Contents (Elt Ideal)) (x1 : (⟨Cert.MixOutRefIdeal.S1024x1024, .bf16⟩ : BufTy).Contents (Elt Ideal))
    (x2 : (⟨Cert.MixOutRefIdeal.S2048x1024, .f32⟩ : BufTy).Contents (Elt Ideal)) :
    Cert.MixOutRefIdeal.Read.val_main_v3 (F := Ideal) x0 x1 x2 = added x0 x1 x2 := by
  funext i
  refine (congrArg (Cert.MixOutRefIdeal.Read.val_main_v3 (F := Ideal) x0 x1 x2) (eq_ix2 i)).trans (Eq.trans ?_ (congrArg (added x0 x1 x2) (eq_ix2 i)).symm)
  unfold added
  generalize (i 0 : Fin 2048) = r
  generalize (i 1 : Fin 1024) = j
  unfold Cert.MixOutRefIdeal.Read.val_main_v3 Cert.MixOutRefIdeal.Read.val_main_v2 Cert.MixOutRefIdeal.Read.val_main_v1 Cert.MixOutRefIdeal.Read.val_main_v0
  pointwise!

theorem algebraic : Cert.algebraic_MixOutIdeal_MixOutRefIdeal (hMixOutIdeal := Cert.MixOutIdeal.Gen.facts) (hMixOutRefIdeal := Cert.MixOutRefIdeal.Gen.facts) := by
  intro m g m' g' _ hagree
  refine ⟨fun c => added (m ((c.tc : Thread _ _).loc main_arg0)) (m ((c.tc : Thread _ _).loc main_arg1)) (m ((c.tc : Thread _ _).loc main_arg2)), ?_, ?_⟩
  · refine (θ_run _ _ _).mono (fun r h c => ?_) (Cert.MixOutIdeal.Value.run_blocks (F := Ideal) m g)
    obtain ⟨h0, h1, h2, h3⟩ := h c
    exact ⟨h0.trans (arr m c), h1, h2, h3⟩
  · refine (θ_run _ _ _).mono (fun r h c => ?_) (Cert.MixOutRefIdeal.Value.run (F := Ideal) m' g')
    obtain ⟨h0, h1, h2, h3⟩ := h c
    obtain ⟨a0, a1, a2⟩ := hagree c
    refine ⟨h0.trans ?_, h1, h2, h3⟩
    rw [Cert.MixOutRefIdeal.Read.val_main_v3_eq, ref_eq, a0, a1, a2]

end Cert.Product.MixOut

end
-- ==== Proof.Product.FfnDown.lean ====
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pointwise
public import Idealize.ShloMosaic.Lib.Pipeline.ValueKit

/-! The feed-forward part's last product, added to the residual stream: the kernel's sum over stretches of columns is the plain product. -/

@[expose] public section

set_option maxRecDepth 16384

noncomputable section

namespace Cert.Product.FfnDown

open Cert.FfnDownIdeal Cert.FfnDownIdeal.Gen Idealize.ShloMosaic Idealize.ShloMosaic.TcCoe Idealize.SL.Sem

/-- The residual stream `x` plus the product of `a` and `w`. -/
def added (a : S2048x3072.Idx → EReal) (w : S3072x1024.Idx → EReal) (x : S2048x1024.Idx → EReal) : S2048x1024.Idx → EReal :=
  fun i => x i + ∑ k : Fin 3072, a (ix2 (i 0) k) * w (ix2 k (i 1))

/-- One grid point's sum over its six stretches of 512 columns. -/
theorem block (a0 : Vec Ideal S1024x512 .bf16) (a1 : Vec Ideal S1024x512 .bf16) (a2 : Vec Ideal S1024x512 .bf16) (a3 : Vec Ideal S1024x512 .bf16) (a4 : Vec Ideal S1024x512 .bf16) (a5 : Vec Ideal S1024x512 .bf16) (w0 : Vec Ideal S512x512 .bf16) (w1 : Vec Ideal S512x512 .bf16) (w2 : Vec Ideal S512x512 .bf16) (w3 : Vec Ideal S512x512 .bf16) (w4 : Vec Ideal S512x512 .bf16) (w5 : Vec Ideal S512x512 .bf16) (x : Vec Ideal S1024x512 .f32) (r : Fin 1024) (j : Fin 512) :
    k0_pay1 (F := Ideal) x a0 w0 a1 w1 a2 w2 a3 w3 a4 w4 a5 w5 (ix2 r j) = x (ix2 r j) + ((∑ k : Fin 512, a0 (ix2 r k) * w0 (ix2 k j)) + (∑ k : Fin 512, a1 (ix2 r k) * w1 (ix2 k j)) + (∑ k : Fin 512, a2 (ix2 r k) * w2 (ix2 k j)) + (∑ k : Fin 512, a3 (ix2 r k) * w3 (ix2 k j)) + (∑ k : Fin 512, a4 (ix2 r k) * w4 (ix2 k j)) + (∑ k : Fin 512, a5 (ix2 r k) * w5 (ix2 k j))) := by
  unfold k0_pay1
  pointwise!

variable (m : (ℓ : Loc nD τ sig) → Buf (Elt Ideal) ℓ)

/-- The block that each window takes at a grid point. -/
theorem idx0 : ∀ t : Fin cfg0.N, win0_0.index t = ![t.val / 2, 0] := (by decide +kernel : ∀ t : Fin grid0.N, win0_0.index t = ![t.val / 2, 0])
theorem idx1 : ∀ t : Fin cfg0.N, win0_1.index t = ![t.val / 2, 1] := (by decide +kernel : ∀ t : Fin grid0.N, win0_1.index t = ![t.val / 2, 1])
theorem idx2 : ∀ t : Fin cfg0.N, win0_2.index t = ![t.val / 2, 2] := (by decide +kernel : ∀ t : Fin grid0.N, win0_2.index t = ![t.val / 2, 2])
theorem idx3 : ∀ t : Fin cfg0.N, win0_3.index t = ![t.val / 2, 3] := (by decide +kernel : ∀ t : Fin grid0.N, win0_3.index t = ![t.val / 2, 3])
theorem idx4 : ∀ t : Fin cfg0.N, win0_4.index t = ![t.val / 2, 4] := (by decide +kernel : ∀ t : Fin grid0.N, win0_4.index t = ![t.val / 2, 4])
theorem idx5 : ∀ t : Fin cfg0.N, win0_5.index t = ![t.val / 2, 5] := (by decide +kernel : ∀ t : Fin grid0.N, win0_5.index t = ![t.val / 2, 5])
theorem idx6 : ∀ t : Fin cfg0.N, win0_6.index t = ![0, t.val % 2] := (by decide +kernel : ∀ t : Fin grid0.N, win0_6.index t = ![0, t.val % 2])
theorem idx7 : ∀ t : Fin cfg0.N, win0_7.index t = ![1, t.val % 2] := (by decide +kernel : ∀ t : Fin grid0.N, win0_7.index t = ![1, t.val % 2])
theorem idx8 : ∀ t : Fin cfg0.N, win0_8.index t = ![2, t.val % 2] := (by decide +kernel : ∀ t : Fin grid0.N, win0_8.index t = ![2, t.val % 2])
theorem idx9 : ∀ t : Fin cfg0.N, win0_9.index t = ![3, t.val % 2] := (by decide +kernel : ∀ t : Fin grid0.N, win0_9.index t = ![3, t.val % 2])
theorem idx10 : ∀ t : Fin cfg0.N, win0_10.index t = ![4, t.val % 2] := (by decide +kernel : ∀ t : Fin grid0.N, win0_10.index t = ![4, t.val % 2])
theorem idx11 : ∀ t : Fin cfg0.N, win0_11.index t = ![5, t.val % 2] := (by decide +kernel : ∀ t : Fin grid0.N, win0_11.index t = ![5, t.val % 2])
theorem idx12 : ∀ t : Fin cfg0.N, win0_12.index t = ![t.val / 2, t.val % 2] := (by decide +kernel : ∀ t : Fin grid0.N, win0_12.index t = ![t.val / 2, t.val % 2])
theorem idx13 : ∀ t : Fin cfg0.N, win0_13.index t = ![t.val / 2, t.val % 2] := (by decide +kernel : ∀ t : Fin grid0.N, win0_13.index t = ![t.val / 2, t.val % 2])

/-- What a point leaves in its output block is the payload of its input blocks. -/
theorem out_eq (a0 : Vec Ideal S1024x512 .bf16) (a1 : Vec Ideal S1024x512 .bf16) (a2 : Vec Ideal S1024x512 .bf16) (a3 : Vec Ideal S1024x512 .bf16) (a4 : Vec Ideal S1024x512 .bf16) (a5 : Vec Ideal S1024x512 .bf16) (w0 : Vec Ideal S512x512 .bf16) (w1 : Vec Ideal S512x512 .bf16) (w2 : Vec Ideal S512x512 .bf16) (w3 : Vec Ideal S512x512 .bf16) (w4 : Vec Ideal S512x512 .bf16) (w5 : Vec Ideal S512x512 .bf16) (x : Vec Ideal S1024x512 .f32) : out0_13 (F := Ideal) a0 a1 a2 a3 a4 a5 w0 w1 w2 w3 w4 w5 x = k0_pay1 x a0 w0 a1 w1 a2 w2 a3 w3 a4 w4 a5 w5 := by
  have hz : (![0, 0] : Fin 2 → ℕ) = fun _ => 0 := by decide
  unfold out0_13
  rw [View.canon_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz, View.ld_unit_zero hz]

/-- A sum over the 3072 columns is the sum over its six stretches. -/
theorem stretches (f : Fin 3072 → EReal) : ∑ k, f k = (∑ k : Fin 512, f ⟨0 * 512 + k.val, by omega⟩) + (∑ k : Fin 512, f ⟨1 * 512 + k.val, by omega⟩) + (∑ k : Fin 512, f ⟨2 * 512 + k.val, by omega⟩) + (∑ k : Fin 512, f ⟨3 * 512 + k.val, by omega⟩) + (∑ k : Fin 512, f ⟨4 * 512 + k.val, by omega⟩) + (∑ k : Fin 512, f ⟨5 * 512 + k.val, by omega⟩) := by
  rw [← Fin.sum_mul_add_fin 6 512 f]
  simp only [Fin.sum_univ_six]
  rfl

/-- The result array is the residual stream plus the product of the two argument arrays. -/
theorem arr (c : Dev nD) : (dats m 0 c).arrAt 13 cfg0.N =
    added (m ((c : Thread nD τ).loc main_arg0)) (m ((c : Thread nD τ).loc main_arg1)) (m ((c : Thread nD τ).loc main_arg2)) := by
  refine (dats m 0 c).arrAt_eq_of_covers 13 _ (by decide +kernel) fun t hf y => ?_
  rw [after0_13, out_eq]
  have e := block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)
  refine (congrArg (k0_pay1 (F := Ideal) _ _ _ _ _ _ _ _ _ _ _ _ _) (eq_ix2 (n0 := 1024) (n1 := 512) y)).trans (e.trans ?_)
  unfold added
  rw [stretches]
  refine congrArg₂ (· + ·) ?_ (congrArg₂ (· + ·) (congrArg₂ (· + ·) (congrArg₂ (· + ·) (congrArg₂ (· + ·) (congrArg₂ (· + ·) ?_ ?_) ?_) ?_) ?_) ?_)
  · rw [← V_main_arg2 m c]
    blk_ext [iblk, idx12 t, idx13 t]
  · refine Finset.sum_congr rfl fun k _ => congrArg₂ (· * ·) ?_ ?_
    · rw [← V_main_arg0 m c]
      blk_ext [iblk, idx0 t, idx13 t]
    · rw [← V_main_arg1 m c]
      blk_ext [iblk, idx6 t, idx13 t]
  · refine Finset.sum_congr rfl fun k _ => congrArg₂ (· * ·) ?_ ?_
    · rw [← V_main_arg0 m c]
      blk_ext [iblk, idx1 t, idx13 t]
    · rw [← V_main_arg1 m c]
      blk_ext [iblk, idx7 t, idx13 t]
  · refine Finset.sum_congr rfl fun k _ => congrArg₂ (· * ·) ?_ ?_
    · rw [← V_main_arg0 m c]
      blk_ext [iblk, idx2 t, idx13 t]
    · rw [← V_main_arg1 m c]
      blk_ext [iblk, idx8 t, idx13 t]
  · refine Finset.sum_congr rfl fun k _ => congrArg₂ (· * ·) ?_ ?_
    · rw [← V_main_arg0 m c]
      blk_ext [iblk, idx3 t, idx13 t]
    · rw [← V_main_arg1 m c]
      blk_ext [iblk, idx9 t, idx13 t]
  · refine Finset.sum_congr rfl fun k _ => congrArg₂ (· * ·) ?_ ?_
    · rw [← V_main_arg0 m c]
      blk_ext [iblk, idx4 t, idx13 t]
    · rw [← V_main_arg1 m c]
      blk_ext [iblk, idx10 t, idx13 t]
  · refine Finset.sum_congr rfl fun k _ => congrArg₂ (· * ·) ?_ ?_
    · rw [← V_main_arg0 m c]
      blk_ext [iblk, idx5 t, idx13 t]
    · rw [← V_main_arg1 m c]
      blk_ext [iblk, idx11 t, idx13 t]

/-- The reference's result. -/
theorem ref_eq (x0 : (⟨Cert.FfnDownRefIdeal.S2048x3072, .bf16⟩ : BufTy).Contents (Elt Ideal)) (x1 : (⟨Cert.FfnDownRefIdeal.S3072x1024, .bf16⟩ : BufTy).Contents (Elt Ideal))
    (x2 : (⟨Cert.FfnDownRefIdeal.S2048x1024, .f32⟩ : BufTy).Contents (Elt Ideal)) :
    Cert.FfnDownRefIdeal.Read.val_main_v3 (F := Ideal) x0 x1 x2 = added x0 x1 x2 := by
  funext i
  refine (congrArg (Cert.FfnDownRefIdeal.Read.val_main_v3 (F := Ideal) x0 x1 x2) (eq_ix2 i)).trans (Eq.trans ?_ (congrArg (added x0 x1 x2) (eq_ix2 i)).symm)
  unfold added
  generalize (i 0 : Fin 2048) = r
  generalize (i 1 : Fin 1024) = j
  unfold Cert.FfnDownRefIdeal.Read.val_main_v3 Cert.FfnDownRefIdeal.Read.val_main_v2 Cert.FfnDownRefIdeal.Read.val_main_v1 Cert.FfnDownRefIdeal.Read.val_main_v0
  pointwise!

theorem algebraic : Cert.algebraic_FfnDownIdeal_FfnDownRefIdeal (hFfnDownIdeal := Cert.FfnDownIdeal.Gen.facts) (hFfnDownRefIdeal := Cert.FfnDownRefIdeal.Gen.facts) := by
  intro m g m' g' _ hagree
  refine ⟨fun c => added (m ((c.tc : Thread _ _).loc main_arg0)) (m ((c.tc : Thread _ _).loc main_arg1)) (m ((c.tc : Thread _ _).loc main_arg2)), ?_, ?_⟩
  · refine (θ_run _ _ _).mono (fun r h c => ?_) (Cert.FfnDownIdeal.Value.run_blocks (F := Ideal) m g)
    obtain ⟨h0, h1, h2, h3⟩ := h c
    exact ⟨h0.trans (arr m c), h1, h2, h3⟩
  · refine (θ_run _ _ _).mono (fun r h c => ?_) (Cert.FfnDownRefIdeal.Value.run (F := Ideal) m' g')
    obtain ⟨h0, h1, h2, h3⟩ := h c
    obtain ⟨a0, a1, a2⟩ := hagree c
    refine ⟨h0.trans ?_, h1, h2, h3⟩
    rw [Cert.FfnDownRefIdeal.Read.val_main_v3_eq, ref_eq, a0, a1, a2]

end Cert.Product.FfnDown

end
-- ==== Proof.Norm.Rows.lean ====
module

public import proofs.«01_k».proof.Proof.Finite

/-! The gradient of a root-mean-square norm at one row, in the two ways in which it is written, and the sums of
    the gain's gradient over the rows. -/

@[expose] public section

noncomputable section

namespace Cert.Norm

open Idealize.ShloMosaic

/-- The length of a row and the norm's ε, as the programs' constants. -/
def len : EReal := Ideal.ofBits .f32 0x44800000#32
def eps : EReal := Ideal.ofBits .f32 0x358637BD#32
/-- The constant −1/2 of the derivative of the reciprocal root. -/
def negHalf : EReal := Ideal.ofBits .f32 0xBF000000#32

theorem len_eq : len = ((1024 : ℝ) : EReal) := by
  unfold len
  simp [Ideal.ofBits, Ideal.ieee, -EReal.coe_mul]
  norm_num

theorem negHalf_eq : negHalf = ((-1 / 2 : ℝ) : EReal) := by
  unfold negHalf
  simp [Ideal.ofBits, Ideal.ieee, -EReal.coe_mul]
  norm_num

theorem eps_eq : ∃ e : ℝ, 0 < e ∧ eps = (e : EReal) := by
  unfold eps
  refine ⟨8796093 * (2 : ℝ) ^ (-43 : ℤ), by positivity, ?_⟩
  simp [Ideal.ofBits, Ideal.ieee, -EReal.coe_mul]

/-- A row's mean square plus ε, and the reciprocal of its root. -/
def var (x : Fin 1024 → EReal) : EReal := Ideal.div (∑ k, x k * x k) len + eps
def rinv (x : Fin 1024 → EReal) : EReal := Ideal.rsqrt (var x)

/-- The gradient at entry `j` of a row `x` under the gain `g`, added to `d`: from the normalised row, with the part along it
    taken away. -/
def gradRow (dh x g : Fin 1024 → EReal) (d : EReal) (j : Fin 1024) : EReal :=
  d + rinv x * (dh j * g j - x j * rinv x * Ideal.div (∑ k, dh k * g k * (x k * rinv x)) len)

/-- What the chain rule gives for the mean square. -/
def gradVar (dh x g : Fin 1024 → EReal) : EReal :=
  Ideal.div ((∑ k, x k * (dh k * g k)) * (negHalf * Ideal.div (rinv x) (var x))) len

/-- The same gradient as the chain rule writes it, through the mean square. -/
def gradChain (dh x g : Fin 1024 → EReal) (d : EReal) (j : Fin 1024) : EReal :=
  d + dh j * g j * rinv x + x j * gradVar dh x g + gradVar dh x g * x j

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal root of a row of real numbers is a positive real number whose square is the reciprocal of the mean square. -/
theorem rinv_coe (a : Fin 1024 → ℝ) : ∃ v r : ℝ, 0 < v ∧ r * r * v = 1 ∧ var (fun k => a k) = (v : EReal) ∧ rinv (fun k => a k) = (r : EReal) := by
  obtain ⟨e, he, hee⟩ := eps_eq
  have hv : 0 < (∑ k, a k * a k) / 1024 + e := by
    have : 0 ≤ ∑ k, a k * a k := Finset.sum_nonneg fun k _ => mul_self_nonneg _
    positivity
  have hvar : var (fun k => a k) = (((∑ k, a k * a k) / 1024 + e : ℝ) : EReal) := by
    unfold var
    rw [hee, len_eq]
    simp only [← EReal.coe_mul]
    rw [coe_sum, div_coe _ _ (by norm_num), ← EReal.coe_add]
  refine ⟨_, (Real.sqrt ((∑ k, a k * a k) / 1024 + e))⁻¹, hv, ?_, hvar, ?_⟩
  · have h := Real.mul_self_sqrt hv.le
    have h0 : Real.sqrt ((∑ k, a k * a k) / 1024 + e) ≠ 0 := (Real.sqrt_pos.mpr hv).ne'
    generalize Real.sqrt ((∑ k, a k * a k) / 1024 + e) = q at h h0 ⊢
    rw [← h]
    field_simp
  · unfold rinv
    rw [hvar]
    generalize (∑ k, a k * a k) / 1024 + e = v at hv ⊢
    rw [Ideal.rsqrt_coe, if_neg hv.not_gt, if_neg hv.ne']

/-- The two ways agree at rows of real numbers, whatever `d` is. -/
theorem gradRow_eq {dh x g : Fin 1024 → EReal} (hd : ∀ k, IsReal (dh k)) (hx : ∀ k, IsReal (x k)) (hg : ∀ k, IsReal (g k)) (d : EReal) (j : Fin 1024) :
    gradRow dh x g d j = gradChain dh x g d j := by
  obtain ⟨D, rfl⟩ := IsReal.choose_fun hd
  obtain ⟨a, rfl⟩ := IsReal.choose_fun hx
  obtain ⟨G, rfl⟩ := IsReal.choose_fun hg
  obtain ⟨v, r, hv, hr, hvar, hrinv⟩ := rinv_coe a
  unfold gradRow gradChain gradVar
  rw [hvar, hrinv, len_eq, negHalf_eq]
  simp only [← EReal.coe_mul, coe_sum, div_coe _ _ hv.ne', div_coe _ (1024 : ℝ) (by norm_num), ← EReal.coe_sub]
  rw [add_assoc, add_assoc, ← EReal.coe_add, ← EReal.coe_add]
  congr 2
  have e1 : ∑ k, D k * G k * (a k * r) = r * ∑ k, a k * (D k * G k) := by
    rw [Finset.mul_sum]
    exact Finset.sum_congr rfl fun k _ => by ring
  rw [e1]
  generalize ∑ k, a k * (D k * G k) = s
  have e2 : r / v = r * (r * r) := by
    rw [div_eq_iff hv.ne']
    linear_combination (-r) * hr
  rw [e2]
  ring

/-- The first `n` entries of a sequence, summed. -/
def upTo (f : ℕ → EReal) (n : ℕ) : EReal := ∑ k ∈ Finset.range n, f k

theorem upTo_zero (f : ℕ → EReal) : upTo f 0 = 0 := Finset.sum_range_zero f

/-- Two stretches of 256 more. -/
theorem upTo_step (f : ℕ → EReal) (n : ℕ) :
    upTo f (n + 512) = upTo f n + (∑ r : Fin 256, f (n + r.val) + ∑ r : Fin 256, f (n + 256 + r.val)) := by
  unfold upTo
  rw [show n + 512 = n + 256 + 256 from rfl, Finset.sum_range_add, Finset.sum_range_add, Finset.sum_range (fun x => f (n + x)),
    Finset.sum_range (fun x => f (n + 256 + x)), add_assoc]

/-- Rows of an array numbered by all natural numbers: zeros past the last. -/
def rowsOf {w : ℕ} (x : Fin 2048 → Fin w → EReal) : ℕ → Fin w → EReal := fun n j => if h : n < 2048 then x ⟨n, h⟩ j else 0

theorem rowsOf_lt {w : ℕ} (x : Fin 2048 → Fin w → EReal) {n : ℕ} (h : n < 2048) (j : Fin w) : rowsOf x n j = x ⟨n, h⟩ j := dif_pos h

theorem rowsOf_val {w : ℕ} (x : Fin 2048 → Fin w → EReal) (n : Fin 2048) (j : Fin w) : rowsOf x n.val j = x n j := dif_pos n.isLt

/-- Row `n` of the result, and its term of the gain's gradient. -/
def outRow (dh : ℕ → Fin 1024 → EReal) (x : ℕ → Fin 1024 → EReal) (g : Fin 1024 → EReal) (d : ℕ → Fin 1024 → EReal) (n : ℕ) (j : Fin 1024) : EReal :=
  gradRow (dh n) (x n) g (d n j) j
def gainTerm (dh : ℕ → Fin 1024 → EReal) (x : ℕ → Fin 1024 → EReal) (j : Fin 1024) (n : ℕ) : EReal := dh n j * (x n j * rinv (x n))

/-- A row of real numbers, or of zeros past the end, is one of real numbers. -/
theorem rows_real {w : ℕ} {x : Fin 2048 → Fin w → EReal} (h : ∀ n k, IsReal (x n k)) (n : ℕ) (k : Fin w) : IsReal (rowsOf x n k) := by
  unfold rowsOf
  by_cases hn : n < 2048
  · rw [dif_pos hn]
    exact h _ _
  · rw [dif_neg hn]
    exact ⟨0, rfl⟩

end Cert.Norm

end
-- ==== Proof.Norm.Loads.lean ====
module

public import Idealize.ShloMosaic.Lib.WritesUnit
public import Idealize.ShloMosaic.Lib.Pipeline.ValueKit

/-! Reading one entry of a rectangle that a body loads or stored. -/

@[expose] public section

noncomputable section

namespace Cert.Norm

open Idealize.ShloMosaic Idealize.ShloMosaic.TcCoe

variable {sig : RefSig}

/-- A load of a rectangle of a buffer reads the contents at the offset plus the index. -/
theorem load_entry {s : Shape} {e : EltTy} {M : Memref sig .tc .vmem s e} (h : M.IsWhole) (x : Vec Ideal s e)
    {off size : Fin s.rank → ℕ} (inb : ∀ a, off a + size a ≤ s.size a) (y : (Rect.unit off size inb).shape.Idx) (z : s.Idx)
    (hz : ∀ a, (z a).val = off a + (y a).val) :
    M.view.readAt (Elt Ideal) (Rect.unit off size inb).toLoadRect (h.unread x) y = x z := by
  rw [View.readAt_eq_ld, h.read_unread]
  refine congrArg x (funext fun a => Fin.ext ?_)
  show off a + 1 * (y a).val = (z a).val
  rw [hz a, Nat.one_mul]

/-- A load, after one store of the whole buffer, reads what was stored. -/
theorem load_stored {s : Shape} {e : EltTy} (M : View sig .tc .vmem s e) (p : Vec Ideal s e)
    {off size : Fin s.rank → ℕ} {off0 : Fin s.rank → ℕ} (inb0 : ∀ a, off0 a + s.size a ≤ s.size a)
    (inb : ∀ a, off a + size a ≤ s.size a) (y : (Rect.unit off size inb).shape.Idx) (z : s.Idx) (h0 : ∀ a, off0 a = 0)
    (hz : ∀ a, (z a).val = off a + (y a).val) :
    M.readCov [(⟨Rect.unit off0 s.size inb0, p⟩ : View.Piece (Elt Ideal) s e)] (Rect.unit off size inb).toLoadRect y = p z := by
  have e : M.readCov [(⟨Rect.unit off0 s.size inb0, p⟩ : View.Piece (Elt Ideal) s e)] (Rect.unit off size inb).toLoadRect y =
      M.read (Elt Ideal) (M.writes (Elt Ideal) M.junk [(⟨Rect.unit off0 s.size inb0, p⟩ : View.Piece (Elt Ideal) s e)]) z := by
    refine congrArg (M.read (Elt Ideal) (M.writes (Elt Ideal) M.junk _)) (funext fun a => Fin.ext ?_)
    show off a + 1 * (y a).val = (z a).val
    rw [hz a, Nat.one_mul]
  rw [e]
  exact View.read_writes_cons_unit_of_mem _ _ _ _ _ z z rfl fun a => by rw [h0 a, Nat.zero_add]

end Cert.Norm

end
-- ==== Proof.Norm.FfnBlock.lean ====
module

public import proofs.«01_k».proof.Proof.Norm.Rows
public import proofs.«01_k».proof.Proof.Norm.Loads
public import proofs.«01_k».proof.Proof.Gen.FfnDhIdeal.Value
public import Idealize.ShloMosaic.Lib.Pointwise

/-! What one grid point of the feed-forward input's backward pass leaves in its three output blocks: the rows' gradients,
    and the running sums of the gain's gradient. -/

@[expose] public section

set_option maxRecDepth 16384

noncomputable section

namespace Cert.Norm.Ffn

open Cert.FfnDhIdeal Cert.FfnDhIdeal.Gen Idealize.ShloMosaic Idealize.ShloMosaic.TcCoe Idealize.SL.Sem

/-- The gradient of the normalised row `n`: the two products' gradients, summed. -/
def dh (a : ℕ → Fin 3072 → EReal) (wa : Fin 3072 → Fin 1024 → EReal) (b : ℕ → Fin 3072 → EReal) (wb : Fin 3072 → Fin 1024 → EReal)
    (n : ℕ) (j : Fin 1024) : EReal :=
  ∑ k : Fin 3072, a n k * wa k j + ∑ k : Fin 3072, b n k * wb k j

section

variable {a : ℕ → Fin 3072 → EReal} {wa : Fin 3072 → Fin 1024 → EReal} {b : ℕ → Fin 3072 → EReal} {wb : Fin 3072 → Fin 1024 → EReal}
  {x : ℕ → Fin 1024 → EReal} {g : Fin 1024 → EReal} {d : ℕ → Fin 1024 → EReal} {n : ℕ}

section

variable {v3 : Vec Ideal S256x3072 .bf16} {v4 : Vec Ideal S3072x1024 .bf16} {v6 : Vec Ideal S256x3072 .bf16} {v7 : Vec Ideal S3072x1024 .bf16}
  {v10 : Vec Ideal S256x1024 .f32} {v24 : Vec Ideal S1x1x1024 .f32} {v38 : Vec Ideal S256x1024 .f32}
  (h3 : ∀ r k, v3 (ix2 r k) = a (n + r.val) k) (h4 : ∀ k j, v4 (ix2 k j) = wa k j) (h6 : ∀ r k, v6 (ix2 r k) = b (n + r.val) k)
  (h7 : ∀ k j, v7 (ix2 k j) = wb k j) (h10 : ∀ r k, v10 (ix2 r k) = x (n + r.val) k) (h24 : ∀ k, v24 (ix3 0 0 k) = g k)
  (h38 : ∀ r k, v38 (ix2 r k) = d (n + r.val) k)

include h3 h4 h6 h7 h10

/-- The rows of the first half of a block. -/
theorem half0_row (h24 : ∀ k, v24 (ix3 0 0 k) = g k) (h38 : ∀ r k, v38 (ix2 r k) = d (n + r.val) k) (r : Fin 256) (j : Fin 1024) :
    k0_pay11 (F := Ideal) (k0_pay6 v10) (k0_pay9 v3 v4 v6 v7 v24) (k0_pay10 v3 v4 v6 v7 v10 v24) v38 (ix2 r j) = outRow (dh a wa b wb) x g d (n + r.val) j := by
  unfold k0_pay11 k0_pay10 k0_pay9 k0_pay7 k0_pay6 k0_pay5
  pointwise
  simp only [h3, h4, h6, h7, h10, h24, h38]
  rfl

theorem half0_row16 (h24 : ∀ k, v24 (ix3 0 0 k) = g k) (h38 : ∀ r k, v38 (ix2 r k) = d (n + r.val) k) (r : Fin 256) (j : Fin 1024) :
    k0_pay12 (F := Ideal) (k0_pay6 v10) (k0_pay9 v3 v4 v6 v7 v24) (k0_pay10 v3 v4 v6 v7 v10 v24) v38 (ix2 r j) = outRow (dh a wa b wb) x g d (n + r.val) j := by
  refine Eq.trans ?_ (half0_row h3 h4 h6 h7 h10 h24 h38 r j)
  unfold k0_pay12
  pointwise

/-- The rows of the second half. -/
theorem half1_row (h24 : ∀ k, v24 (ix3 0 0 k) = g k) (h38 : ∀ r k, v38 (ix2 r k) = d (n + r.val) k) (r : Fin 256) (j : Fin 1024) :
    k0_pay1 (F := Ideal) (k0_pay13 v3 v4 v6 v7) (k0_pay14 v10) (k0_pay15 v10) (k0_pay17 v24) v38 (ix2 r j) = outRow (dh a wa b wb) x g d (n + r.val) j := by
  unfold k0_pay1 k0_pay17 k0_pay15 k0_pay14 k0_pay13
  pointwise
  simp only [h3, h4, h6, h7, h10, h24, h38]
  rfl

theorem half1_row16 (h24 : ∀ k, v24 (ix3 0 0 k) = g k) (h38 : ∀ r k, v38 (ix2 r k) = d (n + r.val) k) (r : Fin 256) (j : Fin 1024) :
    k0_pay2 (F := Ideal) (k0_pay13 v3 v4 v6 v7) (k0_pay14 v10) (k0_pay15 v10) (k0_pay17 v24) v38 (ix2 r j) = outRow (dh a wa b wb) x g d (n + r.val) j := by
  refine Eq.trans ?_ (half1_row h3 h4 h6 h7 h10 h24 h38 r j)
  unfold k0_pay2
  pointwise

/-- The gain's gradient over the first half. -/
theorem half0_gain (j : Fin 1024) : k0_pay8 (F := Ideal) v3 v4 v6 v7 v10 (ix2 0 j) = ∑ r : Fin 256, gainTerm (dh a wa b wb) x j (n + r.val) := by
  unfold k0_pay8 k0_pay7 k0_pay6 k0_pay5
  pointwise
  simp only [h3, h4, h6, h7, h10]
  rfl

/-- The gain's gradient over the second half, added to what was summed before. -/
theorem half1_gain (v23 : FVec Ideal S1x1024 .f32) (j : Fin 1024) :
    k0_pay16 (F := Ideal) v23 v3 v4 v6 v7 v10 (ix2 0 j) = v23 (ix2 0 j) + ∑ r : Fin 256, gainTerm (dh a wa b wb) x j (n + r.val) := by
  unfold k0_pay16 k0_pay15 k0_pay14 k0_pay13
  pointwise
  simp only [h3, h4, h6, h7, h10]
  rfl

end

/-- Adding to the first row, and the zeros. -/
theorem pay3_apply (v64 v84 : FVec Ideal S1x1024 .f32) (j : Fin 1024) : k0_pay3 (F := Ideal) v64 v84 (ix2 0 j) = v84 (ix2 0 j) + v64 (ix2 0 j) := by
  unfold k0_pay3
  pointwise

theorem pay4_apply (y : S8x1024.Idx) : k0_pay4 (F := Ideal) y = (0 : EReal) := by
  refine (congrArg (k0_pay4 (F := Ideal)) (eq_ix2 y)).trans ?_
  unfold k0_pay4
  pointwise

/-- The first row of the block after the zeros. -/
theorem zeroRow (V : View sig .tc .vmem S8x1024 .f32) (inb0 inb) (j : Fin 1024) :
    V.readCov [(⟨Rect.unit (s := S8x1024) ![0, 0] S8x1024.size inb0, k0_pay4 (F := Ideal)⟩ : View.Piece (Elt Ideal) S8x1024 .f32)]
      (Rect.unit (s := S8x1024) ![0, 0] ![1, 1024] inb).toLoadRect (ix2 0 j) = (0 : EReal) :=
  (load_stored V _ inb0 inb (ix2 0 j) (ix2 0 j) (Fin.forall_fin_two.mpr ⟨rfl, rfl⟩) (Fin.forall_fin_two.mpr ⟨rfl, (Nat.zero_add _).symm⟩)).trans (pay4_apply _)

/-- The blocks hold the rows from `n` on, and the weights and the gain. -/
structure Reads (a : ℕ → Fin 3072 → EReal) (wa : Fin 3072 → Fin 1024 → EReal) (b : ℕ → Fin 3072 → EReal) (wb : Fin 3072 → Fin 1024 → EReal)
    (x : ℕ → Fin 1024 → EReal) (g : Fin 1024 → EReal) (d : ℕ → Fin 1024 → EReal) (n : ℕ)
    (x0 : Vec Ideal S512x3072 .bf16) (x1 : Vec Ideal S3072x1024 .bf16) (x2 : Vec Ideal S512x3072 .bf16) (x3 : Vec Ideal S3072x1024 .bf16)
    (x4 : Vec Ideal S512x1024 .f32) (x5 : Vec Ideal S1x1x1024 .f32) (x6 : Vec Ideal S512x1024 .f32) : Prop where
  h0 : ∀ r k, x0 (ix2 r k) = a (n + r.val) k
  h1 : ∀ k j, x1 (ix2 k j) = wa k j
  h2 : ∀ r k, x2 (ix2 r k) = b (n + r.val) k
  h3 : ∀ k j, x3 (ix2 k j) = wb k j
  h4 : ∀ r k, x4 (ix2 r k) = x (n + r.val) k
  h5 : ∀ k, x5 (ix3 0 0 k) = g k
  h6 : ∀ r k, x6 (ix2 r k) = d (n + r.val) k

variable {x0 : Vec Ideal S512x3072 .bf16} {x1 : Vec Ideal S3072x1024 .bf16} {x2 : Vec Ideal S512x3072 .bf16} {x3 : Vec Ideal S3072x1024 .bf16}
  {x4 : Vec Ideal S512x1024 .f32} {x5 : Vec Ideal S1x1x1024 .f32} {x6 : Vec Ideal S512x1024 .f32} (H : Reads a wa b wb x g d n x0 x1 x2 x3 x4 x5 x6)

/-- Rows of a block read from the first row on, and from row 256 on. -/
theorem low {w : ℕ} {e : EltTy} {M : Memref sig .tc .vmem ⟨2, ![512, w]⟩ e} (hM : M.IsWhole) {y : Vec Ideal ⟨2, ![512, w]⟩ e} (inb) (r : Fin 256) (k : Fin w) :
    M.view.readAt (Elt Ideal) (Rect.unit (s := ⟨2, ![512, w]⟩) ![0, 0] ![256, w] inb).toLoadRect (hM.unread y) (ix2 r k) = y (ix2 ⟨r.val, by omega⟩ k) :=
  load_entry hM y inb (ix2 r k) (ix2 ⟨r.val, by omega⟩ k) (Fin.forall_fin_two.mpr ⟨(Nat.zero_add _).symm, (Nat.zero_add _).symm⟩)

theorem high {w : ℕ} {e : EltTy} {M : Memref sig .tc .vmem ⟨2, ![512, w]⟩ e} (hM : M.IsWhole) {y : Vec Ideal ⟨2, ![512, w]⟩ e} (inb) (r : Fin 256) (k : Fin w) :
    M.view.readAt (Elt Ideal) (Rect.unit (s := ⟨2, ![512, w]⟩) ![256, 0] ![256, w] inb).toLoadRect (hM.unread y) (ix2 r k) = y (ix2 ⟨256 + r.val, by omega⟩ k) :=
  load_entry hM y inb (ix2 r k) (ix2 ⟨256 + r.val, by omega⟩ k) (Fin.forall_fin_two.mpr ⟨rfl, (Nat.zero_add _).symm⟩)

theorem all {h w : ℕ} {e : EltTy} {M : Memref sig .tc .vmem ⟨2, ![h, w]⟩ e} (hM : M.IsWhole) {y : Vec Ideal ⟨2, ![h, w]⟩ e} (inb) (r : Fin h) (k : Fin w) :
    M.view.readAt (Elt Ideal) (Rect.unit (s := ⟨2, ![h, w]⟩) ![0, 0] ![h, w] inb).toLoadRect (hM.unread y) (ix2 r k) = y (ix2 r k) :=
  load_entry hM y inb (ix2 r k) (ix2 r k) (Fin.forall_fin_two.mpr ⟨(Nat.zero_add _).symm, (Nat.zero_add _).symm⟩)

theorem gainAll {M : Memref sig .tc .vmem S1x1x1024 .f32} (hM : M.IsWhole) {y : Vec Ideal S1x1x1024 .f32} (inb) (k : Fin 1024) :
    M.view.readAt (Elt Ideal) (Rect.unit (s := S1x1x1024) ![0, 0, 0] S1x1x1024.size inb).toLoadRect (hM.unread y) (ix3 0 0 k) = y (ix3 0 0 k) :=
  load_entry hM y inb (ix3 0 0 k) (ix3 0 0 k) (Fin.forall_fin_succ.mpr ⟨(Nat.zero_add _).symm, Fin.forall_fin_two.mpr ⟨(Nat.zero_add _).symm, (Nat.zero_add _).symm⟩⟩)

include H

/-- Case A: output block 7. -/
theorem outA_row (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : cond0_0 i)
    (r : Fin 512) (j : Fin 1024) :
    out0_A_7 cc i arg1 harg1 arg2 harg2 arg3 harg3 arg4 harg4 arg5 harg5 arg6 harg6 arg7 harg7 arg8 harg8 arg9 harg9 arg10 harg10 hc0 x0 x1 x2 x3 x4 x5 x6 (ix2 r j) = outRow (dh a wa b wb) x g d (n + r.val) j := by
  unfold out0_A_7 kernelRun0_A
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) (fun k => (gainAll harg6 _ k).trans (H.h5 k)) (fun r k => (low harg7 _ r k).trans (H.h6 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) (fun k => (gainAll harg6 _ k).trans (H.h5 k)) (fun r k => (high harg7 _ r k).trans ((H.h6 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case A: output block 8. -/
theorem outA_row16 (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : cond0_0 i)
    (r : Fin 512) (j : Fin 1024) :
    out0_A_8 cc i arg1 harg1 arg2 harg2 arg3 harg3 arg4 harg4 arg5 harg5 arg6 harg6 arg7 harg7 arg8 harg8 arg9 harg9 arg10 harg10 hc0 x0 x1 x2 x3 x4 x5 x6 (ix2 r j) = outRow (dh a wa b wb) x g d (n + r.val) j := by
  unfold out0_A_8 kernelRun0_A
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row16 (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) (fun k => (gainAll harg6 _ k).trans (H.h5 k)) (fun r k => (low harg7 _ r k).trans (H.h6 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row16 (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) (fun k => (gainAll harg6 _ k).trans (H.h5 k)) (fun r k => (high harg7 _ r k).trans ((H.h6 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case B: output block 7. -/
theorem outB_row (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : ¬cond0_0 i) (xo : Vec Ideal S8x1024 .f32)
    (r : Fin 512) (j : Fin 1024) :
    out0_B_7 cc i arg1 harg1 arg2 harg2 arg3 harg3 arg4 harg4 arg5 harg5 arg6 harg6 arg7 harg7 arg8 harg8 arg9 harg9 arg10 harg10 hc0 x0 x1 x2 x3 x4 x5 x6 xo (ix2 r j) = outRow (dh a wa b wb) x g d (n + r.val) j := by
  unfold out0_B_7 kernelRun0_B
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) (fun k => (gainAll harg6 _ k).trans (H.h5 k)) (fun r k => (low harg7 _ r k).trans (H.h6 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) (fun k => (gainAll harg6 _ k).trans (H.h5 k)) (fun r k => (high harg7 _ r k).trans ((H.h6 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case B: output block 8. -/
theorem outB_row16 (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : ¬cond0_0 i) (xo : Vec Ideal S8x1024 .f32)
    (r : Fin 512) (j : Fin 1024) :
    out0_B_8 cc i arg1 harg1 arg2 harg2 arg3 harg3 arg4 harg4 arg5 harg5 arg6 harg6 arg7 harg7 arg8 harg8 arg9 harg9 arg10 harg10 hc0 x0 x1 x2 x3 x4 x5 x6 xo (ix2 r j) = outRow (dh a wa b wb) x g d (n + r.val) j := by
  unfold out0_B_8 kernelRun0_B
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row16 (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) (fun k => (gainAll harg6 _ k).trans (H.h5 k)) (fun r k => (low harg7 _ r k).trans (H.h6 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row16 (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) (fun k => (gainAll harg6 _ k).trans (H.h5 k)) (fun r k => (high harg7 _ r k).trans ((H.h6 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case A: output block 9 holds the sums of the rows of the point in its first row, and zeros below. -/
theorem outA_gain (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : cond0_0 i)
    (k : Fin 8) (j : Fin 1024) :
    out0_A_9 cc i arg1 harg1 arg2 harg2 arg3 harg3 arg4 harg4 arg5 harg5 arg6 harg6 arg7 harg7 arg8 harg8 arg9 harg9 arg10 harg10 hc0 x0 x1 x2 x3 x4 x5 x6 (ix2 k j) =
      if k.val = 0 then ∑ r : Fin 256, gainTerm (dh a wa b wb) x j (n + r.val) + ∑ r : Fin 256, gainTerm (dh a wa b wb) x j (n + 256 + r.val) else (0 : EReal) := by
  unfold out0_A_9 kernelRun0_A
  dsimp only
  by_cases hk : k.val = 0
  · rw [if_pos hk]
    refine (View.read_writes_cons_unit_of_mem _ _ _ _ _ (ix2 k j) (ix2 0 j) rfl (Fin.forall_fin_two.mpr ⟨by show k.val = 0 + 0; omega, (Nat.zero_add _).symm⟩)).trans ?_
    sl_unfold_words
    refine (pay3_apply _ _ _).trans ((congrArg₂ (· + ·) (zeroRow _ _ _ j) ?_).trans (zero_add _))
    exact (half1_gain (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) _ j).trans (congrArg (· + _) (half0_gain (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) j))
  · rw [if_neg hk]
    refine (View.read_writes_cons_unit_of_not_mem _ _ _ _ _ (ix2 k j) rfl 0 (Or.inr (show 0 + 1 ≤ k.val by omega))).trans ((View.read_writes_cons_unit_of_mem _ _ _ _ _ (ix2 k j) (ix2 k j) rfl (Fin.forall_fin_two.mpr ⟨(Nat.zero_add _).symm, (Nat.zero_add _).symm⟩)).trans ?_)
    exact pay4_apply _

/-- Case B: they are added to the first row that the block held, and the rows below stay. -/
theorem outB_gain (cc : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x3072 .bf16) (harg3 : arg3.IsWhole) (arg4 : Memref sig .tc .vmem S3072x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole) (hc0 : ¬cond0_0 i) (xo : Vec Ideal S8x1024 .f32)
    (k : Fin 8) (j : Fin 1024) :
    out0_B_9 cc i arg1 harg1 arg2 harg2 arg3 harg3 arg4 harg4 arg5 harg5 arg6 harg6 arg7 harg7 arg8 harg8 arg9 harg9 arg10 harg10 hc0 x0 x1 x2 x3 x4 x5 x6 xo (ix2 k j) =
      if k.val = 0 then xo (ix2 k j) + (∑ r : Fin 256, gainTerm (dh a wa b wb) x j (n + r.val) + ∑ r : Fin 256, gainTerm (dh a wa b wb) x j (n + 256 + r.val)) else xo (ix2 k j) := by
  unfold out0_B_9 kernelRun0_B
  dsimp only
  by_cases hk : k.val = 0
  · rw [if_pos hk]
    refine (View.read_writes_cons_unit_of_mem _ _ _ _ _ (ix2 k j) (ix2 0 j) rfl (Fin.forall_fin_two.mpr ⟨by show k.val = 0 + 0; omega, (Nat.zero_add _).symm⟩)).trans ?_
    sl_unfold_words
    refine (pay3_apply _ _ _).trans (congrArg₂ (· + ·) (load_entry harg10 xo _ (ix2 0 j) (ix2 k j) ?_) ?_)
    · exact Fin.forall_fin_two.mpr ⟨by show k.val = 0 + 0; omega, (Nat.zero_add _).symm⟩
    · exact (half1_gain (n := n + 256) (fun r k => (high harg1 _ r k).trans ((H.h0 _ k).trans (congrArg (fun q => a q k) (Nat.add_assoc n 256 r.val).symm))) (fun k j => (all harg2 _ k j).trans (H.h1 k j)) (fun r k => (high harg3 _ r k).trans ((H.h2 _ k).trans (congrArg (fun q => b q k) (Nat.add_assoc n 256 r.val).symm))) (fun k j => (all harg4 _ k j).trans (H.h3 k j)) (fun r k => (high harg5 _ r k).trans ((H.h4 _ k).trans (congrArg (fun q => x q k) (Nat.add_assoc n 256 r.val).symm))) _ j).trans (congrArg (· + _) (half0_gain (n := n) (fun r k => (low harg1 _ r k).trans (H.h0 _ k)) (fun k j => (all harg2 _ k j).trans (H.h1 k j)) (fun r k => (low harg3 _ r k).trans (H.h2 _ k)) (fun k j => (all harg4 _ k j).trans (H.h3 k j)) (fun r k => (low harg5 _ r k).trans (H.h4 _ k)) j))
  · rw [if_neg hk]
    refine (View.read_writes_cons_unit_of_not_mem _ _ _ _ _ (ix2 k j) rfl 0 (Or.inr (show 0 + 1 ≤ k.val by omega))).trans ?_
    rw [View.writes_nil, harg10.read_unread]

end

end Cert.Norm.Ffn

end
-- ==== Proof.Norm.FfnArray.lean ====
module

public import proofs.«01_k».proof.Proof.Norm.FfnBlock
public import Idealize.ShloMosaic.Lib.Pipeline.ValueKit
public import Idealize.ShloMosaic.Lib.KernelVsHost

/-! The three result arrays after the run: every row's gradient, twice, and the gain's gradient summed over all four grid
    points. -/

@[expose] public section

set_option maxRecDepth 16384

noncomputable section

namespace Cert.Norm.Ffn

open Cert.FfnDhIdeal Cert.FfnDhIdeal.Gen Idealize.ShloMosaic Idealize.ShloMosaic.TcCoe Idealize.SL.Sem

/-- The gradient of the normalised rows, of the argument arrays. -/
abbrev D (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) : ℕ → Fin 1024 → EReal :=
  dh (rowsOf fun n k => x0 (ix2 n k)) (fun k j => x1 (ix2 k j)) (rowsOf fun n k => x2 (ix2 n k)) (fun k j => x3 (ix2 k j))
/-- An array's rows by their number, and the layer's gain. -/
abbrev rows2 (x : Cert.FfnDhIdeal.S2048x1024.Idx → EReal) : ℕ → Fin 1024 → EReal := rowsOf fun n k => x (ix2 n k)
abbrev gain (x : Cert.FfnDhIdeal.S4x1024.Idx → EReal) : Fin 1024 → EReal := fun k => x (ix2 3 k)

variable (m : (ℓ : Loc nD τ sig) → Buf (Elt Ideal) ℓ)

/-- The block that each window takes at a grid point. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![3, 0, 0] := (by decide +kernel : ∀ t : Fin grid0.N, win0_5.index t = ![3, 0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![0, 0] := (by decide +kernel : ∀ t : Fin grid0.N, win0_9.index t = ![0, 0])

/-- The gains as the kernel is given them, one row to a layer. -/
theorem gains_apply (c : Dev nD) (k : Fin 1024) : V m c main_v0 (ix3 3 0 k) = gain (m ((c : Thread nD τ).loc main_arg5)) k := by
  have e : V m c main_v0 = shapeCast _ (m ((c : Thread nD τ).loc main_arg5)) shapeCasts_S4x1024_S4x1x1024 := by
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results_simp
    rfl
  rw [e]
  generalize (m ((c : Thread nD τ).loc main_arg5)) = y
  pointwise

/-- Each input block at point `t` holds the rows that the point works on. -/
theorem reads (c : Dev nD) (t : Fin cfg0.N) : Reads (rowsOf fun n k => (m ((c : Thread nD τ).loc main_arg0)) (ix2 n k)) (fun k j => (m ((c : Thread nD τ).loc main_arg1)) (ix2 k j)) (rowsOf fun n k => (m ((c : Thread nD τ).loc main_arg2)) (ix2 n k)) (fun k j => (m ((c : Thread nD τ).loc main_arg3)) (ix2 k j)) (rows2 (m ((c : Thread nD τ).loc main_arg4))) (gain (m ((c : Thread nD τ).loc main_arg5))) (rows2 (m ((c : Thread nD τ).loc main_arg6))) (512 * t.val)
    (iblk m c 0 t) (iblk m c 1 t) (iblk m c 2 t) (iblk m c 3 t) (iblk m c 4 t) (iblk m c 5 t) (iblk m c 6 t) := by
  have ht : t.val < 4 := lt_of_lt_of_eq t.isLt N_0
  refine ⟨fun r k => ?_, fun k j => ?_, fun r k => ?_, fun k j => ?_, fun r k => ?_, fun k => ?_, fun r k => ?_⟩
  · refine Eq.trans ?_ (rowsOf_lt _ (by omega) k).symm
    rw [← V_main_arg0 m c]
    blk_ext [iblk, idx0 t]
  · rw [← V_main_arg1 m c]
    blk_ext [iblk, idx1 t]
  · refine Eq.trans ?_ (rowsOf_lt _ (by omega) k).symm
    rw [← V_main_arg2 m c]
    blk_ext [iblk, idx2 t]
  · rw [← V_main_arg3 m c]
    blk_ext [iblk, idx3 t]
  · refine Eq.trans ?_ (rowsOf_lt _ (by omega) k).symm
    rw [← V_main_arg4 m c]
    blk_ext [iblk, idx4 t]
  · rw [← gains_apply m c k]
    blk_ext [iblk, idx5 t]
  · refine Eq.trans ?_ (rowsOf_lt _ (by omega) k).symm
    rw [← V_main_arg6 m c]
    blk_ext [iblk, idx6 t]

/-- Output block 7 after a point. -/
theorem outs_row (c : Dev nD) (t : Fin cfg0.N) (r : Fin 512) (j : Fin 1024) : (outsAt0 m c t.val t.isLt).1 (ix2 r j) =
    outRow (D (m ((c : Thread nD τ).loc main_arg0)) (m ((c : Thread nD τ).loc main_arg1)) (m ((c : Thread nD τ).loc main_arg2)) (m ((c : Thread nD τ).loc main_arg3))) (rows2 (m ((c : Thread nD τ).loc main_arg4))) (gain (m ((c : Thread nD τ).loc main_arg5))) (rows2 (m ((c : Thread nD τ).loc main_arg6))) (512 * t.val + r.val) j := by
  have R := reads m c t
  by_cases h0 : t.val % 4 = 0
  · rw [outsAt0_A m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    generalize iblk m c 5 t = y5 at R ⊢
    generalize iblk m c 6 t = y6 at R ⊢
    exact outA_row R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) r j
  · rw [outsAt0_B m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    generalize iblk m c 5 t = y5 at R ⊢
    generalize iblk m c 6 t = y6 at R ⊢
    exact outB_row R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) _ r j

/-- Output block 8 after a point. -/
theorem outs_row16 (c : Dev nD) (t : Fin cfg0.N) (r : Fin 512) (j : Fin 1024) : (outsAt0 m c t.val t.isLt).2.1 (ix2 r j) =
    outRow (D (m ((c : Thread nD τ).loc main_arg0)) (m ((c : Thread nD τ).loc main_arg1)) (m ((c : Thread nD τ).loc main_arg2)) (m ((c : Thread nD τ).loc main_arg3))) (rows2 (m ((c : Thread nD τ).loc main_arg4))) (gain (m ((c : Thread nD τ).loc main_arg5))) (rows2 (m ((c : Thread nD τ).loc main_arg6))) (512 * t.val + r.val) j := by
  have R := reads m c t
  by_cases h0 : t.val % 4 = 0
  · rw [outsAt0_A m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    generalize iblk m c 5 t = y5 at R ⊢
    generalize iblk m c 6 t = y6 at R ⊢
    exact outA_row16 R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) r j
  · rw [outsAt0_B m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    generalize iblk m c 5 t = y5 at R ⊢
    generalize iblk m c 6 t = y6 at R ⊢
    exact outB_row16 R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) _ r j

/-- The third output block after the first point. -/
theorem outs_gain_A (c : Dev nD) (t : Fin cfg0.N) (h0 : t.val = 0) (k : Fin 8) (j : Fin 1024) : (outsAt0 m c t.val t.isLt).2.2 (ix2 k j) =
    if k.val = 0 then upTo (gainTerm (D (m ((c : Thread nD τ).loc main_arg0)) (m ((c : Thread nD τ).loc main_arg1)) (m ((c : Thread nD τ).loc main_arg2)) (m ((c : Thread nD τ).loc main_arg3))) (rows2 (m ((c : Thread nD τ).loc main_arg4))) j) (512 * t.val + 512) else (0 : EReal) := by
  have R := reads m c t
  have e : upTo (gainTerm (D (m ((c : Thread nD τ).loc main_arg0)) (m ((c : Thread nD τ).loc main_arg1)) (m ((c : Thread nD τ).loc main_arg2)) (m ((c : Thread nD τ).loc main_arg3))) (rows2 (m ((c : Thread nD τ).loc main_arg4))) j) (512 * t.val) = 0 := by rw [h0]; exact upTo_zero _
  rw [outsAt0_A m c t (by omega), upTo_step, e, zero_add]
  dsimp only
  generalize iblk m c 0 t = y0 at R ⊢
  generalize iblk m c 1 t = y1 at R ⊢
  generalize iblk m c 2 t = y2 at R ⊢
  generalize iblk m c 3 t = y3 at R ⊢
  generalize iblk m c 4 t = y4 at R ⊢
  generalize iblk m c 5 t = y5 at R ⊢
  generalize iblk m c 6 t = y6 at R ⊢
  exact outA_gain R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ k j

/-- The third output block after a later point, from the block after the point before. -/
theorem outs_gain_B (c : Dev nD) (t : Fin cfg0.N) (h0 : ¬t.val % 4 = 0)
    (hp : ∀ (k : Fin 8) (j : Fin 1024), (outsAt0 m c (t.val - 1) (Nat.lt_of_le_of_lt (Nat.sub_le _ _) t.isLt)).2.2 (ix2 k j) =
      if k.val = 0 then upTo (gainTerm (D (m ((c : Thread nD τ).loc main_arg0)) (m ((c : Thread nD τ).loc main_arg1)) (m ((c : Thread nD τ).loc main_arg2)) (m ((c : Thread nD τ).loc main_arg3))) (rows2 (m ((c : Thread nD τ).loc main_arg4))) j) (512 * t.val) else (0 : EReal))
    (k : Fin 8) (j : Fin 1024) : (outsAt0 m c t.val t.isLt).2.2 (ix2 k j) =
    if k.val = 0 then upTo (gainTerm (D (m ((c : Thread nD τ).loc main_arg0)) (m ((c : Thread nD τ).loc main_arg1)) (m ((c : Thread nD τ).loc main_arg2)) (m ((c : Thread nD τ).loc main_arg3))) (rows2 (m ((c : Thread nD τ).loc main_arg4))) j) (512 * t.val + 512) else (0 : EReal) := by
  have R := reads m c t
  have hk := hp k j
  rw [outsAt0_B m c t h0, upTo_step]
  dsimp only
  generalize iblk m c 0 t = y0 at R ⊢
  generalize iblk m c 1 t = y1 at R ⊢
  generalize iblk m c 2 t = y2 at R ⊢
  generalize iblk m c 3 t = y3 at R ⊢
  generalize iblk m c 4 t = y4 at R ⊢
  generalize iblk m c 5 t = y5 at R ⊢
  generalize iblk m c 6 t = y6 at R ⊢
  refine (outB_gain R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ k j).trans ?_
  rw [hk]
  by_cases h : k.val = 0
  · rw [if_pos h, if_pos h, if_pos h]
  · rw [if_neg h, if_neg h, if_neg h]

/-- The third output block after every point: the sums of the rows so far. -/
theorem outs_gain (c : Dev nD) : ∀ (n : ℕ) (h : n < cfg0.N) (k : Fin 8) (j : Fin 1024), (outsAt0 m c n h).2.2 (ix2 k j) =
    if k.val = 0 then upTo (gainTerm (D (m ((c : Thread nD τ).loc main_arg0)) (m ((c : Thread nD τ).loc main_arg1)) (m ((c : Thread nD τ).loc main_arg2)) (m ((c : Thread nD τ).loc main_arg3))) (rows2 (m ((c : Thread nD τ).loc main_arg4))) j) (512 * n + 512) else (0 : EReal)
  | 0, h, k, j => outs_gain_A m c ⟨0, h⟩ rfl k j
  | n + 1, h, k, j => by
    have hN : cfg0.N = 4 := N_0
    exact outs_gain_B m c ⟨n + 1, h⟩ (by dsimp only; omega) (fun k j => outs_gain c n (Nat.lt_of_succ_lt h) k j) k j

/-- The rows' gradients, as an array, and the gain's gradient in the first of eight rows. -/
def gradX (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x : Cert.FfnDhIdeal.S2048x1024.Idx → EReal) (g : Cert.FfnDhIdeal.S4x1024.Idx → EReal) (d : Cert.FfnDhIdeal.S2048x1024.Idx → EReal) : Cert.FfnDhIdeal.S2048x1024.Idx → EReal :=
  fun i => outRow (D x0 x1 x2 x3) (rows2 x) (gain g) (rows2 d) (i 0).val (i 1)
def gradGain (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x : Cert.FfnDhIdeal.S2048x1024.Idx → EReal) : Cert.FfnDhIdeal.S8x1024.Idx → EReal :=
  fun i => if (i 0).val = 0 then upTo (gainTerm (D x0 x1 x2 x3) (rows2 x) (i 1)) 2048 else (0 : EReal)

/-- Result array 1 of three. -/
theorem arr_row (c : Dev nD) : (dats m 0 c).arrAt 7 cfg0.N = gradX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  rw [after0_7]
  have e := outs_row m c t (y 0) (y 1)
  have hy : (ix2 (y 0) (y 1) : S512x1024.Idx) = y := by
    funext a
    match a with
    | ⟨0, _⟩ => rfl
    | ⟨1, _⟩ => rfl
  rw [hy] at e
  refine e.trans ?_
  unfold gradX
  have h1 : ((win0_7.blk t).view.emb y) 1 = y 1 := by refine Fin.ext ?_; blk_simp [idx7 t]
  blk_simp [idx7 t]
  rw [h1, Nat.mul_comm]

/-- Result array 2 of three. -/
theorem arr_row16 (c : Dev nD) : (dats m 0 c).arrAt 8 cfg0.N = gradX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  rw [after0_8]
  have e := outs_row16 m c t (y 0) (y 1)
  have hy : (ix2 (y 0) (y 1) : S512x1024.Idx) = y := by
    funext a
    match a with
    | ⟨0, _⟩ => rfl
    | ⟨1, _⟩ => rfl
  rw [hy] at e
  refine e.trans ?_
  unfold gradX
  have h1 : ((win0_8.blk t).view.emb y) 1 = y 1 := by refine Fin.ext ?_; blk_simp [idx8 t]
  blk_simp [idx8 t]
  rw [h1, Nat.mul_comm]

/-- The third result array. -/
theorem arr_gain (c : Dev nD) : (dats m 0 c).arrAt 9 cfg0.N = gradGain (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  rw [after0_9]
  have e := outs_gain m c t.val t.isLt (y 0) (y 1)
  have hy : (ix2 (y 0) (y 1) : S8x1024.Idx) = y := by
    funext a
    match a with
    | ⟨0, _⟩ => rfl
    | ⟨1, _⟩ => rfl
  rw [hy] at e
  refine e.trans ?_
  have ht : t.val = 3 := by
    have h4 : t.val < 4 := lt_of_lt_of_eq t.isLt N_0
    have := (flush0_9 t).mp hf
    omega
  unfold gradGain
  have h1 : ((win0_9.blk t).view.emb y) 1 = y 1 := by refine Fin.ext ?_; blk_simp [idx9 t]
  blk_simp [idx9 t]
  rw [h1, ht]

end Cert.Norm.Ffn

end
-- ==== Proof.Norm.FfnRef.lean ====
module

public import proofs.«01_k».proof.Proof.Norm.FfnArray
public import proofs.«01_k».proof.Proof.Gen.FfnDhRefIdeal.Read
public import Idealize.ShloMosaic.Lib.Pointwise

/-! What the plain gradient of the feed-forward input computes, entry by entry: the normalised rows' gradient, the chain rule
    through the norm, and the gain's gradient. -/

@[expose] public section

set_option maxRecDepth 16384

noncomputable section

namespace Cert.Norm.Ffn.Ref

open Cert.FfnDhRefIdeal Cert.FfnDhRefIdeal.Gen Cert.FfnDhRefIdeal.Read Idealize.ShloMosaic Idealize.ShloMosaic.TcCoe Idealize.SL.Sem

/-- The reciprocal root of a row's mean square, and its share of the mean square's gradient. -/
theorem rinv_apply (x4 : Cert.FfnDhIdeal.S2048x1024.Idx → EReal) (n : Fin 2048) : val_main_v13 (F := Ideal) x4 (ix2 n 0) = rinv (rows2 x4 n.val) := by
  unfold val_main_v13 val_main_v12 val_main_v11 val_main_cst_1 val_main_v10 val_main_v9 val_main_cst_0 val_main_v8 val_main_v7 val_main_cst val_main_v6
  pointwise
  unfold rinv var
  simp only [rowsOf_val]
  rfl

theorem half_apply (x4 : Cert.FfnDhIdeal.S2048x1024.Idx → EReal) (n : Fin 2048) : val_main_v16 (F := Ideal) x4 (ix2 n 0) = negHalf * Ideal.div (rinv (rows2 x4 n.val)) (var (rows2 x4 n.val)) := by
  have h := rinv_apply x4 n
  unfold val_main_v16 val_main_v15 val_main_cst_2 val_main_v14 val_main_v12 val_main_v11 val_main_cst_1 val_main_v10 val_main_v9 val_main_cst_0 val_main_v8 val_main_v7 val_main_cst val_main_v6
  generalize val_main_v13 (F := Ideal) x4 = y at h ⊢
  pointwise
  rw [h]
  unfold var
  simp only [rowsOf_val]
  rfl

/-- The normalised rows. -/
theorem xhat_apply (x4 : Cert.FfnDhIdeal.S2048x1024.Idx → EReal) (n : Fin 2048) (j : Fin 1024) : val_main_v18 (F := Ideal) x4 (ix2 n j) = rows2 x4 n.val j * rinv (rows2 x4 n.val) := by
  have h := rinv_apply x4 n
  unfold val_main_v18 val_main_v17
  generalize val_main_v13 (F := Ideal) x4 = y at h ⊢
  pointwise
  rw [h]
  exact congrArg (· * rinv (rows2 x4 n.val)) (rowsOf_val (fun n k => x4 (ix2 n k)) n j).symm

/-- The normalised rows' gradient. -/
theorem dh_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (n : Fin 2048) (j : Fin 1024) : val_main_v28 (F := Ideal) x0 x1 x2 x3 (ix2 n j) = D x0 x1 x2 x3 n.val j := by
  unfold val_main_v28 val_main_v27 val_main_v26 val_main_v25 val_main_v24 val_main_v3 val_main_v2 val_main_v1 val_main_v0
  pointwise
  unfold D dh
  simp only [rowsOf_val]
  exact add_comm _ _

/-- Times the gain. -/
theorem dg_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x5 : Cert.FfnDhIdeal.S4x1024.Idx → EReal) (n : Fin 2048) (j : Fin 1024) : val_main_v33 (F := Ideal) x0 x1 x2 x3 x5 (ix2 n j) = D x0 x1 x2 x3 n.val j * gain x5 j := by
  have h := dh_apply x0 x1 x2 x3 n j
  unfold val_main_v33 val_main_v32 val_main_v19 val_main_v5 val_main_v4
  generalize val_main_v28 (F := Ideal) x0 x1 x2 x3 = y at h ⊢
  pointwise
  rw [h]

/-- A row's gradient of the mean square, which every entry of the row shares. -/
theorem sum_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (x5 : Cert.FfnDhIdeal.S4x1024.Idx → EReal) (n : Fin 2048) : val_main_v37 (F := Ideal) x0 x1 x2 x3 x4 x5 (ix2 n 0) = ∑ k, rows2 x4 n.val k * (D x0 x1 x2 x3 n.val k * gain x5 k) := by
  have h := dg_apply x0 x1 x2 x3 x5 n
  unfold val_main_v37 val_main_v36 val_main_cst_5 val_main_v35
  generalize val_main_v33 (F := Ideal) x0 x1 x2 x3 x5 = y at h ⊢
  pointwise
  simp only [h, rowsOf_val]

theorem var_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (x5 : Cert.FfnDhIdeal.S4x1024.Idx → EReal) (n : Fin 2048) (j : Fin 1024) : val_main_v45 (F := Ideal) x0 x1 x2 x3 x4 x5 (ix2 n j) = gradVar (D x0 x1 x2 x3 n.val) (rows2 x4 n.val) (gain x5) := by
  have h := sum_apply x0 x1 x2 x3 x4 x5 n
  have h' := half_apply x4 n
  unfold val_main_v45 val_main_v44 val_main_cst_7 val_main_v43 val_main_v42 val_main_cst_6 val_main_v41
  generalize val_main_v37 (F := Ideal) x0 x1 x2 x3 x4 x5 = y at h ⊢
  generalize val_main_v16 (F := Ideal) x4 = y' at h' ⊢
  pointwise
  simp only [Fin.sum_univ_one, Fin.isValue, h, h']
  rfl

/-- The rows' gradient. -/
theorem dx_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (x5 : Cert.FfnDhIdeal.S4x1024.Idx → EReal) (x6 : Cert.FfnDhIdeal.S2048x1024.Idx → EReal) (n : Fin 2048) (j : Fin 1024) : val_main_v49 (F := Ideal) x0 x1 x2 x3 x4 x5 x6 (ix2 n j) = gradChain (D x0 x1 x2 x3 n.val) (rows2 x4 n.val) (gain x5) (rows2 x6 n.val j) j := by
  have h := var_apply x0 x1 x2 x3 x4 x5 n j
  have h1 := dg_apply x0 x1 x2 x3 x5 n j
  have h2 := rinv_apply x4 n
  unfold val_main_v49 val_main_v48 val_main_v47 val_main_v46 val_main_v40 val_main_v39 val_main_v38
  generalize val_main_v45 (F := Ideal) x0 x1 x2 x3 x4 x5 = y at h ⊢
  generalize val_main_v33 (F := Ideal) x0 x1 x2 x3 x5 = y1 at h1 ⊢
  generalize val_main_v13 (F := Ideal) x4 = y2 at h2 ⊢
  pointwise
  rw [h, h1, h2]
  unfold gradChain
  simp only [rowsOf_val]

/-- The gain's gradient. -/
theorem gain_apply (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (j : Fin 1024) : val_main_v34 (F := Ideal) x0 x1 x2 x3 x4 (ix1 j) = upTo (gainTerm (D x0 x1 x2 x3) (rows2 x4) j) 2048 := by
  have h := dh_apply x0 x1 x2 x3
  have h1 := xhat_apply x4
  unfold val_main_v34 val_main_cst_4 val_main_v31 val_main_v30 val_main_cst_3 val_main_v29
  generalize val_main_v28 (F := Ideal) x0 x1 x2 x3 = y at h ⊢
  generalize val_main_v18 (F := Ideal) x4 = y1 at h1 ⊢
  pointwise
  simp only [Fin.sum_univ_one, Fin.isValue, h, h1]
  unfold upTo
  rw [Finset.sum_range]
  exact Finset.sum_congr rfl fun n _ => mul_comm _ _

/-- The three results. -/
theorem gain_eq (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) : val_main_v52 (F := Ideal) x0 x1 x2 x3 x4 = gradGain x0 x1 x2 x3 x4 := by
  funext i
  have h := gain_apply x0 x1 x2 x3 x4
  unfold val_main_v52 val_main_v51
  unfold gradGain
  by_cases hi : (i 0).val = 0
  · rw [if_pos hi]
    refine (Idealize.ShloMosaic.pad_apply_of_inside _ _ _ _ _ _ _ i (ix2 0 (i 1)) (Fin.forall_fin_two.mpr ⟨by show (i 0).val = 0 + 0 * 1; omega, by show (i 1).val = 0 + (i 1).val * 1; omega⟩)).trans ?_
    refine Eq.trans ?_ (h (i 1))
    generalize val_main_v34 (F := Ideal) x0 x1 x2 x3 x4 = y
    generalize (i 1 : Fin 1024) = j
    pointwise
  · rw [if_neg hi]
    refine (Idealize.ShloMosaic.pad_apply_of_not_inside _ _ _ _ _ _ _ i 0 ?_).trans ?_
    · rintro ⟨-, -, hlt⟩
      have hlt' : ((i 0).val - 0) / (0 + 1) < 1 := hlt
      omega
    · show (((0#32 : BitVec 32).toInt : ℝ) : EReal) = 0
      simp

theorem dx_eq (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (x5 : Cert.FfnDhIdeal.S4x1024.Idx → EReal) (x6 : Cert.FfnDhIdeal.S2048x1024.Idx → EReal) (hd : ∀ n k, IsReal (D x0 x1 x2 x3 n k)) (hx : ∀ n k, IsReal (rows2 x4 n k)) (hg : ∀ k, IsReal (gain x5 k)) :
    val_main_v49 (F := Ideal) x0 x1 x2 x3 x4 x5 x6 = gradX x0 x1 x2 x3 x4 x5 x6 := by
  funext i
  refine (congrArg (val_main_v49 (F := Ideal) x0 x1 x2 x3 x4 x5 x6) (eq_ix2 i)).trans ((dx_apply x0 x1 x2 x3 x4 x5 x6 (i 0) (i 1)).trans ?_)
  exact (gradRow_eq (hd _) (hx _) hg _ _).symm

theorem dx16_eq (x0 : Cert.FfnDhIdeal.S2048x3072.Idx → EReal) (x1 : Cert.FfnDhIdeal.S3072x1024.Idx → EReal) (x2 : Cert.FfnDhIdeal.S2048x3072.Idx → EReal) (x3 : Cert.FfnDhIdeal.S3072x1024.Idx → EReal) (x4 : Cert.FfnDhIdeal.S2048x1024.Idx → EReal) (x5 : Cert.FfnDhIdeal.S4x1024.Idx → EReal) (x6 : Cert.FfnDhIdeal.S2048x1024.Idx → EReal) (hd : ∀ n k, IsReal (D x0 x1 x2 x3 n k)) (hx : ∀ n k, IsReal (rows2 x4 n k)) (hg : ∀ k, IsReal (gain x5 k)) :
    val_main_v50 (F := Ideal) x0 x1 x2 x3 x4 x5 x6 = gradX x0 x1 x2 x3 x4 x5 x6 := by
  refine Eq.trans ?_ (dx_eq x0 x1 x2 x3 x4 x5 x6 hd hx hg)
  funext i
  unfold val_main_v50
  generalize val_main_v49 (F := Ideal) x0 x1 x2 x3 x4 x5 x6 = y
  rfl

end Cert.Norm.Ffn.Ref

end
-- ==== Proof.Norm.Ffn.lean ====
module

public import proofs.«01_k».proof.Defs
public import proofs.«01_k».proof.Proof.Norm.FfnRef
public import proofs.«01_k».proof.Proof.Gen.FfnDhRefIdeal.Run
public import proofs.«01_k».proof.Proof.Gen.Pre_finite_ffn_dh

/-! The feed-forward input's backward pass: on finite arguments the kernel and the plain gradient end with equal results. -/

@[expose] public section

set_option maxRecDepth 16384

noncomputable section

namespace Cert.Norm.Ffn

open Cert.FfnDhIdeal Idealize.ShloMosaic Idealize.ShloMosaic.TcCoe Idealize.SL.Sem

section

variable {x0 : FVec Ideal Cert.Pre_finite_ffn_dh.S2048x3072 .bf16} {x1 : FVec Ideal Cert.Pre_finite_ffn_dh.S3072x1024 .bf16} {x2 : FVec Ideal Cert.Pre_finite_ffn_dh.S2048x3072 .bf16} {x3 : FVec Ideal Cert.Pre_finite_ffn_dh.S3072x1024 .bf16} {x4 : FVec Ideal Cert.Pre_finite_ffn_dh.S2048x1024 .f32} {x5 : FVec Ideal Cert.Pre_finite_ffn_dh.S4x1024 .f32} {x6 : FVec Ideal Cert.Pre_finite_ffn_dh.S2048x1024 .f32}

/-- What the precondition says of each of its arguments. -/
theorem real0 (h : (Cert.Pre_finite_ffn_dh.fn (F := Ideal) x0 x1 x2 x3 x4 x5 x6).1 = fun _ => 1#1) (i) : IsReal (x0 i) := by
  have e := congrFun h i
  rw [eq_ix2 i] at e
  unfold Cert.Pre_finite_ffn_dh.fn Cert.Pre_finite_ffn_dh.fn_part1 at e
  pointwise at e
  exact IsReal.of_test e

theorem real1 (h : (Cert.Pre_finite_ffn_dh.fn (F := Ideal) x0 x1 x2 x3 x4 x5 x6).2.1 = fun _ => 1#1) (i) : IsReal (x1 i) := by
  have e := congrFun h i
  rw [eq_ix2 i] at e
  unfold Cert.Pre_finite_ffn_dh.fn Cert.Pre_finite_ffn_dh.fn_part1 at e
  pointwise at e
  exact IsReal.of_test e

theorem real2 (h : (Cert.Pre_finite_ffn_dh.fn (F := Ideal) x0 x1 x2 x3 x4 x5 x6).2.2.1 = fun _ => 1#1) (i) : IsReal (x2 i) := by
  have e := congrFun h i
  rw [eq_ix2 i] at e
  unfold Cert.Pre_finite_ffn_dh.fn Cert.Pre_finite_ffn_dh.fn_part1 at e
  pointwise at e
  exact IsReal.of_test e

theorem real3 (h : (Cert.Pre_finite_ffn_dh.fn (F := Ideal) x0 x1 x2 x3 x4 x5 x6).2.2.2.1 = fun _ => 1#1) (i) : IsReal (x3 i) := by
  have e := congrFun h i
  rw [eq_ix2 i] at e
  unfold Cert.Pre_finite_ffn_dh.fn Cert.Pre_finite_ffn_dh.fn_part1 at e
  pointwise at e
  exact IsReal.of_test e

theorem real4 (h : (Cert.Pre_finite_ffn_dh.fn (F := Ideal) x0 x1 x2 x3 x4 x5 x6).2.2.2.2.1 = fun _ => 1#1) (i) : IsReal (x4 i) := by
  have e := congrFun h i
  rw [eq_ix2 i] at e
  unfold Cert.Pre_finite_ffn_dh.fn Cert.Pre_finite_ffn_dh.fn_part1 at e
  pointwise at e
  exact IsReal.of_test e

theorem real5 (h : (Cert.Pre_finite_ffn_dh.fn (F := Ideal) x0 x1 x2 x3 x4 x5 x6).2.2.2.2.2 = fun _ => 1#1) (i) : IsReal (x5 i) := by
  have e := congrFun h i
  rw [eq_ix2 i] at e
  unfold Cert.Pre_finite_ffn_dh.fn Cert.Pre_finite_ffn_dh.fn_part1 at e
  pointwise at e
  exact IsReal.of_test e

end

theorem D_real {x0 : Cert.FfnDhIdeal.S2048x3072.Idx → EReal} {x1 : Cert.FfnDhIdeal.S3072x1024.Idx → EReal} {x2 : Cert.FfnDhIdeal.S2048x3072.Idx → EReal} {x3 : Cert.FfnDhIdeal.S3072x1024.Idx → EReal} (h0 : ∀ i, IsReal (x0 i)) (h1 : ∀ i, IsReal (x1 i)) (h2 : ∀ i, IsReal (x2 i)) (h3 : ∀ i, IsReal (x3 i)) (n : ℕ) (j : Fin 1024) :
    IsReal (D x0 x1 x2 x3 n j) :=
  (IsReal.sum _ fun k => (rows_real (fun n k => h0 _) n k).mul (h1 _)).add (IsReal.sum _ fun k => (rows_real (fun n k => h2 _) n k).mul (h3 _))

theorem algebraic : Cert.algebraic_FfnDhIdeal_FfnDhRefIdeal_pre_finite_ffn_dh (hFfnDhIdeal := Cert.FfnDhIdeal.Gen.facts)
    (hFfnDhRefIdeal := Cert.FfnDhRefIdeal.Gen.facts) (hPre_finite_ffn_dh := Cert.Pre_finite_ffn_dh.Gen.facts) := by
  intro m g m' g' hpre hagree
  refine ⟨fun c => gradX (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)), fun c => gradX (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)), fun c => gradGain (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), ?_, ?_⟩
  · refine (θ_run _ _ _).mono (fun r h c => ?_) (Cert.FfnDhIdeal.Value.run_blocks (F := Ideal) m g)
    obtain ⟨h0, h1, h2, h3, h4, h5, h6, h7, h8, h9⟩ := h c
    exact ⟨h0.trans (arr_row m c), h1.trans (arr_row16 m c), h2.trans (arr_gain m c), h3, h4, h5, h6, h7, h8, h9⟩
  · refine (θ_run _ _ _).mono (fun r h c => ?_) (Cert.FfnDhRefIdeal.Value.run (F := Ideal) m' g')
    obtain ⟨h0, h1, h2, h3, h4, h5, h6, h7, h8, h9⟩ := h c
    obtain ⟨a0, a1, a2, a3, a4, a5, a6⟩ := hagree c
    obtain ⟨p0, p1, p2, p3, p4, p5⟩ := hpre c
    refine ⟨h0.trans ?_, h1.trans ?_, h2.trans ?_, h3, h4, h5, h6, h7, h8, h9⟩
    · rw [Cert.FfnDhRefIdeal.Read.val_main_v49_eq, a0, a1, a2, a3, a4, a5, a6]
      exact Ref.dx_eq _ _ _ _ _ _ _ (fun n j => D_real (real0 p0) (real1 p1) (real2 p2) (real3 p3) n j) (rows_real fun n k => real4 p4 _) (fun k => real5 p5 _)
    · rw [Cert.FfnDhRefIdeal.Read.val_main_v50_eq, a0, a1, a2, a3, a4, a5, a6]
      exact Ref.dx16_eq _ _ _ _ _ _ _ (fun n j => D_real (real0 p0) (real1 p1) (real2 p2) (real3 p3) n j) (rows_real fun n k => real4 p4 _) (fun k => real5 p5 _)
    · rw [Cert.FfnDhRefIdeal.Read.val_main_v52_eq, Ref.gain_eq, a0, a1, a2, a3, a4]

end Cert.Norm.Ffn

end
-- ==== Proof.Norm.MixBlock.lean ====
module

public import proofs.«01_k».proof.Proof.Norm.Rows
public import proofs.«01_k».proof.Proof.Norm.Loads
public import proofs.«01_k».proof.Proof.Gen.MixDhIdeal.Value
public import Idealize.ShloMosaic.Lib.Pointwise

/-! What one grid point of the mixer input's backward pass leaves in its three output blocks: the rows' gradients, and the
    running sums of the gain's gradient. -/

@[expose] public section

set_option maxRecDepth 16384

noncomputable section

namespace Cert.Norm.Mix

open Cert.MixDhIdeal Cert.MixDhIdeal.Gen Idealize.ShloMosaic Idealize.ShloMosaic.TcCoe Idealize.SL.Sem

/-- Column `k` of the projection's part `p`. -/
abbrev col (p : Fin 3) (k : Fin 1024) : Fin 3072 := ⟨p.val * 1024 + k.val, by omega⟩

/-- The gradient of the normalised row `n`: the three products' gradients, summed. -/
def dh (z : Fin 3 → ℕ → Fin 1024 → EReal) (w : Fin 1024 → Fin 3072 → EReal) (n : ℕ) (j : Fin 1024) : EReal :=
  ∑ k : Fin 1024, z 0 n k * w j (col 0 k) + ∑ k : Fin 1024, z 1 n k * w j (col 1 k) + ∑ k : Fin 1024, z 2 n k * w j (col 2 k)

section

variable {z : Fin 3 → ℕ → Fin 1024 → EReal} {w : Fin 1024 → Fin 3072 → EReal}
  {x : ℕ → Fin 1024 → EReal} {g : Fin 1024 → EReal} {d : ℕ → Fin 1024 → EReal} {n : ℕ}

section

variable {v3 v7 v11 : Vec Ideal S1x256x1024 .bf16} {v5 v9 v13 : Vec Ideal S1024x1024 .bf16}
  {v17 : Vec Ideal S256x1024 .f32} {v31 : Vec Ideal S1x1x1024 .f32} {v45 : Vec Ideal S256x1024 .f32}
  (h3 : ∀ r k, v3 (ix3 0 r k) = z 0 (n + r.val) k) (h5 : ∀ j k, v5 (ix2 j k) = w j (col 0 k))
  (h7 : ∀ r k, v7 (ix3 0 r k) = z 1 (n + r.val) k) (h9 : ∀ j k, v9 (ix2 j k) = w j (col 1 k))
  (h11 : ∀ r k, v11 (ix3 0 r k) = z 2 (n + r.val) k) (h13 : ∀ j k, v13 (ix2 j k) = w j (col 2 k))
  (h17 : ∀ r k, v17 (ix2 r k) = x (n + r.val) k)

include h3 h5 h7 h9 h11 h13 h17

/-- The rows of the first half of a block. -/
theorem half0_row (h31 : ∀ k, v31 (ix3 0 0 k) = g k) (h45 : ∀ r k, v45 (ix2 r k) = d (n + r.val) k) (r : Fin 256) (j : Fin 1024) :
    k0_pay7 (F := Ideal) (k0_pay3 v3 v5 v7 v9 v11 v13) (k0_pay4 v17) (k0_pay5 v17) v31 v45 (ix2 r j) = outRow (dh z w) x g d (n + r.val) j := by
  unfold k0_pay7 k0_pay5 k0_pay4 k0_pay3
  pointwise
  simp only [h3, h5, h7, h9, h11, h13, h17, h31, h45]
  rfl

theorem half0_row16 (h31 : ∀ k, v31 (ix3 0 0 k) = g k) (h45 : ∀ r k, v45 (ix2 r k) = d (n + r.val) k) (r : Fin 256) (j : Fin 1024) :
    k0_pay8 (F := Ideal) (k0_pay3 v3 v5 v7 v9 v11 v13) (k0_pay4 v17) (k0_pay5 v17) v31 v45 (ix2 r j) = outRow (dh z w) x g d (n + r.val) j := by
  refine Eq.trans ?_ (half0_row h3 h5 h7 h9 h11 h13 h17 h31 h45 r j)
  unfold k0_pay8
  pointwise

/-- The rows of the second half. -/
theorem half1_row (h31 : ∀ k, v31 (ix3 0 0 k) = g k) (h45 : ∀ r k, v45 (ix2 r k) = d (n + r.val) k) (r : Fin 256) (j : Fin 1024) :
    k0_pay16 (F := Ideal) (k0_pay9 v3 v5) (k0_pay10 v7 v9) (k0_pay11 v11) v13 (constant S256x1024 .f32 0x00000000#32) v17 v31 v45 (ix2 r j) = outRow (dh z w) x g d (n + r.val) j := by
  unfold k0_pay16 k0_pay14 k0_pay13 k0_pay12 k0_pay11 k0_pay10 k0_pay9
  pointwise
  simp only [h3, h5, h7, h9, h11, h13, h17, h31, h45]
  rfl

theorem half1_row16 (h31 : ∀ k, v31 (ix3 0 0 k) = g k) (h45 : ∀ r k, v45 (ix2 r k) = d (n + r.val) k) (r : Fin 256) (j : Fin 1024) :
    k0_pay17 (F := Ideal) (k0_pay9 v3 v5) (k0_pay10 v7 v9) (k0_pay11 v11) v13 (constant S256x1024 .f32 0x00000000#32) v17 v31 v45 (ix2 r j) = outRow (dh z w) x g d (n + r.val) j := by
  refine Eq.trans ?_ (half1_row h3 h5 h7 h9 h11 h13 h17 h31 h45 r j)
  unfold k0_pay17
  pointwise

/-- The gain's gradient over the first half. -/
theorem half0_gain (j : Fin 1024) : k0_pay6 (F := Ideal) v3 v5 v7 v9 v11 v13 v17 (ix2 0 j) = ∑ r : Fin 256, gainTerm (dh z w) x j (n + r.val) := by
  unfold k0_pay6 k0_pay5 k0_pay4 k0_pay3
  pointwise
  simp only [h3, h5, h7, h9, h11, h13, h17]
  rfl

/-- The gain's gradient over the second half, added to what was summed before. -/
theorem half1_gain (v30 : FVec Ideal S1x1024 .f32) (j : Fin 1024) :
    k0_pay15 (F := Ideal) v30 (k0_pay9 v3 v5) (k0_pay10 v7 v9) (k0_pay11 v11) v13 (constant S256x1024 .f32 0x00000000#32) v17 (ix2 0 j) = v30 (ix2 0 j) + ∑ r : Fin 256, gainTerm (dh z w) x j (n + r.val) := by
  unfold k0_pay15 k0_pay14 k0_pay13 k0_pay12 k0_pay11 k0_pay10 k0_pay9
  pointwise
  simp only [h3, h5, h7, h9, h11, h13, h17]
  rfl

end

/-- Adding to the first row, and the zeros. -/
theorem pay1_apply (v78 v98 : FVec Ideal S1x1024 .f32) (j : Fin 1024) : k0_pay1 (F := Ideal) v78 (k0_pay18 v98) (ix2 0 j) = v98 (ix2 0 j) + v78 (ix2 0 j) := by
  unfold k0_pay1 k0_pay18
  pointwise

theorem pay2_apply (y : S8x1024.Idx) : k0_pay2 (F := Ideal) y = (0 : EReal) := by
  refine (congrArg (k0_pay2 (F := Ideal)) (eq_ix2 y)).trans ?_
  unfold k0_pay2
  pointwise

/-- The first row of the block after the zeros. -/
theorem zeroRow (V : View sig .tc .vmem S8x1024 .f32) (inb0 inb) (j : Fin 1024) :
    V.readCov [(⟨Rect.unit (s := S8x1024) ![0, 0] S8x1024.size inb0, k0_pay2 (F := Ideal)⟩ : View.Piece (Elt Ideal) S8x1024 .f32)]
      (Rect.unit (s := S8x1024) ![0, 0] ![1, 1024] inb).toLoadRect (ix2 0 j) = (0 : EReal) :=
  (load_stored V _ inb0 inb (ix2 0 j) (ix2 0 j) (Fin.forall_fin_two.mpr ⟨rfl, rfl⟩) (Fin.forall_fin_two.mpr ⟨rfl, (Nat.zero_add _).symm⟩)).trans (pay2_apply _)

/-- The blocks hold the rows from `n` on, and the weights and the gain. -/
structure Reads (z : Fin 3 → ℕ → Fin 1024 → EReal) (w : Fin 1024 → Fin 3072 → EReal)
    (x : ℕ → Fin 1024 → EReal) (g : Fin 1024 → EReal) (d : ℕ → Fin 1024 → EReal) (n : ℕ)
    (x0 : Vec Ideal S3x512x1024 .bf16) (x1 : Vec Ideal S1024x3072 .bf16)
    (x2 : Vec Ideal S512x1024 .f32) (x3 : Vec Ideal S1x1x1024 .f32) (x4 : Vec Ideal S512x1024 .f32) : Prop where
  h0 : ∀ p r k, x0 (ix3 p r k) = z p (n + r.val) k
  h1 : ∀ j k, x1 (ix2 j k) = w j k
  h2 : ∀ r k, x2 (ix2 r k) = x (n + r.val) k
  h3 : ∀ k, x3 (ix3 0 0 k) = g k
  h4 : ∀ r k, x4 (ix2 r k) = d (n + r.val) k

variable {x0 : Vec Ideal S3x512x1024 .bf16} {x1 : Vec Ideal S1024x3072 .bf16}
  {x2 : Vec Ideal S512x1024 .f32} {x3 : Vec Ideal S1x1x1024 .f32} {x4 : Vec Ideal S512x1024 .f32} (H : Reads z w x g d n x0 x1 x2 x3 x4)

/-- Rows of a block read from the first row on, and from row 256 on. -/
theorem low {w : ℕ} {e : EltTy} {M : Memref sig .tc .vmem ⟨2, ![512, w]⟩ e} (hM : M.IsWhole) {y : Vec Ideal ⟨2, ![512, w]⟩ e} (inb) (r : Fin 256) (k : Fin w) :
    M.view.readAt (Elt Ideal) (Rect.unit (s := ⟨2, ![512, w]⟩) ![0, 0] ![256, w] inb).toLoadRect (hM.unread y) (ix2 r k) = y (ix2 ⟨r.val, by omega⟩ k) :=
  load_entry hM y inb (ix2 r k) (ix2 ⟨r.val, by omega⟩ k) (Fin.forall_fin_two.mpr ⟨(Nat.zero_add _).symm, (Nat.zero_add _).symm⟩)

theorem high {w : ℕ} {e : EltTy} {M : Memref sig .tc .vmem ⟨2, ![512, w]⟩ e} (hM : M.IsWhole) {y : Vec Ideal ⟨2, ![512, w]⟩ e} (inb) (r : Fin 256) (k : Fin w) :
    M.view.readAt (Elt Ideal) (Rect.unit (s := ⟨2, ![512, w]⟩) ![256, 0] ![256, w] inb).toLoadRect (hM.unread y) (ix2 r k) = y (ix2 ⟨256 + r.val, by omega⟩ k) :=
  load_entry hM y inb (ix2 r k) (ix2 ⟨256 + r.val, by omega⟩ k) (Fin.forall_fin_two.mpr ⟨rfl, (Nat.zero_add _).symm⟩)

theorem gainAll {M : Memref sig .tc .vmem S1x1x1024 .f32} (hM : M.IsWhole) {y : Vec Ideal S1x1x1024 .f32} (inb) (k : Fin 1024) :
    M.view.readAt (Elt Ideal) (Rect.unit (s := S1x1x1024) ![0, 0, 0] S1x1x1024.size inb).toLoadRect (hM.unread y) (ix3 0 0 k) = y (ix3 0 0 k) :=
  load_entry hM y inb (ix3 0 0 k) (ix3 0 0 k) (Fin.forall_fin_succ.mpr ⟨(Nat.zero_add _).symm, Fin.forall_fin_two.mpr ⟨(Nat.zero_add _).symm, (Nat.zero_add _).symm⟩⟩)

/-- The rows of one of the three parts, and the columns of one of the projection's. -/
theorem lowz {M : Memref sig .tc .vmem S3x512x1024 .bf16} (hM : M.IsWhole) {y : Vec Ideal S3x512x1024 .bf16} (p : Fin 3) (inb) (r : Fin 256) (k : Fin 1024) :
    M.view.readAt (Elt Ideal) (Rect.unit (s := S3x512x1024) ![p.val, 0, 0] ![1, 256, 1024] inb).toLoadRect (hM.unread y) (ix3 0 r k) = y (ix3 p ⟨r.val, by omega⟩ k) :=
  load_entry hM y inb (ix3 0 r k) (ix3 p ⟨r.val, by omega⟩ k) (Fin.forall_fin_succ.mpr ⟨rfl, (Fin.forall_fin_two.mpr ⟨(Nat.zero_add _).symm, (Nat.zero_add _).symm⟩)⟩)

theorem highz {M : Memref sig .tc .vmem S3x512x1024 .bf16} (hM : M.IsWhole) {y : Vec Ideal S3x512x1024 .bf16} (p : Fin 3) (inb) (r : Fin 256) (k : Fin 1024) :
    M.view.readAt (Elt Ideal) (Rect.unit (s := S3x512x1024) ![p.val, 256, 0] ![1, 256, 1024] inb).toLoadRect (hM.unread y) (ix3 0 r k) = y (ix3 p ⟨256 + r.val, by omega⟩ k) :=
  load_entry hM y inb (ix3 0 r k) (ix3 p ⟨256 + r.val, by omega⟩ k) (Fin.forall_fin_succ.mpr ⟨rfl, (Fin.forall_fin_two.mpr ⟨rfl, (Nat.zero_add _).symm⟩)⟩)

theorem part {M : Memref sig .tc .vmem S1024x3072 .bf16} (hM : M.IsWhole) {y : Vec Ideal S1024x3072 .bf16} (p : Fin 3) (inb) (j k : Fin 1024) :
    M.view.readAt (Elt Ideal) (Rect.unit (s := S1024x3072) ![0, p.val * 1024] ![1024, 1024] inb).toLoadRect (hM.unread y) (ix2 j k) = y (ix2 j (col p k)) :=
  load_entry hM y inb (ix2 j k) (ix2 j (col p k)) (Fin.forall_fin_two.mpr ⟨(Nat.zero_add _).symm, rfl⟩)

include H

/-- Case A: output block 5. -/
theorem outA_row (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : cond0_0 i)
    (r : Fin 512) (j : Fin 1024) :
    out0_A_5 cc i arg1 harg1 arg2 harg2 arg3 harg3 arg4 harg4 arg5 harg5 arg6 harg6 arg7 harg7 arg8 harg8 hc0 x0 x1 x2 x3 x4 (ix2 r j) = outRow (dh z w) x g d (n + r.val) j := by
  unfold out0_A_5 kernelRun0_A
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) (fun k => (gainAll harg4 _ k).trans (H.h3 k)) (fun r k => (low harg5 _ r k).trans (H.h4 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) (fun k => (gainAll harg4 _ k).trans (H.h3 k)) (fun r k => (high harg5 _ r k).trans ((H.h4 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case A: output block 6. -/
theorem outA_row16 (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : cond0_0 i)
    (r : Fin 512) (j : Fin 1024) :
    out0_A_6 cc i arg1 harg1 arg2 harg2 arg3 harg3 arg4 harg4 arg5 harg5 arg6 harg6 arg7 harg7 arg8 harg8 hc0 x0 x1 x2 x3 x4 (ix2 r j) = outRow (dh z w) x g d (n + r.val) j := by
  unfold out0_A_6 kernelRun0_A
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row16 (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) (fun k => (gainAll harg4 _ k).trans (H.h3 k)) (fun r k => (low harg5 _ r k).trans (H.h4 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row16 (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) (fun k => (gainAll harg4 _ k).trans (H.h3 k)) (fun r k => (high harg5 _ r k).trans ((H.h4 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case B: output block 5. -/
theorem outB_row (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : ¬cond0_0 i) (xo : Vec Ideal S8x1024 .f32)
    (r : Fin 512) (j : Fin 1024) :
    out0_B_5 cc i arg1 harg1 arg2 harg2 arg3 harg3 arg4 harg4 arg5 harg5 arg6 harg6 arg7 harg7 arg8 harg8 hc0 x0 x1 x2 x3 x4 xo (ix2 r j) = outRow (dh z w) x g d (n + r.val) j := by
  unfold out0_B_5 kernelRun0_B
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) (fun k => (gainAll harg4 _ k).trans (H.h3 k)) (fun r k => (low harg5 _ r k).trans (H.h4 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) (fun k => (gainAll harg4 _ k).trans (H.h3 k)) (fun r k => (high harg5 _ r k).trans ((H.h4 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case B: output block 6. -/
theorem outB_row16 (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : ¬cond0_0 i) (xo : Vec Ideal S8x1024 .f32)
    (r : Fin 512) (j : Fin 1024) :
    out0_B_6 cc i arg1 harg1 arg2 harg2 arg3 harg3 arg4 harg4 arg5 harg5 arg6 harg6 arg7 harg7 arg8 harg8 hc0 x0 x1 x2 x3 x4 xo (ix2 r j) = outRow (dh z w) x g d (n + r.val) j := by
  unfold out0_B_6 kernelRun0_B
  dsimp only
  by_cases hr : r.val < 256
  · refine (View.read_writes_cons_unit_of_not_mem _ _ _ _ _ (ix2 r j) rfl 0 (Or.inl hr)).trans ((View.read_writes_cons_unit_of_mem _ _ _ _ _ (ix2 r j) (ix2 ⟨r.val, hr⟩ j) rfl (Fin.forall_fin_two.mpr ⟨(Nat.zero_add _).symm, (Nat.zero_add _).symm⟩)).trans ?_)
    sl_unfold_words
    exact half0_row16 (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) (fun k => (gainAll harg4 _ k).trans (H.h3 k)) (fun r k => (low harg5 _ r k).trans (H.h4 _ k)) ⟨r.val, hr⟩ j
  · refine (View.read_writes_cons_unit_of_mem _ _ _ _ _ (ix2 r j) (ix2 ⟨r.val - 256, by omega⟩ j) rfl (Fin.forall_fin_two.mpr ⟨by show r.val = 256 + (r.val - 256); omega, (Nat.zero_add _).symm⟩)).trans ?_
    sl_unfold_words
    refine (half1_row16 (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) (fun k => (gainAll harg4 _ k).trans (H.h3 k)) (fun r k => (high harg5 _ r k).trans ((H.h4 _ k).trans (congrArg (fun q => d q k) (Nat.add_assoc n 256 r.val).symm))) ⟨r.val - 256, by omega⟩ j).trans ?_
    show outRow _ _ _ _ (n + 256 + (r.val - 256)) j = _
    rw [show n + 256 + (r.val - 256) = n + r.val by omega]

/-- Case A: the last output block holds the sums of the rows of the point in its first row, and zeros below. -/
theorem outA_gain (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : cond0_0 i)
    (k : Fin 8) (j : Fin 1024) :
    out0_A_7 cc i arg1 harg1 arg2 harg2 arg3 harg3 arg4 harg4 arg5 harg5 arg6 harg6 arg7 harg7 arg8 harg8 hc0 x0 x1 x2 x3 x4 (ix2 k j) =
      if k.val = 0 then ∑ r : Fin 256, gainTerm (dh z w) x j (n + r.val) + ∑ r : Fin 256, gainTerm (dh z w) x j (n + 256 + r.val) else (0 : EReal) := by
  unfold out0_A_7 kernelRun0_A
  dsimp only
  by_cases hk : k.val = 0
  · rw [if_pos hk]
    refine (View.read_writes_cons_unit_of_mem _ _ _ _ _ (ix2 k j) (ix2 0 j) rfl (Fin.forall_fin_two.mpr ⟨by show k.val = 0 + 0; omega, (Nat.zero_add _).symm⟩)).trans ?_
    sl_unfold_words
    refine (pay1_apply _ _ _).trans ((congrArg₂ (· + ·) (zeroRow _ _ _ j) ?_).trans (zero_add _))
    exact (half1_gain (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) _ j).trans (congrArg (· + _) (half0_gain (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) j))
  · rw [if_neg hk]
    refine (View.read_writes_cons_unit_of_not_mem _ _ _ _ _ (ix2 k j) rfl 0 (Or.inr (show 0 + 1 ≤ k.val by omega))).trans ((View.read_writes_cons_unit_of_mem _ _ _ _ _ (ix2 k j) (ix2 k j) rfl (Fin.forall_fin_two.mpr ⟨(Nat.zero_add _).symm, (Nat.zero_add _).symm⟩)).trans ?_)
    exact pay2_apply _

/-- Case B: they are added to the first row that the block held, and the rows below stay. -/
theorem outB_gain (cc : Dev nD) (i : grid0.Coords) (arg1 : Memref sig .tc .vmem S3x512x1024 .bf16) (harg1 : arg1.IsWhole) (arg2 : Memref sig .tc .vmem S1024x3072 .bf16) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole) (hc0 : ¬cond0_0 i) (xo : Vec Ideal S8x1024 .f32)
    (k : Fin 8) (j : Fin 1024) :
    out0_B_7 cc i arg1 harg1 arg2 harg2 arg3 harg3 arg4 harg4 arg5 harg5 arg6 harg6 arg7 harg7 arg8 harg8 hc0 x0 x1 x2 x3 x4 xo (ix2 k j) =
      if k.val = 0 then xo (ix2 k j) + (∑ r : Fin 256, gainTerm (dh z w) x j (n + r.val) + ∑ r : Fin 256, gainTerm (dh z w) x j (n + 256 + r.val)) else xo (ix2 k j) := by
  unfold out0_B_7 kernelRun0_B
  dsimp only
  by_cases hk : k.val = 0
  · rw [if_pos hk]
    refine (View.read_writes_cons_unit_of_mem _ _ _ _ _ (ix2 k j) (ix2 0 j) rfl (Fin.forall_fin_two.mpr ⟨by show k.val = 0 + 0; omega, (Nat.zero_add _).symm⟩)).trans ?_
    sl_unfold_words
    refine (pay1_apply _ _ _).trans (congrArg₂ (· + ·) (load_entry harg8 xo _ (ix2 0 j) (ix2 k j) ?_) ?_)
    · exact Fin.forall_fin_two.mpr ⟨by show k.val = 0 + 0; omega, (Nat.zero_add _).symm⟩
    · exact (half1_gain (n := n + 256) (fun r k => (highz harg1 0 _ r k).trans ((H.h0 0 _ k).trans (congrArg (fun q => z 0 q k) (Nat.add_assoc n 256 r.val).symm))) (fun j k => (part harg2 0 _ j k).trans (H.h1 j _)) (fun r k => (highz harg1 1 _ r k).trans ((H.h0 1 _ k).trans (congrArg (fun q => z 1 q k) (Nat.add_assoc n 256 r.val).symm))) (fun j k => (part harg2 1 _ j k).trans (H.h1 j _)) (fun r k => (highz harg1 2 _ r k).trans ((H.h0 2 _ k).trans (congrArg (fun q => z 2 q k) (Nat.add_assoc n 256 r.val).symm))) (fun j k => (part harg2 2 _ j k).trans (H.h1 j _)) (fun r k => (high harg3 _ r k).trans ((H.h2 _ k).trans (congrArg (fun q => x q k) (Nat.add_assoc n 256 r.val).symm))) _ j).trans (congrArg (· + _) (half0_gain (n := n) (fun r k => (lowz harg1 0 _ r k).trans (H.h0 0 _ k)) (fun j k => (part harg2 0 _ j k).trans (H.h1 j _)) (fun r k => (lowz harg1 1 _ r k).trans (H.h0 1 _ k)) (fun j k => (part harg2 1 _ j k).trans (H.h1 j _)) (fun r k => (lowz harg1 2 _ r k).trans (H.h0 2 _ k)) (fun j k => (part harg2 2 _ j k).trans (H.h1 j _)) (fun r k => (low harg3 _ r k).trans (H.h2 _ k)) j))
  · rw [if_neg hk]
    refine (View.read_writes_cons_unit_of_not_mem _ _ _ _ _ (ix2 k j) rfl 0 (Or.inr (show 0 + 1 ≤ k.val by omega))).trans ?_
    rw [View.writes_nil, harg8.read_unread]

end

end Cert.Norm.Mix

end
-- ==== Proof.Norm.MixArray.lean ====
module

public import proofs.«01_k».proof.Proof.Norm.MixBlock
public import Idealize.ShloMosaic.Lib.Pipeline.ValueKit
public import Idealize.ShloMosaic.Lib.KernelVsHost

/-! The three result arrays after the run: every row's gradient, twice, and the gain's gradient summed over all four grid
    points. -/

@[expose] public section

set_option maxRecDepth 16384

noncomputable section

namespace Cert.Norm.Mix

open Cert.MixDhIdeal Cert.MixDhIdeal.Gen Idealize.ShloMosaic Idealize.ShloMosaic.TcCoe Idealize.SL.Sem

/-- The gradient of the normalised rows, of the argument arrays. -/
abbrev D (x0 : Cert.MixDhIdeal.S3x2048x1024.Idx → EReal) (x1 : Cert.MixDhIdeal.S1024x3072.Idx → EReal) : ℕ → Fin 1024 → EReal :=
  dh (fun p => rowsOf fun n k => x0 (ix3 p n k)) (fun j k => x1 (ix2 j k))
/-- An array's rows by their number, and the layer's gain. -/
abbrev rows2 (x : Cert.MixDhIdeal.S2048x1024.Idx → EReal) : ℕ → Fin 1024 → EReal := rowsOf fun n k => x (ix2 n k)
abbrev gain (x : Cert.MixDhIdeal.S4x1024.Idx → EReal) : Fin 1024 → EReal := fun k => x (ix2 3 k)

variable (m : (ℓ : Loc nD τ sig) → Buf (Elt Ideal) ℓ)

/-- The block that each window takes at a grid point. -/
theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![3, 0, 0] := (by decide +kernel : ∀ t : Fin grid0.N, win0_3.index t = ![3, 0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])

/-- The gains as the kernel is given them, one row to a layer. -/
theorem gains_apply (c : Dev nD) (k : Fin 1024) : V m c main_v0 (ix3 3 0 k) = gain (m ((c : Thread nD τ).loc main_arg3)) k := by
  have e : V m c main_v0 = shapeCast _ (m ((c : Thread nD τ).loc main_arg3)) shapeCasts_S4x1024_S4x1x1024 := by
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results_simp
    rfl
  rw [e]
  generalize (m ((c : Thread nD τ).loc main_arg3)) = y
  pointwise

/-- Each input block at point `t` holds the rows that the point works on. -/
theorem reads (c : Dev nD) (t : Fin cfg0.N) : Reads (fun p => rowsOf fun n k => (m ((c : Thread nD τ).loc main_arg0)) (ix3 p n k)) (fun j k => (m ((c : Thread nD τ).loc main_arg1)) (ix2 j k)) (rows2 (m ((c : Thread nD τ).loc main_arg2))) (gain (m ((c : Thread nD τ).loc main_arg3))) (rows2 (m ((c : Thread nD τ).loc main_arg4))) (512 * t.val)
    (iblk m c 0 t) (iblk m c 1 t) (iblk m c 2 t) (iblk m c 3 t) (iblk m c 4 t) := by
  have ht : t.val < 4 := lt_of_lt_of_eq t.isLt N_0
  refine ⟨fun p r k => ?_, fun k j => ?_, fun r k => ?_, fun k => ?_, fun r k => ?_⟩
  · refine Eq.trans ?_ (rowsOf_lt _ (by omega) k).symm
    rw [← V_main_arg0 m c]
    blk_ext [iblk, idx0 t]
  · rw [← V_main_arg1 m c]
    blk_ext [iblk, idx1 t]
  · refine Eq.trans ?_ (rowsOf_lt _ (by omega) k).symm
    rw [← V_main_arg2 m c]
    blk_ext [iblk, idx2 t]
  · rw [← gains_apply m c k]
    blk_ext [iblk, idx3 t]
  · refine Eq.trans ?_ (rowsOf_lt _ (by omega) k).symm
    rw [← V_main_arg4 m c]
    blk_ext [iblk, idx4 t]

/-- Output block 5 after a point. -/
theorem outs_row (c : Dev nD) (t : Fin cfg0.N) (r : Fin 512) (j : Fin 1024) : (outsAt0 m c t.val t.isLt).1 (ix2 r j) =
    outRow (D (m ((c : Thread nD τ).loc main_arg0)) (m ((c : Thread nD τ).loc main_arg1))) (rows2 (m ((c : Thread nD τ).loc main_arg2))) (gain (m ((c : Thread nD τ).loc main_arg3))) (rows2 (m ((c : Thread nD τ).loc main_arg4))) (512 * t.val + r.val) j := by
  have R := reads m c t
  by_cases h0 : t.val % 4 = 0
  · rw [outsAt0_A m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    exact outA_row R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) r j
  · rw [outsAt0_B m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    exact outB_row R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) _ r j

/-- Output block 6 after a point. -/
theorem outs_row16 (c : Dev nD) (t : Fin cfg0.N) (r : Fin 512) (j : Fin 1024) : (outsAt0 m c t.val t.isLt).2.1 (ix2 r j) =
    outRow (D (m ((c : Thread nD τ).loc main_arg0)) (m ((c : Thread nD τ).loc main_arg1))) (rows2 (m ((c : Thread nD τ).loc main_arg2))) (gain (m ((c : Thread nD τ).loc main_arg3))) (rows2 (m ((c : Thread nD τ).loc main_arg4))) (512 * t.val + r.val) j := by
  have R := reads m c t
  by_cases h0 : t.val % 4 = 0
  · rw [outsAt0_A m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    exact outA_row16 R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) r j
  · rw [outsAt0_B m c t h0]
    dsimp only
    generalize iblk m c 0 t = y0 at R ⊢
    generalize iblk m c 1 t = y1 at R ⊢
    generalize iblk m c 2 t = y2 at R ⊢
    generalize iblk m c 3 t = y3 at R ⊢
    generalize iblk m c 4 t = y4 at R ⊢
    exact outB_row16 R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) _ r j

/-- The third output block after the first point. -/
theorem outs_gain_A (c : Dev nD) (t : Fin cfg0.N) (h0 : t.val = 0) (k : Fin 8) (j : Fin 1024) : (outsAt0 m c t.val t.isLt).2.2 (ix2 k j) =
    if k.val = 0 then upTo (gainTerm (D (m ((c : Thread nD τ).loc main_arg0)) (m ((c : Thread nD τ).loc main_arg1))) (rows2 (m ((c : Thread nD τ).loc main_arg2))) j) (512 * t.val + 512) else (0 : EReal) := by
  have R := reads m c t
  have e : upTo (gainTerm (D (m ((c : Thread nD τ).loc main_arg0)) (m ((c : Thread nD τ).loc main_arg1))) (rows2 (m ((c : Thread nD τ).loc main_arg2))) j) (512 * t.val) = 0 := by rw [h0]; exact upTo_zero _
  rw [outsAt0_A m c t (by omega), upTo_step, e, zero_add]
  dsimp only
  generalize iblk m c 0 t = y0 at R ⊢
  generalize iblk m c 1 t = y1 at R ⊢
  generalize iblk m c 2 t = y2 at R ⊢
  generalize iblk m c 3 t = y3 at R ⊢
  generalize iblk m c 4 t = y4 at R ⊢
  exact outA_gain R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ k j

/-- The third output block after a later point, from the block after the point before. -/
theorem outs_gain_B (c : Dev nD) (t : Fin cfg0.N) (h0 : ¬t.val % 4 = 0)
    (hp : ∀ (k : Fin 8) (j : Fin 1024), (outsAt0 m c (t.val - 1) (Nat.lt_of_le_of_lt (Nat.sub_le _ _) t.isLt)).2.2 (ix2 k j) =
      if k.val = 0 then upTo (gainTerm (D (m ((c : Thread nD τ).loc main_arg0)) (m ((c : Thread nD τ).loc main_arg1))) (rows2 (m ((c : Thread nD τ).loc main_arg2))) j) (512 * t.val) else (0 : EReal))
    (k : Fin 8) (j : Fin 1024) : (outsAt0 m c t.val t.isLt).2.2 (ix2 k j) =
    if k.val = 0 then upTo (gainTerm (D (m ((c : Thread nD τ).loc main_arg0)) (m ((c : Thread nD τ).loc main_arg1))) (rows2 (m ((c : Thread nD τ).loc main_arg2))) j) (512 * t.val + 512) else (0 : EReal) := by
  have R := reads m c t
  have hk := hp k j
  rw [outsAt0_B m c t h0, upTo_step]
  dsimp only
  generalize iblk m c 0 t = y0 at R ⊢
  generalize iblk m c 1 t = y1 at R ⊢
  generalize iblk m c 2 t = y2 at R ⊢
  generalize iblk m c 3 t = y3 at R ⊢
  generalize iblk m c 4 t = y4 at R ⊢
  refine (outB_gain R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ k j).trans ?_
  rw [hk]
  by_cases h : k.val = 0
  · rw [if_pos h, if_pos h, if_pos h]
  · rw [if_neg h, if_neg h, if_neg h]

/-- The third output block after every point: the sums of the rows so far. -/
theorem outs_gain (c : Dev nD) : ∀ (n : ℕ) (h : n < cfg0.N) (k : Fin 8) (j : Fin 1024), (outsAt0 m c n h).2.2 (ix2 k j) =
    if k.val = 0 then upTo (gainTerm (D (m ((c : Thread nD τ).loc main_arg0)) (m ((c : Thread nD τ).loc main_arg1))) (rows2 (m ((c : Thread nD τ).loc main_arg2))) j) (512 * n + 512) else (0 : EReal)
  | 0, h, k, j => outs_gain_A m c ⟨0, h⟩ rfl k j
  | n + 1, h, k, j => by
    have hN : cfg0.N = 4 := N_0
    exact outs_gain_B m c ⟨n + 1, h⟩ (by dsimp only; omega) (fun k j => outs_gain c n (Nat.lt_of_succ_lt h) k j) k j

/-- The rows' gradients, as an array, and the gain's gradient in the first of eight rows. -/
def gradX (x0 : Cert.MixDhIdeal.S3x2048x1024.Idx → EReal) (x1 : Cert.MixDhIdeal.S1024x3072.Idx → EReal) (x : Cert.MixDhIdeal.S2048x1024.Idx → EReal) (g : Cert.MixDhIdeal.S4x1024.Idx → EReal) (d : Cert.MixDhIdeal.S2048x1024.Idx → EReal) : Cert.MixDhIdeal.S2048x1024.Idx → EReal :=
  fun i => outRow (D x0 x1) (rows2 x) (gain g) (rows2 d) (i 0).val (i 1)
def gradGain (x0 : Cert.MixDhIdeal.S3x2048x1024.Idx → EReal) (x1 : Cert.MixDhIdeal.S1024x3072.Idx → EReal) (x : Cert.MixDhIdeal.S2048x1024.Idx → EReal) : Cert.MixDhIdeal.S8x1024.Idx → EReal :=
  fun i => if (i 0).val = 0 then upTo (gainTerm (D x0 x1) (rows2 x) (i 1)) 2048 else (0 : EReal)

/-- Result array 1 of three. -/
theorem arr_row (c : Dev nD) : (dats m 0 c).arrAt 5 cfg0.N = gradX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5]
  have e := outs_row m c t (y 0) (y 1)
  have hy : (ix2 (y 0) (y 1) : S512x1024.Idx) = y := by
    funext a
    match a with
    | ⟨0, _⟩ => rfl
    | ⟨1, _⟩ => rfl
  rw [hy] at e
  refine e.trans ?_
  unfold gradX
  have h1 : ((win0_5.blk t).view.emb y) 1 = y 1 := by refine Fin.ext ?_; blk_simp [idx5 t]
  blk_simp [idx5 t]
  rw [h1, Nat.mul_comm]

/-- Result array 2 of three. -/
theorem arr_row16 (c : Dev nD) : (dats m 0 c).arrAt 6 cfg0.N = gradX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6]
  have e := outs_row16 m c t (y 0) (y 1)
  have hy : (ix2 (y 0) (y 1) : S512x1024.Idx) = y := by
    funext a
    match a with
    | ⟨0, _⟩ => rfl
    | ⟨1, _⟩ => rfl
  rw [hy] at e
  refine e.trans ?_
  unfold gradX
  have h1 : ((win0_6.blk t).view.emb y) 1 = y 1 := by refine Fin.ext ?_; blk_simp [idx6 t]
  blk_simp [idx6 t]
  rw [h1, Nat.mul_comm]

/-- The third result array. -/
theorem arr_gain (c : Dev nD) : (dats m 0 c).arrAt 7 cfg0.N = gradGain (m ((c : Thread nD τ).loc main_arg0)) (m ((c : Thread nD τ).loc main_arg1)) (m ((c : Thread nD τ).loc main_arg2)) := by
  refine (dats m 0 c).arrAt_eq_of_covers 7 _ (by decide +kernel) fun t hf y => ?_
  rw [after0_7]
  have e := outs_gain m c t.val t.isLt (y 0) (y 1)
  have hy : (ix2 (y 0) (y 1) : S8x1024.Idx) = y := by
    funext a
    match a with
    | ⟨0, _⟩ => rfl
    | ⟨1, _⟩ => rfl
  rw [hy] at e
  refine e.trans ?_
  have ht : t.val = 3 := by
    have h4 : t.val < 4 := lt_of_lt_of_eq t.isLt N_0
    have := (flush0_7 t).mp hf
    omega
  unfold gradGain
  have h1 : ((win0_7.blk t).view.emb y) 1 = y 1 := by refine Fin.ext ?_; blk_simp [idx7 t]
  blk_simp [idx7 t]
  rw [h1, ht]

end Cert.Norm.Mix

end
-- ==== Proof.Norm.MixRef.lean ====
module

public import proofs.«01_k».proof.Proof.Norm.MixArray
public import proofs.«01_k».proof.Proof.Gen.MixDhRefIdeal.Read
public import Idealize.ShloMosaic.Lib.Pointwise

/-! What the plain gradient of the mixer input computes, entry by entry: the normalised rows' gradient, the chain rule
    through the norm, and the gain's gradient. -/

@[expose] public section

set_option maxRecDepth 16384

noncomputable section

namespace Cert.Norm.Mix.Ref

open Cert.MixDhRefIdeal Cert.MixDhRefIdeal.Gen Cert.MixDhRefIdeal.Read Idealize.ShloMosaic Idealize.ShloMosaic.TcCoe Idealize.SL.Sem

/-- The reciprocal root of a row's mean square, and its share of the mean square's gradient. -/
theorem rinv_apply (x2 : Cert.MixDhIdeal.S2048x1024.Idx → EReal) (n : Fin 2048) : val_main_v11 (F := Ideal) x2 (ix2 n 0) = rinv (rows2 x2 n.val) := by
  unfold val_main_v11 val_main_v10 val_main_v9 val_main_cst_1 val_main_v8 val_main_v7 val_main_cst_0 val_main_v6 val_main_v5 val_main_cst val_main_v4
  pointwise
  unfold rinv var
  simp only [rowsOf_val]
  rfl

theorem half_apply (x2 : Cert.MixDhIdeal.S2048x1024.Idx → EReal) (n : Fin 2048) : val_main_v14 (F := Ideal) x2 (ix2 n 0) = negHalf * Ideal.div (rinv (rows2 x2 n.val)) (var (rows2 x2 n.val)) := by
  have h := rinv_apply x2 n
  unfold val_main_v14 val_main_v13 val_main_cst_2 val_main_v12 val_main_v10 val_main_v9 val_main_cst_1 val_main_v8 val_main_v7 val_main_cst_0 val_main_v6 val_main_v5 val_main_cst val_main_v4
  generalize val_main_v11 (F := Ideal) x2 = y at h ⊢
  pointwise
  rw [h]
  unfold var
  simp only [rowsOf_val]
  rfl

/-- The normalised rows. -/
theorem xhat_apply (x2 : Cert.MixDhIdeal.S2048x1024.Idx → EReal) (n : Fin 2048) (j : Fin 1024) : val_main_v16 (F := Ideal) x2 (ix2 n j) = rows2 x2 n.val j * rinv (rows2 x2 n.val) := by
  have h := rinv_apply x2 n
  unfold val_main_v16 val_main_v15
  generalize val_main_v11 (F := Ideal) x2 = y at h ⊢
  pointwise
  rw [h]
  exact congrArg (· * rinv (rows2 x2 n.val)) (rowsOf_val (fun n k => x2 (ix2 n k)) n j).symm

/-- The three parts side by side. -/
theorem parts_apply (x0 : Cert.MixDhIdeal.S3x2048x1024.Idx → EReal) (n : Fin 2048) (p : Fin 3) (k : Fin 1024) : val_main_v30 (F := Ideal) x0 (ix2 n (col p k)) = x0 (ix3 p n k) := by
  unfold val_main_v30 val_main_v29 val_main_v28 val_main_v27 val_main_v26 val_main_v25 val_main_v24 val_main_v1
  fin_cases p
  · show _ = x0 (ix3 0 n k)
    pointwise
  · show _ = x0 (ix3 1 n k)
    pointwise
  · show _ = x0 (ix3 2 n k)
    pointwise
    rw [dif_neg (by omega), dif_neg (by omega)]
    exact congrArg (fun q => x0 (ix3 2 n q)) (Fin.ext (by show 2048 + k.val - 1024 - 1024 = k.val; omega))

/-- The normalised rows' gradient. -/
theorem dh_apply (x0 : Cert.MixDhIdeal.S3x2048x1024.Idx → EReal) (x1 : Cert.MixDhIdeal.S1024x3072.Idx → EReal) (n : Fin 2048) (j : Fin 1024) : val_main_v31 (F := Ideal) x0 x1 (ix2 n j) = D x0 x1 n.val j := by
  have h := parts_apply x0 n
  unfold val_main_v31 val_main_v0
  generalize val_main_v30 (F := Ideal) x0 = y at h ⊢
  pointwise
  unfold D dh
  simp only [rowsOf_val]
  rw [← Fin.sum_mul_add_fin 3 1024 (fun k => y (ix2 n k) * x1 (ix2 j k))]
  simp only [Fin.sum_univ_three]
  refine congrArg₂ (· + ·) (congrArg₂ (· + ·) ?_ ?_) ?_
  · exact Finset.sum_congr rfl fun k _ => congrArg (· * _) (h 0 k)
  · exact Finset.sum_congr rfl fun k _ => congrArg (· * _) (h 1 k)
  · exact Finset.sum_congr rfl fun k _ => congrArg (· * _) (h 2 k)

/-- Times the gain. -/
theorem dg_apply (x0 : Cert.MixDhIdeal.S3x2048x1024.Idx → EReal) (x1 : Cert.MixDhIdeal.S1024x3072.Idx → EReal) (x3 : Cert.MixDhIdeal.S4x1024.Idx → EReal) (n : Fin 2048) (j : Fin 1024) : val_main_v36 (F := Ideal) x0 x1 x3 (ix2 n j) = D x0 x1 n.val j * gain x3 j := by
  have h := dh_apply x0 x1 n j
  unfold val_main_v36 val_main_v35 val_main_v17 val_main_v3 val_main_v2
  generalize val_main_v31 (F := Ideal) x0 x1 = y at h ⊢
  pointwise
  rw [h]

/-- A row's gradient of the mean square, which every entry of the row shares. -/
theorem sum_apply (x0 : Cert.MixDhIdeal.S3x2048x1024.Idx → EReal) (x1 : Cert.MixDhIdeal.S1024x3072.Idx → EReal) (x2 : Cert.MixDhIdeal.S2048x1024.Idx → EReal) (x3 : Cert.MixDhIdeal.S4x1024.Idx → EReal) (n : Fin 2048) : val_main_v40 (F := Ideal) x0 x1 x2 x3 (ix2 n 0) = ∑ k, rows2 x2 n.val k * (D x0 x1 n.val k * gain x3 k) := by
  have h := dg_apply x0 x1 x3 n
  unfold val_main_v40 val_main_v39 val_main_cst_5 val_main_v38
  generalize val_main_v36 (F := Ideal) x0 x1 x3 = y at h ⊢
  pointwise
  simp only [h, rowsOf_val]

theorem var_apply (x0 : Cert.MixDhIdeal.S3x2048x1024.Idx → EReal) (x1 : Cert.MixDhIdeal.S1024x3072.Idx → EReal) (x2 : Cert.MixDhIdeal.S2048x1024.Idx → EReal) (x3 : Cert.MixDhIdeal.S4x1024.Idx → EReal) (n : Fin 2048) (j : Fin 1024) : val_main_v48 (F := Ideal) x0 x1 x2 x3 (ix2 n j) = gradVar (D x0 x1 n.val) (rows2 x2 n.val) (gain x3) := by
  have h := sum_apply x0 x1 x2 x3 n
  have h' := half_apply x2 n
  unfold val_main_v48 val_main_v47 val_main_cst_7 val_main_v46 val_main_v45 val_main_cst_6 val_main_v44
  generalize val_main_v40 (F := Ideal) x0 x1 x2 x3 = y at h ⊢
  generalize val_main_v14 (F := Ideal) x2 = y' at h' ⊢
  pointwise
  simp only [Fin.sum_univ_one, Fin.isValue, h, h']
  rfl

/-- The rows' gradient. -/
theorem dx_apply (x0 : Cert.MixDhIdeal.S3x2048x1024.Idx → EReal) (x1 : Cert.MixDhIdeal.S1024x3072.Idx → EReal) (x2 : Cert.MixDhIdeal.S2048x1024.Idx → EReal) (x3 : Cert.MixDhIdeal.S4x1024.Idx → EReal) (x4 : Cert.MixDhIdeal.S2048x1024.Idx → EReal) (n : Fin 2048) (j : Fin 1024) : val_main_v52 (F := Ideal) x0 x1 x2 x3 x4 (ix2 n j) = gradChain (D x0 x1 n.val) (rows2 x2 n.val) (gain x3) (rows2 x4 n.val j) j := by
  have h := var_apply x0 x1 x2 x3 n j
  have h1 := dg_apply x0 x1 x3 n j
  have h2 := rinv_apply x2 n
  unfold val_main_v52 val_main_v51 val_main_v50 val_main_v49 val_main_v43 val_main_v42 val_main_v41
  generalize val_main_v48 (F := Ideal) x0 x1 x2 x3 = y at h ⊢
  generalize val_main_v36 (F := Ideal) x0 x1 x3 = y1 at h1 ⊢
  generalize val_main_v11 (F := Ideal) x2 = y2 at h2 ⊢
  pointwise
  rw [h, h1, h2]
  unfold gradChain
  simp only [rowsOf_val]

/-- The gain's gradient. -/
theorem gain_apply (x0 : Cert.MixDhIdeal.S3x2048x1024.Idx → EReal) (x1 : Cert.MixDhIdeal.S1024x3072.Idx → EReal) (x2 : Cert.MixDhIdeal.S2048x1024.Idx → EReal) (j : Fin 1024) : val_main_v37 (F := Ideal) x0 x1 x2 (ix1 j) = upTo (gainTerm (D x0 x1) (rows2 x2) j) 2048 := by
  have h := dh_apply x0 x1
  have h1 := xhat_apply x2
  unfold val_main_v37 val_main_cst_4 val_main_v34 val_main_v33 val_main_cst_3 val_main_v32
  generalize val_main_v31 (F := Ideal) x0 x1 = y at h ⊢
  generalize val_main_v16 (F := Ideal) x2 = y1 at h1 ⊢
  pointwise
  simp only [Fin.sum_univ_one, Fin.isValue, h, h1]
  unfold upTo
  rw [Finset.sum_range]
  exact Finset.sum_congr rfl fun n _ => mul_comm _ _

/-- The three results. -/
theorem gain_eq (x0 : Cert.MixDhIdeal.S3x2048x1024.Idx → EReal) (x1 : Cert.MixDhIdeal.S1024x3072.Idx → EReal) (x2 : Cert.MixDhIdeal.S2048x1024.Idx → EReal) : val_main_v55 (F := Ideal) x0 x1 x2 = gradGain x0 x1 x2 := by
  funext i
  have h := gain_apply x0 x1 x2
  unfold val_main_v55 val_main_v54
  unfold gradGain
  by_cases hi : (i 0).val = 0
  · rw [if_pos hi]
    refine (Idealize.ShloMosaic.pad_apply_of_inside _ _ _ _ _ _ _ i (ix2 0 (i 1)) (Fin.forall_fin_two.mpr ⟨by show (i 0).val = 0 + 0 * 1; omega, by show (i 1).val = 0 + (i 1).val * 1; omega⟩)).trans ?_
    refine Eq.trans ?_ (h (i 1))
    generalize val_main_v37 (F := Ideal) x0 x1 x2 = y
    generalize (i 1 : Fin 1024) = j
    pointwise
  · rw [if_neg hi]
    refine (Idealize.ShloMosaic.pad_apply_of_not_inside _ _ _ _ _ _ _ i 0 ?_).trans ?_
    · rintro ⟨-, -, hlt⟩
      have hlt' : ((i 0).val - 0) / (0 + 1) < 1 := hlt
      omega
    · show (((0#32 : BitVec 32).toInt : ℝ) : EReal) = 0
      simp

theorem dx_eq (x0 : Cert.MixDhIdeal.S3x2048x1024.Idx → EReal) (x1 : Cert.MixDhIdeal.S1024x3072.Idx → EReal) (x2 : Cert.MixDhIdeal.S2048x1024.Idx → EReal) (x3 : Cert.MixDhIdeal.S4x1024.Idx → EReal) (x4 : Cert.MixDhIdeal.S2048x1024.Idx → EReal) (hd : ∀ n k, IsReal (D x0 x1 n k)) (hx : ∀ n k, IsReal (rows2 x2 n k)) (hg : ∀ k, IsReal (gain x3 k)) :
    val_main_v52 (F := Ideal) x0 x1 x2 x3 x4 = gradX x0 x1 x2 x3 x4 := by
  funext i
  refine (congrArg (val_main_v52 (F := Ideal) x0 x1 x2 x3 x4) (eq_ix2 i)).trans ((dx_apply x0 x1 x2 x3 x4 (i 0) (i 1)).trans ?_)
  exact (gradRow_eq (hd _) (hx _) hg _ _).symm

theorem dx16_eq (x0 : Cert.MixDhIdeal.S3x2048x1024.Idx → EReal) (x1 : Cert.MixDhIdeal.S1024x3072.Idx → EReal) (x2 : Cert.MixDhIdeal.S2048x1024.Idx → EReal) (x3 : Cert.MixDhIdeal.S4x1024.Idx → EReal) (x4 : Cert.MixDhIdeal.S2048x1024.Idx → EReal) (hd : ∀ n k, IsReal (D x0 x1 n k)) (hx : ∀ n k, IsReal (rows2 x2 n k)) (hg : ∀ k, IsReal (gain x3 k)) :
    val_main_v53 (F := Ideal) x0 x1 x2 x3 x4 = gradX x0 x1 x2 x3 x4 := by
  refine Eq.trans ?_ (dx_eq x0 x1 x2 x3 x4 hd hx hg)
  funext i
  unfold val_main_v53
  generalize val_main_v52 (F := Ideal) x0 x1 x2 x3 x4 = y
  rfl

end Cert.Norm.Mix.Ref

end
-- ==== Proof.Norm.Mix.lean ====
module

public import proofs.«01_k».proof.Defs
public import proofs.«01_k».proof.Proof.Norm.MixRef
public import proofs.«01_k».proof.Proof.Gen.MixDhRefIdeal.Run
public import proofs.«01_k».proof.Proof.Gen.Pre_finite_mix_dh

/-! The mixer input's backward pass: on finite arguments the kernel and the plain gradient end with equal results. -/

@[expose] public section

set_option maxRecDepth 16384

noncomputable section

namespace Cert.Norm.Mix

open Cert.MixDhIdeal Idealize.ShloMosaic Idealize.ShloMosaic.TcCoe Idealize.SL.Sem

section

variable {x0 : FVec Ideal Cert.Pre_finite_mix_dh.S3x2048x1024 .bf16} {x1 : FVec Ideal Cert.Pre_finite_mix_dh.S1024x3072 .bf16} {x2 : FVec Ideal Cert.Pre_finite_mix_dh.S2048x1024 .f32} {x3 : FVec Ideal Cert.Pre_finite_mix_dh.S4x1024 .f32} {x4 : FVec Ideal Cert.Pre_finite_mix_dh.S2048x1024 .f32}

/-- What the precondition says of each of its arguments. -/
theorem real0 (h : (Cert.Pre_finite_mix_dh.fn (F := Ideal) x0 x1 x2 x3 x4).1 = fun _ => 1#1) (i) : IsReal (x0 i) := by
  have e := congrFun h i
  rw [eq_ix3 i] at e
  unfold Cert.Pre_finite_mix_dh.fn at e
  pointwise at e
  exact IsReal.of_test e

theorem real1 (h : (Cert.Pre_finite_mix_dh.fn (F := Ideal) x0 x1 x2 x3 x4).2.1 = fun _ => 1#1) (i) : IsReal (x1 i) := by
  have e := congrFun h i
  rw [eq_ix2 i] at e
  unfold Cert.Pre_finite_mix_dh.fn at e
  pointwise at e
  exact IsReal.of_test e

theorem real2 (h : (Cert.Pre_finite_mix_dh.fn (F := Ideal) x0 x1 x2 x3 x4).2.2.1 = fun _ => 1#1) (i) : IsReal (x2 i) := by
  have e := congrFun h i
  rw [eq_ix2 i] at e
  unfold Cert.Pre_finite_mix_dh.fn at e
  pointwise at e
  exact IsReal.of_test e

theorem real3 (h : (Cert.Pre_finite_mix_dh.fn (F := Ideal) x0 x1 x2 x3 x4).2.2.2 = fun _ => 1#1) (i) : IsReal (x3 i) := by
  have e := congrFun h i
  rw [eq_ix2 i] at e
  unfold Cert.Pre_finite_mix_dh.fn at e
  pointwise at e
  exact IsReal.of_test e

end

theorem D_real {x0 : Cert.MixDhIdeal.S3x2048x1024.Idx → EReal} {x1 : Cert.MixDhIdeal.S1024x3072.Idx → EReal} (h0 : ∀ i, IsReal (x0 i)) (h1 : ∀ i, IsReal (x1 i)) (n : ℕ) (j : Fin 1024) :
    IsReal (D x0 x1 n j) :=
  ((IsReal.sum _ fun k => (rows_real (fun n k => h0 _) n k).mul (h1 _)).add (IsReal.sum _ fun k => (rows_real (fun n k => h0 _) n k).mul (h1 _))).add
    (IsReal.sum _ fun k => (rows_real (fun n k => h0 _) n k).mul (h1 _))

theorem algebraic : Cert.algebraic_MixDhIdeal_MixDhRefIdeal_pre_finite_mix_dh (hMixDhIdeal := Cert.MixDhIdeal.Gen.facts)
    (hMixDhRefIdeal := Cert.MixDhRefIdeal.Gen.facts) (hPre_finite_mix_dh := Cert.Pre_finite_mix_dh.Gen.facts) := by
  intro m g m' g' hpre hagree
  refine ⟨fun c => gradX (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => gradX (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => gradGain (m ((c.tc : Thread _ _).loc main_arg0)) (m ((c.tc : Thread _ _).loc main_arg1)) (m ((c.tc : Thread _ _).loc main_arg2)), ?_, ?_⟩
  · refine (θ_run _ _ _).mono (fun r h c => ?_) (Cert.MixDhIdeal.Value.run_blocks (F := Ideal) m g)
    obtain ⟨h0, h1, h2, h3, h4, h5, h6, h7⟩ := h c
    exact ⟨h0.trans (arr_row m c), h1.trans (arr_row16 m c), h2.trans (arr_gain m c), h3, h4, h5, h6, h7⟩
  · refine (θ_run _ _ _).mono (fun r h c => ?_) (Cert.MixDhRefIdeal.Value.run (F := Ideal) m' g')
    obtain ⟨h0, h1, h2, h3, h4, h5, h6, h7⟩ := h c
    obtain ⟨a0, a1, a2, a3, a4⟩ := hagree c
    obtain ⟨p0, p1, p2, p3⟩ := hpre c
    refine ⟨h0.trans ?_, h1.trans ?_, h2.trans ?_, h3, h4, h5, h6, h7⟩
    · rw [Cert.MixDhRefIdeal.Read.val_main_v52_eq, a0, a1, a2, a3, a4]
      exact Ref.dx_eq _ _ _ _ _ (fun n j => D_real (real0 p0) (real1 p1) n j) (rows_real fun n k => real2 p2 _) (fun k => real3 p3 _)
    · rw [Cert.MixDhRefIdeal.Read.val_main_v53_eq, a0, a1, a2, a3, a4]
      exact Ref.dx16_eq _ _ _ _ _ (fun n j => D_real (real0 p0) (real1 p1) n j) (rows_real fun n k => real2 p2 _) (fun k => real3 p3 _)
    · rw [Cert.MixDhRefIdeal.Read.val_main_v55_eq, Ref.gain_eq, a0, a1, a2]

end Cert.Norm.Mix

end
-- ==== Proof.Dw.FfnTable.lean ====
module

public import proofs.«01_k».proof.Proof.Gen.FfnDw.Launch

/-! The table of the three weight gradients of the FFN: what its words are, row by row.

The call runs 18 points, six for each of three products, and a table of 18 rows tells each point which product it
works at (word 0), which block of 512 columns of that product's left factor it reads (words 1, 3, 5), and — by the
same words — which block of 512 rows of that product's result it writes. A product that is not at work at a point
stays at the block it last used, or will use first.

The table is given by a constant of the program; here its words are named, the blocks they point at are shown to
lie inside the arrays, and the configuration of the call at this table is named. -/

@[expose] public section

set_option maxRecDepth 16384

noncomputable section

open Idealize.ShloMosaic Idealize.ShloMosaic.TcCoe

namespace Cert.Dw.Ffn

open Cert.FfnDw Cert.FfnDw.Gen

variable {F : FTy → Type} [FloatOps F]

/-- Word `k` of row `r` of the table. -/
def word (r k : Nat) : BitVec 32 := if h : r * 7 + k < 126 then lit0 ⟨r * 7 + k, h⟩ else 0

set_option backward.proofsInPublic true in
/-- The table's contents: the program's constant. -/
def tbl : pre0.Contents (Elt F) := fun
  | ⟨0, _⟩ => fun i => lit0 (S18x7.rowMajor i)
  | ⟨_ + 1, h⟩ => absurd h (Nat.not_lt.2 (Nat.le_add_left _ _))

/-- The table at an index is the word of its coordinates. -/
theorem tbl_apply (i : S18x7.Idx) : (tbl (F := F)) 0 i = word (i 0).val (i 1).val := by
  have h := Shape.rowMajor_val_two i
  have h' : (i 0).val * 7 + (i 1).val < 126 := by
    have := (S18x7.rowMajor i).isLt
    rw [h] at this; exact this
  unfold word
  rw [dif_pos h']
  exact congrArg lit0 (Fin.ext h)

theorem word_0 : ∀ r : Fin 18, word r.val 0 = BitVec.ofNat 32 (r.val / 6) := by decide +kernel
theorem word_1 : ∀ r : Fin 18, word r.val 1 = BitVec.ofNat 32 (min r.val 5) := by decide +kernel
theorem word_2 : ∀ r : Fin 18, word r.val 2 = 0#32 := by decide +kernel
theorem word_3 : ∀ r : Fin 18, word r.val 3 = BitVec.ofNat 32 (min (r.val - 6) 5) := by decide +kernel
theorem word_4 : ∀ r : Fin 18, word r.val 4 = 0#32 := by decide +kernel
theorem word_5 : ∀ r : Fin 18, word r.val 5 = BitVec.ofNat 32 (min (r.val - 12) 5) := by decide +kernel
theorem word_6 : ∀ r : Fin 18, word r.val 6 = 0#32 := by decide +kernel

/-- The index the row's coordinate is taken to, in the words of the kernel. -/
theorem row_eq : ∀ r : Fin 18, (Scalar.indexCast (BitVec.ofNat 32 r.val) : Index).toNat = r.val := by decide +kernel

/-- The word of row `i`, read through the rectangle of one element at row `i`. -/
theorem at_eq (i : grid0.Coords) (k : Nat) (hk : k < 7)
    (hi : ∀ a, ![(Scalar.indexCast (BitVec.ofNat 32 (i 0).val) : Index).toNat, k] a + S1x1.size a ≤ S18x7.size a) :
    (tbl (F := F)).at 0 (Rect.unit (s := S18x7) ![(Scalar.indexCast (BitVec.ofNat 32 (i 0).val) : Index).toNat, k] S1x1.size hi) numel1_S1x1
      = word (i 0).val k := by
  refine (tbl_apply _).trans ?_
  have h0 := row_eq (i 0)
  exact congrArg₂ word (h0) rfl

/-! The blocks that the windows are at, point by point: a left factor's block of columns, a right factor whole, a
result's block of rows. -/

theorem toNat_min : ∀ r : Fin 18, (BitVec.ofNat 32 (min r.val 5)).toNat = min r.val 5
    ∧ (BitVec.ofNat 32 (min (r.val - 6) 5)).toNat = min (r.val - 6) 5
    ∧ (BitVec.ofNat 32 (min (r.val - 12) 5)).toNat = min (r.val - 12) 5 := by decide +kernel

theorem index_0 (i : grid0.Coords) :
    cc0_transform_0 k0_off1_inb numel1_S1x1 (tbl (F := F)) i = ![0, min (i 0).val 5] :=
  congrArg (fun n : Nat => ![0, n]) (((congrArg BitVec.toNat ((at_eq (F := F) i 1 (by decide) (k0_off1_inb i)).trans (word_1 (i 0)))).trans
    (toNat_min (i 0)).1))

theorem index_1 (i : grid0.Coords) :
    cc0_transform_1 k0_off2_inb numel1_S1x1 (tbl (F := F)) i = ![0, 0] :=
  congrArg (fun n : Nat => ![0, n]) (congrArg BitVec.toNat ((at_eq (F := F) i 2 (by decide) (k0_off2_inb i)).trans (word_2 (i 0))))

theorem index_6 (i : grid0.Coords) :
    cc0_transform_6 k0_off1_inb numel1_S1x1 k0_off2_inb (tbl (F := F)) i = ![min (i 0).val 5, 0] :=
  congrArg₂ (fun n n' : Nat => ![n, n']) (((congrArg BitVec.toNat ((at_eq (F := F) i 1 (by decide) (k0_off1_inb i)).trans (word_1 (i 0)))).trans
    (toNat_min (i 0)).1)) (congrArg BitVec.toNat ((at_eq (F := F) i 2 (by decide) (k0_off2_inb i)).trans (word_2 (i 0))))

theorem index_2 (i : grid0.Coords) :
    cc0_transform_2 k0_off3_inb numel1_S1x1 (tbl (F := F)) i = ![0, min ((i 0).val - 6) 5] :=
  congrArg (fun n : Nat => ![0, n]) (((congrArg BitVec.toNat ((at_eq (F := F) i 3 (by decide) (k0_off3_inb i)).trans (word_3 (i 0)))).trans
    (toNat_min (i 0)).2.1))

theorem index_3 (i : grid0.Coords) :
    cc0_transform_3 k0_off4_inb numel1_S1x1 (tbl (F := F)) i = ![0, 0] :=
  congrArg (fun n : Nat => ![0, n]) (congrArg BitVec.toNat ((at_eq (F := F) i 4 (by decide) (k0_off4_inb i)).trans (word_4 (i 0))))

theorem index_7 (i : grid0.Coords) :
    cc0_transform_7 k0_off3_inb numel1_S1x1 k0_off4_inb (tbl (F := F)) i = ![min ((i 0).val - 6) 5, 0] :=
  congrArg₂ (fun n n' : Nat => ![n, n']) (((congrArg BitVec.toNat ((at_eq (F := F) i 3 (by decide) (k0_off3_inb i)).trans (word_3 (i 0)))).trans
    (toNat_min (i 0)).2.1)) (congrArg BitVec.toNat ((at_eq (F := F) i 4 (by decide) (k0_off4_inb i)).trans (word_4 (i 0))))

theorem index_4 (i : grid0.Coords) :
    cc0_transform_4 k0_off5_inb numel1_S1x1 (tbl (F := F)) i = ![0, min ((i 0).val - 12) 5] :=
  congrArg (fun n : Nat => ![0, n]) (((congrArg BitVec.toNat ((at_eq (F := F) i 5 (by decide) (k0_off5_inb i)).trans (word_5 (i 0)))).trans
    (toNat_min (i 0)).2.2))

theorem index_5 (i : grid0.Coords) :
    cc0_transform_5 k0_off6_inb numel1_S1x1 (tbl (F := F)) i = ![0, 0] :=
  congrArg (fun n : Nat => ![0, n]) (congrArg BitVec.toNat ((at_eq (F := F) i 6 (by decide) (k0_off6_inb i)).trans (word_6 (i 0))))

theorem index_8 (i : grid0.Coords) :
    cc0_transform_8 k0_off5_inb numel1_S1x1 k0_off6_inb (tbl (F := F)) i = ![min ((i 0).val - 12) 5, 0] :=
  congrArg₂ (fun n n' : Nat => ![n, n']) (((congrArg BitVec.toNat ((at_eq (F := F) i 5 (by decide) (k0_off5_inb i)).trans (word_5 (i 0)))).trans
    (toNat_min (i 0)).2.2)) (congrArg BitVec.toNat ((at_eq (F := F) i 6 (by decide) (k0_off6_inb i)).trans (word_6 (i 0))))

/-- The word that a point asks which product it works at. -/
theorem atD_eq (i : grid0.Coords) : (tbl (F := F)).atD 0 (k0_off7 i) = BitVec.ofNat 32 ((i 0).val / 6) := by
  have h : ∀ a : Fin 2, (k0_off7 i) a + 1 ≤ S18x7.size a := fun a => by
    have := k0_off7_inb i a
    match a, this with
    | 0, h => exact h
    | 1, h => exact h
  refine (dif_pos h).trans ((tbl_apply _).trans ?_)
  exact (congrArg₂ word (row_eq (i 0)) rfl).trans (word_0 (i 0))

/-! ## Every block lies in its array -/

/-- A block of 512 columns, at most the sixth, lies in 3072 columns. -/
theorem fits_cols (n : Nat) (hn : n ≤ 5) : ∀ a, (![0, n] a + 1) * S2048x512.size a ≤ S2048x3072.size a := by
  intro a; match a with
  | 0 => show (0 + 1) * 2048 ≤ 2048; omega
  | 1 => show (n + 1) * 512 ≤ 3072; omega
/-- A block of 512 rows, at most the sixth, lies in 3072 rows. -/
theorem fits_rows (n : Nat) (hn : n ≤ 5) : ∀ a, (![n, 0] a + 1) * S512x1024.size a ≤ S3072x1024.size a := by
  intro a; match a with
  | 0 => show (n + 1) * 512 ≤ 3072; omega
  | 1 => show (0 + 1) * 1024 ≤ 1024; omega

/-- The call's side condition at the table. -/
theorem ok_tbl : ok0 (F := F) tbl := by
  refine ⟨?_, ?_, ?_, ?_, ?_, ?_, ?_, ?_, ?_⟩
  · intro i
    rw [index_0]
    exact ⟨fits_cols _ (by omega), .inr (Affine.block_words_dvd (of_decide_eq_true rfl) (by decide))⟩
  · intro i
    rw [index_1]
    exact ⟨(by decide), .inr (Affine.block_words_dvd (of_decide_eq_true rfl) (by decide))⟩
  · intro i
    rw [index_2]
    exact ⟨fits_cols _ (by omega), .inr (Affine.block_words_dvd (of_decide_eq_true rfl) (by decide))⟩
  · intro i
    rw [index_3]
    exact ⟨(by decide), .inr (Affine.block_words_dvd (of_decide_eq_true rfl) (by decide))⟩
  · intro i
    rw [index_4]
    exact ⟨fits_cols _ (by omega), .inr (Affine.block_words_dvd (of_decide_eq_true rfl) (by decide))⟩
  · intro i
    rw [index_5]
    exact ⟨(by decide), .inr (Affine.block_words_dvd (of_decide_eq_true rfl) (by decide))⟩
  · intro i
    rw [index_6]
    exact ⟨fits_rows _ (by omega), .inr (Affine.block_words_dvd (of_decide_eq_true rfl) (by decide))⟩
  · intro i
    rw [index_7]
    exact ⟨fits_rows _ (by omega), .inr (Affine.block_words_dvd (of_decide_eq_true rfl) (by decide))⟩
  · intro i
    rw [index_8]
    exact ⟨fits_rows _ (by omega), .inr (Affine.block_words_dvd (of_decide_eq_true rfl) (by decide))⟩

/-- The table with its side condition, and the call's configuration at it. -/
def adm : (pcfg0 (F := F)).Adm := ⟨tbl, ok_tbl⟩
abbrev cfgA : Pipeline.Cfg sig Λ₀ := cfg0 (F := F) adm

end Cert.Dw.Ffn
-- ==== Proof.Dw.FfnPoints.lean ====
module

public import proofs.«01_k».proof.Proof.Dw.FfnTable
public import Idealize.ShloMosaic.Lib.Pipeline.TableIdle

/-! The schedule of the three weight gradients of the FFN: which points are at work on which product, where a result's
block is written back, and where a result's buffer holds nothing yet. -/

@[expose] public section

set_option maxRecDepth 16384

noncomputable section

open Idealize.ShloMosaic Idealize.ShloMosaic.TcCoe

namespace Cert.Dw.Ffn

open Cert.FfnDw Cert.FfnDw.Gen

variable {F : FTy → Type} [FloatOps F]

/-- The grid's one coordinate is the point. -/
theorem coord : ∀ t : Fin grid0.N, (grid0.coords t 0).val = t.val := by decide +kernel

/-- The product that a point is at work on, out of its word. -/
theorem cond_0 : ∀ r : Fin 18, (k0_cond1 (BitVec.ofNat 32 (r.val / 6)) = 1#1) ↔ r.val < 6 := by decide +kernel
theorem cond_1 : ∀ r : Fin 18, (k0_cond2 (BitVec.ofNat 32 (r.val / 6)) = 1#1) ↔ (6 ≤ r.val ∧ r.val < 12) := by decide +kernel
theorem cond_2 : ∀ r : Fin 18, (k0_cond3 (BitVec.ofNat 32 (r.val / 6)) = 1#1) ↔ 12 ≤ r.val := by decide +kernel

theorem idle_6 (t : Fin (cfgA (F := F)).N) : (cfgA (F := F)).idle 6 ((cfgA (F := F)).grid.coords t) = !decide (t.val < 6) := by
  have h := cond_0 (grid0.coords t 0)
  rw [coord t] at h
  refine (congrArg (fun v => !(k0_cond1 v == 1#1)) (atD_eq (F := F) (grid0.coords t))).trans ?_
  rw [coord t, Bool.beq_eq_decide_eq]
  exact congrArg (fun b => !b) (decide_eq_decide.mpr h)

theorem idle_7 (t : Fin (cfgA (F := F)).N) : (cfgA (F := F)).idle 7 ((cfgA (F := F)).grid.coords t) = !decide (6 ≤ t.val ∧ t.val < 12) := by
  have h := cond_1 (grid0.coords t 0)
  rw [coord t] at h
  refine (congrArg (fun v => !(k0_cond2 v == 1#1)) (atD_eq (F := F) (grid0.coords t))).trans ?_
  rw [coord t, Bool.beq_eq_decide_eq]
  exact congrArg (fun b => !b) (decide_eq_decide.mpr h)

theorem idle_8 (t : Fin (cfgA (F := F)).N) : (cfgA (F := F)).idle 8 ((cfgA (F := F)).grid.coords t) = !decide (12 ≤ t.val) := by
  have h := cond_2 (grid0.coords t 0)
  rw [coord t] at h
  refine (congrArg (fun v => !(k0_cond3 v == 1#1)) (atD_eq (F := F) (grid0.coords t))).trans ?_
  rw [coord t, Bool.beq_eq_decide_eq]
  exact congrArg (fun b => !b) (decide_eq_decide.mpr h)

/-- The block that a result is at. -/
theorem win_6 (t : Fin (cfgA (F := F)).N) : ((cfgA (F := F)).win 6).index t = ![min t.val 5, 0] :=
  (index_6 (F := F) (grid0.coords t)).trans (by rw [coord t])
theorem win_7 (t : Fin (cfgA (F := F)).N) : ((cfgA (F := F)).win 7).index t = ![min (t.val - 6) 5, 0] :=
  (index_7 (F := F) (grid0.coords t)).trans (by rw [coord t])
theorem win_8 (t : Fin (cfgA (F := F)).N) : ((cfgA (F := F)).win 8).index t = ![min (t.val - 12) 5, 0] :=
  (index_8 (F := F) (grid0.coords t)).trans (by rw [coord t])

/-- Where a block that follows `g` is written back, in the terms of `g`. -/
theorem flush_of {sig' : RefSig} {G : Pipeline.Grid} (w : Pipeline.Window sig' G) (hw : w.isOut = true) (g : Nat → Fin w.shape.rank → Nat)
    (hg : ∀ t, w.index t = g t.val) (t : Fin G.N) :
    w.flush t = decide (t.val + 1 = G.N ∨ g (t.val + 1) ≠ g t.val) := by
  unfold Pipeline.Window.flush
  rw [hw, Bool.true_and, ← Bool.decide_or]
  refine decide_eq_decide.mpr ?_
  simp only [hg]
  constructor
  · rintro (h | ⟨h, h'⟩)
    · exact .inl h
    · exact .inr h'
  · rintro (h | h)
    · exact .inl h
    · by_cases h' : t.val + 1 = G.N
      · exact .inl h'
      · exact .inr ⟨by omega, h⟩

theorem flush_6 (t : Fin (cfgA (F := F)).N) : ((cfgA (F := F)).win 6).flush t = decide (t.val = 17 ∨ t.val < 5) :=
  (flush_of ((cfgA (F := F)).win 6) rfl (fun n => ![min n 5, 0]) win_6 t).trans
    ((by decide +kernel : ∀ t : Fin 18, decide (t.val + 1 = 18 ∨ (![min (t.val + 1) 5, 0] : Fin 2 → Nat) ≠ ![min t.val 5, 0])
      = decide (t.val = 17 ∨ t.val < 5)) t)
theorem flush_7 (t : Fin (cfgA (F := F)).N) : ((cfgA (F := F)).win 7).flush t = decide (t.val = 17 ∨ (6 ≤ t.val ∧ t.val < 11)) :=
  (flush_of ((cfgA (F := F)).win 7) rfl (fun n => ![min (n - 6) 5, 0]) win_7 t).trans
    ((by decide +kernel : ∀ t : Fin 18, decide (t.val + 1 = 18 ∨ (![min (t.val + 1 - 6) 5, 0] : Fin 2 → Nat) ≠ ![min (t.val - 6) 5, 0])
      = decide (t.val = 17 ∨ (6 ≤ t.val ∧ t.val < 11))) t)
theorem flush_8 (t : Fin (cfgA (F := F)).N) : ((cfgA (F := F)).win 8).flush t = decide (12 ≤ t.val) :=
  (flush_of ((cfgA (F := F)).win 8) rfl (fun n => ![min (n - 12) 5, 0]) win_8 t).trans
    ((by decide +kernel : ∀ t : Fin 18, decide (t.val + 1 = 18 ∨ (![min (t.val + 1 - 12) 5, 0] : Fin 2 → Nat) ≠ ![min (t.val - 12) 5, 0])
      = decide (12 ≤ t.val)) t)

/-- Where a result's buffer holds nothing the body stored: up to the end of its product's points. -/
theorem fresh_6 (n : Nat) (hn : n ≤ (cfgA (F := F)).N) : (cfgA (F := F)).fresh 6 n = decide (n < 6 ∨ n = 18) :=
  Pipeline.Cfg.fresh_tab _ 6 (fun n => decide (n < 6 ∨ n = 18)) (by decide) (fun t => by
    rw [flush_6, idle_6]
    exact (by decide +kernel : ∀ t : Fin 18, decide (t.val + 1 < 6 ∨ t.val + 1 = 18)
      = (decide (t.val = 17 ∨ t.val < 5) || (!decide (t.val < 6) && decide (t.val < 6 ∨ t.val = 18)))) t) n hn
theorem fresh_7 (n : Nat) (hn : n ≤ (cfgA (F := F)).N) : (cfgA (F := F)).fresh 7 n = decide (n < 12 ∨ n = 18) :=
  Pipeline.Cfg.fresh_tab _ 7 (fun n => decide (n < 12 ∨ n = 18)) (by decide) (fun t => by
    rw [flush_7, idle_7]
    exact (by decide +kernel : ∀ t : Fin 18, decide (t.val + 1 < 12 ∨ t.val + 1 = 18)
      = (decide (t.val = 17 ∨ (6 ≤ t.val ∧ t.val < 11)) || (!decide (6 ≤ t.val ∧ t.val < 12) && decide (t.val < 12 ∨ t.val = 18)))) t) n hn
theorem fresh_8 (n : Nat) (hn : n ≤ (cfgA (F := F)).N) : (cfgA (F := F)).fresh 8 n = true :=
  Pipeline.Cfg.fresh_tab _ 8 (fun n => true) (by decide) (fun t => by
    rw [flush_8, idle_8]
    exact (by decide +kernel : ∀ t : Fin 18, true
      = (decide (12 ≤ t.val) || (!decide (12 ≤ t.val) && true))) t) n hn

end Cert.Dw.Ffn
-- ==== Proof.Dw.FfnBody.lean ====
module

public import proofs.«01_k».proof.Proof.Gen.FfnDw.Launch
public import proofs.«01_k».proof.Proof.Gen.FfnDw.Skeleton
public import proofs.«01_k».proof.Proof.Dw.FfnTable
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-! One point of the three weight gradients of the FFN.

A point is at work on one of the three products: it reads its word of the table, multiplies the two blocks of that
product and stores the result over its buffer; the buffers of the other two products stay as they are. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Dw.Ffn

open Cert.FfnDw Cert.FfnDw.Gen

variable {F : FTy → Type} [FloatOps F]

local notation "𝕄" => MT nD τ sig Unit (Elt F) ℕ (UR sig nD τ) ℕ

abbrev rA : Rect S2048x512 := Rect.unit (s := S2048x512) ![0, 0] S2048x512.size inb_S2048x512_S2048x512_0_0
abbrev rB : Rect S2048x1024 := Rect.unit (s := S2048x1024) ![0, 0] S2048x1024.size inb_S2048x1024_S2048x1024_0_0
abbrev rO : Rect S512x1024 := Rect.unit (s := S512x1024) ![0, 0] S512x1024.size inb_S512x1024_S512x1024_0_0

/-- The table's buffer, and it at contents `f`, held at half its share. -/
abbrev tbM : Memref sig .tc .smem S18x7 .i32 := Memref.whole main_c
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

/-- What a point at work on product 0 leaves in its buffer: the product of its two blocks. -/
def out0 (x : Vec F S2048x512 .bf16) (y : Vec F S2048x1024 .bf16) : Vec F S512x1024 .bf16 :=
  View.canon [⟨rO, k0_pay1 (View.ld x rA) (View.ld y rB)⟩]

/-- What a point at work on product 1 leaves in its buffer: the product of its two blocks. -/
def out1 (x : Vec F S2048x512 .bf16) (y : Vec F S2048x1024 .bf16) : Vec F S512x1024 .bf16 :=
  View.canon [⟨rO, k0_pay2 (View.ld x rA) (View.ld y rB)⟩]

/-- What a point at work on product 2 leaves in its buffer: the product of its two blocks. -/
def out2 (x : Vec F S2048x512 .bf16) (y : Vec F S2048x1024 .bf16) : Vec F S512x1024 .bf16 :=
  View.canon [⟨rO, k0_pay3 (View.ld x rA) (View.ld y rB)⟩]

/-- The store covers the buffer. -/
theorem cover (p0 : Vec F S512x1024 .bf16) (y : S512x1024.Idx) :
    ∃ pc ∈ ([⟨rO, p0⟩] : List (View.Piece (Elt F) S512x1024 .bf16)), y ∈ pc.1.set :=
  View.cover_of_tiled [⟨rO, p0⟩] S512x1024.size (by rfl) y

/-- The index of the word that a point reads. -/
def k0_word (i : grid0.Coords) : S18x7.Idx :=
  (Rect.unit (s := S18x7) (k0_off7 i) S1x1.size (k0_off7_inb i)).emb (Shape.Idx.first (numel1_S1x1.symm ▸ Nat.one_pos))

set_option maxHeartbeats 1000000 in
/-- A point at work on product 0. -/
theorem body_0 (c : Dev nD) (E : Set ℕ) (i : grid0.Coords) (arg2 : Memref sig .tc .vmem S2048x512 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S2048x1024 .bf16) (harg5 : arg5.IsWhole) (arg6 : Memref sig .tc .vmem S2048x512 .bf16) (harg6 : arg6.IsWhole) (arg7 : Memref sig .tc .vmem S2048x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S2048x512 .bf16) (x1 : Vec F S2048x1024 .bf16) (x2 : Vec F S2048x512 .bf16) (x3 : Vec F S2048x1024 .bf16) (x4 : Vec F S2048x512 .bf16) (x5 : Vec F S2048x1024 .bf16) (x6 : Vec F S512x1024 .bf16) (x7 : Vec F S512x1024 .bf16) (x8 : Vec F S512x1024 .bf16) (xt : TbBuf (F := F) c)
    (hc1 : k0_cond1 (xt (k0_word i)) = 1#1) (hc2 : ¬ k0_cond2 (xt (k0_word i)) = 1#1) (hc3 : ¬ k0_cond3 (xt (k0_word i)) = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0 x0 x1) ∗ owns (c : Thread nD τ) arg9 fullShare x7 ∗ owns (c : Thread nD τ) arg10 fullShare x8 ∗ tbPt c xt) -∗ K ⟨⟩))
      ⊢ wp frame (wpE (defs₀ (F := F)) Variants.none c none) E (cc0_ffn_dw i tbM (Memref.isWhole_whole _) arg2 harg2 arg3 harg3 arg4 harg4 arg5 harg5 arg6 harg6 arg7 harg7 arg8 harg8 arg9 harg9 arg10 harg10) K := by
  simp only [cc0_ffn_dw_eq_skeleton]; unfold cc0_ffn_dw_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover _)
  isplitl [H7]
  · iexists f7; isplitr; · ipureintro; rfl
    iexact H7
  isplitl [H8]
  · iexists f8; isplitr; · ipureintro; rfl
    iexact H8
  iexact HT

set_option maxHeartbeats 1000000 in
/-- A point at work on product 1. -/
theorem body_1 (c : Dev nD) (E : Set ℕ) (i : grid0.Coords) (arg2 : Memref sig .tc .vmem S2048x512 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S2048x1024 .bf16) (harg5 : arg5.IsWhole) (arg6 : Memref sig .tc .vmem S2048x512 .bf16) (harg6 : arg6.IsWhole) (arg7 : Memref sig .tc .vmem S2048x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S2048x512 .bf16) (x1 : Vec F S2048x1024 .bf16) (x2 : Vec F S2048x512 .bf16) (x3 : Vec F S2048x1024 .bf16) (x4 : Vec F S2048x512 .bf16) (x5 : Vec F S2048x1024 .bf16) (x6 : Vec F S512x1024 .bf16) (x7 : Vec F S512x1024 .bf16) (x8 : Vec F S512x1024 .bf16) (xt : TbBuf (F := F) c)
    (hc1 : ¬ k0_cond1 (xt (k0_word i)) = 1#1) (hc2 : k0_cond2 (xt (k0_word i)) = 1#1) (hc3 : ¬ k0_cond3 (xt (k0_word i)) = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1 x2 x3) ∗ owns (c : Thread nD τ) arg10 fullShare x8 ∗ tbPt c xt) -∗ K ⟨⟩))
      ⊢ wp frame (wpE (defs₀ (F := F)) Variants.none c none) E (cc0_ffn_dw i tbM (Memref.isWhole_whole _) arg2 harg2 arg3 harg3 arg4 harg4 arg5 harg5 arg6 harg6 arg7 harg7 arg8 harg8 arg9 harg9 arg10 harg10) K := by
  simp only [cc0_ffn_dw_eq_skeleton]; unfold cc0_ffn_dw_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover _)
  isplitl [H8]
  · iexists f8; isplitr; · ipureintro; rfl
    iexact H8
  iexact HT

set_option maxHeartbeats 1000000 in
/-- A point at work on product 2. -/
theorem body_2 (c : Dev nD) (E : Set ℕ) (i : grid0.Coords) (arg2 : Memref sig .tc .vmem S2048x512 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S2048x1024 .bf16) (harg5 : arg5.IsWhole) (arg6 : Memref sig .tc .vmem S2048x512 .bf16) (harg6 : arg6.IsWhole) (arg7 : Memref sig .tc .vmem S2048x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S2048x512 .bf16) (x1 : Vec F S2048x1024 .bf16) (x2 : Vec F S2048x512 .bf16) (x3 : Vec F S2048x1024 .bf16) (x4 : Vec F S2048x512 .bf16) (x5 : Vec F S2048x1024 .bf16) (x6 : Vec F S512x1024 .bf16) (x7 : Vec F S512x1024 .bf16) (x8 : Vec F S512x1024 .bf16) (xt : TbBuf (F := F) c)
    (hc1 : ¬ k0_cond1 (xt (k0_word i)) = 1#1) (hc2 : ¬ k0_cond2 (xt (k0_word i)) = 1#1) (hc3 : k0_cond3 (xt (k0_word i)) = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out2 x4 x5) ∗ tbPt c xt) -∗ K ⟨⟩))
      ⊢ wp frame (wpE (defs₀ (F := F)) Variants.none c none) E (cc0_ffn_dw i tbM (Memref.isWhole_whole _) arg2 harg2 arg3 harg3 arg4 harg4 arg5 harg5 arg6 harg6 arg7 harg7 arg8 harg8 arg9 harg9 arg10 harg10) K := by
  simp only [cc0_ffn_dw_eq_skeleton]; unfold cc0_ffn_dw_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover _)
  iexact HT

end Cert.Dw.Ffn
-- ==== Proof.Dw.FfnRun.lean ====
module

public import proofs.«01_k».proof.Proof.Gen.FfnDw.Launch
public import proofs.«01_k».proof.Proof.Gen.FfnDw.Skeleton
public import proofs.«01_k».proof.Proof.Dw.FfnPoints
public import proofs.«01_k».proof.Proof.Dw.FfnBody
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-! The run of the three weight gradients of the FFN.

The call's proof data: every input's buffer holds its block; a result's buffer holds, from the first point of its
product on, the product of the two blocks of the last point at work on it. What is found in a result's buffer after its
product's points is what was left there, so that the block written back at the end is the last one computed. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Dw.Ffn

open Cert.FfnDw Cert.FfnDw.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers when the call starts -/

/-- After the constant is written: the table at its words, every array as launched. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  unfold V; simp only [hostOps0]; after_results_simp
theorem V_arg1 (c : Dev nD) : V m c main_arg1 = m ((c : Thread nD τ).loc main_arg1) := by
  unfold V; simp only [hostOps0]; after_results_simp
theorem V_arg2 (c : Dev nD) : V m c main_arg2 = m ((c : Thread nD τ).loc main_arg2) := by
  unfold V; simp only [hostOps0]; after_results_simp
theorem V_arg3 (c : Dev nD) : V m c main_arg3 = m ((c : Thread nD τ).loc main_arg3) := by
  unfold V; simp only [hostOps0]; after_results_simp
theorem V_arg4 (c : Dev nD) : V m c main_arg4 = m ((c : Thread nD τ).loc main_arg4) := by
  unfold V; simp only [hostOps0]; after_results_simp

theorem V_table (c : Dev nD) (k : Fin pre0.K) : V m c (pre0.ref k) = (adm (F := F)).1 k := by
  match k with
  | ⟨0, _⟩ =>
    show V m c main_c = fun i => lit0 (S18x7.rowMajor i)
    unfold V; simp only [hostOps0]; after_results_simp; rfl

theorem main_run (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub rfl fun c => (main_chain c).trans rfl

/-! ## The proof data -/

/-- Window `w`'s block at point `t`. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The last point not after `n`, at or before `t`. -/
def upTo (n : Nat) (t : Fin (cfgA (F := F)).N) : Fin (cfgA (F := F)).N := ⟨min t.val n, lt_of_le_of_lt (min_le_left _ _) t.isLt⟩

theorem upTo_eq (n : Nat) (t : Fin (cfgA (F := F)).N) (h : t.val ≤ n) : upTo n t = t := Fin.ext (min_eq_left h)
theorem upTo_pred (n : Nat) (t : Fin (cfgA (F := F)).N) (h : n < t.val) (h' : t.val - 1 < (cfgA (F := F)).N) : upTo n t = upTo n ⟨t.val - 1, h'⟩ :=
  Fin.ext (by show min t.val n = min (t.val - 1) n; omega)

/-- The call's proof data on core `c`. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0 (iblk m c 0 (upTo 5 t)) (iblk m c 1 (upTo 5 t))
    | ⟨7, _⟩ => out1 (iblk m c 2 (upTo 11 t)) (iblk m c 3 (upTo 11 t))
    | ⟨8, _⟩ => out2 (iblk m c 4 (upTo 17 t)) (iblk m c 5 (upTo 17 t))
  Φ _ := iprop(Pipeline.ΦA spec0 c ∗ Pipeline.ΦT pre0 (adm (F := F)).1 c)
  q w := Pipeline.shareOf spec0 w
  owed _ := 0

theorem A_eq (c : Dev nD) (w : Fin (cfgA (F := F)).W) : (dats m 0 c).A w = V m c (Pipeline.arrRef spec0 w) := by
  dsimp only [dats]

theorem after_0 (c : Dev nD) (t : Fin (cfgA (F := F)).N) : (dats m 0 c).after 0 t = iblk m c 0 t := by dsimp only [dats]; rfl
theorem after_1 (c : Dev nD) (t : Fin (cfgA (F := F)).N) : (dats m 0 c).after 1 t = iblk m c 1 t := by dsimp only [dats]; rfl
theorem after_2 (c : Dev nD) (t : Fin (cfgA (F := F)).N) : (dats m 0 c).after 2 t = iblk m c 2 t := by dsimp only [dats]; rfl
theorem after_3 (c : Dev nD) (t : Fin (cfgA (F := F)).N) : (dats m 0 c).after 3 t = iblk m c 3 t := by dsimp only [dats]; rfl
theorem after_4 (c : Dev nD) (t : Fin (cfgA (F := F)).N) : (dats m 0 c).after 4 t = iblk m c 4 t := by dsimp only [dats]; rfl
theorem after_5 (c : Dev nD) (t : Fin (cfgA (F := F)).N) : (dats m 0 c).after 5 t = iblk m c 5 t := by dsimp only [dats]; rfl
theorem after_6 (c : Dev nD) (t : Fin (cfgA (F := F)).N) : (dats m 0 c).after 6 t
    = out0 (iblk m c 0 (upTo 5 t)) (iblk m c 1 (upTo 5 t)) := by dsimp only [dats]; rfl
theorem after_7 (c : Dev nD) (t : Fin (cfgA (F := F)).N) : (dats m 0 c).after 7 t
    = out1 (iblk m c 2 (upTo 11 t)) (iblk m c 3 (upTo 11 t)) := by dsimp only [dats]; rfl
theorem after_8 (c : Dev nD) (t : Fin (cfgA (F := F)).N) : (dats m 0 c).after 8 t
    = out2 (iblk m c 4 (upTo 17 t)) (iblk m c 5 (upTo 17 t)) := by dsimp only [dats]; rfl

/-- An input's buffer holds its block at every point. -/
theorem before_0 (c : Dev nD) (t : Fin (cfgA (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans (by unfold Dat.fetched Dat.blockOf iblk; rw [A_eq]; rfl)
theorem before_1 (c : Dev nD) (t : Fin (cfgA (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans (by unfold Dat.fetched Dat.blockOf iblk; rw [A_eq]; rfl)
theorem before_2 (c : Dev nD) (t : Fin (cfgA (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans (by unfold Dat.fetched Dat.blockOf iblk; rw [A_eq]; rfl)
theorem before_3 (c : Dev nD) (t : Fin (cfgA (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans (by unfold Dat.fetched Dat.blockOf iblk; rw [A_eq]; rfl)
theorem before_4 (c : Dev nD) (t : Fin (cfgA (F := F)).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans (by unfold Dat.fetched Dat.blockOf iblk; rw [A_eq]; rfl)
theorem before_5 (c : Dev nD) (t : Fin (cfgA (F := F)).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]) t d).trans (by unfold Dat.fetched Dat.blockOf iblk; rw [A_eq]; rfl)

/-- At the last point, the buffer of a product that was at work before holds the last block computed. -/
theorem before_6 (c : Dev nD) (t : Fin (cfgA (F := F)).N) (ht : 6 ≤ t.val) (d) :
    (dats m 0 c).before 6 t d = (dats m 0 c).after 6 t := by
  have hN : t.val < 18 := t.isLt
  have hfresh : (cfgA (F := F)).fresh 6 t.val = false := by
    rw [fresh_6 _ (Nat.le_of_lt t.isLt)]; exact decide_eq_false (by omega)
  rw [(dats m 0 c).before_out_traj 6 rfl (fun _ _ => rfl) (fun t' h0 _ hf => ?_) t.val t rfl d, hfresh, if_neg Bool.false_ne_true,
    after_6, after_6, upTo_pred 5 t (by omega)]
  rw [fresh_6 _ (Nat.le_of_lt t'.isLt)] at hf
  have := of_decide_eq_false hf
  rw [after_6, after_6, upTo_pred 5 t' (by omega)]

theorem before_7 (c : Dev nD) (t : Fin (cfgA (F := F)).N) (ht : 12 ≤ t.val) (d) :
    (dats m 0 c).before 7 t d = (dats m 0 c).after 7 t := by
  have hN : t.val < 18 := t.isLt
  have hfresh : (cfgA (F := F)).fresh 7 t.val = false := by
    rw [fresh_7 _ (Nat.le_of_lt t.isLt)]; exact decide_eq_false (by omega)
  rw [(dats m 0 c).before_out_traj 7 rfl (fun _ _ => rfl) (fun t' h0 _ hf => ?_) t.val t rfl d, hfresh, if_neg Bool.false_ne_true,
    after_7, after_7, upTo_pred 11 t (by omega)]
  rw [fresh_7 _ (Nat.le_of_lt t'.isLt)] at hf
  have := of_decide_eq_false hf
  rw [after_7, after_7, upTo_pred 11 t' (by omega)]

/-! ## The body obligation -/

/-- A buffer at work holds what the point computed. -/
theorem leaves_live (c : Dev nD) (w : Fin (cfgA (F := F)).W) (t : Fin (cfgA (F := F)).N)
    (hi : (cfgA (F := F)).idle w ((cfgA (F := F)).grid.coords t) = false) :
    (dats m 0 c).leavesExact w t = owns (c : Thread nD τ) (((cfgA (F := F)).win w).stage ((cfgA (F := F)).slots t w)) fullShare ((dats m 0 c).after w t) := by
  unfold Dat.leavesExact; rw [hi]

/-- A buffer not at work is given back as it was found. -/
theorem leaves_idle (c : Dev nD) (w : Fin (cfgA (F := F)).W) (t : Fin (cfgA (F := F)).N) (d)
    (hi : (cfgA (F := F)).idle w ((cfgA (F := F)).grid.coords t) = true)
    (hf : ((cfgA (F := F)).win w).flush t = true → (dats m 0 c).before w t d = (dats m 0 c).after w t) :
    owns (c : Thread nD τ) (((cfgA (F := F)).win w).stage ((cfgA (F := F)).slots t w)) fullShare ((dats m 0 c).before w t d)
      ⊢ ((dats m 0 c).leavesExact w t : sProp 𝕄) := by
  unfold Dat.leavesExact; rw [hi]
  cases h : ((cfgA (F := F)).win w).flush t
  · iintro H; iexists d; iexact H
  · rw [hf h]

/-- The table's half that the call hands to the body. -/
theorem table_eq (c : Dev nD) : (Pipeline.ΦT pre0 (adm (F := F)).1 c : sProp 𝕄) = tbPt c (tbl (F := F) 0) := by
  unfold Pipeline.ΦT Pipeline.prefHeld
  rw [show (Finset.univ : Finset (Fin 1)) = {(0 : Fin 1)} from by decide, Idealize.SL.BI.bigSep_singleton]
  rfl

/-- The word that the body reads at a point. -/
theorem read_word (t : Fin (cfgA (F := F)).N) : tbl (F := F) 0 (k0_word (grid0.coords t)) = BitVec.ofNat 32 (t.val / 6) := by
  refine (tbl_apply (F := F) (k0_word (grid0.coords t))).trans ?_
  refine (congrArg₂ word ((row_eq (grid0.coords t 0)).trans (coord t)) rfl).trans (word_0 ⟨t.val, t.isLt⟩)

/-- What the body is called with at point `t`, and what it returns. -/
def bodyPre (c : Dev nD) (t : Fin (cfgA (F := F)).N) : sProp 𝕄 :=
  iprop((dats m 0 c).Φ t.castSucc ∗ (dats m 0 c).owesAt () t.castSucc
    ∗ (∃ d, owns (c : Thread nD τ) (spec0_0.stage ((cfgA (F := F)).slots t 0)) fullShare ((dats m 0 c).before 0 t d))
    ∗ (∃ d, owns (c : Thread nD τ) (spec0_1.stage ((cfgA (F := F)).slots t 1)) fullShare ((dats m 0 c).before 1 t d))
    ∗ (∃ d, owns (c : Thread nD τ) (spec0_2.stage ((cfgA (F := F)).slots t 2)) fullShare ((dats m 0 c).before 2 t d))
    ∗ (∃ d, owns (c : Thread nD τ) (spec0_3.stage ((cfgA (F := F)).slots t 3)) fullShare ((dats m 0 c).before 3 t d))
    ∗ (∃ d, owns (c : Thread nD τ) (spec0_4.stage ((cfgA (F := F)).slots t 4)) fullShare ((dats m 0 c).before 4 t d))
    ∗ (∃ d, owns (c : Thread nD τ) (spec0_5.stage ((cfgA (F := F)).slots t 5)) fullShare ((dats m 0 c).before 5 t d))
    ∗ (∃ d, owns (c : Thread nD τ) (spec0_6.stage ((cfgA (F := F)).slots t 6)) fullShare ((dats m 0 c).before 6 t d))
    ∗ (∃ d, owns (c : Thread nD τ) (spec0_7.stage ((cfgA (F := F)).slots t 7)) fullShare ((dats m 0 c).before 7 t d))
    ∗ (∃ d, owns (c : Thread nD τ) (spec0_8.stage ((cfgA (F := F)).slots t 8)) fullShare ((dats m 0 c).before 8 t d)))
def bodyPost (c : Dev nD) (t : Fin (cfgA (F := F)).N) : sProp 𝕄 :=
  iprop((dats m 0 c).Φ t.succ ∗ (dats m 0 c).owesAt () t.succ
    ∗ owns (c : Thread nD τ) (spec0_0.stage ((cfgA (F := F)).slots t 0)) fullShare ((dats m 0 c).after 0 t)
    ∗ owns (c : Thread nD τ) (spec0_1.stage ((cfgA (F := F)).slots t 1)) fullShare ((dats m 0 c).after 1 t)
    ∗ owns (c : Thread nD τ) (spec0_2.stage ((cfgA (F := F)).slots t 2)) fullShare ((dats m 0 c).after 2 t)
    ∗ owns (c : Thread nD τ) (spec0_3.stage ((cfgA (F := F)).slots t 3)) fullShare ((dats m 0 c).after 3 t)
    ∗ owns (c : Thread nD τ) (spec0_4.stage ((cfgA (F := F)).slots t 4)) fullShare ((dats m 0 c).after 4 t)
    ∗ owns (c : Thread nD τ) (spec0_5.stage ((cfgA (F := F)).slots t 5)) fullShare ((dats m 0 c).after 5 t)
    ∗ (dats m 0 c).leavesExact 6 t
    ∗ (dats m 0 c).leavesExact 7 t
    ∗ (dats m 0 c).leavesExact 8 t)

/-- The body as the call runs it at point `t`. -/
abbrev bodyAt (t : Fin (cfgA (F := F)).N) : Prog (TpuEff nD τ sig (Elt F) Λ₀ .tc) PUnit :=
  cc0_ffn_dw (grid0.coords t) tbM (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8))

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

set_option maxHeartbeats 1000000 in
/-- A point at work on product 0. -/
theorem point_0 (c : Dev nD) (t : Fin (cfgA (F := F)).N) (hlo : 0 ≤ t.val) (hhi : t.val < 6) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [show (dats m 0 c).owesAt () t.succ = (dats m 0 c).owesAt () t.castSucc from rfl,
    show (dats m 0 c).Φ t.succ = iprop(Pipeline.ΦA spec0 c ∗ tbPt c (tbl (F := F) 0)) from (by rw [← table_eq]; rfl),
    show (dats m 0 c).Φ t.castSucc = iprop(Pipeline.ΦA spec0 c ∗ tbPt c (tbl (F := F) 0)) from (by rw [← table_eq]; rfl),
    after_0, after_1, after_2, after_3, after_4, after_5,
    leaves_live m c 6 t (by rw [idle_6]; simp only [Bool.not_eq_false', decide_eq_true_eq]; omega), after_6, upTo_eq 5 t (by omega)]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_0 c Set.univ (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) ((dats m 0 c).before 8 t d8) (tbl (F := F) 0)
    (by rw [read_word]; exact (cond_0 ⟨t.val, t.isLt⟩).mpr (by simp only; omega))
    (by rw [read_word]; exact mt (cond_1 ⟨t.val, t.isLt⟩).mp (by simp only; omega))
    (by rw [read_word]; exact mt (cond_2 ⟨t.val, t.isLt⟩).mp (by simp only; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H0, H1, H2, H3, H4, H5, H6, H7, H8, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_idle m c 7 t d7 (by rw [idle_7]; simp only [Bool.not_eq_true', decide_eq_false_iff_not]; omega) (fun h => absurd h (by rw [flush_7]; simp only [decide_eq_true_eq]; omega))); iexact H7
  iapply (leaves_idle m c 8 t d8 (by rw [idle_8]; simp only [Bool.not_eq_true', decide_eq_false_iff_not]; omega) (fun h => absurd h (by rw [flush_8]; simp only [decide_eq_true_eq]; omega))); iexact H8

set_option maxHeartbeats 1000000 in
/-- A point at work on product 1. -/
theorem point_1 (c : Dev nD) (t : Fin (cfgA (F := F)).N) (hlo : 6 ≤ t.val) (hhi : t.val < 12) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [show (dats m 0 c).owesAt () t.succ = (dats m 0 c).owesAt () t.castSucc from rfl,
    show (dats m 0 c).Φ t.succ = iprop(Pipeline.ΦA spec0 c ∗ tbPt c (tbl (F := F) 0)) from (by rw [← table_eq]; rfl),
    show (dats m 0 c).Φ t.castSucc = iprop(Pipeline.ΦA spec0 c ∗ tbPt c (tbl (F := F) 0)) from (by rw [← table_eq]; rfl),
    after_0, after_1, after_2, after_3, after_4, after_5,
    leaves_live m c 7 t (by rw [idle_7]; simp only [Bool.not_eq_false', decide_eq_true_eq]; omega), after_7, upTo_eq 11 t (by omega)]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_1 c Set.univ (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) ((dats m 0 c).before 8 t d8) (tbl (F := F) 0)
    (by rw [read_word]; exact mt (cond_0 ⟨t.val, t.isLt⟩).mp (by simp only; omega))
    (by rw [read_word]; exact (cond_1 ⟨t.val, t.isLt⟩).mpr (by simp only; omega))
    (by rw [read_word]; exact mt (cond_2 ⟨t.val, t.isLt⟩).mp (by simp only; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H0, H1, H2, H3, H4, H5, H6, H7, H8, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_idle m c 6 t d6 (by rw [idle_6]; simp only [Bool.not_eq_true', decide_eq_false_iff_not]; omega) (fun _ => before_6 m c t (by omega) d6)); iexact H6
  isplitl [H7]; · iexact H7
  iapply (leaves_idle m c 8 t d8 (by rw [idle_8]; simp only [Bool.not_eq_true', decide_eq_false_iff_not]; omega) (fun h => absurd h (by rw [flush_8]; simp only [decide_eq_true_eq]; omega))); iexact H8

set_option maxHeartbeats 1000000 in
/-- A point at work on product 2. -/
theorem point_2 (c : Dev nD) (t : Fin (cfgA (F := F)).N) (hlo : 12 ≤ t.val) (hhi : t.val < 18) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [show (dats m 0 c).owesAt () t.succ = (dats m 0 c).owesAt () t.castSucc from rfl,
    show (dats m 0 c).Φ t.succ = iprop(Pipeline.ΦA spec0 c ∗ tbPt c (tbl (F := F) 0)) from (by rw [← table_eq]; rfl),
    show (dats m 0 c).Φ t.castSucc = iprop(Pipeline.ΦA spec0 c ∗ tbPt c (tbl (F := F) 0)) from (by rw [← table_eq]; rfl),
    after_0, after_1, after_2, after_3, after_4, after_5,
    leaves_live m c 8 t (by rw [idle_8]; simp only [Bool.not_eq_false', decide_eq_true_eq]; omega), after_8, upTo_eq 17 t (by omega)]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_2 c Set.univ (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) ((dats m 0 c).before 8 t d8) (tbl (F := F) 0)
    (by rw [read_word]; exact mt (cond_0 ⟨t.val, t.isLt⟩).mp (by simp only; omega))
    (by rw [read_word]; exact mt (cond_1 ⟨t.val, t.isLt⟩).mp (by simp only; omega))
    (by rw [read_word]; exact (cond_2 ⟨t.val, t.isLt⟩).mpr (by simp only; omega)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT]; · iexact HT
  iintro ⟨H0, H1, H2, H3, H4, H5, H6, H7, H8, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_idle m c 6 t d6 (by rw [idle_6]; simp only [Bool.not_eq_true', decide_eq_false_iff_not]; omega) (fun _ => before_6 m c t (by omega) d6)); iexact H6
  isplitl [H7]; · iapply (leaves_idle m c 7 t d7 (by rw [idle_7]; simp only [Bool.not_eq_true', decide_eq_false_iff_not]; omega) (fun _ => before_7 m c t (by omega) d7)); iexact H7
  iexact H8

/-- The body at every point. -/
theorem body_obligation (c : Dev nD) : BodyObligation (dats (F := F) m 0 c) (defs₀ (F := F)) Variants.none () Set.univ := fun t => by
  rw [bigSep_W0, bigSep_W0, defs₀_row]
  refine triple_restated (P := bodyPre m c t) (Q := fun _ => bodyPost m c t) ?_ rfl .rfl fun _ => .rfl
  have hN : t.val < 18 := t.isLt
  by_cases h0 : t.val < 6
  · exact point_0 m c t (Nat.zero_le _) h0
  by_cases h1 : t.val < 12
  · exact point_1 m c t (by omega) h1
  exact point_2 m c t (by omega) hN

/-! ## The run -/

-- the implicit arguments of the launch are found by unfolding plain definitions in a type
set_option backward.isDefEq.respectTransparency.types false in
set_option maxHeartbeats 800000 in
/-- Every run of the program ends, every array at what the proof data say of it and every counter at zero. -/
theorem run : θ_run defs (onTc (τ := τ) (main (F := F))) (s₀ m ρ)
    (fun r => (Pipeline.FramePost (Pipeline.pin pcfgs (fun _ => adm (F := F))) (dats m) 0 (V m)) r ∧ r.2.sem = fun _ => 0) :=
  Pipeline.θ_run_frameP_shared (Q' := _) pcfgs (fun _ => adm (F := F)) (dats m) (0 : Fin 1) launch₀0 defs₀ Variants.none m ρ main
    (hbody := fun c => (body_obligation m c).loose) (hq := fun _ _ _ => rfl)
    (howed := fun _ _ => rfl) (V := V m) (hmain := main_run m Variants.none) (hA := A_eq m) (hpf := fun c k => V_table m c k) (hΦ := fun _ _ => rfl)

/-- The frame: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r (h : _ ∧ _) => ⟨fun c => ⟨((h.1 c).1 0).trans (((dats m 0 c).arrAt_in 0 rfl _).trans ((A_eq m c 0).trans (V_arg0 m c))),
      ((h.1 c).1 2).trans (((dats m 0 c).arrAt_in 2 rfl _).trans ((A_eq m c 2).trans (V_arg1 m c))),
      ((h.1 c).1 1).trans (((dats m 0 c).arrAt_in 1 rfl _).trans ((A_eq m c 1).trans (V_arg2 m c))),
      ((h.1 c).1 4).trans (((dats m 0 c).arrAt_in 4 rfl _).trans ((A_eq m c 4).trans (V_arg3 m c))),
      ((h.1 c).1 5).trans (((dats m 0 c).arrAt_in 5 rfl _).trans ((A_eq m c 5).trans (V_arg4 m c)))⟩, h.2⟩) (run m ρ)

end Cert.Dw.Ffn
-- ==== Proof.Dw.FfnSame.lean ====
module

public import proofs.«01_k».proof.Defs
public import proofs.«01_k».proof.Proof.Dw.FfnRun
public import proofs.«01_k».proof.Proof.Gen.FfnDwIdeal.Launch

/-! The idealised program has the program's own text, so that the one run is both programs' run. -/

@[expose] public section

set_option maxRecDepth 16384

open Idealize.ShloMosaic Idealize.ShloMosaic.TcCoe Idealize.SL.Sem

namespace Cert.Dw.FfnSame

theorem defs₀_eq : Cert.FfnDwIdeal.defs₀ (F := Ideal) = Cert.FfnDw.defs₀ (F := Ideal) := by
  unfold Cert.FfnDwIdeal.defs₀ Cert.FfnDw.defs₀
  refine congrArg Defs.onTc (funext fun a => funext fun b => ?_)
  match a, b with
  | 0, (_, _) => rfl

theorem defs_eq : Cert.FfnDwIdeal.defs (F := Ideal) = Cert.FfnDw.defs (F := Ideal) := by
  unfold Cert.FfnDwIdeal.defs Cert.FfnDw.defs
  exact congrArg (Pipeline.defs _) defs₀_eq

/-- The frame of the idealised program. -/
theorem frame : Cert.quiescent_FfnDwIdeal (hFfnDwIdeal := Cert.FfnDwIdeal.Gen.facts) := by
  intro m ρ _
  rw [defs_eq]
  exact Cert.Dw.Ffn.frame (F := Ideal) m ρ

end Cert.Dw.FfnSame
-- ==== Proof.Dw.FfnValue.lean ====
module

public import proofs.«01_k».proof.Defs
public import proofs.«01_k».proof.Proof.Dw.FfnSame
public import proofs.«01_k».proof.Proof.Gen.FfnDwRefIdeal.Run
public import proofs.«01_k».proof.Proof.Gen.FfnDwRefIdeal.Read
public import Idealize.ShloMosaic.Lib.Pointwise
public import Idealize.ShloMosaic.Lib.Pipeline.ValueKit

/-! The three weight gradients of the FFN, block of rows by block of rows, are the plain products: the transpose of a
left factor times a right factor. -/

@[expose] public section

set_option maxRecDepth 16384

noncomputable section

open Idealize.ShloMosaic Idealize.ShloMosaic.TcCoe Idealize.SL.Sem
open Idealize.ShloMosaic.Pipeline (Dat Cfg Window)

namespace Cert.Dw.FfnValue

open Cert.FfnDw Cert.FfnDw.Gen Cert.Dw.Ffn

/-- The transpose of `a` times `b`. -/
def prod (a : S2048x3072.Idx → EReal) (b : S2048x1024.Idx → EReal) : S3072x1024.Idx → EReal :=
  fun i => ∑ k : Fin 2048, a (ix2 k (i 0)) * b (ix2 k (i 1))

/-! ## One block -/

theorem pay_0 (x : Vec Ideal S2048x512 .bf16) (y : Vec Ideal S2048x1024 .bf16) (r : Fin 512) (j : Fin 1024) :
    k0_pay1 (F := Ideal) x y (ix2 r j) = ∑ k : Fin 2048, x (ix2 k r) * y (ix2 k j) := by
  unfold k0_pay1
  pointwise!

theorem out0_eq (x : Vec Ideal S2048x512 .bf16) (y : Vec Ideal S2048x1024 .bf16) : out0 (F := Ideal) x y = k0_pay1 x y := by
  have hz : (![0, 0] : Fin 2 → ℕ) = fun _ => 0 := by decide
  unfold out0
  rw [View.canon_unit_zero hz, View.ld_unit_zero hz, View.ld_unit_zero hz]

theorem pay_1 (x : Vec Ideal S2048x512 .bf16) (y : Vec Ideal S2048x1024 .bf16) (r : Fin 512) (j : Fin 1024) :
    k0_pay2 (F := Ideal) x y (ix2 r j) = ∑ k : Fin 2048, x (ix2 k r) * y (ix2 k j) := by
  unfold k0_pay2
  pointwise!

theorem out1_eq (x : Vec Ideal S2048x512 .bf16) (y : Vec Ideal S2048x1024 .bf16) : out1 (F := Ideal) x y = k0_pay2 x y := by
  have hz : (![0, 0] : Fin 2 → ℕ) = fun _ => 0 := by decide
  unfold out1
  rw [View.canon_unit_zero hz, View.ld_unit_zero hz, View.ld_unit_zero hz]

theorem pay_2 (x : Vec Ideal S2048x512 .bf16) (y : Vec Ideal S2048x1024 .bf16) (r : Fin 512) (j : Fin 1024) :
    k0_pay3 (F := Ideal) x y (ix2 r j) = ∑ k : Fin 2048, x (ix2 k r) * y (ix2 k j) := by
  unfold k0_pay3
  pointwise!

theorem out2_eq (x : Vec Ideal S2048x512 .bf16) (y : Vec Ideal S2048x1024 .bf16) : out2 (F := Ideal) x y = k0_pay3 x y := by
  have hz : (![0, 0] : Fin 2 → ℕ) = fun _ => 0 := by decide
  unfold out2
  rw [View.canon_unit_zero hz, View.ld_unit_zero hz, View.ld_unit_zero hz]

/-! ## The arrays -/

/-- The block that an input is at. -/
theorem win_0 (t : Fin (cfgA (F := Ideal)).N) : ((cfgA (F := Ideal)).win 0).index t = ![0, min t.val 5] :=
  (index_0 (F := Ideal) (grid0.coords t)).trans (by rw [coord t])
theorem win_1 (t : Fin (cfgA (F := Ideal)).N) : ((cfgA (F := Ideal)).win 1).index t = ![0, 0] :=
  index_1 (F := Ideal) (grid0.coords t)
theorem win_2 (t : Fin (cfgA (F := Ideal)).N) : ((cfgA (F := Ideal)).win 2).index t = ![0, min (t.val - 6) 5] :=
  (index_2 (F := Ideal) (grid0.coords t)).trans (by rw [coord t])
theorem win_3 (t : Fin (cfgA (F := Ideal)).N) : ((cfgA (F := Ideal)).win 3).index t = ![0, 0] :=
  index_3 (F := Ideal) (grid0.coords t)
theorem win_4 (t : Fin (cfgA (F := Ideal)).N) : ((cfgA (F := Ideal)).win 4).index t = ![0, min (t.val - 12) 5] :=
  (index_4 (F := Ideal) (grid0.coords t)).trans (by rw [coord t])
theorem win_5 (t : Fin (cfgA (F := Ideal)).N) : ((cfgA (F := Ideal)).win 5).index t = ![0, 0] :=
  index_5 (F := Ideal) (grid0.coords t)

variable (m : (ℓ : Loc nD τ sig) → Buf (Elt Ideal) ℓ)

/-- Result 0 is the product of its two factors. -/
theorem arr_0 (c : Dev nD) : (dats (F := Ideal) m 0 c).arrAt 6 (cfgA (F := Ideal)).N =
    prod (m ((c : Thread nD τ).loc main_arg0)) (m ((c : Thread nD τ).loc main_arg2)) := by
  refine (dats (F := Ideal) m 0 c).arrAt_eq_of_covers 6 _ (by decide +kernel) fun t hf y => ?_
  have hN : t.val < 18 := t.isLt
  have hu : (upTo (F := Ideal) 5 t).val = min t.val 5 := rfl
  rw [after_6, out0_eq]
  have e := pay_0 (iblk m c 0 (upTo 5 t)) (iblk m c 1 (upTo 5 t)) (y 0) (y 1)
  refine (congrArg (k0_pay1 (F := Ideal) _ _) (eq_ix2 (n0 := 512) (n1 := 1024) y)).trans (e.trans ?_)
  unfold prod
  refine Finset.sum_congr rfl fun k _ => congrArg₂ (· * ·) ?_ ?_
  · rw [← V_arg0 m c]
    blk_ext [iblk, win_0 (upTo 5 t), win_6 t, hu]
  · rw [← V_arg2 m c]
    blk_ext [iblk, win_1 (upTo 5 t), win_6 t]

/-- Result 1 is the product of its two factors. -/
theorem arr_1 (c : Dev nD) : (dats (F := Ideal) m 0 c).arrAt 7 (cfgA (F := Ideal)).N =
    prod (m ((c : Thread nD τ).loc main_arg1)) (m ((c : Thread nD τ).loc main_arg2)) := by
  refine (dats (F := Ideal) m 0 c).arrAt_eq_of_covers 7 _ (by decide +kernel) fun t hf y => ?_
  have hN : t.val < 18 := t.isLt
  have hu : (upTo (F := Ideal) 11 t).val = min t.val 11 := rfl
  rw [after_7, out1_eq]
  have e := pay_1 (iblk m c 2 (upTo 11 t)) (iblk m c 3 (upTo 11 t)) (y 0) (y 1)
  refine (congrArg (k0_pay2 (F := Ideal) _ _) (eq_ix2 (n0 := 512) (n1 := 1024) y)).trans (e.trans ?_)
  unfold prod
  refine Finset.sum_congr rfl fun k _ => congrArg₂ (· * ·) ?_ ?_
  · rw [← V_arg1 m c]
    blk_ext [iblk, win_2 (upTo 11 t), win_7 t, hu]
  · rw [← V_arg2 m c]
    blk_ext [iblk, win_3 (upTo 11 t), win_7 t]

/-- Result 2 is the product of its two factors. -/
theorem arr_2 (c : Dev nD) : (dats (F := Ideal) m 0 c).arrAt 8 (cfgA (F := Ideal)).N =
    prod (m ((c : Thread nD τ).loc main_arg3)) (m ((c : Thread nD τ).loc main_arg4)) := by
  refine (dats (F := Ideal) m 0 c).arrAt_eq_of_covers 8 _ (by decide +kernel) fun t hf y => ?_
  have hN : t.val < 18 := t.isLt
  have hu : (upTo (F := Ideal) 17 t).val = min t.val 17 := rfl
  rw [after_8, out2_eq]
  have e := pay_2 (iblk m c 4 (upTo 17 t)) (iblk m c 5 (upTo 17 t)) (y 0) (y 1)
  refine (congrArg (k0_pay3 (F := Ideal) _ _) (eq_ix2 (n0 := 512) (n1 := 1024) y)).trans (e.trans ?_)
  unfold prod
  refine Finset.sum_congr rfl fun k _ => congrArg₂ (· * ·) ?_ ?_
  · rw [← V_arg3 m c]
    blk_ext [iblk, win_4 (upTo 17 t), win_8 t, hu]
  · rw [← V_arg4 m c]
    blk_ext [iblk, win_5 (upTo 17 t), win_8 t]

/-! ## The reference -/

theorem ref_0 (a : (⟨Cert.FfnDwRefIdeal.S2048x3072, .bf16⟩ : BufTy).Contents (Elt Ideal)) (b : (⟨Cert.FfnDwRefIdeal.S2048x1024, .bf16⟩ : BufTy).Contents (Elt Ideal)) :
    Cert.FfnDwRefIdeal.Read.val_main_v20 (F := Ideal) a b = prod a b := by
  funext i
  refine (congrArg (Cert.FfnDwRefIdeal.Read.val_main_v20 (F := Ideal) a b) (eq_ix2 i)).trans (Eq.trans ?_ (congrArg (prod a b) (eq_ix2 i)).symm)
  unfold prod
  generalize (i 0 : Fin 3072) = r
  generalize (i 1 : Fin 1024) = j
  unfold Cert.FfnDwRefIdeal.Read.val_main_v20 Cert.FfnDwRefIdeal.Read.val_main_v19 Cert.FfnDwRefIdeal.Read.val_main_v18 Cert.FfnDwRefIdeal.Read.val_main_v17 Cert.FfnDwRefIdeal.Read.val_main_v0 Cert.FfnDwRefIdeal.Read.val_main_v2
  pointwise!

theorem ref_1 (a : (⟨Cert.FfnDwRefIdeal.S2048x3072, .bf16⟩ : BufTy).Contents (Elt Ideal)) (b : (⟨Cert.FfnDwRefIdeal.S2048x1024, .bf16⟩ : BufTy).Contents (Elt Ideal)) :
    Cert.FfnDwRefIdeal.Read.val_main_v21 (F := Ideal) a b = prod a b := by
  funext i
  refine (congrArg (Cert.FfnDwRefIdeal.Read.val_main_v21 (F := Ideal) a b) (eq_ix2 i)).trans (Eq.trans ?_ (congrArg (prod a b) (eq_ix2 i)).symm)
  unfold prod
  generalize (i 0 : Fin 3072) = r
  generalize (i 1 : Fin 1024) = j
  unfold Cert.FfnDwRefIdeal.Read.val_main_v21 Cert.FfnDwRefIdeal.Read.val_main_v16 Cert.FfnDwRefIdeal.Read.val_main_v15 Cert.FfnDwRefIdeal.Read.val_main_v14 Cert.FfnDwRefIdeal.Read.val_main_v1 Cert.FfnDwRefIdeal.Read.val_main_v2
  pointwise!

theorem ref_2 (a : (⟨Cert.FfnDwRefIdeal.S2048x3072, .bf16⟩ : BufTy).Contents (Elt Ideal)) (b : (⟨Cert.FfnDwRefIdeal.S2048x1024, .bf16⟩ : BufTy).Contents (Elt Ideal)) :
    Cert.FfnDwRefIdeal.Read.val_main_v22 (F := Ideal) a b = prod a b := by
  funext i
  refine (congrArg (Cert.FfnDwRefIdeal.Read.val_main_v22 (F := Ideal) a b) (eq_ix2 i)).trans (Eq.trans ?_ (congrArg (prod a b) (eq_ix2 i)).symm)
  unfold prod
  generalize (i 0 : Fin 3072) = r
  generalize (i 1 : Fin 1024) = j
  unfold Cert.FfnDwRefIdeal.Read.val_main_v22 Cert.FfnDwRefIdeal.Read.val_main_v13 Cert.FfnDwRefIdeal.Read.val_main_v12 Cert.FfnDwRefIdeal.Read.val_main_v3 Cert.FfnDwRefIdeal.Read.val_main_v4
  pointwise
  exact Finset.sum_congr rfl fun k _ => mul_comm _ _

/-! ## The equation -/

set_option maxHeartbeats 1600000 in
theorem algebraic : Cert.algebraic_FfnDwIdeal_FfnDwRefIdeal (hFfnDwIdeal := Cert.FfnDwIdeal.Gen.facts) (hFfnDwRefIdeal := Cert.FfnDwRefIdeal.Gen.facts) := by
  intro m g m' g' _ hagree
  refine ⟨fun c => prod (m ((c.tc : Thread _ _).loc main_arg0)) (m ((c.tc : Thread _ _).loc main_arg2)),
    fun c => prod (m ((c.tc : Thread _ _).loc main_arg1)) (m ((c.tc : Thread _ _).loc main_arg2)),
    fun c => prod (m ((c.tc : Thread _ _).loc main_arg3)) (m ((c.tc : Thread _ _).loc main_arg4)), ?_, ?_⟩
  · rw [Cert.Dw.FfnSame.defs_eq]
    refine (θ_run _ _ _).mono (fun r h c => ?_) (run (F := Ideal) m g)
    have hw := (h.1 c).1
    exact ⟨(hw 6).trans (arr_0 m c), (hw 7).trans (arr_1 m c), (hw 8).trans (arr_2 m c),
      (hw 0).trans (((dats m 0 c).arrAt_in 0 rfl _).trans ((A_eq m c 0).trans (V_arg0 m c))),
      (hw 2).trans (((dats m 0 c).arrAt_in 2 rfl _).trans ((A_eq m c 2).trans (V_arg1 m c))),
      (hw 1).trans (((dats m 0 c).arrAt_in 1 rfl _).trans ((A_eq m c 1).trans (V_arg2 m c))),
      (hw 4).trans (((dats m 0 c).arrAt_in 4 rfl _).trans ((A_eq m c 4).trans (V_arg3 m c))),
      (hw 5).trans (((dats m 0 c).arrAt_in 5 rfl _).trans ((A_eq m c 5).trans (V_arg4 m c)))⟩
  · refine (θ_run _ _ _).mono (fun r h c => ?_) (Cert.FfnDwRefIdeal.Value.run (F := Ideal) m' g')
    obtain ⟨h0, h1, h2, h3⟩ := h c
    obtain ⟨a0, a1, a2, a3, a4⟩ := hagree c
    refine ⟨h0.trans ?_, h1.trans ?_, h2.trans ?_, h3⟩
    · rw [Cert.FfnDwRefIdeal.Read.val_main_v20_eq, ref_0, a0, a2]
    · rw [Cert.FfnDwRefIdeal.Read.val_main_v21_eq, ref_1, a1, a2]
    · rw [Cert.FfnDwRefIdeal.Read.val_main_v22_eq, ref_2, a3, a4]

end Cert.Dw.FfnValue

end
-- ==== Proof.Dw.MixTable.lean ====
module

public import proofs.«01_k».proof.Proof.Gen.MixDw.Launch

/-! The table of the two weight gradients of the mixer: what its words are, row by row.

The call runs four points: three for the gradient of the projections' weight, one per block of 1024 columns, and one for
the gradient of the output projection's weight. A table of four rows tells each point which product it works at
(word 0), which blocks of that product's factors it reads (words 1 to 4), and, by the same words, which block of the
product's result it writes.

The table is given by a constant of the program; here its words are named, the blocks they point at are shown to
lie inside the arrays, and the configuration of the call at this table is named. -/

@[expose] public section

set_option maxRecDepth 16384

noncomputable section

open Idealize.ShloMosaic Idealize.ShloMosaic.TcCoe

namespace Cert.Dw.Mix

open Cert.MixDw Cert.MixDw.Gen

variable {F : FTy → Type} [FloatOps F]

/-- Word `k` of row `r` of the table. -/
def word (r k : Nat) : BitVec 32 := if h : r * 5 + k < 20 then lit0 ⟨r * 5 + k, h⟩ else 0

set_option backward.proofsInPublic true in
/-- The table's contents: the program's constant. -/
def tbl : pre0.Contents (Elt F) := fun
  | ⟨0, _⟩ => fun i => lit0 (S4x5.rowMajor i)
  | ⟨_ + 1, h⟩ => absurd h (Nat.not_lt.2 (Nat.le_add_left _ _))

/-- The table at an index is the word of its coordinates. -/
theorem tbl_apply (i : S4x5.Idx) : (tbl (F := F)) 0 i = word (i 0).val (i 1).val := by
  have h := Shape.rowMajor_val_two i
  have h' : (i 0).val * 5 + (i 1).val < 20 := by
    have := (S4x5.rowMajor i).isLt
    rw [h] at this; exact this
  unfold word
  rw [dif_pos h']
  exact congrArg lit0 (Fin.ext h)

theorem word_0 : ∀ r : Fin 4, word r.val 0 = BitVec.ofNat 32 (r.val / 3) := by decide +kernel
theorem word_1 : ∀ r : Fin 4, word r.val 1 = 0#32 := by decide +kernel
theorem word_2 : ∀ r : Fin 4, word r.val 2 = BitVec.ofNat 32 (min r.val 2) := by decide +kernel
theorem word_3 : ∀ r : Fin 4, word r.val 3 = 0#32 := by decide +kernel
theorem word_4 : ∀ r : Fin 4, word r.val 4 = 0#32 := by decide +kernel

/-- The index the row's coordinate is taken to, in the words of the kernel. -/
theorem row_eq : ∀ r : Fin 4, (Scalar.indexCast (BitVec.ofNat 32 r.val) : Index).toNat = r.val := by decide +kernel

/-- The word of row `i`, read through the rectangle of one element at row `i`. -/
theorem at_eq (i : grid0.Coords) (k : Nat) (hk : k < 5)
    (hi : ∀ a, ![(Scalar.indexCast (BitVec.ofNat 32 (i 0).val) : Index).toNat, k] a + S1x1.size a ≤ S4x5.size a) :
    (tbl (F := F)).at 0 (Rect.unit (s := S4x5) ![(Scalar.indexCast (BitVec.ofNat 32 (i 0).val) : Index).toNat, k] S1x1.size hi) numel1_S1x1
      = word (i 0).val k := by
  refine (tbl_apply _).trans ?_
  have h0 := row_eq (i 0)
  exact congrArg₂ word (h0) rfl

/-! The blocks that the windows are at, point by point: the projections' gradient at one of its three parts, their
result at the block of columns of the same number, the others whole. -/

theorem toNat_min : ∀ r : Fin 4, (BitVec.ofNat 32 (min r.val 2)).toNat = min r.val 2 := by decide +kernel

/-- The part of the projections' gradient and the block of its columns, as the program computes them out of a word:
the word divided by one and the rest, both rounded down. -/
def part (v : BitVec 32) : Fin 3 → Nat :=
  ![(Scalar.select (Scalar.andi (Scalar.cmpi .ne (Scalar.subi (Scalar.extui (Scalar.cmpi .sgt v 0#32) : BitVec 32) (Scalar.extui (Scalar.cmpi .slt v 0#32))) (Scalar.subi (Scalar.extui (Scalar.cmpi .sgt 1#32 0#32) : BitVec 32) (Scalar.extui (Scalar.cmpi .slt 1#32 0#32)))) (Scalar.cmpi .ne (Scalar.remsi v 1#32) 0#32)) (Scalar.subi (Scalar.divsi v 1#32) 1#32) (Scalar.divsi v 1#32)).toNat, 0,
    (Scalar.select (Scalar.andi (Scalar.xori (Scalar.cmpi .slt (Scalar.remsi v (Scalar.select (Scalar.cmpi .eq 1#32 0#32) 1#32 1#32)) 0#32) (Scalar.cmpi .slt (Scalar.select (Scalar.cmpi .eq 1#32 0#32) 1#32 1#32) 0#32)) (Scalar.cmpi .ne (Scalar.remsi v (Scalar.select (Scalar.cmpi .eq 1#32 0#32) 1#32 1#32)) 0#32)) (Scalar.addi (Scalar.remsi v (Scalar.select (Scalar.cmpi .eq 1#32 0#32) 1#32 1#32)) (Scalar.select (Scalar.cmpi .eq 1#32 0#32) 1#32 1#32)) (Scalar.remsi v (Scalar.select (Scalar.cmpi .eq 1#32 0#32) 1#32 1#32))).toNat]

theorem part_eq : ∀ r : Fin 4, part (BitVec.ofNat 32 (min r.val 2)) = ![min r.val 2, 0, 0] := by decide +kernel

theorem index_0 (i : grid0.Coords) :
    cc0_transform_0 k0_off1_inb numel1_S1x1 (tbl (F := F)) i = ![0, 0] :=
  congrArg (fun n : Nat => ![0, n]) (congrArg BitVec.toNat ((at_eq (F := F) i 1 (by decide) (k0_off1_inb i)).trans (word_1 (i 0))))

theorem index_1 (i : grid0.Coords) :
    cc0_transform_1 k0_off2_inb numel1_S1x1 (tbl (F := F)) i = ![min (i 0).val 2, 0, 0] :=
  (congrArg part ((at_eq (F := F) i 2 (by decide) (k0_off2_inb i)).trans (word_2 (i 0)))).trans (part_eq (i 0))

theorem index_2 (i : grid0.Coords) :
    cc0_transform_2 k0_off3_inb numel1_S1x1 (tbl (F := F)) i = ![0, 0] :=
  congrArg (fun n : Nat => ![0, n]) (congrArg BitVec.toNat ((at_eq (F := F) i 3 (by decide) (k0_off3_inb i)).trans (word_3 (i 0))))

theorem index_3 (i : grid0.Coords) :
    cc0_transform_3 k0_off4_inb numel1_S1x1 (tbl (F := F)) i = ![0, 0] :=
  congrArg (fun n : Nat => ![0, n]) (congrArg BitVec.toNat ((at_eq (F := F) i 4 (by decide) (k0_off4_inb i)).trans (word_4 (i 0))))

theorem index_4 (i : grid0.Coords) :
    cc0_transform_4 k0_off1_inb numel1_S1x1 k0_off2_inb (tbl (F := F)) i = ![0, min (i 0).val 2] :=
  congrArg₂ (fun n n' : Nat => ![n, n']) (congrArg BitVec.toNat ((at_eq (F := F) i 1 (by decide) (k0_off1_inb i)).trans (word_1 (i 0))))
    ((congrArg BitVec.toNat ((at_eq (F := F) i 2 (by decide) (k0_off2_inb i)).trans (word_2 (i 0)))).trans (toNat_min (i 0)))

theorem index_5 (i : grid0.Coords) :
    cc0_transform_5 k0_off3_inb numel1_S1x1 k0_off4_inb (tbl (F := F)) i = ![0, 0] :=
  congrArg₂ (fun n n' : Nat => ![n, n']) (congrArg BitVec.toNat ((at_eq (F := F) i 3 (by decide) (k0_off3_inb i)).trans (word_3 (i 0))))
    (congrArg BitVec.toNat ((at_eq (F := F) i 4 (by decide) (k0_off4_inb i)).trans (word_4 (i 0))))

/-- The word that a point asks which product it works at. -/
theorem atD_eq (i : grid0.Coords) : (tbl (F := F)).atD 0 (k0_off5 i) = BitVec.ofNat 32 ((i 0).val / 3) := by
  have h : ∀ a : Fin 2, (k0_off5 i) a + 1 ≤ S4x5.size a := fun a => by
    have := k0_off5_inb i a
    match a, this with
    | 0, h => exact h
    | 1, h => exact h
  refine (dif_pos h).trans ((tbl_apply _).trans ?_)
  exact (congrArg₂ word (row_eq (i 0)) rfl).trans (word_0 (i 0))

/-! ## Every block lies in its array -/

/-- A part, at most the third, lies in the three parts. -/
theorem fits_parts (n : Nat) (hn : n ≤ 2) : ∀ a, (![n, 0, 0] a + 1) * S1x2048x1024.size a ≤ S3x2048x1024.size a := by
  intro a; match a with
  | 0 => show (n + 1) * 1 ≤ 3; omega
  | 1 => show (0 + 1) * 2048 ≤ 2048; omega
  | 2 => show (0 + 1) * 1024 ≤ 1024; omega
/-- A block of 1024 columns, at most the third, lies in 3072 columns. -/
theorem fits_cols (n : Nat) (hn : n ≤ 2) : ∀ a, (![0, n] a + 1) * S1024x1024.size a ≤ S1024x3072.size a := by
  intro a; match a with
  | 0 => show (0 + 1) * 1024 ≤ 1024; omega
  | 1 => show (n + 1) * 1024 ≤ 3072; omega

/-- The call's side condition at the table. -/
theorem ok_tbl : ok0 (F := F) tbl := by
  refine ⟨?_, ?_, ?_, ?_, ?_, ?_⟩
  · intro i
    rw [index_0]
    exact ⟨(by decide), .inr (Affine.block_words_dvd (of_decide_eq_true rfl) (by decide))⟩
  · intro i
    rw [index_1]
    exact ⟨fits_parts _ (by omega), .inr (Affine.block_words_dvd (of_decide_eq_true rfl) (by decide))⟩
  · intro i
    rw [index_2]
    exact ⟨(by decide), .inr (Affine.block_words_dvd (of_decide_eq_true rfl) (by decide))⟩
  · intro i
    rw [index_3]
    exact ⟨(by decide), .inr (Affine.block_words_dvd (of_decide_eq_true rfl) (by decide))⟩
  · intro i
    rw [index_4]
    exact ⟨fits_cols _ (by omega), .inr (Affine.block_words_dvd (of_decide_eq_true rfl) (by decide))⟩
  · intro i
    rw [index_5]
    exact ⟨(by decide), .inr (Affine.block_words_dvd (of_decide_eq_true rfl) (by decide))⟩

/-- The table with its side condition, and the call's configuration at it. -/
def adm : (pcfg0 (F := F)).Adm := ⟨tbl, ok_tbl⟩
abbrev cfgA : Pipeline.Cfg sig Λ₀ := cfg0 (F := F) adm

end Cert.Dw.Mix
-- ==== Proof.Dw.MixPoints.lean ====
module

public import proofs.«01_k».proof.Proof.Dw.MixTable
public import Idealize.ShloMosaic.Lib.Pipeline.TableIdle

/-! The schedule of the two weight gradients of the mixer: which points are at work on which product, where a result's
block is written back, and where a result's buffer holds nothing yet. -/

@[expose] public section

set_option maxRecDepth 16384

noncomputable section

open Idealize.ShloMosaic Idealize.ShloMosaic.TcCoe

namespace Cert.Dw.Mix

open Cert.MixDw Cert.MixDw.Gen

variable {F : FTy → Type} [FloatOps F]

/-- The grid's one coordinate is the point. -/
theorem coord : ∀ t : Fin grid0.N, (grid0.coords t 0).val = t.val := by decide +kernel

/-- The product that a point is at work on, out of its word. -/
theorem cond_0 : ∀ r : Fin 4, (k0_cond1 (BitVec.ofNat 32 (r.val / 3)) = 1#1) ↔ r.val < 3 := by decide +kernel
theorem cond_1 : ∀ r : Fin 4, (k0_cond2 (BitVec.ofNat 32 (r.val / 3)) = 1#1) ↔ 3 ≤ r.val := by decide +kernel

theorem idle_4 (t : Fin (cfgA (F := F)).N) : (cfgA (F := F)).idle 4 ((cfgA (F := F)).grid.coords t) = !decide (t.val < 3) := by
  have h := cond_0 (grid0.coords t 0)
  rw [coord t] at h
  refine (congrArg (fun v => !(k0_cond1 v == 1#1)) (atD_eq (F := F) (grid0.coords t))).trans ?_
  rw [coord t, Bool.beq_eq_decide_eq]
  exact congrArg (fun b => !b) (decide_eq_decide.mpr h)

theorem idle_5 (t : Fin (cfgA (F := F)).N) : (cfgA (F := F)).idle 5 ((cfgA (F := F)).grid.coords t) = !decide (3 ≤ t.val) := by
  have h := cond_1 (grid0.coords t 0)
  rw [coord t] at h
  refine (congrArg (fun v => !(k0_cond2 v == 1#1)) (atD_eq (F := F) (grid0.coords t))).trans ?_
  rw [coord t, Bool.beq_eq_decide_eq]
  exact congrArg (fun b => !b) (decide_eq_decide.mpr h)

/-- The block that a result is at. -/
theorem win_4 (t : Fin (cfgA (F := F)).N) : ((cfgA (F := F)).win 4).index t = ![0, min t.val 2] :=
  (index_4 (F := F) (grid0.coords t)).trans (by rw [coord t])
theorem win_5 (t : Fin (cfgA (F := F)).N) : ((cfgA (F := F)).win 5).index t = ![0, 0] :=
  index_5 (F := F) (grid0.coords t)

/-- Where a block that follows `g` is written back, in the terms of `g`. -/
theorem flush_of {sig' : RefSig} {G : Pipeline.Grid} (w : Pipeline.Window sig' G) (hw : w.isOut = true) (g : Nat → Fin w.shape.rank → Nat)
    (hg : ∀ t, w.index t = g t.val) (t : Fin G.N) :
    w.flush t = decide (t.val + 1 = G.N ∨ g (t.val + 1) ≠ g t.val) := by
  unfold Pipeline.Window.flush
  rw [hw, Bool.true_and, ← Bool.decide_or]
  refine decide_eq_decide.mpr ?_
  simp only [hg]
  constructor
  · rintro (h | ⟨h, h'⟩)
    · exact .inl h
    · exact .inr h'
  · rintro (h | h)
    · exact .inl h
    · by_cases h' : t.val + 1 = G.N
      · exact .inl h'
      · exact .inr ⟨by omega, h⟩

theorem flush_4 (t : Fin (cfgA (F := F)).N) : ((cfgA (F := F)).win 4).flush t = decide (t.val = 3 ∨ t.val < 2) :=
  (flush_of ((cfgA (F := F)).win 4) rfl (fun n => ![0, min n 2]) win_4 t).trans
    ((by decide +kernel : ∀ t : Fin 4, decide (t.val + 1 = 4 ∨ (![0, min (t.val + 1) 2] : Fin 2 → Nat) ≠ ![0, min t.val 2])
      = decide (t.val = 3 ∨ t.val < 2)) t)
theorem flush_5 (t : Fin (cfgA (F := F)).N) : ((cfgA (F := F)).win 5).flush t = decide (3 ≤ t.val) :=
  (flush_of ((cfgA (F := F)).win 5) rfl (fun _ => ![0, 0]) win_5 t).trans
    ((by decide +kernel : ∀ t : Fin 4, decide (t.val + 1 = 4 ∨ (![0, 0] : Fin 2 → Nat) ≠ ![0, 0])
      = decide (3 ≤ t.val)) t)

/-- Where a result's buffer holds nothing the body stored: up to the end of its product's points. -/
theorem fresh_4 (n : Nat) (hn : n ≤ (cfgA (F := F)).N) : (cfgA (F := F)).fresh 4 n = decide (n < 3 ∨ n = 4) :=
  Pipeline.Cfg.fresh_tab _ 4 (fun n => decide (n < 3 ∨ n = 4)) (by decide) (fun t => by
    rw [flush_4, idle_4]
    exact (by decide +kernel : ∀ t : Fin 4, decide (t.val + 1 < 3 ∨ t.val + 1 = 4)
      = (decide (t.val = 3 ∨ t.val < 2) || (!decide (t.val < 3) && decide (t.val < 3 ∨ t.val = 4)))) t) n hn
theorem fresh_5 (n : Nat) (hn : n ≤ (cfgA (F := F)).N) : (cfgA (F := F)).fresh 5 n = true :=
  Pipeline.Cfg.fresh_tab _ 5 (fun n => true) (by decide) (fun t => by
    rw [flush_5, idle_5]
    exact (by decide +kernel : ∀ t : Fin 4, true
      = (decide (3 ≤ t.val) || (!decide (3 ≤ t.val) && true))) t) n hn

end Cert.Dw.Mix
-- ==== Proof.Dw.MixBody.lean ====
module

public import proofs.«01_k».proof.Proof.Gen.MixDw.Launch
public import proofs.«01_k».proof.Proof.Gen.MixDw.Skeleton
public import proofs.«01_k».proof.Proof.Dw.MixTable
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-! One point of the two weight gradients of the mixer.

A point is at work on one of the two products: it reads its word of the table, multiplies the two blocks of that
product and stores the result over its buffer; the buffer of the other product stays as it is. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Dw.Mix

open Cert.MixDw Cert.MixDw.Gen

variable {F : FTy → Type} [FloatOps F]

local notation "𝕄" => MT nD τ sig Unit (Elt F) ℕ (UR sig nD τ) ℕ

abbrev rA : Rect S2048x1024 := Rect.unit (s := S2048x1024) ![0, 0] S2048x1024.size inb_S2048x1024_S2048x1024_0_0
abbrev rB : Rect S1x2048x1024 := Rect.unit (s := S1x2048x1024) ![0, 0, 0] S1x2048x1024.size inb_S1x2048x1024_S1x2048x1024_0_0_0
abbrev rO : Rect S1024x1024 := Rect.unit (s := S1024x1024) ![0, 0] S1024x1024.size inb_S1024x1024_S1024x1024_0_0

/-- The table's buffer, and it at contents `f`, held at half its share. -/
abbrev tbM : Memref sig .tc .smem S4x5 .i32 := Memref.whole main_c
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

/-- What a point at work on product 0 leaves in its buffer: the product of its two blocks. -/
def out0 (x : Vec F S2048x1024 .bf16) (y : Vec F S1x2048x1024 .bf16) : Vec F S1024x1024 .bf16 :=
  View.canon [⟨rO, k0_pay1 (View.ld x rA) (View.ld y rB)⟩]

/-- What a point at work on product 1 leaves in its buffer: the product of its two blocks. -/
def out1 (x : Vec F S2048x1024 .bf16) (y : Vec F S2048x1024 .bf16) : Vec F S1024x1024 .bf16 :=
  View.canon [⟨rO, k0_pay2 (View.ld x rA) (View.ld y rA)⟩]

/-- The store covers the buffer. -/
theorem cover (p0 : Vec F S1024x1024 .bf16) (y : S1024x1024.Idx) :
    ∃ pc ∈ ([⟨rO, p0⟩] : List (View.Piece (Elt F) S1024x1024 .bf16)), y ∈ pc.1.set :=
  View.cover_of_tiled [⟨rO, p0⟩] S1024x1024.size (by rfl) y

/-- The index of the word that a point reads. -/
def k0_word (i : grid0.Coords) : S4x5.Idx :=
  (Rect.unit (s := S4x5) (k0_off5 i) S1x1.size (k0_off5_inb i)).emb (Shape.Idx.first (numel1_S1x1.symm ▸ Nat.one_pos))

set_option maxHeartbeats 1000000 in
/-- A point at work on product 0. -/
theorem body_0 (c : Dev nD) (E : Set ℕ) (i : grid0.Coords) (arg2 : Memref sig .tc .vmem S2048x1024 .bf16) (harg2 : arg2.IsWhole) (arg3 : Memref sig .tc .vmem S1x2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole)
    (x0 : Vec F S2048x1024 .bf16) (x1 : Vec F S1x2048x1024 .bf16) (x2 : Vec F S2048x1024 .bf16) (x3 : Vec F S2048x1024 .bf16) (x4 : Vec F S1024x1024 .bf16) (x5 : Vec F S1024x1024 .bf16) (xt : TbBuf (F := F) c)
    (hc1 : k0_cond1 (xt (k0_word i)) = 1#1) (hc2 : ¬ k0_cond2 (xt (k0_word i)) = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0 x0 x1) ∗ owns (c : Thread nD τ) arg7 fullShare x5 ∗ tbPt c xt) -∗ K ⟨⟩))
      ⊢ wp frame (wpE (defs₀ (F := F)) Variants.none c none) E (cc0_mix_dw i tbM (Memref.isWhole_whole _) arg2 harg2 arg3 harg3 arg4 harg4 arg5 harg5 arg6 harg6 arg7 harg7) K := by
  simp only [cc0_mix_dw_eq_skeleton]; unfold cc0_mix_dw_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [H5]
  · iexists f5; isplitr; · ipureintro; rfl
    iexact H5
  iexact HT

set_option maxHeartbeats 1000000 in
/-- A point at work on product 1. -/
theorem body_1 (c : Dev nD) (E : Set ℕ) (i : grid0.Coords) (arg2 : Memref sig .tc .vmem S2048x1024 .bf16) (harg2 : arg2.IsWhole) (arg3 : Memref sig .tc .vmem S1x2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole)
    (x0 : Vec F S2048x1024 .bf16) (x1 : Vec F S1x2048x1024 .bf16) (x2 : Vec F S2048x1024 .bf16) (x3 : Vec F S2048x1024 .bf16) (x4 : Vec F S1024x1024 .bf16) (x5 : Vec F S1024x1024 .bf16) (xt : TbBuf (F := F) c)
    (hc1 : ¬ k0_cond1 (xt (k0_word i)) = 1#1) (hc2 : k0_cond2 (xt (k0_word i)) = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ tbPt c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1 x2 x3) ∗ tbPt c xt) -∗ K ⟨⟩))
      ⊢ wp frame (wpE (defs₀ (F := F)) Variants.none c none) E (cc0_mix_dw i tbM (Memref.isWhole_whole _) arg2 harg2 arg3 harg3 arg4 harg4 arg5 harg5 arg6 harg6 arg7 harg7) K := by
  simp only [cc0_mix_dw_eq_skeleton]; unfold cc0_mix_dw_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _)
  iexact HT

end Cert.Dw.Mix
-- ==== Proof.Dw.MixRun.lean ====
module

public import proofs.«01_k».proof.Proof.Gen.MixDw.Launch
public import proofs.«01_k».proof.Proof.Gen.MixDw.Skeleton
public import proofs.«01_k».proof.Proof.Dw.MixPoints
public import proofs.«01_k».proof.Proof.Dw.MixBody
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-! The run of the two weight gradients of the mixer.

The call's proof data: every input's buffer holds its block; a result's buffer holds, from the first point of its
product on, the product of the two blocks of the last point at work on it. What is found in a result's buffer after its
product's points is what was left there, so that the block written back at the end is the last one computed. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Dw.Mix

open Cert.MixDw Cert.MixDw.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers when the call starts -/

/-- After the constant is written: the table at its words, every array as launched. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  unfold V; simp only [hostOps0]; after_results_simp
theorem V_arg1 (c : Dev nD) : V m c main_arg1 = m ((c : Thread nD τ).loc main_arg1) := by
  unfold V; simp only [hostOps0]; after_results_simp
theorem V_arg2 (c : Dev nD) : V m c main_arg2 = m ((c : Thread nD τ).loc main_arg2) := by
  unfold V; simp only [hostOps0]; after_results_simp
theorem V_arg3 (c : Dev nD) : V m c main_arg3 = m ((c : Thread nD τ).loc main_arg3) := by
  unfold V; simp only [hostOps0]; after_results_simp

theorem V_table (c : Dev nD) (k : Fin pre0.K) : V m c (pre0.ref k) = (adm (F := F)).1 k := by
  match k with
  | ⟨0, _⟩ =>
    show V m c main_c = fun i => lit0 (S4x5.rowMajor i)
    unfold V; simp only [hostOps0]; after_results_simp; rfl

theorem main_run (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub rfl fun c => (main_chain c).trans rfl

/-! ## The proof data -/

/-- Window `w`'s block at point `t`. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The last point not after `n`, at or before `t`. -/
def upTo (n : Nat) (t : Fin (cfgA (F := F)).N) : Fin (cfgA (F := F)).N := ⟨min t.val n, lt_of_le_of_lt (min_le_left _ _) t.isLt⟩

theorem upTo_eq (n : Nat) (t : Fin (cfgA (F := F)).N) (h : t.val ≤ n) : upTo n t = t := Fin.ext (min_eq_left h)
theorem upTo_pred (n : Nat) (t : Fin (cfgA (F := F)).N) (h : n < t.val) (h' : t.val - 1 < (cfgA (F := F)).N) : upTo n t = upTo n ⟨t.val - 1, h'⟩ :=
  Fin.ext (by show min t.val n = min (t.val - 1) n; omega)

/-- The call's proof data on core `c`. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0 (iblk m c 0 (upTo 2 t)) (iblk m c 1 (upTo 2 t))
    | ⟨5, _⟩ => out1 (iblk m c 2 (upTo 3 t)) (iblk m c 3 (upTo 3 t))
  Φ _ := iprop(Pipeline.ΦA spec0 c ∗ Pipeline.ΦT pre0 (adm (F := F)).1 c)
  q w := fullShare
  owed _ := 0

theorem A_eq (c : Dev nD) (w : Fin (cfgA (F := F)).W) : (dats m 0 c).A w = V m c (Pipeline.arrRef spec0 w) := by
  dsimp only [dats]

theorem after_0 (c : Dev nD) (t : Fin (cfgA (F := F)).N) : (dats m 0 c).after 0 t = iblk m c 0 t := by dsimp only [dats]; rfl
theorem after_1 (c : Dev nD) (t : Fin (cfgA (F := F)).N) : (dats m 0 c).after 1 t = iblk m c 1 t := by dsimp only [dats]; rfl
theorem after_2 (c : Dev nD) (t : Fin (cfgA (F := F)).N) : (dats m 0 c).after 2 t = iblk m c 2 t := by dsimp only [dats]; rfl
theorem after_3 (c : Dev nD) (t : Fin (cfgA (F := F)).N) : (dats m 0 c).after 3 t = iblk m c 3 t := by dsimp only [dats]; rfl
theorem after_4 (c : Dev nD) (t : Fin (cfgA (F := F)).N) : (dats m 0 c).after 4 t
    = out0 (iblk m c 0 (upTo 2 t)) (iblk m c 1 (upTo 2 t)) := by dsimp only [dats]; rfl
theorem after_5 (c : Dev nD) (t : Fin (cfgA (F := F)).N) : (dats m 0 c).after 5 t
    = out1 (iblk m c 2 (upTo 3 t)) (iblk m c 3 (upTo 3 t)) := by dsimp only [dats]; rfl

/-- An input's buffer holds its block at every point. -/
theorem before_0 (c : Dev nD) (t : Fin (cfgA (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans (by unfold Dat.fetched Dat.blockOf iblk; rw [A_eq]; rfl)
theorem before_1 (c : Dev nD) (t : Fin (cfgA (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans (by unfold Dat.fetched Dat.blockOf iblk; rw [A_eq]; rfl)
theorem before_2 (c : Dev nD) (t : Fin (cfgA (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans (by unfold Dat.fetched Dat.blockOf iblk; rw [A_eq]; rfl)
theorem before_3 (c : Dev nD) (t : Fin (cfgA (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans (by unfold Dat.fetched Dat.blockOf iblk; rw [A_eq]; rfl)

/-- At the last point, the buffer of a product that was at work before holds the last block computed. -/
theorem before_4 (c : Dev nD) (t : Fin (cfgA (F := F)).N) (ht : 3 ≤ t.val) (d) :
    (dats m 0 c).before 4 t d = (dats m 0 c).after 4 t := by
  have hN : t.val < 4 := t.isLt
  have hfresh : (cfgA (F := F)).fresh 4 t.val = false := by
    rw [fresh_4 _ (Nat.le_of_lt t.isLt)]; exact decide_eq_false (by omega)
  rw [(dats m 0 c).before_out_traj 4 rfl (fun _ _ => rfl) (fun t' h0 _ hf => ?_) t.val t rfl d, hfresh, if_neg Bool.false_ne_true,
    after_4, after_4, upTo_pred 2 t (by omega)]
  rw [fresh_4 _ (Nat.le_of_lt t'.isLt)] at hf
  have := of_decide_eq_false hf
  rw [after_4, after_4, upTo_pred 2 t' (by omega)]

/-! ## The body obligation -/

/-- A buffer at work holds what the point computed. -/
theorem leaves_live (c : Dev nD) (w : Fin (cfgA (F := F)).W) (t : Fin (cfgA (F := F)).N)
    (hi : (cfgA (F := F)).idle w ((cfgA (F := F)).grid.coords t) = false) :
    (dats m 0 c).leavesExact w t = owns (c : Thread nD τ) (((cfgA (F := F)).win w).stage ((cfgA (F := F)).slots t w)) fullShare ((dats m 0 c).after w t) := by
  unfold Dat.leavesExact; rw [hi]

/-- A buffer not at work is given back as it was found. -/
theorem leaves_idle (c : Dev nD) (w : Fin (cfgA (F := F)).W) (t : Fin (cfgA (F := F)).N) (d)
    (hi : (cfgA (F := F)).idle w ((cfgA (F := F)).grid.coords t) = true)
    (hf : ((cfgA (F := F)).win w).flush t = true → (dats m 0 c).before w t d = (dats m 0 c).after w t) :
    owns (c : Thread nD τ) (((cfgA (F := F)).win w).stage ((cfgA (F := F)).slots t w)) fullShare ((dats m 0 c).before w t d)
      ⊢ ((dats m 0 c).leavesExact w t : sProp 𝕄) := by
  unfold Dat.leavesExact; rw [hi]
  cases h : ((cfgA (F := F)).win w).flush t
  · iintro H; iexists d; iexact H
  · rw [hf h]

/-- The table's half that the call hands to the body. -/
theorem table_eq (c : Dev nD) : (Pipeline.ΦT pre0 (adm (F := F)).1 c : sProp 𝕄) = tbPt c (tbl (F := F) 0) := by
  unfold Pipeline.ΦT Pipeline.prefHeld
  rw [show (Finset.univ : Finset (Fin 1)) = {(0 : Fin 1)} from by decide, Idealize.SL.BI.bigSep_singleton]
  rfl

/-- The word that the body reads at a point. -/
theorem read_word (t : Fin (cfgA (F := F)).N) : tbl (F := F) 0 (k0_word (grid0.coords t)) = BitVec.ofNat 32 (t.val / 3) := by
  refine (tbl_apply (F := F) (k0_word (grid0.coords t))).trans ?_
  refine (congrArg₂ word ((row_eq (grid0.coords t 0)).trans (coord t)) rfl).trans (word_0 ⟨t.val, t.isLt⟩)

/-- What the body is called with at point `t`, and what it returns. -/
def bodyPre (c : Dev nD) (t : Fin (cfgA (F := F)).N) : sProp 𝕄 :=
  iprop((dats m 0 c).Φ t.castSucc ∗ (dats m 0 c).owesAt () t.castSucc
    ∗ (∃ d, owns (c : Thread nD τ) (spec0_0.stage ((cfgA (F := F)).slots t 0)) fullShare ((dats m 0 c).before 0 t d))
    ∗ (∃ d, owns (c : Thread nD τ) (spec0_1.stage ((cfgA (F := F)).slots t 1)) fullShare ((dats m 0 c).before 1 t d))
    ∗ (∃ d, owns (c : Thread nD τ) (spec0_2.stage ((cfgA (F := F)).slots t 2)) fullShare ((dats m 0 c).before 2 t d))
    ∗ (∃ d, owns (c : Thread nD τ) (spec0_3.stage ((cfgA (F := F)).slots t 3)) fullShare ((dats m 0 c).before 3 t d))
    ∗ (∃ d, owns (c : Thread nD τ) (spec0_4.stage ((cfgA (F := F)).slots t 4)) fullShare ((dats m 0 c).before 4 t d))
    ∗ (∃ d, owns (c : Thread nD τ) (spec0_5.stage ((cfgA (F := F)).slots t 5)) fullShare ((dats m 0 c).before 5 t d)))
def bodyPost (c : Dev nD) (t : Fin (cfgA (F := F)).N) : sProp 𝕄 :=
  iprop((dats m 0 c).Φ t.succ ∗ (dats m 0 c).owesAt () t.succ
    ∗ owns (c : Thread nD τ) (spec0_0.stage ((cfgA (F := F)).slots t 0)) fullShare ((dats m 0 c).after 0 t)
    ∗ owns (c : Thread nD τ) (spec0_1.stage ((cfgA (F := F)).slots t 1)) fullShare ((dats m 0 c).after 1 t)
    ∗ owns (c : Thread nD τ) (spec0_2.stage ((cfgA (F := F)).slots t 2)) fullShare ((dats m 0 c).after 2 t)
    ∗ owns (c : Thread nD τ) (spec0_3.stage ((cfgA (F := F)).slots t 3)) fullShare ((dats m 0 c).after 3 t)
    ∗ (dats m 0 c).leavesExact 4 t
    ∗ (dats m 0 c).leavesExact 5 t)

/-- The body as the call runs it at point `t`. -/
abbrev bodyAt (t : Fin (cfgA (F := F)).N) : Prog (TpuEff nD τ sig (Elt F) Λ₀ .tc) PUnit :=
  cc0_mix_dw (grid0.coords t) tbM (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5))

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

set_option maxHeartbeats 1000000 in
/-- A point at work on product 0. -/
theorem point_0 (c : Dev nD) (t : Fin (cfgA (F := F)).N) (hlo : 0 ≤ t.val) (hhi : t.val < 3) :
    bodyPre m c t ⊢ wp frame (wpE (defs₀ (F := F)) Variants.none c none) Set.univ (bodyAt t) (fun _ => bodyPost m c t) := by
  unfold bodyPre bodyPost
  simp only [before_0, before_1, before_2, before_3]
  rw [show (dats m 0 c).owesAt () t.succ = (dats m 0 c).owesAt () t.castSucc from rfl,
    show (dats m 0 c).Φ t.succ = iprop(Pipeline.ΦA spec0 c ∗ tbPt c (tbl (F := F) 0)) from (by rw [← table_eq]; rfl),
    show (dats m 0 c).Φ t.castSucc = iprop(Pipeline.ΦA spec0 c ∗ tbPt c (tbl (F := F) 0)) from (by rw [← table_eq]; rfl),
    after_0, after_1, after_2, after_3,
    leaves_live m c 4 t (by rw [idle_4]; simp only [Bool.not_eq_false', decide_eq_true_eq]; omega), after_4, upTo_eq 2 t (by omega)]
  iintro ⟨⟨HΦ, HT⟩, Ho, ⟨%d0, H0⟩, ⟨%d1, H1⟩, ⟨%d2, H2⟩, ⟨%d3, H3⟩, ⟨%d4, H4⟩, ⟨%d5, H5⟩⟩
  iapply (body_0 c Set.univ (grid0.coords t) _ _ _ _ _ _ _ _ _ _ _ _ (iblk m c 0 t) (iblk m c 1 t) (iblk m c 2 t) (iblk m c 3 t) ((dats m 0 c).before 4 t d4) ((dats m 0 c).before 5 t d5) (tbl (F := F) 0)
    (by rw [read_word]; exact (cond_0 ⟨t.val, t.isLt⟩).mpr (by simp only; omega))
    (by rw [read_word]; exact mt (cond_1 ⟨t.val, t.isLt⟩).mp (by simp only; omega)) _)
  isplitl [H0]; · iexact H0
  isplitl [H1]; · iexact H1
  isplitl [H2]; · iexact H2
  isplitl [H3]; · iexact H3
  isplitl [H4]; · iexact H4
  isplitl [H5]; · iexact H5
  isplitl [HT]; · iexact HT
  iintro ⟨H0, H1, H2, H3, H4, H5, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  iapply (leaves_idle m c 5 t d5 (by rw [idle_5]; simp only [Bool.not_eq_true', decide_eq_false_iff_not]; omega) (fun h => absurd h (by rw [flush_5]; simp only [decide_eq_true_eq]; omega))); iexact H5

set_option maxHeartbeats 1000000 in
/-- A point at work on product 1. -/
theorem point_1 (c : Dev nD) (t : Fin (cfgA (F := F)).N) (hlo : 3 ≤ t.val) (hhi : t.val < 4) :
    bodyPre m c t ⊢ wp frame (wpE (defs₀ (F := F)) Variants.none c none) Set.univ (bodyAt t) (fun _ => bodyPost m c t) := by
  unfold bodyPre bodyPost
  simp only [before_0, before_1, before_2, before_3]
  rw [show (dats m 0 c).owesAt () t.succ = (dats m 0 c).owesAt () t.castSucc from rfl,
    show (dats m 0 c).Φ t.succ = iprop(Pipeline.ΦA spec0 c ∗ tbPt c (tbl (F := F) 0)) from (by rw [← table_eq]; rfl),
    show (dats m 0 c).Φ t.castSucc = iprop(Pipeline.ΦA spec0 c ∗ tbPt c (tbl (F := F) 0)) from (by rw [← table_eq]; rfl),
    after_0, after_1, after_2, after_3,
    leaves_live m c 5 t (by rw [idle_5]; simp only [Bool.not_eq_false', decide_eq_true_eq]; omega), after_5, upTo_eq 3 t (by omega)]
  iintro ⟨⟨HΦ, HT⟩, Ho, ⟨%d0, H0⟩, ⟨%d1, H1⟩, ⟨%d2, H2⟩, ⟨%d3, H3⟩, ⟨%d4, H4⟩, ⟨%d5, H5⟩⟩
  iapply (body_1 c Set.univ (grid0.coords t) _ _ _ _ _ _ _ _ _ _ _ _ (iblk m c 0 t) (iblk m c 1 t) (iblk m c 2 t) (iblk m c 3 t) ((dats m 0 c).before 4 t d4) ((dats m 0 c).before 5 t d5) (tbl (F := F) 0)
    (by rw [read_word]; exact mt (cond_0 ⟨t.val, t.isLt⟩).mp (by simp only; omega))
    (by rw [read_word]; exact (cond_1 ⟨t.val, t.isLt⟩).mpr (by simp only; omega)) _)
  isplitl [H0]; · iexact H0
  isplitl [H1]; · iexact H1
  isplitl [H2]; · iexact H2
  isplitl [H3]; · iexact H3
  isplitl [H4]; · iexact H4
  isplitl [H5]; · iexact H5
  isplitl [HT]; · iexact HT
  iintro ⟨H0, H1, H2, H3, H4, H5, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iapply (leaves_idle m c 4 t d4 (by rw [idle_4]; simp only [Bool.not_eq_true', decide_eq_false_iff_not]; omega) (fun _ => before_4 m c t (by omega) d4)); iexact H4
  iexact H5

/-- The body at every point. -/
theorem body_obligation (c : Dev nD) : BodyObligation (dats (F := F) m 0 c) (defs₀ (F := F)) Variants.none () Set.univ := fun t => by
  rw [bigSep_W0, bigSep_W0, defs₀_row]
  refine triple_restated (P := bodyPre m c t) (Q := fun _ => bodyPost m c t) ?_ rfl .rfl fun _ => .rfl
  have hN : t.val < 4 := t.isLt
  by_cases h0 : t.val < 3
  · exact point_0 m c t (Nat.zero_le _) h0
  exact point_1 m c t (by omega) hN

/-! ## The run -/

-- the implicit arguments of the launch are found by unfolding plain definitions in a type
set_option backward.isDefEq.respectTransparency.types false in
set_option maxHeartbeats 800000 in
/-- Every run of the program ends, every array at what the proof data say of it and every counter at zero. -/
theorem run : θ_run defs (onTc (τ := τ) (main (F := F))) (s₀ m ρ)
    (fun r => (Pipeline.FramePost (Pipeline.pin pcfgs (fun _ => adm (F := F))) (dats m) 0 (V m)) r ∧ r.2.sem = fun _ => 0) :=
  Pipeline.θ_run_frameP (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := main_run m Variants.none) (hA := A_eq m) (hpf := fun c k => V_table m c k) (hΦ := fun _ _ => rfl)

/-- The frame: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).1 2).trans (((dats m 0 c).arrAt_in 2 rfl _).trans ((A_eq m c 2).trans (V_arg2 m c))),
      ((h.1 c).1 3).trans (((dats m 0 c).arrAt_in 3 rfl _).trans ((A_eq m c 3).trans (V_arg3 m c)))⟩, h.2⟩) (run m ρ)

end Cert.Dw.Mix
-- ==== Proof.Dw.MixSame.lean ====
module

public import proofs.«01_k».proof.Defs
public import proofs.«01_k».proof.Proof.Dw.MixRun
public import proofs.«01_k».proof.Proof.Gen.MixDwIdeal.Launch

/-! The idealised program has the program's own text, so that the one run is both programs' run. -/

@[expose] public section

set_option maxRecDepth 16384

open Idealize.ShloMosaic Idealize.ShloMosaic.TcCoe Idealize.SL.Sem

namespace Cert.Dw.MixSame

theorem defs₀_eq : Cert.MixDwIdeal.defs₀ (F := Ideal) = Cert.MixDw.defs₀ (F := Ideal) := by
  unfold Cert.MixDwIdeal.defs₀ Cert.MixDw.defs₀
  refine congrArg Defs.onTc (funext fun a => funext fun b => ?_)
  match a, b with
  | 0, (_, _) => rfl

theorem defs_eq : Cert.MixDwIdeal.defs (F := Ideal) = Cert.MixDw.defs (F := Ideal) := by
  unfold Cert.MixDwIdeal.defs Cert.MixDw.defs
  exact congrArg (Pipeline.defs _) defs₀_eq

/-- The frame of the idealised program. -/
theorem frame : Cert.quiescent_MixDwIdeal (hMixDwIdeal := Cert.MixDwIdeal.Gen.facts) := by
  intro m ρ _
  rw [defs_eq]
  exact Cert.Dw.Mix.frame (F := Ideal) m ρ

end Cert.Dw.MixSame
-- ==== Proof.Dw.MixValue.lean ====
module

public import proofs.«01_k».proof.Defs
public import proofs.«01_k».proof.Proof.Dw.MixSame
public import proofs.«01_k».proof.Proof.Gen.MixDwRefIdeal.Run
public import proofs.«01_k».proof.Proof.Gen.MixDwRefIdeal.Read
public import Idealize.ShloMosaic.Lib.Pointwise
public import Idealize.ShloMosaic.Lib.Pipeline.ValueKit

/-! The two weight gradients of the mixer, block by block, are the plain products: of the projections' weight, the
transpose of the normalised stream times the three parts side by side; of the output projection's weight, the transpose
of the attention's result times the residual's gradient. -/

@[expose] public section

set_option maxRecDepth 16384

noncomputable section

open Idealize.ShloMosaic Idealize.ShloMosaic.TcCoe Idealize.SL.Sem
open Idealize.ShloMosaic.Pipeline (Dat Cfg Window)

namespace Cert.Dw.MixValue

open Cert.MixDw Cert.MixDw.Gen Cert.Dw.Mix

/-- The transpose of `a` times the three parts `b`, side by side. -/
def prodParts (a : S2048x1024.Idx → EReal) (b : S3x2048x1024.Idx → EReal) : S1024x3072.Idx → EReal :=
  fun i => ∑ k : Fin 2048, a (ix2 k (i 0)) * b (ix3 (⟨(i 1).val / 1024, by have : (i 1).val < 3072 := (i 1).isLt; omega⟩ : Fin 3) k (⟨(i 1).val % 1024, Nat.mod_lt _ (by decide)⟩ : Fin 1024))

/-- The transpose of `a` times `b`. -/
def prod (a b : S2048x1024.Idx → EReal) : S1024x1024.Idx → EReal :=
  fun i => ∑ k : Fin 2048, a (ix2 k (i 0)) * b (ix2 k (i 1))

/-! ## One block -/

theorem pay_0 (x : Vec Ideal S2048x1024 .bf16) (y : Vec Ideal S1x2048x1024 .bf16) (r : Fin 1024) (j : Fin 1024) :
    k0_pay1 (F := Ideal) x y (ix2 r j) = ∑ k : Fin 2048, x (ix2 k r) * y (ix3 (0 : Fin 1) k j) := by
  unfold k0_pay1
  pointwise!

theorem pay_1 (x : Vec Ideal S2048x1024 .bf16) (y : Vec Ideal S2048x1024 .bf16) (r : Fin 1024) (j : Fin 1024) :
    k0_pay2 (F := Ideal) x y (ix2 r j) = ∑ k : Fin 2048, x (ix2 k r) * y (ix2 k j) := by
  unfold k0_pay2
  pointwise!

theorem out0_eq (x : Vec Ideal S2048x1024 .bf16) (y : Vec Ideal S1x2048x1024 .bf16) : out0 (F := Ideal) x y = k0_pay1 x y := by
  have hz : (![0, 0] : Fin 2 → ℕ) = fun _ => 0 := by decide
  have hz3 : (![0, 0, 0] : Fin 3 → ℕ) = fun _ => 0 := by decide
  unfold out0
  rw [View.canon_unit_zero hz, View.ld_unit_zero hz, View.ld_unit_zero hz3]

theorem out1_eq (x : Vec Ideal S2048x1024 .bf16) (y : Vec Ideal S2048x1024 .bf16) : out1 (F := Ideal) x y = k0_pay2 x y := by
  have hz : (![0, 0] : Fin 2 → ℕ) = fun _ => 0 := by decide
  unfold out1
  rw [View.canon_unit_zero hz, View.ld_unit_zero hz, View.ld_unit_zero hz]

/-! ## The arrays -/

/-- The block that an input is at. -/
theorem win_0 (t : Fin (cfgA (F := Ideal)).N) : ((cfgA (F := Ideal)).win 0).index t = ![0, 0] :=
  index_0 (F := Ideal) (grid0.coords t)
theorem win_1 (t : Fin (cfgA (F := Ideal)).N) : ((cfgA (F := Ideal)).win 1).index t = ![min t.val 2, 0, 0] :=
  (index_1 (F := Ideal) (grid0.coords t)).trans (by rw [coord t])
theorem win_2 (t : Fin (cfgA (F := Ideal)).N) : ((cfgA (F := Ideal)).win 2).index t = ![0, 0] :=
  index_2 (F := Ideal) (grid0.coords t)
theorem win_3 (t : Fin (cfgA (F := Ideal)).N) : ((cfgA (F := Ideal)).win 3).index t = ![0, 0] :=
  index_3 (F := Ideal) (grid0.coords t)

variable (m : (ℓ : Loc nD τ sig) → Buf (Elt Ideal) ℓ)

/-- The gradient of the projections' weight. -/
theorem arr_0 (c : Dev nD) : (dats (F := Ideal) m 0 c).arrAt 4 (cfgA (F := Ideal)).N =
    prodParts (m ((c : Thread nD τ).loc main_arg0)) (m ((c : Thread nD τ).loc main_arg1)) := by
  refine (dats (F := Ideal) m 0 c).arrAt_eq_of_covers 4 _ (by decide +kernel) fun t hf y => ?_
  have hN : t.val < 4 := t.isLt
  have hu : (upTo (F := Ideal) 2 t).val = min t.val 2 := rfl
  rw [after_4, out0_eq]
  have e := pay_0 (iblk m c 0 (upTo 2 t)) (iblk m c 1 (upTo 2 t)) (y 0) (y 1)
  refine (congrArg (k0_pay1 (F := Ideal) _ _) (eq_ix2 (n0 := 1024) (n1 := 1024) y)).trans (e.trans ?_)
  unfold prodParts
  refine Finset.sum_congr rfl fun k _ => congrArg₂ (· * ·) ?_ ?_
  · rw [← V_arg0 m c]
    blk_ext [iblk, win_0 (upTo 2 t), win_4 t]
  · rw [← V_arg1 m c]
    blk_ext [iblk, win_1 (upTo 2 t), win_4 t, hu]

/-- The gradient of the output projection's weight. -/
theorem arr_1 (c : Dev nD) : (dats (F := Ideal) m 0 c).arrAt 5 (cfgA (F := Ideal)).N =
    prod (m ((c : Thread nD τ).loc main_arg2)) (m ((c : Thread nD τ).loc main_arg3)) := by
  refine (dats (F := Ideal) m 0 c).arrAt_eq_of_covers 5 _ (by decide +kernel) fun t hf y => ?_
  rw [after_5, out1_eq]
  have e := pay_1 (iblk m c 2 (upTo 3 t)) (iblk m c 3 (upTo 3 t)) (y 0) (y 1)
  refine (congrArg (k0_pay2 (F := Ideal) _ _) (eq_ix2 (n0 := 1024) (n1 := 1024) y)).trans (e.trans ?_)
  unfold prod
  refine Finset.sum_congr rfl fun k _ => congrArg₂ (· * ·) ?_ ?_
  · rw [← V_arg2 m c]
    blk_ext [iblk, win_2 (upTo 3 t), win_5 t]
  · rw [← V_arg3 m c]
    blk_ext [iblk, win_3 (upTo 3 t), win_5 t]

/-! ## The reference -/

theorem ref_0 (a : (⟨Cert.MixDwRefIdeal.S2048x1024, .bf16⟩ : BufTy).Contents (Elt Ideal)) (b : (⟨Cert.MixDwRefIdeal.S3x2048x1024, .bf16⟩ : BufTy).Contents (Elt Ideal)) :
    Cert.MixDwRefIdeal.Read.val_main_v22 (F := Ideal) a b = prodParts a b := by
  funext i
  refine (congrArg (Cert.MixDwRefIdeal.Read.val_main_v22 (F := Ideal) a b) (eq_ix2 i)).trans (Eq.trans ?_ (congrArg (prodParts a b) (eq_ix2 i)).symm)
  unfold prodParts
  generalize (i 0 : Fin 1024) = r
  generalize (i 1 : Fin 3072) = j
  have hj := j.isLt
  unfold Cert.MixDwRefIdeal.Read.val_main_v22 Cert.MixDwRefIdeal.Read.val_main_v21 Cert.MixDwRefIdeal.Read.val_main_v20 Cert.MixDwRefIdeal.Read.val_main_v19 Cert.MixDwRefIdeal.Read.val_main_v16 Cert.MixDwRefIdeal.Read.val_main_v15 Cert.MixDwRefIdeal.Read.val_main_v14 Cert.MixDwRefIdeal.Read.val_main_v13 Cert.MixDwRefIdeal.Read.val_main_v12 Cert.MixDwRefIdeal.Read.val_main_v11 Cert.MixDwRefIdeal.Read.val_main_v1 Cert.MixDwRefIdeal.Read.val_main_v0
  pointwise
  refine Finset.sum_congr rfl fun k _ => (mul_comm _ _).trans (congrArg (_ * ·) ?_)
  split
  · blk_ext
  · split <;> blk_ext

theorem ref_1 (a b : (⟨Cert.MixDwRefIdeal.S2048x1024, .bf16⟩ : BufTy).Contents (Elt Ideal)) :
    Cert.MixDwRefIdeal.Read.val_main_v23 (F := Ideal) a b = prod a b := by
  funext i
  refine (congrArg (Cert.MixDwRefIdeal.Read.val_main_v23 (F := Ideal) a b) (eq_ix2 i)).trans (Eq.trans ?_ (congrArg (prod a b) (eq_ix2 i)).symm)
  unfold prod
  generalize (i 0 : Fin 1024) = r
  generalize (i 1 : Fin 1024) = j
  unfold Cert.MixDwRefIdeal.Read.val_main_v23 Cert.MixDwRefIdeal.Read.val_main_v18 Cert.MixDwRefIdeal.Read.val_main_v17 Cert.MixDwRefIdeal.Read.val_main_v3 Cert.MixDwRefIdeal.Read.val_main_v2
  pointwise
  exact Finset.sum_congr rfl fun k _ => mul_comm _ _

/-! ## The equation -/

theorem algebraic : Cert.algebraic_MixDwIdeal_MixDwRefIdeal (hMixDwIdeal := Cert.MixDwIdeal.Gen.facts) (hMixDwRefIdeal := Cert.MixDwRefIdeal.Gen.facts) := by
  intro m g m' g' _ hagree
  refine ⟨fun c => prodParts (m ((c.tc : Thread _ _).loc main_arg0)) (m ((c.tc : Thread _ _).loc main_arg1)),
    fun c => prod (m ((c.tc : Thread _ _).loc main_arg2)) (m ((c.tc : Thread _ _).loc main_arg3)), ?_, ?_⟩
  · rw [Cert.Dw.MixSame.defs_eq]
    refine (θ_run _ _ _).mono (fun r h c => ?_) (run (F := Ideal) m g)
    have hw := (h.1 c).1
    exact ⟨(hw 4).trans (arr_0 m c), (hw 5).trans (arr_1 m c),
      (hw 0).trans (((dats m 0 c).arrAt_in 0 rfl _).trans ((A_eq m c 0).trans (V_arg0 m c))),
      (hw 1).trans (((dats m 0 c).arrAt_in 1 rfl _).trans ((A_eq m c 1).trans (V_arg1 m c))),
      (hw 2).trans (((dats m 0 c).arrAt_in 2 rfl _).trans ((A_eq m c 2).trans (V_arg2 m c))),
      (hw 3).trans (((dats m 0 c).arrAt_in 3 rfl _).trans ((A_eq m c 3).trans (V_arg3 m c)))⟩
  · refine (θ_run _ _ _).mono (fun r h c => ?_) (Cert.MixDwRefIdeal.Value.run (F := Ideal) m' g')
    obtain ⟨h0, h1, h2⟩ := h c
    obtain ⟨a0, a1, a2, a3⟩ := hagree c
    refine ⟨h0.trans ?_, h1.trans ?_, h2⟩
    · rw [Cert.MixDwRefIdeal.Read.val_main_v22_eq, ref_0, a0, a1]
    · rw [Cert.MixDwRefIdeal.Read.val_main_v23_eq, ref_1, a2, a3]

end Cert.Dw.MixValue

end
-- ==== Proof.Fwd.Rows.lean ====
module

public import proofs.«01_k».proof.Proof.Norm.Rows
public import Idealize.ShloMosaic.Lib.Pipeline.ValueKit

/-! A row normalised by its root mean square and scaled by a gain, and its product with a matrix. -/

@[expose] public section

noncomputable section

namespace Cert.Fwd

open Idealize.ShloMosaic Idealize.ShloMosaic.TcCoe

/-- Entry `j` of the row `x`, normalised and scaled by the gain `g`. -/
def normAt (x g : Fin 1024 → EReal) (j : Fin 1024) : EReal := x j * Cert.Norm.rinv x * g j

/-- The normalised row times a column `w`. -/
def dotAt (x g w : Fin 1024 → EReal) : EReal := ∑ k : Fin 1024, normAt x g k * w k

theorem normAt_congr {x x' g g' : Fin 1024 → EReal} {j j' : Fin 1024} (hx : ∀ k, x k = x' k) (hg : ∀ k, g k = g' k) (hj : j = j') :
    normAt x g j = normAt x' g' j' := by
  rw [show x = x' from funext hx, show g = g' from funext hg, hj]

theorem dotAt_congr {x x' g g' w w' : Fin 1024 → EReal} (hx : ∀ k, x k = x' k) (hg : ∀ k, g k = g' k) (hw : ∀ k, w k = w' k) :
    dotAt x g w = dotAt x' g' w' := by
  rw [show x = x' from funext hx, show g = g' from funext hg, show w = w' from funext hw]

/-- A load of a rectangle of a block reads the block at the offset plus the index. -/
theorem ld_eq {s : Shape} {e : EltTy} (x : Vec Ideal s e) {off size : Fin s.rank → ℕ} {inb : ∀ a, off a + size a ≤ s.size a}
    (y : (Rect.unit off size inb).shape.Idx) (z : s.Idx) (hz : ∀ a, (z a).val = off a + (y a).val) :
    View.ld x (Rect.unit off size inb) y = x z := by
  refine congrArg x (funext fun a => Fin.ext ?_)
  show off a + 1 * (y a).val = (z a).val
  rw [hz a, Nat.one_mul]

/-- An index of a block with a leading axis of one entry. -/
theorem lead {a b : Nat} (z : (⟨3, ![1, a, b]⟩ : Shape).Idx) : ∃ (r : Fin a) (j : Fin b), z = ix3 (0 : Fin 1) r j := by
  refine ⟨z 1, z 2, (eq_ix3 (n0 := 1) (n1 := a) (n2 := b) z).trans ?_⟩
  congr 1
  exact Fin.ext (by have : (z 0).val < 1 := (z 0).isLt; simp only [Fin.val_zero]; omega)

end Cert.Fwd

end
-- ==== Proof.Fwd.MixBody.lean ====
module

public import proofs.«01_k».proof.Proof.Gen.MixIn.Frame
public import proofs.«01_k».proof.Proof.Gen.MixIn.Skeleton
public import Idealize.ShloMosaic.Lib.Pipeline.TableIdle
public import Idealize.ShloMosaic.Lib.Claim

/-! One point of the norm and the products of a mixer.

The first point of a block of rows normalises it, keeps the rows in the scratch and stores them over their result's
buffer, four stretches of rows one after the other, each multiplied at once; a later point multiplies the rows in the
scratch and leaves their result's buffer as it is. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Fwd.Mix

open Cert.MixIn Cert.MixIn.Gen

variable {F : FTy → Type} [FloatOps F]

local notation "𝕄" => MT nD τ sig Unit (Elt F) ℕ (UR sig nD τ) ℕ

abbrev rX0 : Rect S1024x1024 := Rect.unit (s := S1024x1024) ![0, 0] S256x1024.size inb_S1024x1024_S256x1024_0_0
abbrev rX1 : Rect S1024x1024 := Rect.unit (s := S1024x1024) ![256, 0] S256x1024.size inb_S1024x1024_S256x1024_256_0
abbrev rX2 : Rect S1024x1024 := Rect.unit (s := S1024x1024) ![512, 0] S256x1024.size inb_S1024x1024_S256x1024_512_0
abbrev rX3 : Rect S1024x1024 := Rect.unit (s := S1024x1024) ![768, 0] S256x1024.size inb_S1024x1024_S256x1024_768_0
abbrev rZ0 : Rect S1x1024x1024 := Rect.unit (s := S1x1024x1024) ![0, 0, 0] S1x256x1024.size inb_S1x1024x1024_S1x256x1024_0_0_0
abbrev rZ1 : Rect S1x1024x1024 := Rect.unit (s := S1x1024x1024) ![0, 256, 0] S1x256x1024.size inb_S1x1024x1024_S1x256x1024_0_256_0
abbrev rZ2 : Rect S1x1024x1024 := Rect.unit (s := S1x1024x1024) ![0, 512, 0] S1x256x1024.size inb_S1x1024x1024_S1x256x1024_0_512_0
abbrev rZ3 : Rect S1x1024x1024 := Rect.unit (s := S1x1024x1024) ![0, 768, 0] S1x256x1024.size inb_S1x1024x1024_S1x256x1024_0_768_0
abbrev rG : Rect S1x1x1024 := Rect.unit (s := S1x1x1024) ![0, 0, 0] S1x1x1024.size inb_S1x1x1024_S1x1x1024_0_0_0
abbrev rW : Rect S1024x1024 := Rect.unit (s := S1024x1024) ![0, 0] S1024x1024.size inb_S1024x1024_S1024x1024_0_0
abbrev rZ : Rect S1x1024x1024 := Rect.unit (s := S1x1024x1024) ![0, 0, 0] S1x1024x1024.size inb_S1x1024x1024_S1x1024x1024_0_0_0

/-- What the first point of a row block leaves in the scratch: the normalised rows. -/
def hS (x : Vec F S1024x1024 .f32) (g : Vec F S1x1x1024 .f32) : Vec F S1024x1024 .bf16 :=
  View.canon [⟨rX3, k0_pay14 (View.ld x rX3) (View.ld g rG)⟩,
    ⟨rX2, k0_pay11 (k0_pay10 (View.ld x rX2) (View.ld g rG))⟩,
    ⟨rX1, k0_pay8 (View.ld x rX1) (k0_pay6 (View.ld x rX1)) (View.ld g rG)⟩,
    ⟨rX0, k0_pay4 (View.ld x rX0) (View.ld g rG)⟩]

/-- What it leaves in the second result's buffer: the same rows. -/
def hN (x : Vec F S1024x1024 .f32) (g : Vec F S1x1x1024 .f32) : Vec F S1024x1024 .bf16 :=
  View.canon [⟨rX3, k0_pay13 (View.ld x rX3) (View.ld g rG)⟩,
    ⟨rX2, k0_pay10 (View.ld x rX2) (View.ld g rG)⟩,
    ⟨rX1, k0_pay7 (View.ld x rX1) (k0_pay6 (View.ld x rX1)) (View.ld g rG)⟩,
    ⟨rX0, k0_pay3 (View.ld x rX0) (View.ld g rG)⟩]

/-- What it leaves in the product's buffer: the rows times the weights, four stretches of rows. -/
def zA (x : Vec F S1024x1024 .f32) (g : Vec F S1x1x1024 .f32) (w : Vec F S1024x1024 .bf16) : Vec F S1x1024x1024 .bf16 :=
  View.canon [⟨rZ3, k0_pay1 (k0_pay15 (View.ld x rX3) (View.ld g rG) (View.ld w rW))⟩,
    ⟨rZ2, k0_pay12 (k0_pay10 (View.ld x rX2) (View.ld g rG)) (View.ld w rW)⟩,
    ⟨rZ1, k0_pay9 (View.ld x rX1) (k0_pay6 (View.ld x rX1)) (View.ld g rG) (View.ld w rW)⟩,
    ⟨rZ0, k0_pay5 (View.ld x rX0) (View.ld g rG) (View.ld w rW)⟩]

/-- What a later point leaves there: the rows in the scratch times its block of the weights. -/
def zB (s : Vec F S1024x1024 .bf16) (w : Vec F S1024x1024 .bf16) : Vec F S1x1024x1024 .bf16 :=
  View.canon [⟨rZ, k0_pay2 (View.ld s rW) (View.ld w rW)⟩]

/-- The stores cover the buffer. -/
theorem cover_h (p0 p1 p2 p3 : Vec F S256x1024 .bf16) (y : S1024x1024.Idx) :
    ∃ pc ∈ ([⟨rX3, p0⟩, ⟨rX2, p1⟩, ⟨rX1, p2⟩, ⟨rX0, p3⟩] : List (View.Piece (Elt F) S1024x1024 .bf16)), y ∈ pc.1.set :=
  View.cover_of_tiled [⟨rX3, p0⟩, ⟨rX2, p1⟩, ⟨rX1, p2⟩, ⟨rX0, p3⟩] S256x1024.size (by rfl) y

/-- The stores cover the buffer. -/
theorem cover_z (p0 p1 p2 p3 : Vec F S1x256x1024 .bf16) (y : S1x1024x1024.Idx) :
    ∃ pc ∈ ([⟨rZ3, p0⟩, ⟨rZ2, p1⟩, ⟨rZ1, p2⟩, ⟨rZ0, p3⟩] : List (View.Piece (Elt F) S1x1024x1024 .bf16)), y ∈ pc.1.set :=
  View.cover_of_tiled [⟨rZ3, p0⟩, ⟨rZ2, p1⟩, ⟨rZ1, p2⟩, ⟨rZ0, p3⟩] S1x256x1024.size (by rfl) y

/-- The stores cover the buffer. -/
theorem cover_b (p0 : Vec F S1x1024x1024 .bf16) (y : S1x1024x1024.Idx) :
    ∃ pc ∈ ([⟨rZ, p0⟩] : List (View.Piece (Elt F) S1x1024x1024 .bf16)), y ∈ pc.1.set :=
  View.cover_of_tiled [⟨rZ, p0⟩] S1x1024x1024.size (by rfl) y

set_option maxHeartbeats 2000000 in
/-- The first point of a block of rows. -/
theorem body_first (c : Dev nD) (E : Set ℕ) (i : grid0.Coords) (arg2 : Memref sig .tc .vmem S1024x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1024x1024 .bf16) (harg7 : arg7.IsWhole)
    (x : Vec F S1024x1024 .f32) (g : Vec F S1x1x1024 .f32) (w : Vec F S1024x1024 .bf16) (y0 : Vec F S1x1024x1024 .bf16) (y1 : Vec F S1024x1024 .bf16) (s : Vec F S1024x1024 .bf16)
    (hc1 : k0_cond1 i = 1#1) (hc2 : ¬ k0_cond2 i = 1#1) (K : PUnit → sProp 𝕄) :
    iprop(owns (c : Thread nD τ) arg2 fullShare x ∗ owns (c : Thread nD τ) arg3 fullShare g ∗ owns (c : Thread nD τ) arg4 fullShare w ∗ owns (c : Thread nD τ) arg5 fullShare y0 ∗ owns (c : Thread nD τ) arg6 fullShare y1 ∗ owns (c : Thread nD τ) arg7 fullShare s
        ∗ (iprop(owns (c : Thread nD τ) arg2 fullShare x ∗ owns (c : Thread nD τ) arg3 fullShare g ∗ owns (c : Thread nD τ) arg4 fullShare w ∗ owns (c : Thread nD τ) arg5 fullShare (zA x g w) ∗ owns (c : Thread nD τ) arg6 fullShare (hN x g) ∗ owns (c : Thread nD τ) arg7 fullShare (hS x g)) -∗ K ⟨⟩))
      ⊢ wp frame (wpE (defs₀ (F := F)) Variants.none c none) E (cc0_mix_in i arg2 harg2 arg3 harg3 arg4 harg4 arg5 harg5 arg6 harg6 arg7 harg7) K := by
  simp only [cc0_mix_in_eq_skeleton]; unfold cc0_mix_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_z _ _ _ _ )
  isplitl [H4]
  · iexists _; isplitr
    swap; · iexact H4
    ipureintro
    exact View.read_writes_eq_canon _ _ _ (cover_h _ _ _ _ )
  iexists _; isplitr
  swap; · iexact H5
  ipureintro
  exact View.read_writes_eq_canon _ _ _ (cover_h _ _ _ _ )

set_option maxHeartbeats 2000000 in
/-- A later point. -/
theorem body_later (c : Dev nD) (E : Set ℕ) (i : grid0.Coords) (arg2 : Memref sig .tc .vmem S1024x1024 .f32) (harg2 : arg2.IsWhole) (arg3 : Memref sig .tc .vmem S1x1x1024 .f32) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1024x1024 .bf16) (harg7 : arg7.IsWhole)
    (x : Vec F S1024x1024 .f32) (g : Vec F S1x1x1024 .f32) (w : Vec F S1024x1024 .bf16) (y0 : Vec F S1x1024x1024 .bf16) (y1 : Vec F S1024x1024 .bf16) (s : Vec F S1024x1024 .bf16)
    (hc1 : ¬ k0_cond1 i = 1#1) (hc2 : k0_cond2 i = 1#1) (K : PUnit → sProp 𝕄) :
    iprop(owns (c : Thread nD τ) arg2 fullShare x ∗ owns (c : Thread nD τ) arg3 fullShare g ∗ owns (c : Thread nD τ) arg4 fullShare w ∗ owns (c : Thread nD τ) arg5 fullShare y0 ∗ owns (c : Thread nD τ) arg6 fullShare y1 ∗ owns (c : Thread nD τ) arg7 fullShare s
        ∗ (iprop(owns (c : Thread nD τ) arg2 fullShare x ∗ owns (c : Thread nD τ) arg3 fullShare g ∗ owns (c : Thread nD τ) arg4 fullShare w ∗ owns (c : Thread nD τ) arg5 fullShare (zB s w) ∗ owns (c : Thread nD τ) arg6 fullShare y1 ∗ owns (c : Thread nD τ) arg7 fullShare s) -∗ K ⟨⟩))
      ⊢ wp frame (wpE (defs₀ (F := F)) Variants.none c none) E (cc0_mix_in i arg2 harg2 arg3 harg3 arg4 harg4 arg5 harg5 arg6 harg6 arg7 harg7) K := by
  simp only [cc0_mix_in_eq_skeleton]; unfold cc0_mix_in_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_b _ )
  isplitl [H4]
  · iexists f4; isplitr; · ipureintro; rfl
    iexact H4
  iexists f5; isplitr; · ipureintro; rfl
  iexact H5

end Cert.Fwd.Mix
-- ==== Proof.Fwd.MixBlock.lean ====
module

public import proofs.«01_k».proof.Proof.Fwd.Rows
public import proofs.«01_k».proof.Proof.Fwd.MixBody
public import Idealize.ShloMosaic.Lib.Pointwise
public import Idealize.ShloMosaic.Lib.Pipeline.ValueKit

/-! What a point of the mixer's norm and products leaves in its buffers: the normalised rows, and their products with
the block of the weights, each by four stretches of 256 rows at the first point of a row block. -/

@[expose] public section

set_option maxRecDepth 16384

noncomputable section

open Idealize.ShloMosaic Idealize.ShloMosaic.TcCoe

namespace Cert.Fwd.Mix

open Cert.MixIn Cert.MixIn.Gen

/-- The rows of the block `x` normalised. -/
def hRows (x : Vec Ideal S1024x1024 .f32) (g : Vec Ideal S1x1x1024 .f32) : S1024x1024.Idx → EReal :=
  fun y => normAt (fun k => x (ix2 (y 0) k)) (fun k => g (ix3 (0 : Fin 1) (0 : Fin 1) k)) (y 1)

/-- Rows times the block `w`. -/
def zRows (s : S1024x1024.Idx → EReal) (w : Vec Ideal S1024x1024 .bf16) : S1x1024x1024.Idx → EReal :=
  fun y => ∑ k : Fin 1024, s (ix2 (y 1) k) * w (ix2 k (y 2))

section
variable (x : Vec Ideal S256x1024 .f32) (g : Vec Ideal S1x1x1024 .f32) (w : Vec Ideal S1024x1024 .bf16) (r : Fin 256) (j : Fin 1024)

/-! ## The normalised rows of a stretch -/

theorem norm_0 : k0_pay3 (F := Ideal) x g (ix2 r j) = normAt (fun k => x (ix2 r k)) (fun k => g (ix3 (0 : Fin 1) (0 : Fin 1) k)) j := by
  unfold k0_pay3
  pointwise
  rfl

theorem norm_1 : k0_pay7 (F := Ideal) x (k0_pay6 x) g (ix2 r j) = normAt (fun k => x (ix2 r k)) (fun k => g (ix3 (0 : Fin 1) (0 : Fin 1) k)) j := by
  unfold k0_pay7 k0_pay6
  pointwise
  rfl

theorem norm_2 : k0_pay10 (F := Ideal) x g (ix2 r j) = normAt (fun k => x (ix2 r k)) (fun k => g (ix3 (0 : Fin 1) (0 : Fin 1) k)) j := by
  unfold k0_pay10
  pointwise
  rfl

theorem norm_3 : k0_pay13 (F := Ideal) x g (ix2 r j) = normAt (fun k => x (ix2 r k)) (fun k => g (ix3 (0 : Fin 1) (0 : Fin 1) k)) j := by
  unfold k0_pay13
  pointwise
  rfl

/-! ## The same rows, as they are stored into the scratch -/

theorem scr_0 : k0_pay4 (F := Ideal) x g (ix2 r j) = normAt (fun k => x (ix2 r k)) (fun k => g (ix3 (0 : Fin 1) (0 : Fin 1) k)) j := by
  refine Eq.trans ?_ (norm_0 x g r j)
  unfold k0_pay4
  generalize k0_pay3 (F := Ideal) x g = y
  pointwise

theorem scr_1 : k0_pay8 (F := Ideal) x (k0_pay6 x) g (ix2 r j) = normAt (fun k => x (ix2 r k)) (fun k => g (ix3 (0 : Fin 1) (0 : Fin 1) k)) j := by
  refine Eq.trans ?_ (norm_1 x g r j)
  unfold k0_pay8
  generalize k0_pay7 (F := Ideal) x (k0_pay6 x) g = y
  pointwise

theorem scr_2 : k0_pay11 (F := Ideal) (k0_pay10 x g) (ix2 r j) = normAt (fun k => x (ix2 r k)) (fun k => g (ix3 (0 : Fin 1) (0 : Fin 1) k)) j := by
  refine Eq.trans ?_ (norm_2 x g r j)
  unfold k0_pay11
  generalize k0_pay10 (F := Ideal) x g = y
  pointwise

theorem scr_3 : k0_pay14 (F := Ideal) x g (ix2 r j) = normAt (fun k => x (ix2 r k)) (fun k => g (ix3 (0 : Fin 1) (0 : Fin 1) k)) j := by
  refine Eq.trans ?_ (norm_3 x g r j)
  unfold k0_pay14
  generalize k0_pay13 (F := Ideal) x g = y
  pointwise

/-! ## Their products with the weights -/

theorem prod_0 : k0_pay5 (F := Ideal) x g w (ix3 0 r j) = dotAt (fun k => x (ix2 r k)) (fun k => g (ix3 (0 : Fin 1) (0 : Fin 1) k)) (fun k => w (ix2 k j)) := by
  unfold dotAt
  simp only [← norm_0 x g r]
  unfold k0_pay5
  generalize k0_pay3 (F := Ideal) x g = y
  pointwise

theorem prod_1 : k0_pay9 (F := Ideal) x (k0_pay6 x) g w (ix3 0 r j) = dotAt (fun k => x (ix2 r k)) (fun k => g (ix3 (0 : Fin 1) (0 : Fin 1) k)) (fun k => w (ix2 k j)) := by
  unfold dotAt
  simp only [← norm_1 x g r]
  unfold k0_pay9
  generalize k0_pay7 (F := Ideal) x (k0_pay6 x) g = y
  pointwise

theorem prod_2 : k0_pay12 (F := Ideal) (k0_pay10 x g) w (ix3 0 r j) = dotAt (fun k => x (ix2 r k)) (fun k => g (ix3 (0 : Fin 1) (0 : Fin 1) k)) (fun k => w (ix2 k j)) := by
  unfold dotAt
  simp only [← norm_2 x g r]
  unfold k0_pay12
  generalize k0_pay10 (F := Ideal) x g = y
  pointwise

theorem prod_3 : k0_pay1 (F := Ideal) (k0_pay15 x g w) (ix3 0 r j) = dotAt (fun k => x (ix2 r k)) (fun k => g (ix3 (0 : Fin 1) (0 : Fin 1) k)) (fun k => w (ix2 k j)) := by
  unfold dotAt
  simp only [← norm_3 x g r]
  unfold k0_pay1 k0_pay15
  generalize k0_pay13 (F := Ideal) x g = y
  pointwise

end

theorem prod_later (s w : Vec Ideal S1024x1024 .bf16) (r j : Fin 1024) :
    k0_pay2 (F := Ideal) s w (ix3 0 r j) = ∑ k : Fin 1024, s (ix2 r k) * w (ix2 k j) := by
  unfold k0_pay2
  pointwise

/-! ## The buffers -/

section
variable (x : Vec Ideal S1024x1024 .f32) (g : Vec Ideal S1x1x1024 .f32) (w : Vec Ideal S1024x1024 .bf16)

theorem at0 (n : Nat) : n = 0 + 1 * n := by omega

theorem ldG : View.ld g rG = g := View.ld_unit_zero (by decide) _ _
theorem ldW : View.ld w rW = w := View.ld_unit_zero (by decide) _ _

/-- The result's buffer holds the normalised rows. -/
theorem hN_eq : hN (F := Ideal) x g = hRows x g := by
  funext y
  unfold hN
  rw [ldG]
  refine View.canon_apply_of_pieces (Val := Elt Ideal) (e := .bf16) (hRows x g) _ ?_ y (cover_h _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 1024) z)).trans ((norm_3 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_2 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_1 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_0 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))

/-- So does the scratch. -/
theorem hS_eq : hS (F := Ideal) x g = hRows x g := by
  funext y
  unfold hS
  rw [ldG]
  refine View.canon_apply_of_pieces (Val := Elt Ideal) (e := .bf16) (hRows x g) _ ?_ y (cover_h _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 1024) z)).trans ((scr_3 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_2 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_1 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_0 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))

/-- The first point of a row block leaves the rows times its block of the weights. -/
theorem zA_eq : zA (F := Ideal) x g w = zRows (hRows x g) w := by
  funext y
  unfold zA
  rw [ldG, ldW]
  refine View.canon_apply_of_pieces (Val := Elt Ideal) (e := .bf16) (zRows (hRows x g) w) _ ?_ y (cover_z _ _ _ _ y)
  simp only [List.forall_mem_cons, List.not_mem_nil, IsEmpty.forall_iff, implies_true, and_true]
  refine ⟨fun z => ?_, fun z => ?_, fun z => ?_, fun z => ?_⟩
  · obtain ⟨r, j, rfl⟩ := lead z
    refine (prod_3 _ _ _ r j).trans ?_
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 k) (Fin.ext (at0 j.val))))
  · obtain ⟨r, j, rfl⟩ := lead z
    refine (prod_2 _ _ _ r j).trans ?_
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 k) (Fin.ext (at0 j.val))))
  · obtain ⟨r, j, rfl⟩ := lead z
    refine (prod_1 _ _ _ r j).trans ?_
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 k) (Fin.ext (at0 j.val))))
  · obtain ⟨r, j, rfl⟩ := lead z
    refine (prod_0 _ _ _ r j).trans ?_
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 k) (Fin.ext (at0 j.val))))

/-- A later point leaves the scratch times its block of the weights. -/
theorem zB_eq (s : Vec Ideal S1024x1024 .bf16) : zB (F := Ideal) s w = zRows s w := by
  have hz : (![0, 0] : Fin 2 → Nat) = 0 := by decide
  have hz3 : (![0, 0, 0] : Fin 3 → Nat) = 0 := by decide
  unfold zB
  rw [View.canon_unit_zero hz3, View.ld_unit_zero hz, View.ld_unit_zero hz]
  funext y
  obtain ⟨r, j, rfl⟩ := lead (a := 1024) (b := 1024) y
  exact prod_later s w r j

end

end Cert.Fwd.Mix

end
-- ==== Proof.Fwd.MixRun.lean ====
module

public import proofs.«01_k».proof.Proof.Gen.MixIn.Frame
public import proofs.«01_k».proof.Proof.Gen.MixIn.Launch
public import proofs.«01_k».proof.Proof.Gen.MixIn.Points
public import proofs.«01_k».proof.Proof.Fwd.MixBody
public import Idealize.ShloMosaic.Lib.Pipeline.FrameBody
public import Idealize.ShloMosaic.Lib.Pipeline.TableIdle
public import Idealize.ShloMosaic.Lib.Claim
public import Idealize.ShloMosaic.Lib.Tactic

/-! The run of the norm and the products of a mixer.

The call's proof data: every input's buffer holds its block; the normalised rows are in the scratch and in their
result's buffer from the first point of their row block to its last, where the buffer is written back although that
point stores nothing into it; a product's buffer holds the block of the product. The invariant says of the scratch that
after a point it holds the rows of the point's row block. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Fwd.Mix

open Cert.MixIn Cert.MixIn.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Which branch a point takes. -/
theorem cond_1 : ∀ t : Fin grid0.N, k0_cond1 (grid0.coords t) = 1#1 ↔ t.val % 3 = 0 := by decide +kernel
theorem cond_2 : ∀ t : Fin grid0.N, k0_cond2 (grid0.coords t) = 1#1 ↔ t.val % 3 ≠ 0 := by decide +kernel

theorem idle_3 (t : Fin cfg0.N) : cfg0.idle 3 (cfg0.grid.coords t) = false :=
  (by decide +kernel : ∀ t : Fin grid0.N, idle0 3 (grid0.coords t) = false) t
theorem idle_h (t : Fin cfg0.N) : cfg0.idle 4 (cfg0.grid.coords t) = !decide (t.val % 3 = 0) :=
  (by decide +kernel : ∀ t : Fin grid0.N, idle0 4 (grid0.coords t) = !decide (t.val % 3 = 0)) t
theorem flush_h (t : Fin cfg0.N) : (cfg0.win 4).flush t = decide (t.val % 3 = 2) := by
  have h := flush0_4 t
  by_cases h' : t.val % 3 = 2
  · rw [decide_eq_true h']; exact h.mpr h'
  · rw [decide_eq_false h']; exact Bool.eq_false_iff.mpr (mt h.mp h')

/-- The buffer of the normalised rows holds nothing yet exactly before the first point of a row block. -/
theorem fresh_h (n : Nat) (hn : n ≤ cfg0.N) : cfg0.fresh 4 n = decide (n % 3 = 0) :=
  Pipeline.Cfg.fresh_tab _ 4 (fun n => decide (n % 3 = 0)) (by decide) (fun t => by
    rw [flush_h, idle_h]
    exact (by decide +kernel : ∀ t : Fin 6, decide ((t.val + 1) % 3 = 0)
      = (decide (t.val % 3 = 2) || (!decide (t.val % 3 = 0) && decide (t.val % 3 = 0)))) t) n hn

/-- The first point of a point's row block. -/
def rowStart (t : Fin cfg0.N) : Fin cfg0.N := ⟨t.val / 3 * 3, lt_of_le_of_lt (Nat.div_mul_le_self _ _) t.isLt⟩

theorem rowStart_first (t : Fin cfg0.N) (h : t.val % 3 = 0) : rowStart t = t :=
  Fin.ext (by show t.val / 3 * 3 = t.val; omega)
theorem rowStart_pred (t : Fin cfg0.N) (h : t.val % 3 ≠ 0) (h' : t.val - 1 < cfg0.N) : rowStart t = rowStart ⟨t.val - 1, h'⟩ :=
  Fin.ext (by show t.val / 3 * 3 = (t.val - 1) / 3 * 3; omega)

/-! ## The proof data -/

/-- The rows that the scratch holds after a point. -/
def scr (c : Dev nD) (t : Fin cfg0.N) : Vec F S1024x1024 .bf16 := hS (iblk m c 0 (rowStart t)) (iblk m c 1 (rowStart t))

theorem scr_first (c : Dev nD) (t : Fin cfg0.N) (ht : t.val % 3 = 0) (t' : Fin cfg0.N) (h : t'.val + 1 = t.val + 1) :
    hS (iblk m c 0 t) (iblk m c 1 t) = scr m c t' := by
  obtain rfl : t' = t := Fin.ext (Nat.succ_injective h)
  unfold scr; rw [rowStart_first t' ht]
theorem scr_self (c : Dev nD) (t t' : Fin cfg0.N) (h : t'.val + 1 = t.val + 1) : scr m c t = scr m c t' := by
  obtain rfl : t' = t := Fin.ext (Nat.succ_injective h)
  rfl

/-- The scratch after the first `n` points, and the core's generator register. -/
def inv (c : Dev nD) (n : Nat) : sProp 𝕄 :=
  iprop(∃ s : Vec F S1024x1024 .bf16, owns (c : Thread nD τ) (Memref.whole cc0_scratch0) fullShare s
    ∗ ⌜∀ t : Fin cfg0.N, t.val + 1 = n → s = scr m c t⌝ ∗ ∃ r, prngReg c r)

/-- The call's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => if t.val % 3 = 0 then zA (iblk m c 0 t) (iblk m c 1 t) (iblk m c 2 t) else zB (scr m c t) (iblk m c 2 t)
    | ⟨4, _⟩ => hN (iblk m c 0 (rowStart t)) (iblk m c 1 (rowStart t))
  Φ t := inv m c t.val
  q w := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (if t.val % 3 = 0 then zA (iblk m c 0 t) (iblk m c 1 t) (iblk m c 2 t) else zB (scr m c t) (iblk m c 2 t)) := by dsimp only [dats]
theorem after_4 (c : Dev nD) (t : Fin cfg0.N) : (dats m 0 c).after 4 t = hN (iblk m c 0 (rowStart t)) (iblk m c 1 (rowStart t)) := by dsimp only [dats]

/-- An input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a later point of a row block the buffer of the normalised rows holds the row block's. -/
theorem before_h (c : Dev nD) (t : Fin cfg0.N) (ht : t.val % 3 ≠ 0) (d) :
    (dats m 0 c).before 4 t d = (dats m 0 c).after 4 t := by
  have hfresh : cfg0.fresh 4 t.val = false := by
    rw [fresh_h _ (Nat.le_of_lt t.isLt)]; exact decide_eq_false ht
  rw [(dats m 0 c).before_out_traj 4 rfl (fun _ _ => rfl) (fun t' h0 _ hf => ?_) t.val t rfl d, hfresh, if_neg Bool.false_ne_true,
    after_4, after_4, rowStart_pred t ht (by omega)]
  rw [fresh_h _ (Nat.le_of_lt t'.isLt)] at hf
  rw [after_4, after_4, rowStart_pred t' (of_decide_eq_false hf) (by omega)]

/-! ## The body obligation -/

/-- A buffer that the point stores into holds what it computed. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A buffer that the point leaves alone is given back as it was found. -/
theorem leaves_idle (c : Dev nD) (w : Fin cfg0.W) (t : Fin cfg0.N) (d) (hi : cfg0.idle w (cfg0.grid.coords t) = true)
    (hf : (cfg0.win w).flush t = true → (dats m 0 c).before w t d = (dats m 0 c).after w t) :
    owns (c : Thread nD τ) ((cfg0.win w).stage (cfg0.slots t w)) fullShare ((dats m 0 c).before w t d)
      ⊢ ((dats m 0 c).leavesExact w t : sProp 𝕄) := by
  unfold Dat.leavesExact; rw [hi]
  cases h : (cfg0.win w).flush t
  · iintro H; iexists d; iexact H
  · rw [hf h]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (dats m 0 c).leavesExact 3 t
    ∗ (dats m 0 c).leavesExact 4 t)

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The first point of a row block. -/
theorem point_first (c : Dev nD) (t : Fin cfg0.N) (ht : t.val % 3 = 0) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl,
    show (dats m 0 c).Φ t.succ = inv m c (t.val + 1) from rfl, show (dats m 0 c).Φ t.castSucc = inv m c t.val from rfl,
    after_0, after_1, after_2,
    leaves_live m c 3 t (idle_3 t), after_3, if_pos ht,
    leaves_live m c 4 t (by rw [idle_h, decide_eq_true ht]; rfl), after_4, rowStart_first t ht]
  unfold inv
  iintro ⟨⟨%s, HS, %hs, HR⟩, Ho, ⟨%d0, H0⟩, ⟨%d1, H1⟩, ⟨%d2, H2⟩, ⟨%d3, H3⟩, ⟨%d4, H4⟩⟩
  iapply (body_first c Set.univ (grid0.coords t) _ _ _ _ _ _ _ _ _ _ _ _ (iblk m c 0 t) (iblk m c 1 t) (iblk m c 2 t) ((dats m 0 c).before 3 t d3) ((dats m 0 c).before 4 t d4) s
    ((cond_1 t).mpr ht) (fun h => (cond_2 t).mp h ht) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR]
  · iexists (hS (iblk m c 0 t) (iblk m c 1 t)); isplitl [HS]; · iexact HS
    isplitr; · ipureintro; exact scr_first m c t ht
    iexact HR
  isplitl [Ho]; · iexact Ho
  isplitl [H0]; · iexact H0
  isplitl [H1]; · iexact H1
  isplitl [H2]; · iexact H2
  isplitl [H3]; · iexact H3
  iexact H4

set_option maxHeartbeats 1000000 in
/-- A later point. -/
theorem point_later (c : Dev nD) (t : Fin cfg0.N) (ht : t.val % 3 ≠ 0) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl,
    show (dats m 0 c).Φ t.succ = inv m c (t.val + 1) from rfl, show (dats m 0 c).Φ t.castSucc = inv m c t.val from rfl,
    after_0, after_1, after_2,
    leaves_live m c 3 t (idle_3 t), after_3, if_neg ht]
  unfold inv
  iintro ⟨⟨%s, HS, %hs, HR⟩, Ho, ⟨%d0, H0⟩, ⟨%d1, H1⟩, ⟨%d2, H2⟩, ⟨%d3, H3⟩, ⟨%d4, H4⟩⟩
  have hs' : s = scr m c t := (hs ⟨t.val - 1, lt_of_le_of_lt (Nat.sub_le _ _) t.isLt⟩ (by simp only; omega)).trans
    (by unfold scr; rw [rowStart_pred t ht (lt_of_le_of_lt (Nat.sub_le _ _) t.isLt)])
  subst hs'
  iapply (body_later c Set.univ (grid0.coords t) _ _ _ _ _ _ _ _ _ _ _ _ (iblk m c 0 t) (iblk m c 1 t) (iblk m c 2 t) ((dats m 0 c).before 3 t d3) ((dats m 0 c).before 4 t d4) (scr m c t)
    (fun h => ht ((cond_1 t).mp h)) ((cond_2 t).mpr ht) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS HR]
  · iexists (scr m c t); isplitl [HS]; · iexact HS
    isplitr; · ipureintro; exact scr_self m c t
    iexact HR
  isplitl [Ho]; · iexact Ho
  isplitl [H0]; · iexact H0
  isplitl [H1]; · iexact H1
  isplitl [H2]; · iexact H2
  isplitl [H3]; · iexact H3
  iapply (leaves_idle m c 4 t d4 (by rw [idle_h, decide_eq_false ht]; rfl) (fun _ => before_h m c t ht d4)); iexact H4

/-- The body at every point. -/
theorem body_obligation (c : Dev nD) : BodyObligation (dats (F := F) m 0 c) (defs₀ (F := F)) Variants.none () Set.univ := fun t => by
  rw [bigSep_W0, bigSep_W0, defs₀_row]
  refine triple_restated (P := bodyPre m c t) (Q := fun _ => bodyPost m c t) ?_ rfl .rfl fun _ => .rfl
  by_cases h0 : t.val % 3 = 0
  · exact point_first m c t h0
  exact point_later m c t h0

/-! ## The run -/

theorem hin (c : Dev nD) : Pipeline.ΦA spec0 c ⊢ ((dats (F := F) m 0 c).Φ 0 : sProp 𝕄) := by
  rw [show (dats (F := F) m 0 c).Φ 0 = inv m c 0 from rfl]
  unfold Pipeline.ΦA inv
  rw [scopedRest0_eq]
  iintro ⟨⟨%f, Hf⟩, HR⟩
  iexists f
  rw [owns_whole]
  isplitl [Hf]; · iexact Hf
  isplitr; · ipureintro; exact fun t h => absurd h (Nat.succ_ne_zero _)
  iexact HR

theorem hout (c : Dev nD) : ((dats (F := F) m 0 c).Φ (Fin.last cfg0.N) : sProp 𝕄) ⊢ Pipeline.ΦA spec0 c := by
  rw [show (dats (F := F) m 0 c).Φ (Fin.last cfg0.N) = inv m c cfg0.N from rfl]
  unfold Pipeline.ΦA inv
  rw [scopedRest0_eq]
  iintro ⟨%s, HS, %hs, HR⟩
  isplitl [HS]
  · iexists s
    rw [← owns_whole (c : Thread nD τ) cc0_scratch0 fullShare s]
    iexact HS
  iexact HR

-- the implicit arguments of the launch are found by unfolding plain definitions in a type
set_option backward.isDefEq.respectTransparency.types false in
set_option maxHeartbeats 800000 in
/-- Every run of the program ends, every array at what the proof data say of it and every counter at zero. -/
theorem run : θ_run defs (onTc (τ := τ) (main (F := F))) (s₀ m ρ)
    (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m) (Q' := _)

/-- The frame: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c)))⟩, h.2⟩) (run m ρ)

end Cert.Fwd.Mix
-- ==== Proof.Fwd.MixSame.lean ====
module

public import proofs.«01_k».proof.Defs
public import proofs.«01_k».proof.Proof.Fwd.MixRun
public import proofs.«01_k».proof.Proof.Gen.MixInIdeal.Launch

/-! The idealised program has the program's own text, so that the one run is both programs' run. -/

@[expose] public section

set_option maxRecDepth 16384

open Idealize.ShloMosaic Idealize.ShloMosaic.TcCoe Idealize.SL.Sem

namespace Cert.Fwd.MixSame

theorem defs₀_eq : Cert.MixInIdeal.defs₀ (F := Ideal) = Cert.MixIn.defs₀ (F := Ideal) := by
  unfold Cert.MixInIdeal.defs₀ Cert.MixIn.defs₀
  refine congrArg Defs.onTc (funext fun a => funext fun b => ?_)
  match a, b with
  | 0, (_, _) => rfl

theorem defs_eq : Cert.MixInIdeal.defs (F := Ideal) = Cert.MixIn.defs (F := Ideal) := by
  unfold Cert.MixInIdeal.defs Cert.MixIn.defs
  exact congrArg (Pipeline.defs _) defs₀_eq

/-- The frame of the idealised program. -/
theorem frame : Cert.quiescent_MixInIdeal (hMixInIdeal := Cert.MixInIdeal.Gen.facts) := by
  intro m ρ _
  rw [defs_eq]
  exact Cert.Fwd.Mix.frame (F := Ideal) m ρ

end Cert.Fwd.MixSame
-- ==== Proof.Fwd.MixValue.lean ====
module

public import proofs.«01_k».proof.Defs
public import proofs.«01_k».proof.Proof.Fwd.MixBlock
public import proofs.«01_k».proof.Proof.Fwd.MixSame
public import proofs.«01_k».proof.Proof.Gen.MixInRefIdeal.Run
public import proofs.«01_k».proof.Proof.Gen.MixInRefIdeal.Read
public import Idealize.ShloMosaic.Lib.Pointwise
public import Idealize.ShloMosaic.Lib.Pipeline.ValueKit

/-! The mixer's norm and products, block by block, are the rows normalised, and their products with the three parts of
the projections' weight. -/

@[expose] public section

set_option maxRecDepth 16384

noncomputable section

open Idealize.ShloMosaic Idealize.ShloMosaic.TcCoe Idealize.SL.Sem
open Idealize.ShloMosaic.Pipeline (Dat Cfg Window)

namespace Cert.Fwd.MixValue

open Cert.MixIn Cert.MixIn.Gen Cert.Fwd.Mix

/-- The rows of `x` normalised, under the fourth gain. -/
def normed (x : S2048x1024.Idx → EReal) (g : S4x1024.Idx → EReal) : S2048x1024.Idx → EReal :=
  fun i => normAt (fun k => x (ix2 (i 0) k)) (fun k => g (ix2 (3 : Fin 4) k)) (i 1)

/-- Their products with the three parts of `w`. -/
def parts (x : S2048x1024.Idx → EReal) (g : S4x1024.Idx → EReal) (w : S1024x3072.Idx → EReal) : S3x2048x1024.Idx → EReal :=
  fun i => dotAt (fun k => x (ix2 (i 1) k)) (fun k => g (ix2 (3 : Fin 4) k))
    (fun k => w (ix2 k (⟨(i 0).val * 1024 + (i 2).val, by have := (i 0).isLt; have := (i 2).isLt; change (i 0).val < 3 at *; change (i 2).val < 1024 at *; omega⟩ : Fin 3072)))

/-! ## The arrays -/

/-- The block that a window is at. -/
theorem win_0 : ∀ t : Fin grid0.N, (cfg0.win 0).index t = ![t.val / 3, 0] := by decide +kernel
theorem win_1 : ∀ t : Fin grid0.N, (cfg0.win 1).index t = ![3, 0, 0] := by decide +kernel
theorem win_2 : ∀ t : Fin grid0.N, (cfg0.win 2).index t = ![0, t.val % 3] := by decide +kernel
theorem win_3 : ∀ t : Fin grid0.N, (cfg0.win 3).index t = ![t.val % 3, t.val / 3, 0] := by decide +kernel
theorem win_4 : ∀ t : Fin grid0.N, (cfg0.win 4).index t = ![t.val / 3, 0] := by decide +kernel

variable (m : (ℓ : Loc nD τ sig) → Buf (Elt Ideal) ℓ)

theorem gains_apply (c : Dev nD) (k : Fin 1024) : V m c main_v0 (ix3 (3 : Fin 4) (0 : Fin 1) k) = (m ((c : Thread nD τ).loc main_arg1)) (ix2 (3 : Fin 4) k) := by
  have e : V m c main_v0 = shapeCast _ (m ((c : Thread nD τ).loc main_arg1)) shapeCasts_S4x1024_S4x1x1024 := by
    unfold V
    simp only [hostOps0]
    after_results_simp
    rfl
  rw [e]
  generalize (m ((c : Thread nD τ).loc main_arg1)) = y
  pointwise

/-- The rows of a point's row block, and its gain. -/
theorem row_read (c : Dev nD) (t : Fin cfg0.N) (r k : Fin 1024) (h : t.val / 3 * 1024 + r.val < 2048) :
    iblk m c 0 (rowStart t) (ix2 r k) = (m ((c : Thread nD τ).loc main_arg0)) (ix2 (⟨t.val / 3 * 1024 + r.val, h⟩ : Fin 2048) k) := by
  have hu : (rowStart t).val / 3 = t.val / 3 := by show t.val / 3 * 3 / 3 = t.val / 3; omega
  rw [← V_main_arg0 m c]
  blk_ext [iblk, win_0 (rowStart t), hu]
theorem gain_read (c : Dev nD) (t : Fin cfg0.N) (k : Fin 1024) :
    iblk m c 1 (rowStart t) (ix3 (0 : Fin 1) (0 : Fin 1) k) = (m ((c : Thread nD τ).loc main_arg1)) (ix2 (3 : Fin 4) k) := by
  refine Eq.trans ?_ (gains_apply m c k)
  blk_ext [iblk, win_1 (rowStart t)]

/-- What a product's buffer holds after a point. -/
theorem after_z (c : Dev nD) (t : Fin cfg0.N) : (dats (F := Ideal) m 0 c).after 3 t
    = zRows (hRows (iblk m c 0 (rowStart t)) (iblk m c 1 (rowStart t))) (iblk m c 2 t) := by
  rw [after_3]
  split
  · next h => rw [zA_eq, rowStart_first t h]
  · unfold scr
    rw [zB_eq, hS_eq]

/-- The three products. -/
theorem arr_z (c : Dev nD) : (dats (F := Ideal) m 0 c).arrAt 3 cfg0.N =
    parts (m ((c : Thread nD τ).loc main_arg0)) (m ((c : Thread nD τ).loc main_arg1)) (m ((c : Thread nD τ).loc main_arg2)) := by
  refine (dats (F := Ideal) m 0 c).arrAt_eq_of_covers 3 _ (by decide +kernel) fun t hf y => ?_
  have hN : t.val < 6 := t.isLt
  rw [after_z]
  obtain ⟨r, j, rfl⟩ := lead (a := 1024) (b := 1024) y
  have hr := r.isLt
  have hj := j.isLt
  unfold parts
  refine (dotAt_congr (fun k => row_read m c t r k (by omega)) (fun k => gain_read m c t k) (fun k => ?_)).trans
    (dotAt_congr (fun k => ?_) (fun k => rfl) (fun k => rfl))
  · change iblk m c 2 t (ix2 k j) = _
    rw [← V_main_arg2 m c]
    blk_ext [iblk, win_2 t, win_3 t]
  · blk_ext [win_3 t]

/-- The normalised rows. -/
theorem arr_h (c : Dev nD) : (dats (F := Ideal) m 0 c).arrAt 4 cfg0.N =
    normed (m ((c : Thread nD τ).loc main_arg0)) (m ((c : Thread nD τ).loc main_arg1)) := by
  refine (dats (F := Ideal) m 0 c).arrAt_eq_of_covers 4 _ (by decide +kernel) fun t hf y => ?_
  have hN : t.val < 6 := t.isLt
  rw [after_4, hN_eq]
  have hr : (y 0).val < 1024 := (y 0).isLt
  unfold normed
  refine (normAt_congr (fun k => row_read m c t (y 0) k (by omega)) (fun k => gain_read m c t k) rfl).trans
    (normAt_congr (fun k => ?_) (fun k => rfl) ?_)
  · blk_ext [win_4 t]
  · refine Fin.ext ?_
    blk_simp [win_4 t]

/-! ## The reference -/

theorem ref_norm (x : (⟨Cert.MixInRefIdeal.S2048x1024, .f32⟩ : BufTy).Contents (Elt Ideal)) (g : (⟨Cert.MixInRefIdeal.S4x1024, .f32⟩ : BufTy).Contents (Elt Ideal)) :
    Cert.MixInRefIdeal.Read.val_main_v14 (F := Ideal) x g = normed x g := by
  funext i
  refine (congrArg (Cert.MixInRefIdeal.Read.val_main_v14 (F := Ideal) x g) (eq_ix2 i)).trans (Eq.trans ?_ (congrArg (normed x g) (eq_ix2 i)).symm)
  generalize (i 0 : Fin 2048) = r
  generalize (i 1 : Fin 1024) = j
  unfold Cert.MixInRefIdeal.Read.val_main_v14 Cert.MixInRefIdeal.Read.val_main_v13 Cert.MixInRefIdeal.Read.val_main_v12 Cert.MixInRefIdeal.Read.val_main_v11 Cert.MixInRefIdeal.Read.val_main_v10 Cert.MixInRefIdeal.Read.val_main_v9 Cert.MixInRefIdeal.Read.val_main_v8 Cert.MixInRefIdeal.Read.val_main_v7 Cert.MixInRefIdeal.Read.val_main_v6 Cert.MixInRefIdeal.Read.val_main_v5 Cert.MixInRefIdeal.Read.val_main_v4 Cert.MixInRefIdeal.Read.val_main_v3 Cert.MixInRefIdeal.Read.val_main_v2 Cert.MixInRefIdeal.Read.val_main_v1 Cert.MixInRefIdeal.Read.val_main_v0 Cert.MixInRefIdeal.Read.val_main_cst Cert.MixInRefIdeal.Read.val_main_cst_0 Cert.MixInRefIdeal.Read.val_main_cst_1
  pointwise
  rfl

theorem ref_h (x : (⟨Cert.MixInRefIdeal.S2048x1024, .f32⟩ : BufTy).Contents (Elt Ideal)) (g : (⟨Cert.MixInRefIdeal.S4x1024, .f32⟩ : BufTy).Contents (Elt Ideal)) :
    Cert.MixInRefIdeal.Read.val_main_v25 (F := Ideal) x g = normed x g := by
  refine Eq.trans ?_ (ref_norm x g)
  unfold Cert.MixInRefIdeal.Read.val_main_v25
  rfl

theorem ref_z (x : (⟨Cert.MixInRefIdeal.S2048x1024, .f32⟩ : BufTy).Contents (Elt Ideal)) (g : (⟨Cert.MixInRefIdeal.S4x1024, .f32⟩ : BufTy).Contents (Elt Ideal)) (w : (⟨Cert.MixInRefIdeal.S1024x3072, .bf16⟩ : BufTy).Contents (Elt Ideal)) :
    Cert.MixInRefIdeal.Read.val_main_v24 (F := Ideal) x g w = parts x g w := by
  funext i
  refine (congrArg (Cert.MixInRefIdeal.Read.val_main_v24 (F := Ideal) x g w) (eq_ix3 i)).trans (Eq.trans ?_ (congrArg (parts x g w) (eq_ix3 i)).symm)
  generalize (i 0 : Fin 3) = p
  generalize (i 1 : Fin 2048) = r
  generalize (i 2 : Fin 1024) = j
  have hp : p.val < 3 := p.isLt
  have hy : ∀ k : Fin 1024, normAt (fun k => x (ix2 r k)) (fun k => g (ix2 (3 : Fin 4) k)) k = Cert.MixInRefIdeal.Read.val_main_v14 (F := Ideal) x g (ix2 r k) :=
    fun k => (congrFun (ref_norm x g) (ix2 r k)).symm
  unfold parts dotAt
  refine Eq.trans ?_ (Finset.sum_congr rfl fun k _ => congrArg (· * _) (hy k)).symm
  unfold Cert.MixInRefIdeal.Read.val_main_v24 Cert.MixInRefIdeal.Read.val_main_v23 Cert.MixInRefIdeal.Read.val_main_v22 Cert.MixInRefIdeal.Read.val_main_v21 Cert.MixInRefIdeal.Read.val_main_v20 Cert.MixInRefIdeal.Read.val_main_v19 Cert.MixInRefIdeal.Read.val_main_v18 Cert.MixInRefIdeal.Read.val_main_v17 Cert.MixInRefIdeal.Read.val_main_v16 Cert.MixInRefIdeal.Read.val_main_v15
  generalize Cert.MixInRefIdeal.Read.val_main_v14 (F := Ideal) x g = y
  pointwise
  split
  · exact Finset.sum_congr rfl fun k _ => congrArg (y (ix2 r k) * w ·) (congrArg (ix2 k) (Fin.ext (by show j.val = p.val * 1024 + j.val; omega)))
  · split
    · exact Finset.sum_congr rfl fun k _ => congrArg (y (ix2 r k) * w ·) (congrArg (ix2 k) (Fin.ext (by show 1024 + j.val = p.val * 1024 + j.val; omega)))
    · exact Finset.sum_congr rfl fun k _ => congrArg (y (ix2 r k) * w ·) (congrArg (ix2 k) (Fin.ext (by show 2048 + j.val = p.val * 1024 + j.val; omega)))

/-! ## The equation -/

theorem algebraic : Cert.algebraic_MixInIdeal_MixInRefIdeal (hMixInIdeal := Cert.MixInIdeal.Gen.facts) (hMixInRefIdeal := Cert.MixInRefIdeal.Gen.facts) := by
  intro m g m' g' _ hagree
  refine ⟨fun c => parts (m ((c.tc : Thread _ _).loc main_arg0)) (m ((c.tc : Thread _ _).loc main_arg1)) (m ((c.tc : Thread _ _).loc main_arg2)),
    fun c => normed (m ((c.tc : Thread _ _).loc main_arg0)) (m ((c.tc : Thread _ _).loc main_arg1)), ?_, ?_⟩
  · rw [Cert.Fwd.MixSame.defs_eq]
    refine (θ_run _ _ _).mono (fun r h c => ?_) (run (F := Ideal) m g)
    have hw := (h.1 c).1
    exact ⟨(hw 3).trans (arr_z m c), (hw 4).trans (arr_h m c),
      (hw 0).trans (((dats m 0 c).arrAt_in 0 rfl _).trans ((A_eq m c 0).trans (V_main_arg0 m c))),
      ((h.1 c).2 main_arg1 (Pipeline.mem_restRefs_of main_arg1 (by decide) (by decide))).trans (V_main_arg1 m c),
      (hw 2).trans (((dats m 0 c).arrAt_in 2 rfl _).trans ((A_eq m c 2).trans (V_main_arg2 m c)))⟩
  · refine (θ_run _ _ _).mono (fun r h c => ?_) (Cert.MixInRefIdeal.Value.run (F := Ideal) m' g')
    obtain ⟨h0, h1, h2⟩ := h c
    obtain ⟨a0, a1, a2⟩ := hagree c
    refine ⟨h0.trans ?_, h1.trans ?_, h2⟩
    · rw [Cert.MixInRefIdeal.Read.val_main_v24_eq, ref_z, a0, a1, a2]
    · rw [Cert.MixInRefIdeal.Read.val_main_v25_eq, ref_h, a0, a1]

end Cert.Fwd.MixValue

end
-- ==== Proof.Fwd.FfnBody.lean ====
module

public import proofs.«01_k».proof.Proof.Gen.FfnUp.Frame
public import proofs.«01_k».proof.Proof.Gen.FfnUp.Skeleton
public import Idealize.ShloMosaic.Lib.Pipeline.TableIdle
public import Idealize.ShloMosaic.Lib.Claim

/-! One point of the norm and the products of the FFN.

The first point of a block of rows normalises it, keeps the rows in the scratch and stores them over their result's
buffer, four stretches of rows one after the other, each multiplied at once; a later point multiplies the rows in the
scratch and leaves their result's buffer as it is. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Fwd.Ffn

open Cert.FfnUp Cert.FfnUp.Gen

variable {F : FTy → Type} [FloatOps F]

local notation "𝕄" => MT nD τ sig Unit (Elt F) ℕ (UR sig nD τ) ℕ

abbrev rX0 : Rect S1024x1024 := Rect.unit (s := S1024x1024) ![0, 0] S256x1024.size inb_S1024x1024_S256x1024_0_0
abbrev rX1 : Rect S1024x1024 := Rect.unit (s := S1024x1024) ![256, 0] S256x1024.size inb_S1024x1024_S256x1024_256_0
abbrev rX2 : Rect S1024x1024 := Rect.unit (s := S1024x1024) ![512, 0] S256x1024.size inb_S1024x1024_S256x1024_512_0
abbrev rX3 : Rect S1024x1024 := Rect.unit (s := S1024x1024) ![768, 0] S256x1024.size inb_S1024x1024_S256x1024_768_0
abbrev rZ0 : Rect S1024x768 := Rect.unit (s := S1024x768) ![0, 0] S256x768.size inb_S1024x768_S256x768_0_0
abbrev rZ1 : Rect S1024x768 := Rect.unit (s := S1024x768) ![256, 0] S256x768.size inb_S1024x768_S256x768_256_0
abbrev rZ2 : Rect S1024x768 := Rect.unit (s := S1024x768) ![512, 0] S256x768.size inb_S1024x768_S256x768_512_0
abbrev rZ3 : Rect S1024x768 := Rect.unit (s := S1024x768) ![768, 0] S256x768.size inb_S1024x768_S256x768_768_0
abbrev rG : Rect S1x1x1024 := Rect.unit (s := S1x1x1024) ![0, 0, 0] S1x1x1024.size inb_S1x1x1024_S1x1x1024_0_0_0
abbrev rW : Rect S768x1024 := Rect.unit (s := S768x1024) ![0, 0] S768x1024.size inb_S768x1024_S768x1024_0_0
abbrev rS : Rect S1024x1024 := Rect.unit (s := S1024x1024) ![0, 0] S1024x1024.size inb_S1024x1024_S1024x1024_0_0
abbrev rZ : Rect S1024x768 := Rect.unit (s := S1024x768) ![0, 0] S1024x768.size inb_S1024x768_S1024x768_0_0

/-- What the first point of a row block leaves in the scratch: the normalised rows. -/
def hS (x : Vec F S1024x1024 .f32) (g : Vec F S1x1x1024 .f32) : Vec F S1024x1024 .bf16 :=
  View.canon [⟨rX3, k0_pay30 (View.ld x rX3) (View.ld g rG)⟩,
    ⟨rX2, k0_pay22 (View.ld x rX2) (View.ld g rG)⟩,
    ⟨rX1, k0_pay15 (View.ld x rX1) (View.ld g rG)⟩,
    ⟨rX0, k0_pay8 (View.ld x rX0) (View.ld g rG)⟩]

/-- What it leaves in the last result's buffer: the same rows. -/
def hN (x : Vec F S1024x1024 .f32) (g : Vec F S1x1x1024 .f32) : Vec F S1024x1024 .bf16 :=
  View.canon [⟨rX3, k0_pay29 (View.ld x rX3) (View.ld g rG)⟩,
    ⟨rX2, k0_pay21 (View.ld x rX2) (View.ld g rG)⟩,
    ⟨rX1, k0_pay14 (View.ld x rX1) (View.ld g rG)⟩,
    ⟨rX0, k0_pay7 (View.ld x rX0) (View.ld g rG)⟩]

/-- What it leaves in the gate's buffer: the rows times the gate's weights, four stretches of rows. -/
def gA (x : Vec F S1024x1024 .f32) (g : Vec F S1x1x1024 .f32) (w : Vec F S768x1024 .bf16) : Vec F S1024x768 .bf16 :=
  View.canon [⟨rZ3, k0_pay33 (View.ld x rX3) (View.ld g rG) (View.ld w rW)⟩,
    ⟨rZ2, k0_pay25 (View.ld x rX2) (View.ld g rG) (View.ld w rW)⟩,
    ⟨rZ1, k0_pay18 (View.ld x rX1) (View.ld g rG) (View.ld w rW)⟩,
    ⟨rZ0, k0_pay11 (View.ld x rX0) (View.ld g rG) (View.ld w rW)⟩]

/-- What it leaves in the up product's buffer. -/
def uA (x : Vec F S1024x1024 .f32) (g : Vec F S1x1x1024 .f32) (v : Vec F S768x1024 .bf16) : Vec F S1024x768 .bf16 :=
  View.canon [⟨rZ3, k0_pay34 (View.ld x rX3) (View.ld g rG) (View.ld v rW)⟩,
    ⟨rZ2, k0_pay26 (View.ld x rX2) (View.ld g rG) (View.ld v rW)⟩,
    ⟨rZ1, k0_pay19 (View.ld x rX1) (View.ld g rG) (View.ld v rW)⟩,
    ⟨rZ0, k0_pay12 (View.ld x rX0) (View.ld g rG) (View.ld v rW)⟩]

/-- What it leaves in the activation's buffer: the gate applied. -/
def aA (x : Vec F S1024x1024 .f32) (g : Vec F S1x1x1024 .f32) (w : Vec F S768x1024 .bf16) (v : Vec F S768x1024 .bf16) : Vec F S1024x768 .bf16 :=
  View.canon [⟨rZ3, k0_pay1 (k0_pay31 (View.ld x rX3) (View.ld g rG) (View.ld w rW)) (k0_pay32 (View.ld x rX3) (View.ld g rG) (View.ld v rW))⟩,
    ⟨rZ2, k0_pay28 (k0_pay24 (View.ld x rX2) (View.ld g rG) (View.ld v rW)) (k0_pay27 (View.ld x rX2) (View.ld g rG) (View.ld w rW))⟩,
    ⟨rZ1, k0_pay20 (View.ld x rX1) (View.ld g rG) (View.ld w rW) (View.ld v rW)⟩,
    ⟨rZ0, k0_pay13 (View.ld x rX0) (View.ld g rG) (View.ld w rW) (View.ld v rW)⟩]

/-- What a later point leaves in the gate's buffer, from the rows in the scratch. -/
def gB (s : Vec F S1024x1024 .bf16) (w : Vec F S768x1024 .bf16) : Vec F S1024x768 .bf16 :=
  View.canon [⟨rZ, k0_pay4 (View.ld s rS) (View.ld w rW)⟩]

/-- What a later point leaves in the up product's buffer. -/
def uB (s : Vec F S1024x1024 .bf16) (v : Vec F S768x1024 .bf16) : Vec F S1024x768 .bf16 :=
  View.canon [⟨rZ, k0_pay5 (View.ld s rS) (View.ld v rW)⟩]

/-- What a later point leaves in the activation's buffer. -/
def aB (s : Vec F S1024x1024 .bf16) (w : Vec F S768x1024 .bf16) (v : Vec F S768x1024 .bf16) : Vec F S1024x768 .bf16 :=
  View.canon [⟨rZ, k0_pay6 (View.ld s rS) (View.ld w rW) (View.ld v rW)⟩]

/-- The stores cover the buffer. -/
theorem cover_h (p0 p1 p2 p3 : Vec F S256x1024 .bf16) (y : S1024x1024.Idx) :
    ∃ pc ∈ ([⟨rX3, p0⟩, ⟨rX2, p1⟩, ⟨rX1, p2⟩, ⟨rX0, p3⟩] : List (View.Piece (Elt F) S1024x1024 .bf16)), y ∈ pc.1.set :=
  View.cover_of_tiled [⟨rX3, p0⟩, ⟨rX2, p1⟩, ⟨rX1, p2⟩, ⟨rX0, p3⟩] S256x1024.size (by rfl) y

/-- The stores cover the buffer. -/
theorem cover_z (p0 p1 p2 p3 : Vec F S256x768 .bf16) (y : S1024x768.Idx) :
    ∃ pc ∈ ([⟨rZ3, p0⟩, ⟨rZ2, p1⟩, ⟨rZ1, p2⟩, ⟨rZ0, p3⟩] : List (View.Piece (Elt F) S1024x768 .bf16)), y ∈ pc.1.set :=
  View.cover_of_tiled [⟨rZ3, p0⟩, ⟨rZ2, p1⟩, ⟨rZ1, p2⟩, ⟨rZ0, p3⟩] S256x768.size (by rfl) y

/-- The stores cover the buffer. -/
theorem cover_b (p0 : Vec F S1024x768 .bf16) (y : S1024x768.Idx) :
    ∃ pc ∈ ([⟨rZ, p0⟩] : List (View.Piece (Elt F) S1024x768 .bf16)), y ∈ pc.1.set :=
  View.cover_of_tiled [⟨rZ, p0⟩] S1024x768.size (by rfl) y

set_option maxHeartbeats 2000000 in
/-- The first point of a block of rows. -/
theorem body_first (c : Dev nD) (E : Set ℕ) (i : grid0.Coords) (arg2 : Memref sig .tc .vmem S1024x1024 .f32) (harg2 : arg2.IsWhole) (arg3 : Memref sig .tc .vmem S1x1x1024 .f32) (harg3 : arg3.IsWhole) (arg4 : Memref sig .tc .vmem S768x1024 .bf16) (harg4 : arg4.IsWhole) (arg5 : Memref sig .tc .vmem S768x1024 .bf16) (harg5 : arg5.IsWhole) (arg6 : Memref sig .tc .vmem S1024x768 .bf16) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x1024 .bf16) (harg9 : arg9.IsWhole) (arg10 : Memref sig .tc .vmem S1024x1024 .bf16) (harg10 : arg10.IsWhole)
    (x : Vec F S1024x1024 .f32) (g : Vec F S1x1x1024 .f32) (w : Vec F S768x1024 .bf16) (v : Vec F S768x1024 .bf16) (y0 : Vec F S1024x768 .bf16) (y1 : Vec F S1024x768 .bf16) (y2 : Vec F S1024x768 .bf16) (y3 : Vec F S1024x1024 .bf16) (s : Vec F S1024x1024 .bf16)
    (hc1 : k0_cond1 i = 1#1) (hc2 : ¬ k0_cond2 i = 1#1) (K : PUnit → sProp 𝕄) :
    iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare s
        ∗ (iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare (gA x g w) ∗ owns (c : Thread nD τ) arg7 fullShare (uA x g v) ∗ owns (c : Thread nD τ) arg8 fullShare (aA x g w v) ∗ owns (c : Thread nD τ) arg9 fullShare (hN x g) ∗ owns (c : Thread nD τ) arg10 fullShare (hS x g)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_z _ _ _ _ )
  isplitl [H5]
  · iexists _; isplitr
    swap; · iexact H5
    ipureintro
    exact View.read_writes_eq_canon _ _ _ (cover_z _ _ _ _ )
  isplitl [H6]
  · iexists _; isplitr
    swap; · iexact H6
    ipureintro
    exact View.read_writes_eq_canon _ _ _ (cover_z _ _ _ _ )
  isplitl [H7]
  · iexists _; isplitr
    swap; · iexact H7
    ipureintro
    exact View.read_writes_eq_canon _ _ _ (cover_h _ _ _ _ )
  iexists _; isplitr
  swap; · iexact H8
  ipureintro
  exact View.read_writes_eq_canon _ _ _ (cover_h _ _ _ _ )

set_option maxHeartbeats 2000000 in
/-- A later point. -/
theorem body_later (c : Dev nD) (E : Set ℕ) (i : grid0.Coords) (arg2 : Memref sig .tc .vmem S1024x1024 .f32) (harg2 : arg2.IsWhole) (arg3 : Memref sig .tc .vmem S1x1x1024 .f32) (harg3 : arg3.IsWhole) (arg4 : Memref sig .tc .vmem S768x1024 .bf16) (harg4 : arg4.IsWhole) (arg5 : Memref sig .tc .vmem S768x1024 .bf16) (harg5 : arg5.IsWhole) (arg6 : Memref sig .tc .vmem S1024x768 .bf16) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x1024 .bf16) (harg9 : arg9.IsWhole) (arg10 : Memref sig .tc .vmem S1024x1024 .bf16) (harg10 : arg10.IsWhole)
    (x : Vec F S1024x1024 .f32) (g : Vec F S1x1x1024 .f32) (w : Vec F S768x1024 .bf16) (v : Vec F S768x1024 .bf16) (y0 : Vec F S1024x768 .bf16) (y1 : Vec F S1024x768 .bf16) (y2 : Vec F S1024x768 .bf16) (y3 : Vec F S1024x1024 .bf16) (s : Vec F S1024x1024 .bf16)
    (hc1 : ¬ k0_cond1 i = 1#1) (hc2 : k0_cond2 i = 1#1) (K : PUnit → sProp 𝕄) :
    iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare s
        ∗ (iprop(owns (c : Thread nD τ) arg2 fullShare x ∗ owns (c : Thread nD τ) arg3 fullShare g ∗ owns (c : Thread nD τ) arg4 fullShare w ∗ owns (c : Thread nD τ) arg5 fullShare v ∗ owns (c : Thread nD τ) arg6 fullShare (gB s w) ∗ owns (c : Thread nD τ) arg7 fullShare (uB s v) ∗ owns (c : Thread nD τ) arg8 fullShare (aB s w v) ∗ owns (c : Thread nD τ) arg9 fullShare y3 ∗ owns (c : Thread nD τ) arg10 fullShare s) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_b _ )
  isplitl [H5]
  · iexists _; isplitr
    swap; · iexact H5
    ipureintro
    exact View.read_writes_eq_canon _ _ _ (cover_b _ )
  isplitl [H6]
  · iexists _; isplitr
    swap; · iexact H6
    ipureintro
    exact View.read_writes_eq_canon _ _ _ (cover_b _ )
  isplitl [H7]
  · iexists f7; isplitr; · ipureintro; rfl
    iexact H7
  iexists f8; isplitr; · ipureintro; rfl
  iexact H8

end Cert.Fwd.Ffn
-- ==== Proof.Fwd.FfnBlock.lean ====
module

public import proofs.«01_k».proof.Proof.Fwd.Rows
public import proofs.«01_k».proof.Proof.Fwd.FfnBody
public import Idealize.ShloMosaic.Lib.Pointwise
public import Idealize.ShloMosaic.Lib.Pipeline.ValueKit

/-! What a point of the feed-forward's norm and products leaves in its buffers: the normalised rows, their products
with the blocks of the two weights, and the gated product, each by four stretches of 256 rows at the first point of a
row block. -/

@[expose] public section

set_option maxRecDepth 16384

noncomputable section

open Idealize.ShloMosaic Idealize.ShloMosaic.TcCoe

namespace Cert.Fwd.Ffn

open Cert.FfnUp Cert.FfnUp.Gen

/-- A gate applied to a value: `p · σ(p) · q`. -/
def gated (p q : EReal) : EReal := p * Ideal.logistic p * q

/-- The rows of the block `x` normalised. -/
def hRows (x : Vec Ideal S1024x1024 .f32) (g : Vec Ideal S1x1x1024 .f32) : S1024x1024.Idx → EReal :=
  fun y => normAt (fun k => x (ix2 (y 0) k)) (fun k => g (ix3 (0 : Fin 1) (0 : Fin 1) k)) (y 1)

/-- Rows times the rows of the block `w`. -/
def pRows (s : S1024x1024.Idx → EReal) (w : Vec Ideal S768x1024 .bf16) : S1024x768.Idx → EReal :=
  fun y => ∑ k : Fin 1024, s (ix2 (y 0) k) * w (ix2 (y 1) k)

/-- The gated product of rows. -/
def aRows (s : S1024x1024.Idx → EReal) (w v : Vec Ideal S768x1024 .bf16) : S1024x768.Idx → EReal :=
  fun y => gated (pRows s w y) (pRows s v y)

section
variable (x : Vec Ideal S256x1024 .f32) (g : Vec Ideal S1x1x1024 .f32) (w v : Vec Ideal S768x1024 .bf16) (r : Fin 256)

/-! ## The normalised rows of a stretch, and the same rows as they are stored into the scratch -/

theorem norm_0 (j : Fin 1024) : k0_pay7 (F := Ideal) x g (ix2 r j) = normAt (fun k => x (ix2 r k)) (fun k => g (ix3 (0 : Fin 1) (0 : Fin 1) k)) j := by
  unfold k0_pay7
  pointwise
  rfl

theorem scr_0 (j : Fin 1024) : k0_pay8 (F := Ideal) x g (ix2 r j) = normAt (fun k => x (ix2 r k)) (fun k => g (ix3 (0 : Fin 1) (0 : Fin 1) k)) j := by
  refine Eq.trans ?_ (norm_0 x g r j)
  unfold k0_pay8
  generalize k0_pay7 (F := Ideal) x g = y
  pointwise

theorem norm_1 (j : Fin 1024) : k0_pay14 (F := Ideal) x g (ix2 r j) = normAt (fun k => x (ix2 r k)) (fun k => g (ix3 (0 : Fin 1) (0 : Fin 1) k)) j := by
  unfold k0_pay14
  pointwise
  rfl

theorem scr_1 (j : Fin 1024) : k0_pay15 (F := Ideal) x g (ix2 r j) = normAt (fun k => x (ix2 r k)) (fun k => g (ix3 (0 : Fin 1) (0 : Fin 1) k)) j := by
  refine Eq.trans ?_ (norm_1 x g r j)
  unfold k0_pay15
  generalize k0_pay14 (F := Ideal) x g = y
  pointwise

theorem norm_2 (j : Fin 1024) : k0_pay21 (F := Ideal) x g (ix2 r j) = normAt (fun k => x (ix2 r k)) (fun k => g (ix3 (0 : Fin 1) (0 : Fin 1) k)) j := by
  unfold k0_pay21
  pointwise
  rfl

theorem scr_2 (j : Fin 1024) : k0_pay22 (F := Ideal) x g (ix2 r j) = normAt (fun k => x (ix2 r k)) (fun k => g (ix3 (0 : Fin 1) (0 : Fin 1) k)) j := by
  refine Eq.trans ?_ (norm_2 x g r j)
  unfold k0_pay22
  generalize k0_pay21 (F := Ideal) x g = y
  pointwise

theorem norm_3 (j : Fin 1024) : k0_pay29 (F := Ideal) x g (ix2 r j) = normAt (fun k => x (ix2 r k)) (fun k => g (ix3 (0 : Fin 1) (0 : Fin 1) k)) j := by
  unfold k0_pay29
  pointwise
  rfl

theorem scr_3 (j : Fin 1024) : k0_pay30 (F := Ideal) x g (ix2 r j) = normAt (fun k => x (ix2 r k)) (fun k => g (ix3 (0 : Fin 1) (0 : Fin 1) k)) j := by
  refine Eq.trans ?_ (norm_3 x g r j)
  unfold k0_pay30
  generalize k0_pay29 (F := Ideal) x g = y
  pointwise

/-! ## Their products with the weights -/

theorem gate_0 (j : Fin 768) : k0_pay9 (F := Ideal) x g w (ix2 r j) = dotAt (fun k => x (ix2 r k)) (fun k => g (ix3 (0 : Fin 1) (0 : Fin 1) k)) (fun k => w (ix2 j k)) := by
  unfold dotAt
  simp only [← norm_0 x g r]
  unfold k0_pay9
  generalize k0_pay7 (F := Ideal) x g = y
  pointwise

theorem gate_out_0 (j : Fin 768) : k0_pay11 (F := Ideal) x g w (ix2 r j) = dotAt (fun k => x (ix2 r k)) (fun k => g (ix3 (0 : Fin 1) (0 : Fin 1) k)) (fun k => w (ix2 j k)) := by
  refine Eq.trans ?_ (gate_0 x g w r j)
  unfold k0_pay11
  generalize k0_pay9 (F := Ideal) x g w = y
  pointwise

theorem up_0 (j : Fin 768) : k0_pay10 (F := Ideal) x g v (ix2 r j) = dotAt (fun k => x (ix2 r k)) (fun k => g (ix3 (0 : Fin 1) (0 : Fin 1) k)) (fun k => v (ix2 j k)) := by
  unfold dotAt
  simp only [← norm_0 x g r]
  unfold k0_pay10
  generalize k0_pay7 (F := Ideal) x g = y
  pointwise

theorem up_out_0 (j : Fin 768) : k0_pay12 (F := Ideal) x g v (ix2 r j) = dotAt (fun k => x (ix2 r k)) (fun k => g (ix3 (0 : Fin 1) (0 : Fin 1) k)) (fun k => v (ix2 j k)) := by
  refine Eq.trans ?_ (up_0 x g v r j)
  unfold k0_pay12
  generalize k0_pay10 (F := Ideal) x g v = y
  pointwise

theorem gate_1 (j : Fin 768) : k0_pay16 (F := Ideal) x g w (ix2 r j) = dotAt (fun k => x (ix2 r k)) (fun k => g (ix3 (0 : Fin 1) (0 : Fin 1) k)) (fun k => w (ix2 j k)) := by
  unfold dotAt
  simp only [← norm_1 x g r]
  unfold k0_pay16
  generalize k0_pay14 (F := Ideal) x g = y
  pointwise

theorem gate_out_1 (j : Fin 768) : k0_pay18 (F := Ideal) x g w (ix2 r j) = dotAt (fun k => x (ix2 r k)) (fun k => g (ix3 (0 : Fin 1) (0 : Fin 1) k)) (fun k => w (ix2 j k)) := by
  refine Eq.trans ?_ (gate_1 x g w r j)
  unfold k0_pay18
  generalize k0_pay16 (F := Ideal) x g w = y
  pointwise

theorem up_1 (j : Fin 768) : k0_pay17 (F := Ideal) x g v (ix2 r j) = dotAt (fun k => x (ix2 r k)) (fun k => g (ix3 (0 : Fin 1) (0 : Fin 1) k)) (fun k => v (ix2 j k)) := by
  unfold dotAt
  simp only [← norm_1 x g r]
  unfold k0_pay17
  generalize k0_pay14 (F := Ideal) x g = y
  pointwise

theorem up_out_1 (j : Fin 768) : k0_pay19 (F := Ideal) x g v (ix2 r j) = dotAt (fun k => x (ix2 r k)) (fun k => g (ix3 (0 : Fin 1) (0 : Fin 1) k)) (fun k => v (ix2 j k)) := by
  refine Eq.trans ?_ (up_1 x g v r j)
  unfold k0_pay19
  generalize k0_pay17 (F := Ideal) x g v = y
  pointwise

theorem gate_2 (j : Fin 768) : k0_pay23 (F := Ideal) x g w (ix2 r j) = dotAt (fun k => x (ix2 r k)) (fun k => g (ix3 (0 : Fin 1) (0 : Fin 1) k)) (fun k => w (ix2 j k)) := by
  unfold dotAt
  simp only [← norm_2 x g r]
  unfold k0_pay23
  generalize k0_pay21 (F := Ideal) x g = y
  pointwise

theorem gate_out_2 (j : Fin 768) : k0_pay25 (F := Ideal) x g w (ix2 r j) = dotAt (fun k => x (ix2 r k)) (fun k => g (ix3 (0 : Fin 1) (0 : Fin 1) k)) (fun k => w (ix2 j k)) := by
  refine Eq.trans ?_ (gate_2 x g w r j)
  unfold k0_pay25
  generalize k0_pay23 (F := Ideal) x g w = y
  pointwise

theorem up_2 (j : Fin 768) : k0_pay24 (F := Ideal) x g v (ix2 r j) = dotAt (fun k => x (ix2 r k)) (fun k => g (ix3 (0 : Fin 1) (0 : Fin 1) k)) (fun k => v (ix2 j k)) := by
  unfold dotAt
  simp only [← norm_2 x g r]
  unfold k0_pay24
  generalize k0_pay21 (F := Ideal) x g = y
  pointwise

theorem up_out_2 (j : Fin 768) : k0_pay26 (F := Ideal) x g v (ix2 r j) = dotAt (fun k => x (ix2 r k)) (fun k => g (ix3 (0 : Fin 1) (0 : Fin 1) k)) (fun k => v (ix2 j k)) := by
  refine Eq.trans ?_ (up_2 x g v r j)
  unfold k0_pay26
  generalize k0_pay24 (F := Ideal) x g v = y
  pointwise

theorem gate_3 (j : Fin 768) : k0_pay31 (F := Ideal) x g w (ix2 r j) = dotAt (fun k => x (ix2 r k)) (fun k => g (ix3 (0 : Fin 1) (0 : Fin 1) k)) (fun k => w (ix2 j k)) := by
  unfold dotAt
  simp only [← norm_3 x g r]
  unfold k0_pay31
  generalize k0_pay29 (F := Ideal) x g = y
  pointwise

theorem gate_out_3 (j : Fin 768) : k0_pay33 (F := Ideal) x g w (ix2 r j) = dotAt (fun k => x (ix2 r k)) (fun k => g (ix3 (0 : Fin 1) (0 : Fin 1) k)) (fun k => w (ix2 j k)) := by
  refine Eq.trans ?_ (gate_3 x g w r j)
  unfold k0_pay33
  generalize k0_pay31 (F := Ideal) x g w = y
  pointwise

theorem up_3 (j : Fin 768) : k0_pay32 (F := Ideal) x g v (ix2 r j) = dotAt (fun k => x (ix2 r k)) (fun k => g (ix3 (0 : Fin 1) (0 : Fin 1) k)) (fun k => v (ix2 j k)) := by
  unfold dotAt
  simp only [← norm_3 x g r]
  unfold k0_pay32
  generalize k0_pay29 (F := Ideal) x g = y
  pointwise

theorem up_out_3 (j : Fin 768) : k0_pay34 (F := Ideal) x g v (ix2 r j) = dotAt (fun k => x (ix2 r k)) (fun k => g (ix3 (0 : Fin 1) (0 : Fin 1) k)) (fun k => v (ix2 j k)) := by
  refine Eq.trans ?_ (up_3 x g v r j)
  unfold k0_pay34
  generalize k0_pay32 (F := Ideal) x g v = y
  pointwise

/-! ## The gated products -/

theorem act_0 (j : Fin 768) : k0_pay13 (F := Ideal) x g w v (ix2 r j)
    = gated (dotAt (fun k => x (ix2 r k)) (fun k => g (ix3 (0 : Fin 1) (0 : Fin 1) k)) (fun k => w (ix2 j k))) (dotAt (fun k => x (ix2 r k)) (fun k => g (ix3 (0 : Fin 1) (0 : Fin 1) k)) (fun k => v (ix2 j k))) := by
  rw [← gate_0 x g w r j, ← up_0 x g v r j]
  unfold gated k0_pay13
  generalize k0_pay9 (F := Ideal) x g w = y
  generalize k0_pay10 (F := Ideal) x g v = z
  pointwise

theorem act_1 (j : Fin 768) : k0_pay20 (F := Ideal) x g w v (ix2 r j)
    = gated (dotAt (fun k => x (ix2 r k)) (fun k => g (ix3 (0 : Fin 1) (0 : Fin 1) k)) (fun k => w (ix2 j k))) (dotAt (fun k => x (ix2 r k)) (fun k => g (ix3 (0 : Fin 1) (0 : Fin 1) k)) (fun k => v (ix2 j k))) := by
  rw [← gate_1 x g w r j, ← up_1 x g v r j]
  unfold gated k0_pay20
  generalize k0_pay16 (F := Ideal) x g w = y
  generalize k0_pay17 (F := Ideal) x g v = z
  pointwise

theorem act_2 (j : Fin 768) : k0_pay28 (F := Ideal) (k0_pay24 x g v) (k0_pay27 x g w) (ix2 r j)
    = gated (dotAt (fun k => x (ix2 r k)) (fun k => g (ix3 (0 : Fin 1) (0 : Fin 1) k)) (fun k => w (ix2 j k))) (dotAt (fun k => x (ix2 r k)) (fun k => g (ix3 (0 : Fin 1) (0 : Fin 1) k)) (fun k => v (ix2 j k))) := by
  rw [← gate_2 x g w r j, ← up_2 x g v r j]
  unfold gated k0_pay28 k0_pay27
  generalize k0_pay23 (F := Ideal) x g w = y
  generalize k0_pay24 (F := Ideal) x g v = z
  pointwise

theorem act_3 (j : Fin 768) : k0_pay1 (F := Ideal) (k0_pay31 x g w) (k0_pay32 x g v) (ix2 r j)
    = gated (dotAt (fun k => x (ix2 r k)) (fun k => g (ix3 (0 : Fin 1) (0 : Fin 1) k)) (fun k => w (ix2 j k))) (dotAt (fun k => x (ix2 r k)) (fun k => g (ix3 (0 : Fin 1) (0 : Fin 1) k)) (fun k => v (ix2 j k))) := by
  rw [← gate_3 x g w r j, ← up_3 x g v r j]
  unfold gated k0_pay1
  generalize k0_pay31 (F := Ideal) x g w = y
  generalize k0_pay32 (F := Ideal) x g v = z
  pointwise

end

section
variable (s : Vec Ideal S1024x1024 .bf16) (w v : Vec Ideal S768x1024 .bf16) (r : Fin 1024) (j : Fin 768)

theorem gate_later : k0_pay4 (F := Ideal) s w (ix2 r j) = ∑ k : Fin 1024, s (ix2 r k) * w (ix2 j k) := by
  unfold k0_pay4 k0_pay2
  pointwise

theorem up_later : k0_pay5 (F := Ideal) s v (ix2 r j) = ∑ k : Fin 1024, s (ix2 r k) * v (ix2 j k) := by
  unfold k0_pay5 k0_pay3
  pointwise

theorem act_later : k0_pay6 (F := Ideal) s w v (ix2 r j)
    = gated (∑ k : Fin 1024, s (ix2 r k) * w (ix2 j k)) (∑ k : Fin 1024, s (ix2 r k) * v (ix2 j k)) := by
  unfold gated k0_pay6 k0_pay2 k0_pay3
  pointwise

end

/-! ## The buffers -/

section
variable (x : Vec Ideal S1024x1024 .f32) (g : Vec Ideal S1x1x1024 .f32) (w v : Vec Ideal S768x1024 .bf16)

theorem at0 (n : Nat) : n = 0 + 1 * n := by omega

theorem ldG : View.ld g rG = g := View.ld_unit_zero (by decide) _ _
theorem ldW : View.ld w rW = w := View.ld_unit_zero (by decide) _ _

/-- The last result's buffer holds the normalised rows. -/
theorem hN_eq : hN (F := Ideal) x g = hRows x g := by
  funext y
  unfold hN
  rw [ldG]
  refine View.canon_apply_of_pieces (Val := Elt Ideal) (e := .bf16) (hRows x g) _ ?_ y (cover_h _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 1024) z)).trans ((norm_3 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_2 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_1 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((norm_0 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))

/-- So does the scratch. -/
theorem hS_eq : hS (F := Ideal) x g = hRows x g := by
  funext y
  unfold hS
  rw [ldG]
  refine View.canon_apply_of_pieces (Val := Elt Ideal) (e := .bf16) (hRows x g) _ ?_ y (cover_h _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 1024) z)).trans ((scr_3 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_2 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_1 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))
  · refine (congrArg _ (eq_ix2 (n0 := 256) (n1 := 1024) z)).trans ((scr_0 _ _ (z 0) (z 1)).trans ?_)
    exact normAt_congr (fun k => ld_eq x _ _ fun a => match a with | ⟨0, _⟩ => congrArg (_ + ·) (Nat.one_mul _) | ⟨1, _⟩ => (Nat.zero_add _).symm)
      (fun _ => rfl) (Fin.ext (at0 (z 1).val))

/-- The first point of a row block leaves the rows times its block of the gate's weights. -/
theorem gA_eq : gA (F := Ideal) x g w = pRows (hRows x g) w := by
  funext y
  unfold gA
  rw [ldG, ldW]
  refine View.canon_apply_of_pieces (Val := Elt Ideal) (e := .bf16) (pRows (hRows x g) w) _ ?_ y (cover_z _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 768) z)).trans ((gate_out_3 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val))))
  · refine (congrArg _ (eq_ix2 (n0 := 256) (n1 := 768) z)).trans ((gate_out_2 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val))))
  · refine (congrArg _ (eq_ix2 (n0 := 256) (n1 := 768) z)).trans ((gate_out_1 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val))))
  · refine (congrArg _ (eq_ix2 (n0 := 256) (n1 := 768) z)).trans ((gate_out_0 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val))))

/-- The same of the other weights. -/
theorem uA_eq : uA (F := Ideal) x g v = pRows (hRows x g) v := by
  funext y
  unfold uA
  rw [ldG, ldW]
  refine View.canon_apply_of_pieces (Val := Elt Ideal) (e := .bf16) (pRows (hRows x g) v) _ ?_ y (cover_z _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 768) z)).trans ((up_out_3 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val))))
  · refine (congrArg _ (eq_ix2 (n0 := 256) (n1 := 768) z)).trans ((up_out_2 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val))))
  · refine (congrArg _ (eq_ix2 (n0 := 256) (n1 := 768) z)).trans ((up_out_1 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val))))
  · refine (congrArg _ (eq_ix2 (n0 := 256) (n1 := 768) z)).trans ((up_out_0 _ _ _ (z 0) (z 1)).trans ?_)
    exact dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val))))

/-- The first point leaves the gated product. -/
theorem aA_eq : aA (F := Ideal) x g w v = aRows (hRows x g) w v := by
  funext y
  unfold aA
  rw [ldG, ldW, ldW]
  refine View.canon_apply_of_pieces (Val := Elt Ideal) (e := .bf16) (aRows (hRows x g) w v) _ ?_ y (cover_z _ _ _ _ y)
  simp only [List.forall_mem_cons, List.not_mem_nil, IsEmpty.forall_iff, implies_true, and_true]
  refine ⟨fun z => ?_, fun z => ?_, fun z => ?_, fun z => ?_⟩
  · refine (congrArg _ (eq_ix2 (n0 := 256) (n1 := 768) z)).trans ((act_3 _ _ _ _ (z 0) (z 1)).trans ?_)
    exact congrArg₂ gated (dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val)))))
      (dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val)))))
  · refine (congrArg _ (eq_ix2 (n0 := 256) (n1 := 768) z)).trans ((act_2 _ _ _ _ (z 0) (z 1)).trans ?_)
    exact congrArg₂ gated (dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val)))))
      (dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val)))))
  · refine (congrArg _ (eq_ix2 (n0 := 256) (n1 := 768) z)).trans ((act_1 _ _ _ _ (z 0) (z 1)).trans ?_)
    exact congrArg₂ gated (dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val)))))
      (dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val)))))
  · refine (congrArg _ (eq_ix2 (n0 := 256) (n1 := 768) z)).trans ((act_0 _ _ _ _ (z 0) (z 1)).trans ?_)
    exact congrArg₂ gated (dotAt_congr (fun k => ld_eq x _ _ fun a => match a with | ⟨0, _⟩ => congrArg (_ + ·) (Nat.one_mul _) | ⟨1, _⟩ => (Nat.zero_add _).symm)
      (fun _ => rfl) (fun k => congrArg w (congrArg (ix2 · k) (Fin.ext (at0 (z 1).val)))))
      (dotAt_congr (fun k => ld_eq x _ _ fun a => match a with | ⟨0, _⟩ => congrArg (_ + ·) (Nat.one_mul _) | ⟨1, _⟩ => (Nat.zero_add _).symm)
      (fun _ => rfl) (fun k => congrArg v (congrArg (ix2 · k) (Fin.ext (at0 (z 1).val)))))

/-- A later point computes from the scratch. -/
theorem gB_eq (s : Vec Ideal S1024x1024 .bf16) : gB (F := Ideal) s w = pRows s w := by
  have hz : (![0, 0] : Fin 2 → Nat) = 0 := by decide
  unfold gB
  rw [View.canon_unit_zero hz, View.ld_unit_zero hz, ldW]
  funext y
  exact (congrArg _ (eq_ix2 (n0 := 1024) (n1 := 768) y)).trans (gate_later s w (y 0) (y 1))

/-- A later point computes from the scratch. -/
theorem uB_eq (s : Vec Ideal S1024x1024 .bf16) : uB (F := Ideal) s v = pRows s v := by
  have hz : (![0, 0] : Fin 2 → Nat) = 0 := by decide
  unfold uB
  rw [View.canon_unit_zero hz, View.ld_unit_zero hz, ldW]
  funext y
  exact (congrArg _ (eq_ix2 (n0 := 1024) (n1 := 768) y)).trans (up_later s v (y 0) (y 1))

/-- A later point computes from the scratch. -/
theorem aB_eq (s : Vec Ideal S1024x1024 .bf16) : aB (F := Ideal) s w v = aRows s w v := by
  have hz : (![0, 0] : Fin 2 → Nat) = 0 := by decide
  unfold aB
  rw [View.canon_unit_zero hz, View.ld_unit_zero hz, ldW, ldW]
  funext y
  exact (congrArg _ (eq_ix2 (n0 := 1024) (n1 := 768) y)).trans (act_later s w v (y 0) (y 1))

end

end Cert.Fwd.Ffn

end
-- ==== Proof.Fwd.FfnRun.lean ====
module

public import proofs.«01_k».proof.Proof.Gen.FfnUp.Frame
public import proofs.«01_k».proof.Proof.Gen.FfnUp.Launch
public import proofs.«01_k».proof.Proof.Gen.FfnUp.Points
public import proofs.«01_k».proof.Proof.Fwd.FfnBody
public import Idealize.ShloMosaic.Lib.Pipeline.FrameBody
public import Idealize.ShloMosaic.Lib.Pipeline.TableIdle
public import Idealize.ShloMosaic.Lib.Claim
public import Idealize.ShloMosaic.Lib.Tactic

/-! The run of the norm and the products of the FFN.

The call's proof data: every input's buffer holds its block; the normalised rows are in the scratch and in their
result's buffer from the first point of their row block to its last, where the buffer is written back although that
point stores nothing into it; a product's buffer holds the block of the product. The invariant says of the scratch that
after a point it holds the rows of the point's row block. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Fwd.Ffn

open Cert.FfnUp Cert.FfnUp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- Which branch a point takes. -/
theorem cond_1 : ∀ t : Fin grid0.N, k0_cond1 (grid0.coords t) = 1#1 ↔ t.val % 4 = 0 := by decide +kernel
theorem cond_2 : ∀ t : Fin grid0.N, k0_cond2 (grid0.coords t) = 1#1 ↔ t.val % 4 ≠ 0 := by decide +kernel

theorem idle_4 (t : Fin cfg0.N) : cfg0.idle 4 (cfg0.grid.coords t) = false :=
  (by decide +kernel : ∀ t : Fin grid0.N, idle0 4 (grid0.coords t) = false) t
theorem idle_5 (t : Fin cfg0.N) : cfg0.idle 5 (cfg0.grid.coords t) = false :=
  (by decide +kernel : ∀ t : Fin grid0.N, idle0 5 (grid0.coords t) = false) t
theorem idle_6 (t : Fin cfg0.N) : cfg0.idle 6 (cfg0.grid.coords t) = false :=
  (by decide +kernel : ∀ t : Fin grid0.N, idle0 6 (grid0.coords t) = false) t
theorem idle_h (t : Fin cfg0.N) : cfg0.idle 7 (cfg0.grid.coords t) = !decide (t.val % 4 = 0) :=
  (by decide +kernel : ∀ t : Fin grid0.N, idle0 7 (grid0.coords t) = !decide (t.val % 4 = 0)) t
theorem flush_h (t : Fin cfg0.N) : (cfg0.win 7).flush t = decide (t.val % 4 = 3) := by
  have h := flush0_7 t
  by_cases h' : t.val % 4 = 3
  · rw [decide_eq_true h']; exact h.mpr h'
  · rw [decide_eq_false h']; exact Bool.eq_false_iff.mpr (mt h.mp h')

/-- The buffer of the normalised rows holds nothing yet exactly before the first point of a row block. -/
theorem fresh_h (n : Nat) (hn : n ≤ cfg0.N) : cfg0.fresh 7 n = decide (n % 4 = 0) :=
  Pipeline.Cfg.fresh_tab _ 7 (fun n => decide (n % 4 = 0)) (by decide) (fun t => by
    rw [flush_h, idle_h]
    exact (by decide +kernel : ∀ t : Fin 8, decide ((t.val + 1) % 4 = 0)
      = (decide (t.val % 4 = 3) || (!decide (t.val % 4 = 0) && decide (t.val % 4 = 0)))) t) n hn

/-- The first point of a point's row block. -/
def rowStart (t : Fin cfg0.N) : Fin cfg0.N := ⟨t.val / 4 * 4, lt_of_le_of_lt (Nat.div_mul_le_self _ _) t.isLt⟩

theorem rowStart_first (t : Fin cfg0.N) (h : t.val % 4 = 0) : rowStart t = t :=
  Fin.ext (by show t.val / 4 * 4 = t.val; omega)
theorem rowStart_pred (t : Fin cfg0.N) (h : t.val % 4 ≠ 0) (h' : t.val - 1 < cfg0.N) : rowStart t = rowStart ⟨t.val - 1, h'⟩ :=
  Fin.ext (by show t.val / 4 * 4 = (t.val - 1) / 4 * 4; omega)

/-! ## The proof data -/

/-- The rows that the scratch holds after a point. -/
def scr (c : Dev nD) (t : Fin cfg0.N) : Vec F S1024x1024 .bf16 := hS (iblk m c 0 (rowStart t)) (iblk m c 1 (rowStart t))

theorem scr_first (c : Dev nD) (t : Fin cfg0.N) (ht : t.val % 4 = 0) (t' : Fin cfg0.N) (h : t'.val + 1 = t.val + 1) :
    hS (iblk m c 0 t) (iblk m c 1 t) = scr m c t' := by
  obtain rfl : t' = t := Fin.ext (Nat.succ_injective h)
  unfold scr; rw [rowStart_first t' ht]
theorem scr_self (c : Dev nD) (t t' : Fin cfg0.N) (h : t'.val + 1 = t.val + 1) : scr m c t = scr m c t' := by
  obtain rfl : t' = t := Fin.ext (Nat.succ_injective h)
  rfl

/-- The scratch after the first `n` points, and the core's generator register. -/
def inv (c : Dev nD) (n : Nat) : sProp 𝕄 :=
  iprop(∃ s : Vec F S1024x1024 .bf16, owns (c : Thread nD τ) (Memref.whole cc0_scratch0) fullShare s
    ∗ ⌜∀ t : Fin cfg0.N, t.val + 1 = n → s = scr m c t⌝ ∗ ∃ r, prngReg c r)

/-- The call's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if t.val % 4 = 0 then gA (iblk m c 0 t) (iblk m c 1 t) (iblk m c 2 t) else gB (scr m c t) (iblk m c 2 t)
    | ⟨5, _⟩ => if t.val % 4 = 0 then uA (iblk m c 0 t) (iblk m c 1 t) (iblk m c 3 t) else uB (scr m c t) (iblk m c 3 t)
    | ⟨6, _⟩ => if t.val % 4 = 0 then aA (iblk m c 0 t) (iblk m c 1 t) (iblk m c 2 t) (iblk m c 3 t) else aB (scr m c t) (iblk m c 2 t) (iblk m c 3 t)
    | ⟨7, _⟩ => hN (iblk m c 0 (rowStart t)) (iblk m c 1 (rowStart t))
  Φ t := inv m c t.val
  q w := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (if t.val % 4 = 0 then gA (iblk m c 0 t) (iblk m c 1 t) (iblk m c 2 t) else gB (scr m c t) (iblk m c 2 t)) := by dsimp only [dats]
theorem after_5 (c : Dev nD) (t : Fin cfg0.N) : (dats m 0 c).after 5 t = (if t.val % 4 = 0 then uA (iblk m c 0 t) (iblk m c 1 t) (iblk m c 3 t) else uB (scr m c t) (iblk m c 3 t)) := by dsimp only [dats]
theorem after_6 (c : Dev nD) (t : Fin cfg0.N) : (dats m 0 c).after 6 t = (if t.val % 4 = 0 then aA (iblk m c 0 t) (iblk m c 1 t) (iblk m c 2 t) (iblk m c 3 t) else aB (scr m c t) (iblk m c 2 t) (iblk m c 3 t)) := by dsimp only [dats]
theorem after_7 (c : Dev nD) (t : Fin cfg0.N) : (dats m 0 c).after 7 t = hN (iblk m c 0 (rowStart t)) (iblk m c 1 (rowStart t)) := by dsimp only [dats]

/-- An input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later point of a row block the buffer of the normalised rows holds the row block's. -/
theorem before_h (c : Dev nD) (t : Fin cfg0.N) (ht : t.val % 4 ≠ 0) (d) :
    (dats m 0 c).before 7 t d = (dats m 0 c).after 7 t := by
  have hfresh : cfg0.fresh 7 t.val = false := by
    rw [fresh_h _ (Nat.le_of_lt t.isLt)]; exact decide_eq_false ht
  rw [(dats m 0 c).before_out_traj 7 rfl (fun _ _ => rfl) (fun t' h0 _ hf => ?_) t.val t rfl d, hfresh, if_neg Bool.false_ne_true,
    after_7, after_7, rowStart_pred t ht (by omega)]
  rw [fresh_h _ (Nat.le_of_lt t'.isLt)] at hf
  rw [after_7, after_7, rowStart_pred t' (of_decide_eq_false hf) (by omega)]

/-! ## The body obligation -/

/-- A buffer that the point stores into holds what it computed. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A buffer that the point leaves alone is given back as it was found. -/
theorem leaves_idle (c : Dev nD) (w : Fin cfg0.W) (t : Fin cfg0.N) (d) (hi : cfg0.idle w (cfg0.grid.coords t) = true)
    (hf : (cfg0.win w).flush t = true → (dats m 0 c).before w t d = (dats m 0 c).after w t) :
    owns (c : Thread nD τ) ((cfg0.win w).stage (cfg0.slots t w)) fullShare ((dats m 0 c).before w t d)
      ⊢ ((dats m 0 c).leavesExact w t : sProp 𝕄) := by
  unfold Dat.leavesExact; rw [hi]
  cases h : (cfg0.win w).flush t
  · iintro H; iexists d; iexact H
  · rw [hf h]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ (dats m 0 c).leavesExact 5 t
    ∗ (dats m 0 c).leavesExact 6 t
    ∗ (dats m 0 c).leavesExact 7 t)

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The first point of a row block. -/
theorem point_first (c : Dev nD) (t : Fin cfg0.N) (ht : t.val % 4 = 0) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl,
    show (dats m 0 c).Φ t.succ = inv m c (t.val + 1) from rfl, show (dats m 0 c).Φ t.castSucc = inv m c t.val from rfl,
    after_0, after_1, after_2, after_3,
    leaves_live m c 4 t (idle_4 t), after_4, if_pos ht,
    leaves_live m c 5 t (idle_5 t), after_5, if_pos ht,
    leaves_live m c 6 t (idle_6 t), after_6, if_pos ht,
    leaves_live m c 7 t (by rw [idle_h, decide_eq_true ht]; rfl), after_7, rowStart_first t ht]
  unfold inv
  iintro ⟨⟨%s, HS, %hs, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c Set.univ (grid0.coords t) _ _ _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) ((dats m 0 c).before 7 t d7) s
    ((cond_1 t).mpr ht) (fun h => (cond_2 t).mp h ht) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS HR]
  · iexists (hS (iblk m c 0 t) (iblk m c 1 t)); isplitl [HS]; · iexact HS
    isplitr; · ipureintro; exact scr_first m c t ht
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- A later point. -/
theorem point_later (c : Dev nD) (t : Fin cfg0.N) (ht : t.val % 4 ≠ 0) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl,
    show (dats m 0 c).Φ t.succ = inv m c (t.val + 1) from rfl, show (dats m 0 c).Φ t.castSucc = inv m c t.val from rfl,
    after_0, after_1, after_2, after_3,
    leaves_live m c 4 t (idle_4 t), after_4, if_neg ht,
    leaves_live m c 5 t (idle_5 t), after_5, if_neg ht,
    leaves_live m c 6 t (idle_6 t), after_6, if_neg ht]
  unfold inv
  iintro ⟨⟨%s, HS, %hs, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hs' : s = scr m c t := (hs ⟨t.val - 1, lt_of_le_of_lt (Nat.sub_le _ _) t.isLt⟩ (by simp only; omega)).trans
    (by unfold scr; rw [rowStart_pred t ht (lt_of_le_of_lt (Nat.sub_le _ _) t.isLt)])
  subst hs'
  iapply (body_later c Set.univ (grid0.coords t) _ _ _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) ((dats m 0 c).before 7 t d7) (scr m c t)
    (fun h => ht ((cond_1 t).mp h)) ((cond_2 t).mpr ht) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS HR]
  · iexists (scr m c t); isplitl [HS]; · iexact HS
    isplitr; · ipureintro; exact scr_self m c t
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves_idle m c 7 t d7 (by rw [idle_h, decide_eq_false ht]; rfl) (fun _ => before_h m c t ht d7)); iexact H7

/-- The body at every point. -/
theorem body_obligation (c : Dev nD) : BodyObligation (dats (F := F) m 0 c) (defs₀ (F := F)) Variants.none () Set.univ := fun t => by
  rw [bigSep_W0, bigSep_W0, defs₀_row]
  refine triple_restated (P := bodyPre m c t) (Q := fun _ => bodyPost m c t) ?_ rfl .rfl fun _ => .rfl
  by_cases h0 : t.val % 4 = 0
  · exact point_first m c t h0
  exact point_later m c t h0

/-! ## The run -/

theorem hin (c : Dev nD) : Pipeline.ΦA spec0 c ⊢ ((dats (F := F) m 0 c).Φ 0 : sProp 𝕄) := by
  rw [show (dats (F := F) m 0 c).Φ 0 = inv m c 0 from rfl]
  unfold Pipeline.ΦA inv
  rw [scopedRest0_eq]
  iintro ⟨⟨%f, Hf⟩, HR⟩
  iexists f
  rw [owns_whole]
  isplitl [Hf]; · iexact Hf
  isplitr; · ipureintro; exact fun t h => absurd h (Nat.succ_ne_zero _)
  iexact HR

theorem hout (c : Dev nD) : ((dats (F := F) m 0 c).Φ (Fin.last cfg0.N) : sProp 𝕄) ⊢ Pipeline.ΦA spec0 c := by
  rw [show (dats (F := F) m 0 c).Φ (Fin.last cfg0.N) = inv m c cfg0.N from rfl]
  unfold Pipeline.ΦA inv
  rw [scopedRest0_eq]
  iintro ⟨%s, HS, %hs, HR⟩
  isplitl [HS]
  · iexists s
    rw [← owns_whole (c : Thread nD τ) cc0_scratch0 fullShare s]
    iexact HS
  iexact HR

-- the implicit arguments of the launch are found by unfolding plain definitions in a type
set_option backward.isDefEq.respectTransparency.types false in
set_option maxHeartbeats 800000 in
/-- Every run of the program ends, every array at what the proof data say of it and every counter at zero. -/
theorem run : θ_run defs (onTc (τ := τ) (main (F := F))) (s₀ m ρ)
    (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m) (Q' := _)

/-- The frame: the run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩, h.2⟩) (run m ρ)

end Cert.Fwd.Ffn
-- ==== Proof.Fwd.FfnSame.lean ====
module

public import proofs.«01_k».proof.Defs
public import proofs.«01_k».proof.Proof.Fwd.FfnRun
public import proofs.«01_k».proof.Proof.Gen.FfnUpIdeal.Launch

/-! The idealised program has the program's own text, so that the one run is both programs' run. -/

@[expose] public section

set_option maxRecDepth 16384

open Idealize.ShloMosaic Idealize.ShloMosaic.TcCoe Idealize.SL.Sem

namespace Cert.Fwd.FfnSame

theorem defs₀_eq : Cert.FfnUpIdeal.defs₀ (F := Ideal) = Cert.FfnUp.defs₀ (F := Ideal) := by
  unfold Cert.FfnUpIdeal.defs₀ Cert.FfnUp.defs₀
  refine congrArg Defs.onTc (funext fun a => funext fun b => ?_)
  match a, b with
  | 0, (_, _) => rfl

theorem defs_eq : Cert.FfnUpIdeal.defs (F := Ideal) = Cert.FfnUp.defs (F := Ideal) := by
  unfold Cert.FfnUpIdeal.defs Cert.FfnUp.defs
  exact congrArg (Pipeline.defs _) defs₀_eq

/-- The frame of the idealised program. -/
theorem frame : Cert.quiescent_FfnUpIdeal (hFfnUpIdeal := Cert.FfnUpIdeal.Gen.facts) := by
  intro m ρ _
  rw [defs_eq]
  exact Cert.Fwd.Ffn.frame (F := Ideal) m ρ

end Cert.Fwd.FfnSame
-- ==== Proof.Fwd.FfnValue.lean ====
module

public import proofs.«01_k».proof.Defs
public import proofs.«01_k».proof.Proof.Fwd.FfnBlock
public import proofs.«01_k».proof.Proof.Fwd.FfnSame
public import proofs.«01_k».proof.Proof.Gen.FfnUpRefIdeal.Run
public import proofs.«01_k».proof.Proof.Gen.FfnUpRefIdeal.Read
public import Idealize.ShloMosaic.Lib.Pointwise
public import Idealize.ShloMosaic.Lib.Pipeline.ValueKit

/-! The feed-forward's norm, products and gate, block by block, are the rows normalised, their products with the rows
of the two weights, and `silu` of the one times the other. -/

@[expose] public section

set_option maxRecDepth 16384

noncomputable section

open Idealize.ShloMosaic Idealize.ShloMosaic.TcCoe Idealize.SL.Sem
open Idealize.ShloMosaic.Pipeline (Dat Cfg Window)

namespace Cert.Fwd.FfnValue

open Cert.FfnUp Cert.FfnUp.Gen Cert.Fwd.Ffn

/-- The rows of `x` normalised, under the fourth gain. -/
def normed (x : S2048x1024.Idx → EReal) (g : S4x1024.Idx → EReal) : S2048x1024.Idx → EReal :=
  fun i => normAt (fun k => x (ix2 (i 0) k)) (fun k => g (ix2 (3 : Fin 4) k)) (i 1)

/-- Their products with the rows of `w`. -/
def prod (x : S2048x1024.Idx → EReal) (g : S4x1024.Idx → EReal) (w : S3072x1024.Idx → EReal) : S2048x3072.Idx → EReal :=
  fun i => dotAt (fun k => x (ix2 (i 0) k)) (fun k => g (ix2 (3 : Fin 4) k)) (fun k => w (ix2 (i 1) k))

/-- The gated product. -/
def act (x : S2048x1024.Idx → EReal) (g : S4x1024.Idx → EReal) (w v : S3072x1024.Idx → EReal) : S2048x3072.Idx → EReal :=
  fun i => gated (prod x g w i) (prod x g v i)

/-! ## The arrays -/

/-- The block that a window is at. -/
theorem win_0 : ∀ t : Fin grid0.N, (cfg0.win 0).index t = ![t.val / 4, 0] := by decide +kernel
theorem win_1 : ∀ t : Fin grid0.N, (cfg0.win 1).index t = ![3, 0, 0] := by decide +kernel
theorem win_2 : ∀ t : Fin grid0.N, (cfg0.win 2).index t = ![t.val % 4, 0] := by decide +kernel
theorem win_3 : ∀ t : Fin grid0.N, (cfg0.win 3).index t = ![t.val % 4, 0] := by decide +kernel
theorem win_4 : ∀ t : Fin grid0.N, (cfg0.win 4).index t = ![t.val / 4, t.val % 4] := by decide +kernel
theorem win_5 : ∀ t : Fin grid0.N, (cfg0.win 5).index t = ![t.val / 4, t.val % 4] := by decide +kernel
theorem win_6 : ∀ t : Fin grid0.N, (cfg0.win 6).index t = ![t.val / 4, t.val % 4] := by decide +kernel
theorem win_7 : ∀ t : Fin grid0.N, (cfg0.win 7).index t = ![t.val / 4, 0] := by decide +kernel

variable (m : (ℓ : Loc nD τ sig) → Buf (Elt Ideal) ℓ)

theorem gains_apply (c : Dev nD) (k : Fin 1024) : V m c main_v0 (ix3 (3 : Fin 4) (0 : Fin 1) k) = (m ((c : Thread nD τ).loc main_arg1)) (ix2 (3 : Fin 4) k) := by
  have e : V m c main_v0 = shapeCast _ (m ((c : Thread nD τ).loc main_arg1)) shapeCasts_S4x1024_S4x1x1024 := by
    unfold V
    simp only [hostOps0]
    after_results_simp
    rfl
  rw [e]
  generalize (m ((c : Thread nD τ).loc main_arg1)) = y
  pointwise

/-- The rows of a point's row block, and its gain. -/
theorem row_read (c : Dev nD) (t : Fin cfg0.N) (r k : Fin 1024) (h : t.val / 4 * 1024 + r.val < 2048) :
    iblk m c 0 (rowStart t) (ix2 r k) = (m ((c : Thread nD τ).loc main_arg0)) (ix2 (⟨t.val / 4 * 1024 + r.val, h⟩ : Fin 2048) k) := by
  have hu : (rowStart t).val / 4 = t.val / 4 := by show t.val / 4 * 4 / 4 = t.val / 4; omega
  rw [← V_main_arg0 m c]
  blk_ext [iblk, win_0 (rowStart t), hu]
theorem gain_read (c : Dev nD) (t : Fin cfg0.N) (k : Fin 1024) :
    iblk m c 1 (rowStart t) (ix3 (0 : Fin 1) (0 : Fin 1) k) = (m ((c : Thread nD τ).loc main_arg1)) (ix2 (3 : Fin 4) k) := by
  refine Eq.trans ?_ (gains_apply m c k)
  blk_ext [iblk, win_1 (rowStart t)]

/-- What the three products' buffers hold after a point. -/
theorem after_g (c : Dev nD) (t : Fin cfg0.N) : (dats (F := Ideal) m 0 c).after 4 t
    = pRows (hRows (iblk m c 0 (rowStart t)) (iblk m c 1 (rowStart t))) (iblk m c 2 t) := by
  rw [after_4]
  split
  · next h => rw [gA_eq, rowStart_first t h]
  · unfold scr
    rw [gB_eq, hS_eq]

theorem after_u (c : Dev nD) (t : Fin cfg0.N) : (dats (F := Ideal) m 0 c).after 5 t
    = pRows (hRows (iblk m c 0 (rowStart t)) (iblk m c 1 (rowStart t))) (iblk m c 3 t) := by
  rw [after_5]
  split
  · next h => rw [uA_eq, rowStart_first t h]
  · unfold scr
    rw [uB_eq, hS_eq]

theorem after_a (c : Dev nD) (t : Fin cfg0.N) : (dats (F := Ideal) m 0 c).after 6 t
    = aRows (hRows (iblk m c 0 (rowStart t)) (iblk m c 1 (rowStart t))) (iblk m c 2 t) (iblk m c 3 t) := by
  rw [after_6]
  split
  · next h => rw [aA_eq, rowStart_first t h]
  · unfold scr
    rw [aB_eq, hS_eq]

/-- A point's block of the products with one of the weights, row by row. -/
theorem block_g (c : Dev nD) (t : Fin cfg0.N) (r : Fin 1024) (j : Fin 768) (hr : t.val / 4 * 1024 + r.val < 2048) (hj : t.val % 4 * 768 + j.val < 3072) :
    pRows (hRows (iblk m c 0 (rowStart t)) (iblk m c 1 (rowStart t))) (iblk m c 2 t) (ix2 r j)
      = prod (m ((c : Thread nD τ).loc main_arg0)) (m ((c : Thread nD τ).loc main_arg1)) (m ((c : Thread nD τ).loc main_arg2)) (ix2 (⟨t.val / 4 * 1024 + r.val, hr⟩ : Fin 2048) (⟨t.val % 4 * 768 + j.val, hj⟩ : Fin 3072)) := by
  unfold prod
  refine dotAt_congr (fun k => row_read m c t r k hr) (fun k => gain_read m c t k) (fun k => ?_)
  change iblk m c 2 t (ix2 j k) = _
  rw [← V_main_arg2 m c]
  blk_ext [iblk, win_2 t]

/-- A point's block of the products with one of the weights, row by row. -/
theorem block_u (c : Dev nD) (t : Fin cfg0.N) (r : Fin 1024) (j : Fin 768) (hr : t.val / 4 * 1024 + r.val < 2048) (hj : t.val % 4 * 768 + j.val < 3072) :
    pRows (hRows (iblk m c 0 (rowStart t)) (iblk m c 1 (rowStart t))) (iblk m c 3 t) (ix2 r j)
      = prod (m ((c : Thread nD τ).loc main_arg0)) (m ((c : Thread nD τ).loc main_arg1)) (m ((c : Thread nD τ).loc main_arg3)) (ix2 (⟨t.val / 4 * 1024 + r.val, hr⟩ : Fin 2048) (⟨t.val % 4 * 768 + j.val, hj⟩ : Fin 3072)) := by
  unfold prod
  refine dotAt_congr (fun k => row_read m c t r k hr) (fun k => gain_read m c t k) (fun k => ?_)
  change iblk m c 3 t (ix2 j k) = _
  rw [← V_main_arg3 m c]
  blk_ext [iblk, win_3 t]

/-- The products with the gate's weights. -/
theorem arr_g (c : Dev nD) : (dats (F := Ideal) m 0 c).arrAt 4 cfg0.N = prod (m ((c : Thread nD τ).loc main_arg0)) (m ((c : Thread nD τ).loc main_arg1)) (m ((c : Thread nD τ).loc main_arg2)) := by
  refine (dats (F := Ideal) m 0 c).arrAt_eq_of_covers 4 _ (by decide +kernel) fun t hf y => ?_
  have hN : t.val < 8 := t.isLt
  have hr : (y 0).val < 1024 := (y 0).isLt
  have hj : (y 1).val < 768 := (y 1).isLt
  rw [after_g]
  refine (congrArg _ (eq_ix2 (n0 := 1024) (n1 := 768) y)).trans ((block_g m c t (y 0) (y 1) (by omega) (by omega)).trans ?_)
  blk_ext [win_4 t]

/-- The products with the other weights. -/
theorem arr_u (c : Dev nD) : (dats (F := Ideal) m 0 c).arrAt 5 cfg0.N = prod (m ((c : Thread nD τ).loc main_arg0)) (m ((c : Thread nD τ).loc main_arg1)) (m ((c : Thread nD τ).loc main_arg3)) := by
  refine (dats (F := Ideal) m 0 c).arrAt_eq_of_covers 5 _ (by decide +kernel) fun t hf y => ?_
  have hN : t.val < 8 := t.isLt
  have hr : (y 0).val < 1024 := (y 0).isLt
  have hj : (y 1).val < 768 := (y 1).isLt
  rw [after_u]
  refine (congrArg _ (eq_ix2 (n0 := 1024) (n1 := 768) y)).trans ((block_u m c t (y 0) (y 1) (by omega) (by omega)).trans ?_)
  blk_ext [win_5 t]

/-- The gated products. -/
theorem arr_a (c : Dev nD) : (dats (F := Ideal) m 0 c).arrAt 6 cfg0.N = act (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 6 _ (by decide +kernel) fun t hf y => ?_
  have hN : t.val < 8 := t.isLt
  have hr : (y 0).val < 1024 := (y 0).isLt
  have hj : (y 1).val < 768 := (y 1).isLt
  rw [after_a]
  refine (congrArg (aRows (hRows (iblk m c 0 (rowStart t)) (iblk m c 1 (rowStart t))) (iblk m c 2 t) (iblk m c 3 t)) (eq_ix2 (n0 := 1024) (n1 := 768) y)).trans
    ((congrArg₂ gated (block_g m c t (y 0) (y 1) (by omega) (by omega)) (block_u m c t (y 0) (y 1) (by omega) (by omega))).trans ?_)
  change act (m ((c : Thread nD τ).loc main_arg0)) (m ((c : Thread nD τ).loc main_arg1)) (m ((c : Thread nD τ).loc main_arg2)) (m ((c : Thread nD τ).loc main_arg3)) _ = act (m ((c : Thread nD τ).loc main_arg0)) (m ((c : Thread nD τ).loc main_arg1)) (m ((c : Thread nD τ).loc main_arg2)) (m ((c : Thread nD τ).loc main_arg3)) _
  blk_ext [win_6 t]

/-- The normalised rows. -/
theorem arr_h (c : Dev nD) : (dats (F := Ideal) m 0 c).arrAt 7 cfg0.N =
    normed (m ((c : Thread nD τ).loc main_arg0)) (m ((c : Thread nD τ).loc main_arg1)) := by
  refine (dats (F := Ideal) m 0 c).arrAt_eq_of_covers 7 _ (by decide +kernel) fun t hf y => ?_
  have hN : t.val < 8 := t.isLt
  rw [after_7, hN_eq]
  have hr : (y 0).val < 1024 := (y 0).isLt
  unfold normed
  refine (normAt_congr (fun k => row_read m c t (y 0) k (by omega)) (fun k => gain_read m c t k) rfl).trans
    (normAt_congr (fun k => ?_) (fun k => rfl) ?_)
  · blk_ext [win_7 t]
  · refine Fin.ext ?_
    blk_simp [win_7 t]

/-! ## The reference -/

theorem ref_norm (x : (⟨Cert.FfnUpRefIdeal.S2048x1024, .f32⟩ : BufTy).Contents (Elt Ideal)) (g : (⟨Cert.FfnUpRefIdeal.S4x1024, .f32⟩ : BufTy).Contents (Elt Ideal)) :
    Cert.FfnUpRefIdeal.Read.val_main_v14 (F := Ideal) x g = normed x g := by
  funext i
  refine (congrArg (Cert.FfnUpRefIdeal.Read.val_main_v14 (F := Ideal) x g) (eq_ix2 i)).trans (Eq.trans ?_ (congrArg (normed x g) (eq_ix2 i)).symm)
  generalize (i 0 : Fin 2048) = r
  generalize (i 1 : Fin 1024) = j
  unfold Cert.FfnUpRefIdeal.Read.val_main_v14 Cert.FfnUpRefIdeal.Read.val_main_v13 Cert.FfnUpRefIdeal.Read.val_main_v12 Cert.FfnUpRefIdeal.Read.val_main_v11 Cert.FfnUpRefIdeal.Read.val_main_v10 Cert.FfnUpRefIdeal.Read.val_main_v9 Cert.FfnUpRefIdeal.Read.val_main_v8 Cert.FfnUpRefIdeal.Read.val_main_v7 Cert.FfnUpRefIdeal.Read.val_main_v6 Cert.FfnUpRefIdeal.Read.val_main_v5 Cert.FfnUpRefIdeal.Read.val_main_v4 Cert.FfnUpRefIdeal.Read.val_main_v3 Cert.FfnUpRefIdeal.Read.val_main_v2 Cert.FfnUpRefIdeal.Read.val_main_v1 Cert.FfnUpRefIdeal.Read.val_main_v0 Cert.FfnUpRefIdeal.Read.val_main_cst Cert.FfnUpRefIdeal.Read.val_main_cst_0 Cert.FfnUpRefIdeal.Read.val_main_cst_1
  pointwise
  rfl

theorem ref_h (x : (⟨Cert.FfnUpRefIdeal.S2048x1024, .f32⟩ : BufTy).Contents (Elt Ideal)) (g : (⟨Cert.FfnUpRefIdeal.S4x1024, .f32⟩ : BufTy).Contents (Elt Ideal)) :
    Cert.FfnUpRefIdeal.Read.val_main_v26 (F := Ideal) x g = normed x g := by
  refine Eq.trans ?_ (ref_norm x g)
  unfold Cert.FfnUpRefIdeal.Read.val_main_v26
  rfl

theorem ref_prod_17 (x : (⟨Cert.FfnUpRefIdeal.S2048x1024, .f32⟩ : BufTy).Contents (Elt Ideal)) (g : (⟨Cert.FfnUpRefIdeal.S4x1024, .f32⟩ : BufTy).Contents (Elt Ideal)) (w : (⟨Cert.FfnUpRefIdeal.S3072x1024, .bf16⟩ : BufTy).Contents (Elt Ideal)) :
    Cert.FfnUpRefIdeal.Read.val_main_v17 (F := Ideal) x g w = prod x g w := by
  funext i
  refine (congrArg (Cert.FfnUpRefIdeal.Read.val_main_v17 (F := Ideal) x g w) (eq_ix2 i)).trans (Eq.trans ?_ (congrArg (prod x g w) (eq_ix2 i)).symm)
  generalize (i 0 : Fin 2048) = r
  generalize (i 1 : Fin 3072) = j
  have hy : ∀ k : Fin 1024, normAt (fun k => x (ix2 r k)) (fun k => g (ix2 (3 : Fin 4) k)) k = Cert.FfnUpRefIdeal.Read.val_main_v14 (F := Ideal) x g (ix2 r k) :=
    fun k => (congrFun (ref_norm x g) (ix2 r k)).symm
  unfold prod dotAt
  refine Eq.trans ?_ (Finset.sum_congr rfl fun k _ => congrArg (· * _) (hy k)).symm
  unfold Cert.FfnUpRefIdeal.Read.val_main_v17 Cert.FfnUpRefIdeal.Read.val_main_v16 Cert.FfnUpRefIdeal.Read.val_main_v15
  generalize Cert.FfnUpRefIdeal.Read.val_main_v14 (F := Ideal) x g = y
  pointwise

theorem ref_prod_20 (x : (⟨Cert.FfnUpRefIdeal.S2048x1024, .f32⟩ : BufTy).Contents (Elt Ideal)) (g : (⟨Cert.FfnUpRefIdeal.S4x1024, .f32⟩ : BufTy).Contents (Elt Ideal)) (w : (⟨Cert.FfnUpRefIdeal.S3072x1024, .bf16⟩ : BufTy).Contents (Elt Ideal)) :
    Cert.FfnUpRefIdeal.Read.val_main_v20 (F := Ideal) x g w = prod x g w := by
  funext i
  refine (congrArg (Cert.FfnUpRefIdeal.Read.val_main_v20 (F := Ideal) x g w) (eq_ix2 i)).trans (Eq.trans ?_ (congrArg (prod x g w) (eq_ix2 i)).symm)
  generalize (i 0 : Fin 2048) = r
  generalize (i 1 : Fin 3072) = j
  have hy : ∀ k : Fin 1024, normAt (fun k => x (ix2 r k)) (fun k => g (ix2 (3 : Fin 4) k)) k = Cert.FfnUpRefIdeal.Read.val_main_v14 (F := Ideal) x g (ix2 r k) :=
    fun k => (congrFun (ref_norm x g) (ix2 r k)).symm
  unfold prod dotAt
  refine Eq.trans ?_ (Finset.sum_congr rfl fun k _ => congrArg (· * _) (hy k)).symm
  unfold Cert.FfnUpRefIdeal.Read.val_main_v20 Cert.FfnUpRefIdeal.Read.val_main_v19 Cert.FfnUpRefIdeal.Read.val_main_v18
  generalize Cert.FfnUpRefIdeal.Read.val_main_v14 (F := Ideal) x g = y
  pointwise

theorem ref_g (x : (⟨Cert.FfnUpRefIdeal.S2048x1024, .f32⟩ : BufTy).Contents (Elt Ideal)) (g : (⟨Cert.FfnUpRefIdeal.S4x1024, .f32⟩ : BufTy).Contents (Elt Ideal)) (w : (⟨Cert.FfnUpRefIdeal.S3072x1024, .bf16⟩ : BufTy).Contents (Elt Ideal)) :
    Cert.FfnUpRefIdeal.Read.val_main_v21 (F := Ideal) x g w = prod x g w := by
  refine Eq.trans ?_ (ref_prod_17 x g w)
  unfold Cert.FfnUpRefIdeal.Read.val_main_v21
  rfl

theorem ref_u (x : (⟨Cert.FfnUpRefIdeal.S2048x1024, .f32⟩ : BufTy).Contents (Elt Ideal)) (g : (⟨Cert.FfnUpRefIdeal.S4x1024, .f32⟩ : BufTy).Contents (Elt Ideal)) (w : (⟨Cert.FfnUpRefIdeal.S3072x1024, .bf16⟩ : BufTy).Contents (Elt Ideal)) :
    Cert.FfnUpRefIdeal.Read.val_main_v22 (F := Ideal) x g w = prod x g w := by
  refine Eq.trans ?_ (ref_prod_20 x g w)
  unfold Cert.FfnUpRefIdeal.Read.val_main_v22
  rfl

theorem ref_a (x : (⟨Cert.FfnUpRefIdeal.S2048x1024, .f32⟩ : BufTy).Contents (Elt Ideal)) (g : (⟨Cert.FfnUpRefIdeal.S4x1024, .f32⟩ : BufTy).Contents (Elt Ideal)) (w : (⟨Cert.FfnUpRefIdeal.S3072x1024, .bf16⟩ : BufTy).Contents (Elt Ideal)) (v : (⟨Cert.FfnUpRefIdeal.S3072x1024, .bf16⟩ : BufTy).Contents (Elt Ideal)) :
    Cert.FfnUpRefIdeal.Read.val_main_v25 (F := Ideal) x g w v = act x g w v := by
  funext i
  refine (congrArg (Cert.FfnUpRefIdeal.Read.val_main_v25 (F := Ideal) x g w v) (eq_ix2 i)).trans (Eq.trans ?_ (congrArg (act x g w v) (eq_ix2 i)).symm)
  generalize (i 0 : Fin 2048) = r
  generalize (i 1 : Fin 3072) = j
  unfold act
  rw [← ref_prod_17 x g w, ← ref_prod_20 x g v]
  unfold gated Cert.FfnUpRefIdeal.Read.val_main_v25 Cert.FfnUpRefIdeal.Read.val_main_v24 Cert.FfnUpRefIdeal.Read.val_main_v23 Cert.FfnUpRefIdeal.Read.val_main_call0_v5 Cert.FfnUpRefIdeal.Read.val_main_call0_v4 Cert.FfnUpRefIdeal.Read.val_main_call0_v3 Cert.FfnUpRefIdeal.Read.val_main_call0_v2 Cert.FfnUpRefIdeal.Read.val_main_call0_v1 Cert.FfnUpRefIdeal.Read.val_main_call0_v0 Cert.FfnUpRefIdeal.Read.val_main_call0_cst Cert.FfnUpRefIdeal.Read.val_main_call0_cst_0
  generalize Cert.FfnUpRefIdeal.Read.val_main_v17 (F := Ideal) x g w = y
  generalize Cert.FfnUpRefIdeal.Read.val_main_v20 (F := Ideal) x g v = z
  pointwise
  rfl

/-! ## The equation -/

theorem algebraic : Cert.algebraic_FfnUpIdeal_FfnUpRefIdeal (hFfnUpIdeal := Cert.FfnUpIdeal.Gen.facts) (hFfnUpRefIdeal := Cert.FfnUpRefIdeal.Gen.facts) := by
  intro m g m' g' _ hagree
  refine ⟨fun c => prod (m ((c.tc : Thread _ _).loc main_arg0)) (m ((c.tc : Thread _ _).loc main_arg1)) (m ((c.tc : Thread _ _).loc main_arg2)),
    fun c => prod (m ((c.tc : Thread _ _).loc main_arg0)) (m ((c.tc : Thread _ _).loc main_arg1)) (m ((c.tc : Thread _ _).loc main_arg3)),
    fun c => act (m ((c.tc : Thread _ _).loc main_arg0)) (m ((c.tc : Thread _ _).loc main_arg1)) (m ((c.tc : Thread _ _).loc main_arg2)) (m ((c.tc : Thread _ _).loc main_arg3)),
    fun c => normed (m ((c.tc : Thread _ _).loc main_arg0)) (m ((c.tc : Thread _ _).loc main_arg1)), ?_, ?_⟩
  · rw [Cert.Fwd.FfnSame.defs_eq]
    refine (θ_run _ _ _).mono (fun r h c => ?_) (run (F := Ideal) m g)
    have hw := (h.1 c).1
    exact ⟨(hw 4).trans (arr_g m c), (hw 5).trans (arr_u m c), (hw 6).trans (arr_a m c), (hw 7).trans (arr_h m c),
      (hw 0).trans (((dats m 0 c).arrAt_in 0 rfl _).trans ((A_eq m c 0).trans (V_main_arg0 m c))),
      ((h.1 c).2 main_arg1 (Pipeline.mem_restRefs_of main_arg1 (by decide) (by decide))).trans (V_main_arg1 m c),
      (hw 2).trans (((dats m 0 c).arrAt_in 2 rfl _).trans ((A_eq m c 2).trans (V_main_arg2 m c))),
      (hw 3).trans (((dats m 0 c).arrAt_in 3 rfl _).trans ((A_eq m c 3).trans (V_main_arg3 m c)))⟩
  · refine (θ_run _ _ _).mono (fun r h c => ?_) (Cert.FfnUpRefIdeal.Value.run (F := Ideal) m' g')
    obtain ⟨h0, h1, h2, h3, h4⟩ := h c
    obtain ⟨a0, a1, a2, a3⟩ := hagree c
    refine ⟨h0.trans ?_, h1.trans ?_, h2.trans ?_, h3.trans ?_, h4⟩
    · rw [Cert.FfnUpRefIdeal.Read.val_main_v21_eq, ref_g, a0, a1, a2]
    · rw [Cert.FfnUpRefIdeal.Read.val_main_v22_eq, ref_u, a0, a1, a3]
    · rw [Cert.FfnUpRefIdeal.Read.val_main_v25_eq, ref_a, a0, a1, a2, a3]
    · rw [Cert.FfnUpRefIdeal.Read.val_main_v26_eq, ref_h, a0, a1]

end Cert.Fwd.FfnValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnDa.Frame
public import proofs.«01_k».proof.Proof.Gen.FfnDaIdeal.Frame
public import proofs.«01_k».proof.Proof.Gen.FfnDaIdeal.Value
public import proofs.«01_k».proof.Proof.Gen.FfnDaRefIdeal.Run
public import proofs.«01_k».proof.Proof.Gen.FfnDaRefIdeal.Read
public import proofs.«01_k».proof.Proof.Gen.MixDact.Frame
public import proofs.«01_k».proof.Proof.Gen.MixDactIdeal.Frame
public import proofs.«01_k».proof.Proof.Gen.MixDactIdeal.Value
public import proofs.«01_k».proof.Proof.Gen.MixDactRefIdeal.Run
public import proofs.«01_k».proof.Proof.Gen.MixDactRefIdeal.Read
public import proofs.«01_k».proof.Proof.Gen.AttnDact.Frame
public import proofs.«01_k».proof.Proof.Gen.AttnDactIdeal.Frame
public import proofs.«01_k».proof.Proof.Gen.AttnDactIdeal.Value
public import proofs.«01_k».proof.Proof.Gen.AttnDactRefIdeal.Run
public import proofs.«01_k».proof.Proof.Gen.AttnDactRefIdeal.Read
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.FfnDh.Frame
public import proofs.«01_k».proof.Proof.Gen.FfnDhIdeal.Frame
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.MixDh.Frame
public import proofs.«01_k».proof.Proof.Gen.MixDhIdeal.Frame
public import proofs.«01_k».proof.Proof.Gen.MixDhIdeal.Value
public import proofs.«01_k».proof.Proof.Gen.MixDhRefIdeal.Run
public import proofs.«01_k».proof.Proof.Gen.MixDhRefIdeal.Read
public import proofs.«01_k».proof.Proof.Gen.FfnDwRefIdeal.Run
public import proofs.«01_k».proof.Proof.Gen.FfnDwRefIdeal.Read
public import proofs.«01_k».proof.Proof.Gen.MixDwRefIdeal.Run
public import proofs.«01_k».proof.Proof.Gen.MixDwRefIdeal.Read
public import proofs.«01_k».proof.Proof.Gen.MixInRefIdeal.Run
public import proofs.«01_k».proof.Proof.Gen.MixInRefIdeal.Read
public import proofs.«01_k».proof.Proof.Gen.FfnUpRefIdeal.Run
public import proofs.«01_k».proof.Proof.Gen.FfnUpRefIdeal.Read
public import proofs.«01_k».proof.Proof.Gen.Pre_finite_ffn_da
public import proofs.«01_k».proof.Proof.Gen.Pre_finite_ffn_dh
public import proofs.«01_k».proof.Proof.Gen.Pre_finite_mix_dh
public import proofs.«01_k».proof.Proof.Conv.Equation
public import proofs.«01_k».proof.Proof.Gate.FfnDa
public import proofs.«01_k».proof.Proof.Product.MixDact
public import proofs.«01_k».proof.Proof.Product.AttnDact
public import proofs.«01_k».proof.Proof.Product.MixOut
public import proofs.«01_k».proof.Proof.Product.FfnDown
public import proofs.«01_k».proof.Proof.Norm.Ffn
public import proofs.«01_k».proof.Proof.Norm.Mix
public import proofs.«01_k».proof.Proof.Dw.FfnValue
public import proofs.«01_k».proof.Proof.Dw.MixValue
public import proofs.«01_k».proof.Proof.Fwd.MixValue
public import proofs.«01_k».proof.Proof.Fwd.FfnValue
public import proofs.«01_k».proof.Proof.Dw.FfnSame
public import proofs.«01_k».proof.Proof.Dw.MixSame
public import proofs.«01_k».proof.Proof.Fwd.MixSame
public import proofs.«01_k».proof.Proof.Fwd.FfnSame

@[expose] public section

noncomputable section

namespace Cert.Proof

open Idealize.ShloMosaic Idealize.SL.Sem

/-! Each reference runs to its end, leaves its arguments as they were and no semaphore raised. -/

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem frame_FfnDaRefIdeal : Cert.quiescent_FfnDaRefIdeal (hFfnDaRefIdeal := Cert.FfnDaRefIdeal.Gen.facts) := fun m ρ _ =>
  (θ_run Cert.FfnDaRefIdeal.defs _ _).mono (fun r h => ⟨fun c => (h c).2.2, sem_eq_zero_of_no_sems (by decide) r.2⟩) (Cert.FfnDaRefIdeal.Value.run (F := Ideal) m ρ)

theorem frame_MixDactRefIdeal : Cert.quiescent_MixDactRefIdeal (hMixDactRefIdeal := Cert.MixDactRefIdeal.Gen.facts) := fun m ρ _ =>
  (θ_run Cert.MixDactRefIdeal.defs _ _).mono (fun r h => ⟨fun c => (h c).2, sem_eq_zero_of_no_sems (by decide) r.2⟩) (Cert.MixDactRefIdeal.Value.run (F := Ideal) m ρ)

theorem frame_AttnDactRefIdeal : Cert.quiescent_AttnDactRefIdeal (hAttnDactRefIdeal := Cert.AttnDactRefIdeal.Gen.facts) := fun m ρ _ =>
  (θ_run Cert.AttnDactRefIdeal.defs _ _).mono (fun r h => ⟨fun c => (h c).2, sem_eq_zero_of_no_sems (by decide) r.2⟩) (Cert.AttnDactRefIdeal.Value.run (F := Ideal) m ρ)

theorem frame_MixOutRefIdeal : Cert.quiescent_MixOutRefIdeal (hMixOutRefIdeal := Cert.MixOutRefIdeal.Gen.facts) := fun m ρ _ =>
  (θ_run Cert.MixOutRefIdeal.defs _ _).mono (fun r h => ⟨fun c => (h c).2, sem_eq_zero_of_no_sems (by decide) r.2⟩) (Cert.MixOutRefIdeal.Value.run (F := Ideal) m ρ)

theorem frame_FfnDownRefIdeal : Cert.quiescent_FfnDownRefIdeal (hFfnDownRefIdeal := Cert.FfnDownRefIdeal.Gen.facts) := fun m ρ _ =>
  (θ_run Cert.FfnDownRefIdeal.defs _ _).mono (fun r h => ⟨fun c => (h c).2, sem_eq_zero_of_no_sems (by decide) r.2⟩) (Cert.FfnDownRefIdeal.Value.run (F := Ideal) m ρ)

theorem frame_FfnDhRefIdeal : Cert.quiescent_FfnDhRefIdeal (hFfnDhRefIdeal := Cert.FfnDhRefIdeal.Gen.facts) := fun m ρ _ =>
  (θ_run Cert.FfnDhRefIdeal.defs _ _).mono (fun r h => ⟨fun c => (h c).2.2.2, sem_eq_zero_of_no_sems (by decide) r.2⟩) (Cert.FfnDhRefIdeal.Value.run (F := Ideal) m ρ)

theorem frame_MixDhRefIdeal : Cert.quiescent_MixDhRefIdeal (hMixDhRefIdeal := Cert.MixDhRefIdeal.Gen.facts) := fun m ρ _ =>
  (θ_run Cert.MixDhRefIdeal.defs _ _).mono (fun r h => ⟨fun c => (h c).2.2.2, sem_eq_zero_of_no_sems (by decide) r.2⟩) (Cert.MixDhRefIdeal.Value.run (F := Ideal) m ρ)

theorem frame_FfnDwRefIdeal : Cert.quiescent_FfnDwRefIdeal (hFfnDwRefIdeal := Cert.FfnDwRefIdeal.Gen.facts) := fun m ρ _ =>
  (θ_run Cert.FfnDwRefIdeal.defs _ _).mono (fun r h => ⟨fun c => (h c).2.2.2, sem_eq_zero_of_no_sems (by decide) r.2⟩) (Cert.FfnDwRefIdeal.Value.run (F := Ideal) m ρ)

theorem frame_MixDwRefIdeal : Cert.quiescent_MixDwRefIdeal (hMixDwRefIdeal := Cert.MixDwRefIdeal.Gen.facts) := fun m ρ _ =>
  (θ_run Cert.MixDwRefIdeal.defs _ _).mono (fun r h => ⟨fun c => (h c).2.2, sem_eq_zero_of_no_sems (by decide) r.2⟩) (Cert.MixDwRefIdeal.Value.run (F := Ideal) m ρ)

theorem frame_MixInRefIdeal : Cert.quiescent_MixInRefIdeal (hMixInRefIdeal := Cert.MixInRefIdeal.Gen.facts) := fun m ρ _ =>
  (θ_run Cert.MixInRefIdeal.defs _ _).mono (fun r h => ⟨fun c => (h c).2.2, sem_eq_zero_of_no_sems (by decide) r.2⟩) (Cert.MixInRefIdeal.Value.run (F := Ideal) m ρ)

theorem frame_FfnUpRefIdeal : Cert.quiescent_FfnUpRefIdeal (hFfnUpRefIdeal := Cert.FfnUpRefIdeal.Gen.facts) := fun m ρ _ =>
  (θ_run Cert.FfnUpRefIdeal.defs _ _).mono (fun r h => ⟨fun c => (h c).2.2.2.2, sem_eq_zero_of_no_sems (by decide) r.2⟩) (Cert.FfnUpRefIdeal.Value.run (F := Ideal) m ρ)

theorem claim : Cert.Claim := ⟨Cert.Kernel.Gen.facts,
  Cert.KernelIdeal.Gen.facts,
  Cert.ReferenceIdeal.Gen.facts,
  Cert.FfnDa.Gen.facts,
  Cert.FfnDaIdeal.Gen.facts,
  Cert.FfnDaRefIdeal.Gen.facts,
  Cert.MixDact.Gen.facts,
  Cert.MixDactIdeal.Gen.facts,
  Cert.MixDactRefIdeal.Gen.facts,
  Cert.AttnDact.Gen.facts,
  Cert.AttnDactIdeal.Gen.facts,
  Cert.AttnDactRefIdeal.Gen.facts,
  Cert.MixOut.Gen.facts,
  Cert.MixOutIdeal.Gen.facts,
  Cert.MixOutRefIdeal.Gen.facts,
  Cert.FfnDown.Gen.facts,
  Cert.FfnDownIdeal.Gen.facts,
  Cert.FfnDownRefIdeal.Gen.facts,
  Cert.FfnDh.Gen.facts,
  Cert.FfnDhIdeal.Gen.facts,
  Cert.FfnDhRefIdeal.Gen.facts,
  Cert.MixDh.Gen.facts,
  Cert.MixDhIdeal.Gen.facts,
  Cert.MixDhRefIdeal.Gen.facts,
  Cert.FfnDw.Gen.facts,
  Cert.FfnDwIdeal.Gen.facts,
  Cert.FfnDwRefIdeal.Gen.facts,
  Cert.MixDw.Gen.facts,
  Cert.MixDwIdeal.Gen.facts,
  Cert.MixDwRefIdeal.Gen.facts,
  Cert.MixIn.Gen.facts,
  Cert.MixInIdeal.Gen.facts,
  Cert.MixInRefIdeal.Gen.facts,
  Cert.FfnUp.Gen.facts,
  Cert.FfnUpIdeal.Gen.facts,
  Cert.FfnUpRefIdeal.Gen.facts,
  Cert.Pre_finite_ffn_da.Gen.facts,
  Cert.Pre_finite_ffn_dh.Gen.facts,
  Cert.Pre_finite_mix_dh.Gen.facts,
  fun m ρ _ => Cert.Kernel.Gen.frame m ρ,
  fun m ρ _ => Cert.KernelIdeal.Gen.frame m ρ,
  frame_ReferenceIdeal,
  fun m ρ _ => Cert.FfnDa.Gen.frame m ρ,
  fun m ρ _ => Cert.FfnDaIdeal.Gen.frame m ρ,
  fun m ρ _ => Cert.FfnDaIdeal.Gen.frame m ρ,
  frame_FfnDaRefIdeal,
  fun m ρ _ => frame_FfnDaRefIdeal m ρ trivial,
  fun m ρ _ => Cert.MixDact.Gen.frame m ρ,
  fun m ρ _ => Cert.MixDactIdeal.Gen.frame m ρ,
  frame_MixDactRefIdeal,
  fun m ρ _ => Cert.AttnDact.Gen.frame m ρ,
  fun m ρ _ => Cert.AttnDactIdeal.Gen.frame m ρ,
  frame_AttnDactRefIdeal,
  fun m ρ _ => Cert.MixOut.Gen.frame m ρ,
  fun m ρ _ => Cert.MixOutIdeal.Gen.frame m ρ,
  frame_MixOutRefIdeal,
  fun m ρ _ => Cert.FfnDown.Gen.frame m ρ,
  fun m ρ _ => Cert.FfnDownIdeal.Gen.frame m ρ,
  frame_FfnDownRefIdeal,
  fun m ρ _ => Cert.FfnDh.Gen.frame m ρ,
  fun m ρ _ => Cert.FfnDhIdeal.Gen.frame m ρ,
  fun m ρ _ => Cert.FfnDhIdeal.Gen.frame m ρ,
  frame_FfnDhRefIdeal,
  fun m ρ _ => frame_FfnDhRefIdeal m ρ trivial,
  fun m ρ _ => Cert.MixDh.Gen.frame m ρ,
  fun m ρ _ => Cert.MixDhIdeal.Gen.frame m ρ,
  fun m ρ _ => Cert.MixDhIdeal.Gen.frame m ρ,
  frame_MixDhRefIdeal,
  fun m ρ _ => frame_MixDhRefIdeal m ρ trivial,
  fun m ρ _ => Cert.Dw.Ffn.frame m ρ,
  Cert.Dw.FfnSame.frame,
  frame_FfnDwRefIdeal,
  fun m ρ _ => Cert.Dw.Mix.frame m ρ,
  Cert.Dw.MixSame.frame,
  frame_MixDwRefIdeal,
  fun m ρ _ => Cert.Fwd.Mix.frame m ρ,
  Cert.Fwd.MixSame.frame,
  frame_MixInRefIdeal,
  fun m ρ _ => Cert.Fwd.Ffn.frame m ρ,
  Cert.Fwd.FfnSame.frame,
  frame_FfnUpRefIdeal,
  trivial,
  Cert.Conv.algebraic,
  trivial,
  Cert.Gate.algebraic,
  trivial,
  Cert.Product.MixDact.algebraic,
  trivial,
  Cert.Product.AttnDact.algebraic,
  trivial,
  Cert.Product.MixOut.algebraic,
  trivial,
  Cert.Product.FfnDown.algebraic,
  trivial,
  Cert.Norm.Ffn.algebraic,
  trivial,
  Cert.Norm.Mix.algebraic,
  trivial,
  Cert.Dw.FfnValue.algebraic,
  trivial,
  Cert.Dw.MixValue.algebraic,
  trivial,
  Cert.Fwd.MixValue.algebraic,
  trivial,
  Cert.Fwd.FfnValue.algebraic⟩

end Cert.Proof

end
